-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_v_ones [hPre_v_ones : Cert.Pre_v_ones.Facts] (m : (ℓ : Loc Cert.AttnIdeal.nD Cert.AttnIdeal.τ Cert.AttnIdeal.sig) → Buf (Elt Ideal) ℓ) : Prop :=
  ∀ c : Dev Cert.AttnIdeal.nD,
    (Cert.Pre_v_ones.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_v_ones [hPre_v_ones : Cert.Pre_v_ones.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_v_ones.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormRefIdeal (m : (ℓ : Loc Cert.FfnNormRefIdeal.nD Cert.FfnNormRefIdeal.τ Cert.FfnNormRefIdeal.sig) → Buf (Elt Ideal) ℓ) : Prop :=
  True

def Pre_Sel (m : (ℓ : Loc Cert.Sel.nD Cert.Sel.τ Cert.Sel.sig) → Buf (Elt Bits) ℓ) : Prop :=
  True

def Pre_SelIdeal (m : (ℓ : Loc Cert.SelIdeal.nD Cert.SelIdeal.τ Cert.SelIdeal.sig) → Buf (Elt Ideal) ℓ) : Prop :=
  True

def Pre_SelIdeal_sel_layout [hPre_sel_layout : Cert.Pre_sel_layout.Facts] (m : (ℓ : Loc Cert.SelIdeal.nD Cert.SelIdeal.τ Cert.SelIdeal.sig) → Buf (Elt Ideal) ℓ) : Prop :=
  ∀ c : Dev Cert.SelIdeal.nD,
    (Cert.Pre_sel_layout.fn (F := Ideal) (m ((c.tc : Thread Cert.SelIdeal.nD Cert.SelIdeal.τ).loc Cert.SelIdeal.main_arg0)) (m ((c.tc : Thread Cert.SelIdeal.nD Cert.SelIdeal.τ).loc Cert.SelIdeal.main_arg1)) (m ((c.tc : Thread Cert.SelIdeal.nD Cert.SelIdeal.τ).loc Cert.SelIdeal.main_arg2)) (m ((c.tc : Thread Cert.SelIdeal.nD Cert.SelIdeal.τ).loc Cert.SelIdeal.main_arg3)) (m ((c.tc : Thread Cert.SelIdeal.nD Cert.SelIdeal.τ).loc Cert.SelIdeal.main_arg4)) (m ((c.tc : Thread Cert.SelIdeal.nD Cert.SelIdeal.τ).loc Cert.SelIdeal.main_arg5))) = (fun _ => 1#1)

def Pre_SelRefIdeal (m : (ℓ : Loc Cert.SelRefIdeal.nD Cert.SelRefIdeal.τ Cert.SelRefIdeal.sig) → Buf (Elt Ideal) ℓ) : Prop :=
  True

def Pre_SelRefIdeal_sel_layout [hPre_sel_layout : Cert.Pre_sel_layout.Facts] (m : (ℓ : Loc Cert.SelRefIdeal.nD Cert.SelRefIdeal.τ Cert.SelRefIdeal.sig) → Buf (Elt Ideal) ℓ) : Prop :=
  ∀ c : Dev Cert.SelRefIdeal.nD,
    (Cert.Pre_sel_layout.fn (F := Ideal) (m ((c.tc : Thread Cert.SelRefIdeal.nD Cert.SelRefIdeal.τ).loc Cert.SelRefIdeal.main_arg0)) (m ((c.tc : Thread Cert.SelRefIdeal.nD Cert.SelRefIdeal.τ).loc Cert.SelRefIdeal.main_arg1)) (m ((c.tc : Thread Cert.SelRefIdeal.nD Cert.SelRefIdeal.τ).loc Cert.SelRefIdeal.main_arg2)) (m ((c.tc : Thread Cert.SelRefIdeal.nD Cert.SelRefIdeal.τ).loc Cert.SelRefIdeal.main_arg3)) (m ((c.tc : Thread Cert.SelRefIdeal.nD Cert.SelRefIdeal.τ).loc Cert.SelRefIdeal.main_arg4)) (m ((c.tc : Thread Cert.SelRefIdeal.nD Cert.SelRefIdeal.τ).loc Cert.SelRefIdeal.main_arg5))) = (fun _ => 1#1)

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_v_ones [hAttnIdeal : Cert.AttnIdeal.Facts] [hPre_v_ones : Cert.Pre_v_ones.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_v_ones m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_v_ones [hAttnRefIdeal : Cert.AttnRefIdeal.Facts] [hPre_v_ones : Cert.Pre_v_ones.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_v_ones m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2)
      ∧ r.2.mem ((c.tc : Thread Cert.FfnNorm.nD Cert.FfnNorm.τ).loc Cert.FfnNorm.main_arg3) = m ((c.tc : Thread Cert.FfnNorm.nD Cert.FfnNorm.τ).loc Cert.FfnNorm.main_arg3)
      ∧ r.2.mem ((c.tc : Thread Cert.FfnNorm.nD Cert.FfnNorm.τ).loc Cert.FfnNorm.main_arg4) = m ((c.tc : Thread Cert.FfnNorm.nD Cert.FfnNorm.τ).loc Cert.FfnNorm.main_arg4)
      ∧ r.2.mem ((c.tc : Thread Cert.FfnNorm.nD Cert.FfnNorm.τ).loc Cert.FfnNorm.main_arg5) = m ((c.tc : Thread Cert.FfnNorm.nD Cert.FfnNorm.τ).loc Cert.FfnNorm.main_arg5))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
      ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4)
      ∧ r.2.mem ((c.tc : Thread Cert.FfnNormIdeal.nD Cert.FfnNormIdeal.τ).loc Cert.FfnNormIdeal.main_arg5) = m ((c.tc : Thread Cert.FfnNormIdeal.nD Cert.FfnNormIdeal.τ).loc Cert.FfnNormIdeal.main_arg5))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3)
      ∧ r.2.mem ((c.tc : Thread Cert.FfnNormRefIdeal.nD Cert.FfnNormRefIdeal.τ).loc Cert.FfnNormRefIdeal.main_arg4) = m ((c.tc : Thread Cert.FfnNormRefIdeal.nD Cert.FfnNormRefIdeal.τ).loc Cert.FfnNormRefIdeal.main_arg4)
      ∧ r.2.mem ((c.tc : Thread Cert.FfnNormRefIdeal.nD Cert.FfnNormRefIdeal.τ).loc Cert.FfnNormRefIdeal.main_arg5) = m ((c.tc : Thread Cert.FfnNormRefIdeal.nD Cert.FfnNormRefIdeal.τ).loc Cert.FfnNormRefIdeal.main_arg5))
      ∧ r.2.sem = fun _ => 0)

def quiescent_Sel [hSel : Cert.Sel.Facts] : Prop :=
  ∀ (m : (ℓ : Loc Cert.Sel.nD Cert.Sel.τ Cert.Sel.sig) → Buf (Elt Bits) ℓ) (g : Dev Cert.Sel.nD → PrngReg), Pre_Sel m →
    θ_run (Cert.Sel.defs (F := Bits)) (onTc (τ := Cert.Sel.τ) (Cert.Sel.main (F := Bits))) ⟨m, fun _ => 0, g⟩ (fun r => (∀ c : Dev Cert.Sel.nD,
      r.2.mem ((c.tc : Thread Cert.Sel.nD Cert.Sel.τ).loc Cert.Sel.main_arg0) = m ((c.tc : Thread Cert.Sel.nD Cert.Sel.τ).loc Cert.Sel.main_arg0)
      ∧ r.2.mem ((c.tc : Thread Cert.Sel.nD Cert.Sel.τ).loc Cert.Sel.main_arg1) = m ((c.tc : Thread Cert.Sel.nD Cert.Sel.τ).loc Cert.Sel.main_arg1)
      ∧ r.2.mem ((c.tc : Thread Cert.Sel.nD Cert.Sel.τ).loc Cert.Sel.main_arg2) = m ((c.tc : Thread Cert.Sel.nD Cert.Sel.τ).loc Cert.Sel.main_arg2)
      ∧ r.2.mem ((c.tc : Thread Cert.Sel.nD Cert.Sel.τ).loc Cert.Sel.main_arg3) = m ((c.tc : Thread Cert.Sel.nD Cert.Sel.τ).loc Cert.Sel.main_arg3)
      ∧ r.2.mem ((c.tc : Thread Cert.Sel.nD Cert.Sel.τ).loc Cert.Sel.main_arg4) = m ((c.tc : Thread Cert.Sel.nD Cert.Sel.τ).loc Cert.Sel.main_arg4)
      ∧ r.2.mem ((c.tc : Thread Cert.Sel.nD Cert.Sel.τ).loc Cert.Sel.main_arg5) = m ((c.tc : Thread Cert.Sel.nD Cert.Sel.τ).loc Cert.Sel.main_arg5))
      ∧ r.2.sem = fun _ => 0)

def quiescent_SelIdeal [hSelIdeal : Cert.SelIdeal.Facts] : Prop :=
  ∀ (m : (ℓ : Loc Cert.SelIdeal.nD Cert.SelIdeal.τ Cert.SelIdeal.sig) → Buf (Elt Ideal) ℓ) (g : Dev Cert.SelIdeal.nD → PrngReg), Pre_SelIdeal m →
    θ_run (Cert.SelIdeal.defs (F := Ideal)) (onTc (τ := Cert.SelIdeal.τ) (Cert.SelIdeal.main (F := Ideal))) ⟨m, fun _ => 0, g⟩ (fun r => (∀ c : Dev Cert.SelIdeal.nD,
      r.2.mem ((c.tc : Thread Cert.SelIdeal.nD Cert.SelIdeal.τ).loc Cert.SelIdeal.main_arg0) = m ((c.tc : Thread Cert.SelIdeal.nD Cert.SelIdeal.τ).loc Cert.SelIdeal.main_arg0)
      ∧ r.2.mem ((c.tc : Thread Cert.SelIdeal.nD Cert.SelIdeal.τ).loc Cert.SelIdeal.main_arg1) = m ((c.tc : Thread Cert.SelIdeal.nD Cert.SelIdeal.τ).loc Cert.SelIdeal.main_arg1)
      ∧ r.2.mem ((c.tc : Thread Cert.SelIdeal.nD Cert.SelIdeal.τ).loc Cert.SelIdeal.main_arg2) = m ((c.tc : Thread Cert.SelIdeal.nD Cert.SelIdeal.τ).loc Cert.SelIdeal.main_arg2)
      ∧ r.2.mem ((c.tc : Thread Cert.SelIdeal.nD Cert.SelIdeal.τ).loc Cert.SelIdeal.main_arg3) = m ((c.tc : Thread Cert.SelIdeal.nD Cert.SelIdeal.τ).loc Cert.SelIdeal.main_arg3)
      ∧ r.2.mem ((c.tc : Thread Cert.SelIdeal.nD Cert.SelIdeal.τ).loc Cert.SelIdeal.main_arg4) = m ((c.tc : Thread Cert.SelIdeal.nD Cert.SelIdeal.τ).loc Cert.SelIdeal.main_arg4)
      ∧ r.2.mem ((c.tc : Thread Cert.SelIdeal.nD Cert.SelIdeal.τ).loc Cert.SelIdeal.main_arg5) = m ((c.tc : Thread Cert.SelIdeal.nD Cert.SelIdeal.τ).loc Cert.SelIdeal.main_arg5))
      ∧ r.2.sem = fun _ => 0)

def quiescent_SelIdeal_pre_sel_layout [hSelIdeal : Cert.SelIdeal.Facts] [hPre_sel_layout : Cert.Pre_sel_layout.Facts] : Prop :=
  ∀ (m : (ℓ : Loc Cert.SelIdeal.nD Cert.SelIdeal.τ Cert.SelIdeal.sig) → Buf (Elt Ideal) ℓ) (g : Dev Cert.SelIdeal.nD → PrngReg), Pre_SelIdeal_sel_layout m →
    θ_run (Cert.SelIdeal.defs (F := Ideal)) (onTc (τ := Cert.SelIdeal.τ) (Cert.SelIdeal.main (F := Ideal))) ⟨m, fun _ => 0, g⟩ (fun r => (∀ c : Dev Cert.SelIdeal.nD,
      r.2.mem ((c.tc : Thread Cert.SelIdeal.nD Cert.SelIdeal.τ).loc Cert.SelIdeal.main_arg0) = m ((c.tc : Thread Cert.SelIdeal.nD Cert.SelIdeal.τ).loc Cert.SelIdeal.main_arg0)
      ∧ r.2.mem ((c.tc : Thread Cert.SelIdeal.nD Cert.SelIdeal.τ).loc Cert.SelIdeal.main_arg1) = m ((c.tc : Thread Cert.SelIdeal.nD Cert.SelIdeal.τ).loc Cert.SelIdeal.main_arg1)
      ∧ r.2.mem ((c.tc : Thread Cert.SelIdeal.nD Cert.SelIdeal.τ).loc Cert.SelIdeal.main_arg2) = m ((c.tc : Thread Cert.SelIdeal.nD Cert.SelIdeal.τ).loc Cert.SelIdeal.main_arg2)
      ∧ r.2.mem ((c.tc : Thread Cert.SelIdeal.nD Cert.SelIdeal.τ).loc Cert.SelIdeal.main_arg3) = m ((c.tc : Thread Cert.SelIdeal.nD Cert.SelIdeal.τ).loc Cert.SelIdeal.main_arg3)
      ∧ r.2.mem ((c.tc : Thread Cert.SelIdeal.nD Cert.SelIdeal.τ).loc Cert.SelIdeal.main_arg4) = m ((c.tc : Thread Cert.SelIdeal.nD Cert.SelIdeal.τ).loc Cert.SelIdeal.main_arg4)
      ∧ r.2.mem ((c.tc : Thread Cert.SelIdeal.nD Cert.SelIdeal.τ).loc Cert.SelIdeal.main_arg5) = m ((c.tc : Thread Cert.SelIdeal.nD Cert.SelIdeal.τ).loc Cert.SelIdeal.main_arg5))
      ∧ r.2.sem = fun _ => 0)

def quiescent_SelRefIdeal [hSelRefIdeal : Cert.SelRefIdeal.Facts] : Prop :=
  ∀ (m : (ℓ : Loc Cert.SelRefIdeal.nD Cert.SelRefIdeal.τ Cert.SelRefIdeal.sig) → Buf (Elt Ideal) ℓ) (g : Dev Cert.SelRefIdeal.nD → PrngReg), Pre_SelRefIdeal m →
    θ_run (Cert.SelRefIdeal.defs (F := Ideal)) (onTc (τ := Cert.SelRefIdeal.τ) (Cert.SelRefIdeal.main (F := Ideal))) ⟨m, fun _ => 0, g⟩ (fun r => (∀ c : Dev Cert.SelRefIdeal.nD,
      r.2.mem ((c.tc : Thread Cert.SelRefIdeal.nD Cert.SelRefIdeal.τ).loc Cert.SelRefIdeal.main_arg0) = m ((c.tc : Thread Cert.SelRefIdeal.nD Cert.SelRefIdeal.τ).loc Cert.SelRefIdeal.main_arg0)
      ∧ r.2.mem ((c.tc : Thread Cert.SelRefIdeal.nD Cert.SelRefIdeal.τ).loc Cert.SelRefIdeal.main_arg1) = m ((c.tc : Thread Cert.SelRefIdeal.nD Cert.SelRefIdeal.τ).loc Cert.SelRefIdeal.main_arg1)
      ∧ r.2.mem ((c.tc : Thread Cert.SelRefIdeal.nD Cert.SelRefIdeal.τ).loc Cert.SelRefIdeal.main_arg2) = m ((c.tc : Thread Cert.SelRefIdeal.nD Cert.SelRefIdeal.τ).loc Cert.SelRefIdeal.main_arg2)
      ∧ r.2.mem ((c.tc : Thread Cert.SelRefIdeal.nD Cert.SelRefIdeal.τ).loc Cert.SelRefIdeal.main_arg3) = m ((c.tc : Thread Cert.SelRefIdeal.nD Cert.SelRefIdeal.τ).loc Cert.SelRefIdeal.main_arg3)
      ∧ r.2.mem ((c.tc : Thread Cert.SelRefIdeal.nD Cert.SelRefIdeal.τ).loc Cert.SelRefIdeal.main_arg4) = m ((c.tc : Thread Cert.SelRefIdeal.nD Cert.SelRefIdeal.τ).loc Cert.SelRefIdeal.main_arg4)
      ∧ r.2.mem ((c.tc : Thread Cert.SelRefIdeal.nD Cert.SelRefIdeal.τ).loc Cert.SelRefIdeal.main_arg5) = m ((c.tc : Thread Cert.SelRefIdeal.nD Cert.SelRefIdeal.τ).loc Cert.SelRefIdeal.main_arg5))
      ∧ r.2.sem = fun _ => 0)

def quiescent_SelRefIdeal_pre_sel_layout [hSelRefIdeal : Cert.SelRefIdeal.Facts] [hPre_sel_layout : Cert.Pre_sel_layout.Facts] : Prop :=
  ∀ (m : (ℓ : Loc Cert.SelRefIdeal.nD Cert.SelRefIdeal.τ Cert.SelRefIdeal.sig) → Buf (Elt Ideal) ℓ) (g : Dev Cert.SelRefIdeal.nD → PrngReg), Pre_SelRefIdeal_sel_layout m →
    θ_run (Cert.SelRefIdeal.defs (F := Ideal)) (onTc (τ := Cert.SelRefIdeal.τ) (Cert.SelRefIdeal.main (F := Ideal))) ⟨m, fun _ => 0, g⟩ (fun r => (∀ c : Dev Cert.SelRefIdeal.nD,
      r.2.mem ((c.tc : Thread Cert.SelRefIdeal.nD Cert.SelRefIdeal.τ).loc Cert.SelRefIdeal.main_arg0) = m ((c.tc : Thread Cert.SelRefIdeal.nD Cert.SelRefIdeal.τ).loc Cert.SelRefIdeal.main_arg0)
      ∧ r.2.mem ((c.tc : Thread Cert.SelRefIdeal.nD Cert.SelRefIdeal.τ).loc Cert.SelRefIdeal.main_arg1) = m ((c.tc : Thread Cert.SelRefIdeal.nD Cert.SelRefIdeal.τ).loc Cert.SelRefIdeal.main_arg1)
      ∧ r.2.mem ((c.tc : Thread Cert.SelRefIdeal.nD Cert.SelRefIdeal.τ).loc Cert.SelRefIdeal.main_arg2) = m ((c.tc : Thread Cert.SelRefIdeal.nD Cert.SelRefIdeal.τ).loc Cert.SelRefIdeal.main_arg2)
      ∧ r.2.mem ((c.tc : Thread Cert.SelRefIdeal.nD Cert.SelRefIdeal.τ).loc Cert.SelRefIdeal.main_arg3) = m ((c.tc : Thread Cert.SelRefIdeal.nD Cert.SelRefIdeal.τ).loc Cert.SelRefIdeal.main_arg3)
      ∧ r.2.mem ((c.tc : Thread Cert.SelRefIdeal.nD Cert.SelRefIdeal.τ).loc Cert.SelRefIdeal.main_arg4) = m ((c.tc : Thread Cert.SelRefIdeal.nD Cert.SelRefIdeal.τ).loc Cert.SelRefIdeal.main_arg4)
      ∧ r.2.mem ((c.tc : Thread Cert.SelRefIdeal.nD Cert.SelRefIdeal.τ).loc Cert.SelRefIdeal.main_arg5) = m ((c.tc : Thread Cert.SelRefIdeal.nD Cert.SelRefIdeal.τ).loc Cert.SelRefIdeal.main_arg5))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_v_ones [hAttnIdeal : Cert.AttnIdeal.Facts] [hAttnRefIdeal : Cert.AttnRefIdeal.Facts] [hPre_v_ones : Cert.Pre_v_ones.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_v_ones m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v0_0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v92) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v15)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v15) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v15) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v15)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v15) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v19) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnNorm_FfnNormIdeal : Prop :=
  True

def algebraic_FfnNormIdeal_FfnNormRefIdeal [hFfnNormIdeal : Cert.FfnNormIdeal.Facts] [hFfnNormRefIdeal : Cert.FfnNormRefIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)
      ∧ m' ((c.tc : Thread Cert.FfnNormRefIdeal.nD Cert.FfnNormRefIdeal.τ).loc Cert.FfnNormRefIdeal.main_arg3) = m ((c.tc : Thread Cert.FfnNormIdeal.nD Cert.FfnNormIdeal.τ).loc Cert.FfnNormIdeal.main_arg3)
      ∧ m' ((c.tc : Thread Cert.FfnNormRefIdeal.nD Cert.FfnNormRefIdeal.τ).loc Cert.FfnNormRefIdeal.main_arg4) = m ((c.tc : Thread Cert.FfnNormIdeal.nD Cert.FfnNormIdeal.τ).loc Cert.FfnNormIdeal.main_arg4)
      ∧ m' ((c.tc : Thread Cert.FfnNormRefIdeal.nD Cert.FfnNormRefIdeal.τ).loc Cert.FfnNormRefIdeal.main_arg5) = m ((c.tc : Thread Cert.FfnNormIdeal.nD Cert.FfnNormIdeal.τ).loc Cert.FfnNormIdeal.main_arg5)) →
    ∃ (v0 : (c : Dev Cert.FfnNormIdeal.nD) → Buf (Elt Ideal) ((c.tc : Thread Cert.FfnNormIdeal.nD Cert.FfnNormIdeal.τ).loc Cert.FfnNormIdeal.main_v0_0)) (v1 : (c : Dev Cert.FfnNormIdeal.nD) → Buf (Elt Ideal) ((c.tc : Thread Cert.FfnNormIdeal.nD Cert.FfnNormIdeal.τ).loc Cert.FfnNormIdeal.main_v0_1)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v0_0) = v0 c
          ∧ r.2.mem ((c.tc : Thread Cert.FfnNormIdeal.nD Cert.FfnNormIdeal.τ).loc Cert.FfnNormIdeal.main_v0_1) = v1 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
          ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
          ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4)
          ∧ r.2.mem ((c.tc : Thread Cert.FfnNormIdeal.nD Cert.FfnNormIdeal.τ).loc Cert.FfnNormIdeal.main_arg5) = m ((c.tc : Thread Cert.FfnNormIdeal.nD Cert.FfnNormIdeal.τ).loc Cert.FfnNormIdeal.main_arg5))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v19) = v0 c
          ∧ r.2.mem ((c.tc : Thread Cert.FfnNormRefIdeal.nD Cert.FfnNormRefIdeal.τ).loc Cert.FfnNormRefIdeal.main_v32) = v1 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2)
          ∧ r.2.mem ((c.tc : Thread Cert.FfnNormRefIdeal.nD Cert.FfnNormRefIdeal.τ).loc Cert.FfnNormRefIdeal.main_arg3) = m' ((c.tc : Thread Cert.FfnNormRefIdeal.nD Cert.FfnNormRefIdeal.τ).loc Cert.FfnNormRefIdeal.main_arg3)
          ∧ r.2.mem ((c.tc : Thread Cert.FfnNormRefIdeal.nD Cert.FfnNormRefIdeal.τ).loc Cert.FfnNormRefIdeal.main_arg4) = m' ((c.tc : Thread Cert.FfnNormRefIdeal.nD Cert.FfnNormRefIdeal.τ).loc Cert.FfnNormRefIdeal.main_arg4)
          ∧ r.2.mem ((c.tc : Thread Cert.FfnNormRefIdeal.nD Cert.FfnNormRefIdeal.τ).loc Cert.FfnNormRefIdeal.main_arg5) = m' ((c.tc : Thread Cert.FfnNormRefIdeal.nD Cert.FfnNormRefIdeal.τ).loc Cert.FfnNormRefIdeal.main_arg5))

def preserves_Sel_SelIdeal : Prop :=
  IdealRules.named_const.Statement Cert.SelIdeal.κ "mask" .f32 0xF149F2CA#32 ⊥

def algebraic_SelIdeal_SelRefIdeal_pre_sel_layout [hSelIdeal : Cert.SelIdeal.Facts] [hSelRefIdeal : Cert.SelRefIdeal.Facts] [hPre_sel_layout : Cert.Pre_sel_layout.Facts] : Prop :=
  ∀ (m : (ℓ : Loc Cert.SelIdeal.nD Cert.SelIdeal.τ Cert.SelIdeal.sig) → Buf (Elt Ideal) ℓ) (g : Dev Cert.SelIdeal.nD → PrngReg)
    (m' : (ℓ : Loc Cert.SelRefIdeal.nD Cert.SelRefIdeal.τ Cert.SelRefIdeal.sig) → Buf (Elt Ideal) ℓ) (g' : Dev Cert.SelRefIdeal.nD → PrngReg), Pre_SelIdeal_sel_layout m →
    (∀ c : Dev Cert.SelIdeal.nD,
      m' ((c.tc : Thread Cert.SelRefIdeal.nD Cert.SelRefIdeal.τ).loc Cert.SelRefIdeal.main_arg0) = m ((c.tc : Thread Cert.SelIdeal.nD Cert.SelIdeal.τ).loc Cert.SelIdeal.main_arg0)
      ∧ m' ((c.tc : Thread Cert.SelRefIdeal.nD Cert.SelRefIdeal.τ).loc Cert.SelRefIdeal.main_arg1) = m ((c.tc : Thread Cert.SelIdeal.nD Cert.SelIdeal.τ).loc Cert.SelIdeal.main_arg1)
      ∧ m' ((c.tc : Thread Cert.SelRefIdeal.nD Cert.SelRefIdeal.τ).loc Cert.SelRefIdeal.main_arg2) = m ((c.tc : Thread Cert.SelIdeal.nD Cert.SelIdeal.τ).loc Cert.SelIdeal.main_arg2)
      ∧ m' ((c.tc : Thread Cert.SelRefIdeal.nD Cert.SelRefIdeal.τ).loc Cert.SelRefIdeal.main_arg3) = m ((c.tc : Thread Cert.SelIdeal.nD Cert.SelIdeal.τ).loc Cert.SelIdeal.main_arg3)
      ∧ m' ((c.tc : Thread Cert.SelRefIdeal.nD Cert.SelRefIdeal.τ).loc Cert.SelRefIdeal.main_arg4) = m ((c.tc : Thread Cert.SelIdeal.nD Cert.SelIdeal.τ).loc Cert.SelIdeal.main_arg4)
      ∧ m' ((c.tc : Thread Cert.SelRefIdeal.nD Cert.SelRefIdeal.τ).loc Cert.SelRefIdeal.main_arg5) = m ((c.tc : Thread Cert.SelIdeal.nD Cert.SelIdeal.τ).loc Cert.SelIdeal.main_arg5)) →
    ∃ (v0 : (c : Dev Cert.SelIdeal.nD) → Buf (Elt Ideal) ((c.tc : Thread Cert.SelIdeal.nD Cert.SelIdeal.τ).loc Cert.SelIdeal.main_v0)),
      θ_run (Cert.SelIdeal.defs (F := Ideal)) (onTc (τ := Cert.SelIdeal.τ) (Cert.SelIdeal.main (F := Ideal))) ⟨m, fun _ => 0, g⟩ (fun r => ∀ c : Dev Cert.SelIdeal.nD,
          r.2.mem ((c.tc : Thread Cert.SelIdeal.nD Cert.SelIdeal.τ).loc Cert.SelIdeal.main_v0) = v0 c
          ∧ r.2.mem ((c.tc : Thread Cert.SelIdeal.nD Cert.SelIdeal.τ).loc Cert.SelIdeal.main_arg0) = m ((c.tc : Thread Cert.SelIdeal.nD Cert.SelIdeal.τ).loc Cert.SelIdeal.main_arg0)
          ∧ r.2.mem ((c.tc : Thread Cert.SelIdeal.nD Cert.SelIdeal.τ).loc Cert.SelIdeal.main_arg1) = m ((c.tc : Thread Cert.SelIdeal.nD Cert.SelIdeal.τ).loc Cert.SelIdeal.main_arg1)
          ∧ r.2.mem ((c.tc : Thread Cert.SelIdeal.nD Cert.SelIdeal.τ).loc Cert.SelIdeal.main_arg2) = m ((c.tc : Thread Cert.SelIdeal.nD Cert.SelIdeal.τ).loc Cert.SelIdeal.main_arg2)
          ∧ r.2.mem ((c.tc : Thread Cert.SelIdeal.nD Cert.SelIdeal.τ).loc Cert.SelIdeal.main_arg3) = m ((c.tc : Thread Cert.SelIdeal.nD Cert.SelIdeal.τ).loc Cert.SelIdeal.main_arg3)
          ∧ r.2.mem ((c.tc : Thread Cert.SelIdeal.nD Cert.SelIdeal.τ).loc Cert.SelIdeal.main_arg4) = m ((c.tc : Thread Cert.SelIdeal.nD Cert.SelIdeal.τ).loc Cert.SelIdeal.main_arg4)
          ∧ r.2.mem ((c.tc : Thread Cert.SelIdeal.nD Cert.SelIdeal.τ).loc Cert.SelIdeal.main_arg5) = m ((c.tc : Thread Cert.SelIdeal.nD Cert.SelIdeal.τ).loc Cert.SelIdeal.main_arg5))
      ∧ θ_run (Cert.SelRefIdeal.defs (F := Ideal)) (onTc (τ := Cert.SelRefIdeal.τ) (Cert.SelRefIdeal.main (F := Ideal))) ⟨m', fun _ => 0, g'⟩ (fun r => ∀ c : Dev Cert.SelRefIdeal.nD,
          r.2.mem ((c.tc : Thread Cert.SelRefIdeal.nD Cert.SelRefIdeal.τ).loc Cert.SelRefIdeal.main_v59) = v0 c
          ∧ r.2.mem ((c.tc : Thread Cert.SelRefIdeal.nD Cert.SelRefIdeal.τ).loc Cert.SelRefIdeal.main_arg0) = m' ((c.tc : Thread Cert.SelRefIdeal.nD Cert.SelRefIdeal.τ).loc Cert.SelRefIdeal.main_arg0)
          ∧ r.2.mem ((c.tc : Thread Cert.SelRefIdeal.nD Cert.SelRefIdeal.τ).loc Cert.SelRefIdeal.main_arg1) = m' ((c.tc : Thread Cert.SelRefIdeal.nD Cert.SelRefIdeal.τ).loc Cert.SelRefIdeal.main_arg1)
          ∧ r.2.mem ((c.tc : Thread Cert.SelRefIdeal.nD Cert.SelRefIdeal.τ).loc Cert.SelRefIdeal.main_arg2) = m' ((c.tc : Thread Cert.SelRefIdeal.nD Cert.SelRefIdeal.τ).loc Cert.SelRefIdeal.main_arg2)
          ∧ r.2.mem ((c.tc : Thread Cert.SelRefIdeal.nD Cert.SelRefIdeal.τ).loc Cert.SelRefIdeal.main_arg3) = m' ((c.tc : Thread Cert.SelRefIdeal.nD Cert.SelRefIdeal.τ).loc Cert.SelRefIdeal.main_arg3)
          ∧ r.2.mem ((c.tc : Thread Cert.SelRefIdeal.nD Cert.SelRefIdeal.τ).loc Cert.SelRefIdeal.main_arg4) = m' ((c.tc : Thread Cert.SelRefIdeal.nD Cert.SelRefIdeal.τ).loc Cert.SelRefIdeal.main_arg4)
          ∧ r.2.mem ((c.tc : Thread Cert.SelRefIdeal.nD Cert.SelRefIdeal.τ).loc Cert.SelRefIdeal.main_arg5) = m' ((c.tc : Thread Cert.SelRefIdeal.nD Cert.SelRefIdeal.τ).loc Cert.SelRefIdeal.main_arg5))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)) →
    ∃ (v0 : (c : Dev Cert.GmlpIdeal.nD) → Buf (Elt Ideal) ((c.tc : Thread Cert.GmlpIdeal.nD Cert.GmlpIdeal.τ).loc Cert.GmlpIdeal.main_v0)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v0) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v55) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3))

def Claim : Prop :=
  ∃ (hAttn : Cert.Attn.Facts) (hAttnIdeal : Cert.AttnIdeal.Facts) (hAttnRefIdeal : Cert.AttnRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hFfn : Cert.Ffn.Facts) (hFfnIdeal : Cert.FfnIdeal.Facts) (hFfnRefIdeal : Cert.FfnRefIdeal.Facts) (hFfnNorm : Cert.FfnNorm.Facts) (hFfnNormIdeal : Cert.FfnNormIdeal.Facts) (hFfnNormRefIdeal : Cert.FfnNormRefIdeal.Facts) (hSel : Cert.Sel.Facts) (hSelIdeal : Cert.SelIdeal.Facts) (hSelRefIdeal : Cert.SelRefIdeal.Facts) (hGmlp : Cert.Gmlp.Facts) (hGmlpIdeal : Cert.GmlpIdeal.Facts) (hGmlpRefIdeal : Cert.GmlpRefIdeal.Facts) (hPre_v_ones : Cert.Pre_v_ones.Facts) (hPre_sel_layout : Cert.Pre_sel_layout.Facts),
    quiescent_Attn (hAttn := hAttn)
    ∧ quiescent_AttnIdeal (hAttnIdeal := hAttnIdeal)
    ∧ quiescent_AttnIdeal_pre_v_ones (hAttnIdeal := hAttnIdeal) (hPre_v_ones := hPre_v_ones)
    ∧ quiescent_AttnRefIdeal (hAttnRefIdeal := hAttnRefIdeal)
    ∧ quiescent_AttnRefIdeal_pre_v_ones (hAttnRefIdeal := hAttnRefIdeal) (hPre_v_ones := hPre_v_ones)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnNorm (hFfnNorm := hFfnNorm)
    ∧ quiescent_FfnNormIdeal (hFfnNormIdeal := hFfnNormIdeal)
    ∧ quiescent_FfnNormRefIdeal (hFfnNormRefIdeal := hFfnNormRefIdeal)
    ∧ quiescent_Sel (hSel := hSel)
    ∧ quiescent_SelIdeal (hSelIdeal := hSelIdeal)
    ∧ quiescent_SelIdeal_pre_sel_layout (hSelIdeal := hSelIdeal) (hPre_sel_layout := hPre_sel_layout)
    ∧ quiescent_SelRefIdeal (hSelRefIdeal := hSelRefIdeal)
    ∧ quiescent_SelRefIdeal_pre_sel_layout (hSelRefIdeal := hSelRefIdeal) (hPre_sel_layout := hPre_sel_layout)
    ∧ quiescent_Gmlp (hGmlp := hGmlp)
    ∧ quiescent_GmlpIdeal (hGmlpIdeal := hGmlpIdeal)
    ∧ quiescent_GmlpRefIdeal (hGmlpRefIdeal := hGmlpRefIdeal)
    ∧ preserves_Attn_AttnIdeal
    ∧ algebraic_AttnIdeal_AttnRefIdeal_pre_v_ones (hAttnIdeal := hAttnIdeal) (hAttnRefIdeal := hAttnRefIdeal) (hPre_v_ones := hPre_v_ones)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Ffn_FfnIdeal
    ∧ algebraic_FfnIdeal_FfnRefIdeal (hFfnIdeal := hFfnIdeal) (hFfnRefIdeal := hFfnRefIdeal)
    ∧ preserves_FfnNorm_FfnNormIdeal
    ∧ algebraic_FfnNormIdeal_FfnNormRefIdeal (hFfnNormIdeal := hFfnNormIdeal) (hFfnNormRefIdeal := hFfnNormRefIdeal)
    ∧ preserves_Sel_SelIdeal
    ∧ algebraic_SelIdeal_SelRefIdeal_pre_sel_layout (hSelIdeal := hSelIdeal) (hSelRefIdeal := hSelRefIdeal) (hPre_sel_layout := hPre_sel_layout)
    ∧ preserves_Gmlp_GmlpIdeal
    ∧ algebraic_GmlpIdeal_GmlpRefIdeal (hGmlpIdeal := hGmlpIdeal) (hGmlpRefIdeal := hGmlpRefIdeal)
-- ==== Pre_sel_layout.lean ====
abbrev S16384x2048 : Shape := ⟨2, ![16384, 2048]⟩
abbrev S16384x256 : Shape := ⟨2, ![16384, 256]⟩
abbrev S16384x512 : Shape := ⟨2, ![16384, 512]⟩
abbrev S16384x3840 : Shape := ⟨2, ![16384, 3840]⟩
abbrev S16384 : Shape := ⟨1, ![16384]⟩
abbrev S_ : Shape := ⟨0, ![]⟩
abbrev S16384x1x1 : Shape := ⟨3, ![16384, 1, 1]⟩
abbrev S128 : Shape := ⟨1, ![128]⟩
abbrev S1x1x128 : Shape := ⟨3, ![1, 1, 128]⟩
abbrev S16384x1x128 : Shape := ⟨3, ![16384, 1, 128]⟩
abbrev S16384x2x2x128 : Shape := ⟨4, ![16384, 2, 2, 128]⟩
abbrev S16384x2x1x128 : Shape := ⟨4, ![16384, 2, 1, 128]⟩
abbrev S16384x2x128 : Shape := ⟨3, ![16384, 2, 128]⟩

class Facts : Prop where
  bcast_S_S16384 : S_.BroadcastsInDim S16384 (![] : Fin 0 → Fin S16384.rank)
  bcast_S16384_S16384x1x1_0 : S16384.BroadcastsInDim S16384x1x1 (![0] : Fin 1 → Fin S16384x1x1.rank)
  bcast_S128_S1x1x128_2 : S128.BroadcastsInDim S1x1x128 (![2] : Fin 1 → Fin S1x1x128.rank)
  bcast_S16384x1x1_S16384x1x128_0_1_2 : S16384x1x1.BroadcastsInDim S16384x1x128 (![0, 1, 2] : Fin 3 → Fin S16384x1x128.rank)
  bcast_S1x1x128_S16384x1x128_0_1_2 : S1x1x128.BroadcastsInDim S16384x1x128 (![0, 1, 2] : Fin 3 → Fin S16384x1x128.rank)
  bitsLt_bf16_f32 : FTy.bits .bf16 < FTy.bits .f32
  shapeCasts_S16384x512_S16384x2x2x128 : S16384x512.ShapeCasts S16384x2x2x128
  slices_S16384x2x2x128_S16384x2x1x128_0_0_1_0 : S16384x2x2x128.Slices ![0, 0, 1, 0] S16384x2x1x128
  shapeCasts_S16384x2x1x128_S16384x2x128 : S16384x2x1x128.ShapeCasts S16384x2x128
  bcast_S_S16384x2x128 : S_.BroadcastsInDim S16384x2x128 (![] : Fin 0 → Fin S16384x2x128.rank)
  bcast_S16384x1x128_S16384x2x128_0_1_2 : S16384x1x128.BroadcastsInDim S16384x2x128 (![0, 1, 2] : Fin 3 → Fin S16384x2x128.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S16384 32) (arg1 : IVec S_ 32) : IVec S16384 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S16384 32 := broadcastInDim S16384 ![] bcast_S_S16384 v2
  let v4 : IVec S16384 32 := Host.remsi arg0 v3
  let c_1 : IVec S_ 32 := constantI S_ 32 0#32
  let v5 : IVec S16384 32 := broadcastInDim S16384 ![] bcast_S_S16384 c_1
  let v6 : IVec S16384 1 := cmpi .ne v4 v5
  let c_2 : IVec S_ 32 := constantI S_ 32 0#32
  let v7 : IVec S16384 32 := broadcastInDim S16384 ![] bcast_S_S16384 c_2
  let v8 : IVec S16384 1 := cmpi .slt v4 v7
  let c_3 : IVec S_ 32 := constantI S_ 32 0#32
  let v9 : IVec S_ 1 := cmpi .slt v2 c_3
  let v10 : IVec S16384 1 := broadcastInDim S16384 ![] bcast_S_S16384 v9
  let v11 : IVec S16384 1 := cmpi .ne v8 v10
  let v12 : IVec S16384 1 := andi v11 v6
  let v13 : IVec S16384 32 := broadcastInDim S16384 ![] bcast_S_S16384 v2
  let v14 : IVec S16384 32 := addi v4 v13
  let v15 : IVec S16384 32 := select v12 v14 v4
  v15

def fn_where_0 {F : FTy → Type} [FloatOps F] (arg0 : IVec S16384 1) (arg1 : IVec S16384 32) (arg2 : IVec S16384 32) : IVec S16384 32 :=
  let v0 : IVec S16384 32 := select arg0 arg1 arg2
  v0

def fn_floor_divide {F : FTy → Type} [FloatOps F] (arg0 : IVec S16384 32) (arg1 : IVec S_ 32) : IVec S16384 32 :=
  let v0 : IVec S_ 32 := id arg1
  let v1 : IVec S16384 32 := broadcastInDim S16384 ![] bcast_S_S16384 v0
  let v2 : IVec S16384 32 := Host.divsi arg0 v1
  let v3 : IVec S16384 32 := signi arg0
  let v4 : IVec S_ 32 := signi v0
  let v5 : IVec S16384 32 := broadcastInDim S16384 ![] bcast_S_S16384 v4
  let v6 : IVec S16384 1 := cmpi .ne v3 v5
  let v7 : IVec S16384 32 := broadcastInDim S16384 ![] bcast_S_S16384 v0
  let v8 : IVec S16384 32 := Host.remsi arg0 v7
  let c : IVec S_ 32 := constantI S_ 32 0#32
  let v9 : IVec S16384 32 := broadcastInDim S16384 ![] bcast_S_S16384 c
  let v10 : IVec S16384 1 := cmpi .ne v8 v9
  let v11 : IVec S16384 1 := andi v6 v10
  let c_0 : IVec S_ 32 := constantI S_ 32 1#32
  let v12 : IVec S16384 32 := broadcastInDim S16384 ![] bcast_S_S16384 c_0
  let v13 : IVec S16384 32 := subi v2 v12
  let v14 : IVec S16384 32 := fn_where_0 (F := F) v11 v13 v2
  v14

def fn_part1 {F : FTy → Type} [FloatOps F] (main_v15 : IVec S16384x2x128 1) (main_v19 : FVec F S16384x2x128 .f32) (main_v20 : FVec F S16384x2x128 .f32) : IVec S16384x2x128 1 :=
  let main_v21 : IVec S16384x2x128 1 := cmpf .oeq main_v19 main_v20
  let main_v22 : IVec S16384x2x128 1 := andi main_v15 main_v21
  main_v22

def fn {F : FTy → Type} [FloatOps F] (main_arg0 : FVec F S16384x2048 .bf16) (main_arg1 : FVec F S16384x256 .bf16) (main_arg2 : FVec F S16384x512 .bf16) (main_arg3 : FVec F S16384x512 .bf16) (main_arg4 : FVec F S16384x2048 .bf16) (main_arg5 : FVec F S16384x3840 .f32) : IVec S16384x2x128 1 :=
  let main_v0 : IVec S16384 32 := iotaInDim S16384 32 0
  let main_c : IVec S_ 32 := constantI S_ 32 4096#32
  let main_v1 : IVec S16384 32 := fn_remainder (F := F) main_v0 main_c
  let main_c_0 : IVec S_ 32 := constantI S_ 32 64#32
  let main_v2 : IVec S16384 32 := fn_floor_divide (F := F) main_v1 main_c_0
  let main_v3 : IVec S16384x1x1 32 := broadcastInDim S16384x1x1 ![0] bcast_S16384_S16384x1x1_0 main_v2
  let main_v4 : IVec S128 32 := iotaInDim S128 32 0
  let main_v5 : IVec S1x1x128 32 := broadcastInDim S1x1x128 ![2] bcast_S128_S1x1x128_2 main_v4
  let main_v6 : IVec S16384x1x128 32 := broadcastInDim S16384x1x128 ![0, 1, 2] bcast_S16384x1x1_S16384x1x128_0_1_2 main_v3
  let main_v7 : IVec S16384x1x128 32 := broadcastInDim S16384x1x128 ![0, 1, 2] bcast_S1x1x128_S16384x1x128_0_1_2 main_v5
  let main_v8 : IVec S16384x1x128 1 := cmpi .eq main_v6 main_v7
  let main_v9 : FVec F S16384x1x128 .f32 := uitofp .f32 main_v8
  let main_v10 : FVec F S16384x512 .f32 := (extf .f32 · bitsLt_bf16_f32) main_arg3
  let main_v11 : FVec F S16384x2x2x128 .f32 := shapeCast S16384x2x2x128 main_v10 shapeCasts_S16384x512_S16384x2x2x128
  let main_v12 : FVec F S16384x2x1x128 .f32 := (extractStridedSlice S16384x2x1x128 ![0, 0, 1, 0] · slices_S16384x2x2x128_S16384x2x1x128_0_0_1_0) main_v11
  let main_v13 : FVec F S16384x2x128 .f32 := shapeCast S16384x2x128 main_v12 shapeCasts_S16384x2x1x128_S16384x2x128
  let main_cst : FVec F S_ .f32 := constant S_ .f32 0x3F800000#32
  let main_v14 : FVec F S16384x2x128 .f32 := broadcastInDim S16384x2x128 ![] bcast_S_S16384x2x128 main_cst
  let main_v15 : IVec S16384x2x128 1 := cmpf .oeq main_v13 main_v14
  let main_v16 : FVec F S16384x512 .f32 := (extf .f32 · bitsLt_bf16_f32) main_arg2
  let main_v17 : FVec F S16384x2x2x128 .f32 := shapeCast S16384x2x2x128 main_v16 shapeCasts_S16384x512_S16384x2x2x128
  let main_v18 : FVec F S16384x2x1x128 .f32 := (extractStridedSlice S16384x2x1x128 ![0, 0, 1, 0] · slices_S16384x2x2x128_S16384x2x1x128_0_0_1_0) main_v17
  let main_v19 : FVec F S16384x2x128 .f32 := shapeCast S16384x2x128 main_v18 shapeCasts_S16384x2x1x128_S16384x2x128
  let main_v20 : FVec F S16384x2x128 .f32 := broadcastInDim S16384x2x128 ![0, 1, 2] bcast_S16384x1x128_S16384x2x128_0_1_2 main_v9
  fn_part1 (F := F) main_v15 main_v19 main_v20
-- ==== Pre_v_ones.lean ====
abbrev S16384x2048 : Shape := ⟨2, ![16384, 2048]⟩
abbrev S4x2x256x128 : Shape := ⟨4, ![4, 2, 256, 128]⟩
abbrev S16384x256 : Shape := ⟨2, ![16384, 256]⟩
abbrev S16384x512 : Shape := ⟨2, ![16384, 512]⟩
abbrev S16384x3840 : Shape := ⟨2, ![16384, 3840]⟩
abbrev S64x256 : Shape := ⟨2, ![64, 256]⟩
abbrev S16384x2x2x128 : Shape := ⟨4, ![16384, 2, 2, 128]⟩
abbrev S16384x2x1x128 : Shape := ⟨4, ![16384, 2, 1, 128]⟩
abbrev S16384x2x128 : Shape := ⟨3, ![16384, 2, 128]⟩
abbrev S_ : Shape := ⟨0, ![]⟩

class Facts : Prop where
  bitsLt_bf16_f32 : FTy.bits .bf16 < FTy.bits .f32
  shapeCasts_S16384x512_S16384x2x2x128 : S16384x512.ShapeCasts S16384x2x2x128
  slices_S16384x2x2x128_S16384x2x1x128_0_0_1_0 : S16384x2x2x128.Slices ![0, 0, 1, 0] S16384x2x1x128
  shapeCasts_S16384x2x1x128_S16384x2x128 : S16384x2x1x128.ShapeCasts S16384x2x128
  bcast_S_S16384x2x128 : S_.BroadcastsInDim S16384x2x128 (![] : Fin 0 → Fin S16384x2x128.rank)

variable [Facts]

def fn {F : FTy → Type} [FloatOps F] (main_arg0 : FVec F S16384x2048 .bf16) (main_arg1 : FVec F S4x2x256x128 .bf16) (main_arg2 : FVec F S4x2x256x128 .bf16) (main_arg3 : FVec F S16384x256 .bf16) (main_arg4 : FVec F S16384x512 .bf16) (main_arg5 : FVec F S16384x3840 .f32) (main_arg6 : FVec F S64x256 .bf16) : IVec S16384x2x128 1 :=
  let main_v0 : FVec F S16384x512 .f32 := (extf .f32 · bitsLt_bf16_f32) main_arg4
  let main_v1 : FVec F S16384x2x2x128 .f32 := shapeCast S16384x2x2x128 main_v0 shapeCasts_S16384x512_S16384x2x2x128
  let main_v2 : FVec F S16384x2x1x128 .f32 := (extractStridedSlice S16384x2x1x128 ![0, 0, 1, 0] · slices_S16384x2x2x128_S16384x2x1x128_0_0_1_0) main_v1
  let main_v3 : FVec F S16384x2x128 .f32 := shapeCast S16384x2x128 main_v2 shapeCasts_S16384x2x1x128_S16384x2x128
  let main_cst : FVec F S_ .f32 := constant S_ .f32 0x3F800000#32
  let main_v4 : FVec F S16384x2x128 .f32 := broadcastInDim S16384x2x128 ![] bcast_S_S16384x2x128 main_cst
  let main_v5 : IVec S16384x2x128 1 := cmpf .oeq main_v3 main_v4
  main_v5
-- ==== Attn.lean ====
abbrev S16384x2048 : Shape := ⟨2, ![16384, 2048]⟩
abbrev S4x2x256x128 : Shape := ⟨4, ![4, 2, 256, 128]⟩
abbrev S16384x256 : Shape := ⟨2, ![16384, 256]⟩
abbrev S16384x512 : Shape := ⟨2, ![16384, 512]⟩
abbrev S16384x3840 : Shape := ⟨2, ![16384, 3840]⟩
abbrev S64x256 : Shape := ⟨2, ![64, 256]⟩
abbrev S256x1024 : Shape := ⟨2, ![256, 1024]⟩
abbrev S1x1x256x128 : Shape := ⟨4, ![1, 1, 256, 128]⟩
abbrev S4096x128 : Shape := ⟨2, ![4096, 128]⟩
abbrev S4096x256 : Shape := ⟨2, ![4096, 256]⟩
abbrev S256x128 : Shape := ⟨2, ![256, 128]⟩
abbrev S2048x128 : Shape := ⟨2, ![2048, 128]⟩
abbrev S768x128 : Shape := ⟨2, ![768, 128]⟩
abbrev S2048x768 : Shape := ⟨2, ![2048, 768]⟩
abbrev S1x256x768 : Shape := ⟨3, ![1, 256, 768]⟩
abbrev S8x256x768 : Shape := ⟨3, ![8, 256, 768]⟩
abbrev S2048 : Shape := ⟨1, ![2048]⟩
abbrev S2048x1 : Shape := ⟨2, ![2048, 1]⟩
abbrev S768x256 : Shape := ⟨2, ![768, 256]⟩
abbrev S2048x256 : Shape := ⟨2, ![2048, 256]⟩
abbrev S8x256x256 : Shape := ⟨3, ![8, 256, 256]⟩
abbrev S1x256x256 : Shape := ⟨3, ![1, 256, 256]⟩
abbrev S8x256 : Shape := ⟨2, ![8, 256]⟩
abbrev S8x256x1 : Shape := ⟨3, ![8, 256, 1]⟩
abbrev S256x1 : Shape := ⟨2, ![256, 1]⟩
abbrev S256x256 : Shape := ⟨2, ![256, 256]⟩
abbrev S256 : Shape := ⟨1, ![256]⟩
abbrev S1x256 : Shape := ⟨2, ![1, 256]⟩
abbrev S128x256 : Shape := ⟨2, ![128, 256]⟩

abbrev nBuf : Space → Nat
  | .hbm => 9
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S4x2x256x128, .bf16⟩
  | .hbm, ⟨2, _⟩ => ⟨S4x2x256x128, .bf16⟩
  | .hbm, ⟨3, _⟩ => ⟨S16384x256, .bf16⟩
  | .hbm, ⟨4, _⟩ => ⟨S16384x512, .bf16⟩
  | .hbm, ⟨5, _⟩ => ⟨S16384x3840, .f32⟩
  | .hbm, ⟨6, _⟩ => ⟨S64x256, .bf16⟩
  | .hbm, ⟨7, _⟩ => ⟨S16384x2048, .bf16⟩
  | .hbm, ⟨8, _⟩ => ⟨S16384x256, .bf16⟩
  | .local _ .vmem, ⟨0, _⟩ => ⟨S256x1024, .bf16⟩
  | .local _ .vmem, ⟨1, _⟩ => ⟨S256x1024, .bf16⟩
  | .local _ .vmem, ⟨2, _⟩ => ⟨S1x1x256x128, .bf16⟩
  | .local _ .vmem, ⟨3, _⟩ => ⟨S1x1x256x128, .bf16⟩
  | .local _ .vmem, ⟨4, _⟩ => ⟨S1x1x256x128, .bf16⟩
  | .local _ .vmem, ⟨5, _⟩ => ⟨S1x1x256x128, .bf16⟩
  | .local _ .vmem, ⟨6, _⟩ => ⟨S4096x128, .bf16⟩
  | .local _ .vmem, ⟨7, _⟩ => ⟨S4096x128, .bf16⟩
  | .local _ .vmem, ⟨8, _⟩ => ⟨S4096x256, .bf16⟩
  | .local _ .vmem, ⟨9, _⟩ => ⟨S4096x256, .bf16⟩
  | .local _ .vmem, ⟨10, _⟩ => ⟨S256x128, .f32⟩
  | .local _ .vmem, ⟨11, _⟩ => ⟨S256x128, .f32⟩
  | .local _ .vmem, ⟨12, _⟩ => ⟨S64x256, .bf16⟩
  | .local _ .vmem, ⟨13, _⟩ => ⟨S256x1024, .bf16⟩
  | .local _ .vmem, ⟨14, _⟩ => ⟨S256x1024, .bf16⟩
  | .local _ .vmem, ⟨15, _⟩ => ⟨S256x128, .bf16⟩
  | .local _ .vmem, ⟨16, _⟩ => ⟨S256x128, .bf16⟩
  | .local _ .vmem, ⟨17, _⟩ => ⟨S2048x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 2, 16], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  let c512_i32 : BitVec 32 := 512#32
  let v33 : BitVec 32 := Scalar.subi v0 c512_i32
  let c0_i32 : BitVec 32 := 0#32
  let v34 : BitVec 32 := Scalar.maxsi v33 c0_i32
  v34
def k0_off1 (i : grid0.Coords) : Fin 2 → Nat :=
  let arg2 : BitVec 32 := BitVec.ofNat 32 (i 2).val
  let c256_i32 : BitVec 32 := 256#32
  let v0 : BitVec 32 := Scalar.muli arg2 c256_i32
  let c512_i32 : BitVec 32 := 512#32
  let v33 : BitVec 32 := Scalar.subi v0 c512_i32
  let c0_i32 : BitVec 32 := 0#32
  let v34 : BitVec 32 := Scalar.maxsi v33 c0_i32
  let v35 : BitVec 32 := v34
  let v37 : Index := Scalar.indexCast v35
  let c0_22 : Index := 0#32
  ![v37.toNat, 0]
def k0_off2 (i : grid0.Coords) : Fin 2 → Nat :=
  let arg2 : BitVec 32 := BitVec.ofNat 32 (i 2).val
  let c256_i32 : BitVec 32 := 256#32
  let v0 : BitVec 32 := Scalar.muli arg2 c256_i32
  let c512_i32 : BitVec 32 := 512#32
  let v33 : BitVec 32 := Scalar.subi v0 c512_i32
  let c0_i32 : BitVec 32 := 0#32
  let v34 : BitVec 32 := Scalar.maxsi v33 c0_i32
  let v35 : BitVec 32 := v34
  let v61 : Index := Scalar.indexCast v35
  let c0_26 : Index := 0#32
  ![v61.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c28_i32 : BitVec 32 := 28#32
  let v2 : BitVec 32 := Scalar.addi c28_i32 arg1
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S16384x2048 : Shape := ⟨2, ![16384, 2048]⟩
abbrev S4x2x256x128 : Shape := ⟨4, ![4, 2, 256, 128]⟩
abbrev S16384x256 : Shape := ⟨2, ![16384, 256]⟩
abbrev S16384x512 : Shape := ⟨2, ![16384, 512]⟩
abbrev S16384x3840 : Shape := ⟨2, ![16384, 3840]⟩
abbrev S64x256 : Shape := ⟨2, ![64, 256]⟩
abbrev S4096 : Shape := ⟨1, ![4096]⟩
abbrev S4x4096x2x8x128 : Shape := ⟨5, ![4, 4096, 2, 8, 128]⟩
abbrev S4x2x8x4096x128 : Shape := ⟨5, ![4, 2, 8, 4096, 128]⟩
abbrev S255 : Shape := ⟨1, ![255]⟩
abbrev S_ : Shape := ⟨0, ![]⟩
abbrev S4x2x255x128 : Shape := ⟨4, ![4, 2, 255, 128]⟩
abbrev S4x2x8x4096x255 : Shape := ⟨5, ![4, 2, 8, 4096, 255]⟩
abbrev S1x255 : Shape := ⟨2, ![1, 255]⟩
abbrev S4096x1 : Shape := ⟨2, ![4096, 1]⟩
abbrev S4096x255 : Shape := ⟨2, ![4096, 255]⟩
abbrev S4x2x8x4096 : Shape := ⟨4, ![4, 2, 8, 4096]⟩
abbrev S4x2x8x4096x1 : Shape := ⟨5, ![4, 2, 8, 4096, 1]⟩
abbrev S4x4096x2x128 : Shape := ⟨4, ![4, 4096, 2, 128]⟩
abbrev S4x2x4096x128 : Shape := ⟨4, ![4, 2, 4096, 128]⟩
abbrev S4x4096x2x256 : Shape := ⟨4, ![4, 4096, 2, 256]⟩
abbrev S1x4096 : Shape := ⟨2, ![1, 4096]⟩
abbrev S4096x4096 : Shape := ⟨2, ![4096, 4096]⟩
abbrev S4x2x8x4096x4096 : Shape := ⟨5, ![4, 2, 8, 4096, 4096]⟩
abbrev S4x4096x2x24 : Shape := ⟨4, ![4, 4096, 2, 24]⟩
abbrev S4x4096x2x3x8 : Shape := ⟨5, ![4, 4096, 2, 3, 8]⟩
abbrev S3x4x2x8x4096 : Shape := ⟨5, ![3, 4, 2, 8, 4096]⟩
abbrev S3x4x2x8x4096x1 : Shape := ⟨6, ![3, 4, 2, 8, 4096, 1]⟩
abbrev S1x4x2x8x4096x1 : Shape := ⟨6, ![1, 4, 2, 8, 4096, 1]⟩

abbrev nBuf : Space → Nat
  | .hbm => 131
  | .vmem => 0
  | .smem => 0
  | _ => 0

abbrev hbmTy0_0 (i : Nat) : BufTy := match i % 128 with
  | 0 => ⟨S16384x2048, .bf16⟩
  | 1 => ⟨S4x2x256x128, .bf16⟩
  | 2 => ⟨S4x2x256x128, .bf16⟩
  | 3 => ⟨S16384x256, .bf16⟩
  | 4 => ⟨S16384x512, .bf16⟩
  | 5 => ⟨S16384x3840, .f32⟩
  | 6 => ⟨S64x256, .bf16⟩
  | 7 => ⟨S4096, .i32⟩
  | 8 => ⟨S16384x2048, .f32⟩
  | 9 => ⟨S4x4096x2x8x128, .f32⟩
  | 10 => ⟨S4x2x8x4096x128, .f32⟩
  | 11 => ⟨S255, .i32⟩
  | 12 => ⟨S_, .i32⟩
  | 13 => ⟨S255, .i32⟩
  | 14 => ⟨S255, .i32⟩
  | 15 => ⟨S_, .i32⟩
  | 16 => ⟨S255, .i32⟩
  | 17 => ⟨S255, .i32⟩
  | 18 => ⟨S_, .i32⟩
  | 19 => ⟨S255, .i32⟩
  | 20 => ⟨S255, .i32⟩
  | 21 => ⟨S4x2x256x128, .f32⟩
  | 22 => ⟨S4x2x255x128, .f32⟩
  | 23 => ⟨S4x2x8x4096x255, .f32⟩
  | 24 => ⟨S1x255, .i32⟩
  | 25 => ⟨S4096x1, .i32⟩
  | 26 => ⟨S4096x255, .i32⟩
  | 27 => ⟨S4096x255, .i32⟩
  | 28 => ⟨S4096x255, .i1⟩
  | 29 => ⟨S_, .f32⟩
  | 30 => ⟨S_, .f32⟩
  | 31 => ⟨S4x2x8x4096x255, .i1⟩
  | 32 => ⟨S4x2x8x4096x255, .f32⟩
  | 33 => ⟨S4x2x8x4096x255, .f32⟩
  | 34 => ⟨S_, .f32⟩
  | 35 => ⟨S4x2x8x4096, .f32⟩
  | 36 => ⟨S4x2x8x4096x1, .f32⟩
  | 37 => ⟨S4x2x8x4096x255, .f32⟩
  | 38 => ⟨S4x2x8x4096x255, .f32⟩
  | 39 => ⟨S_, .f32⟩
  | 40 => ⟨S4x2x8x4096x255, .f32⟩
  | 41 => ⟨S4x2x8x4096x255, .f32⟩
  | 42 => ⟨S_, .f32⟩
  | 43 => ⟨S4x2x8x4096, .f32⟩
  | 44 => ⟨S4x2x8x4096x1, .f32⟩
  | 45 => ⟨S_, .f32⟩
  | 46 => ⟨S4x2x8x4096x1, .f32⟩
  | 47 => ⟨S4x2x8x4096x1, .f32⟩
  | 48 => ⟨S4x2x8x4096x255, .f32⟩
  | 49 => ⟨S4x2x8x4096x255, .f32⟩
  | 50 => ⟨S_, .f32⟩
  | 51 => ⟨S_, .f32⟩
  | 52 => ⟨S4x2x8x4096x255, .i1⟩
  | 53 => ⟨S4x2x8x4096x255, .f32⟩
  | 54 => ⟨S4x2x8x4096x255, .f32⟩
  | 55 => ⟨S4x2x256x128, .f32⟩
  | 56 => ⟨S4x2x255x128, .f32⟩
  | 57 => ⟨S4x2x8x4096x128, .f32⟩
  | 58 => ⟨S16384x256, .f32⟩
  | 59 => ⟨S4x4096x2x128, .f32⟩
  | 60 => ⟨S4x2x4096x128, .f32⟩
  | 61 => ⟨S16384x512, .f32⟩
  | 62 => ⟨S4x4096x2x256, .f32⟩
  | 63 => ⟨S4x4096x2x128, .f32⟩
  | 64 => ⟨S4x2x4096x128, .f32⟩
  | 65 => ⟨S4096x1, .i32⟩
  | 66 => ⟨S1x4096, .i32⟩
  | 67 => ⟨S4096x4096, .i32⟩
  | 68 => ⟨S4096x4096, .i32⟩
  | 69 => ⟨S4096x4096, .i32⟩
  | 70 => ⟨S4x2x8x4096x4096, .f32⟩
  | 71 => ⟨S_, .i32⟩
  | 72 => ⟨S4096x4096, .i32⟩
  | 73 => ⟨S4096x4096, .i1⟩
  | 74 => ⟨S_, .i32⟩
  | 75 => ⟨S4096x4096, .i32⟩
  | 76 => ⟨S4096x4096, .i1⟩
  | 77 => ⟨S4096x4096, .i1⟩
  | 78 => ⟨S_, .f32⟩
  | 79 => ⟨S_, .f32⟩
  | 80 => ⟨S4x2x8x4096x4096, .i1⟩
  | 81 => ⟨S4x2x8x4096x4096, .f32⟩
  | 82 => ⟨S4x2x8x4096x4096, .f32⟩
  | 83 => ⟨S_, .f32⟩
  | 84 => ⟨S4x2x8x4096, .f32⟩
  | 85 => ⟨S4x2x8x4096x1, .f32⟩
  | 86 => ⟨S4x2x8x4096x4096, .f32⟩
  | 87 => ⟨S4x2x8x4096x4096, .f32⟩
  | 88 => ⟨S_, .f32⟩
  | 89 => ⟨S4x2x8x4096x4096, .f32⟩
  | 90 => ⟨S4x2x8x4096x4096, .f32⟩
  | 91 => ⟨S_, .f32⟩
  | 92 => ⟨S4x2x8x4096, .f32⟩
  | 93 => ⟨S4x2x8x4096x1, .f32⟩
  | 94 => ⟨S_, .f32⟩
  | 95 => ⟨S4x2x8x4096x1, .f32⟩
  | 96 => ⟨S4x2x8x4096x1, .f32⟩
  | 97 => ⟨S4x2x8x4096x4096, .f32⟩
  | 98 => ⟨S4x2x8x4096x4096, .f32⟩
  | 99 => ⟨S_, .f32⟩
  | 100 => ⟨S_, .f32⟩
  | 101 => ⟨S4x2x8x4096x4096, .i1⟩
  | 102 => ⟨S4x2x8x4096x4096, .f32⟩
  | 103 => ⟨S4x2x8x4096x4096, .f32⟩
  | 104 => ⟨S4x2x8x4096x128, .f32⟩
  | 105 => ⟨S16384x256, .f32⟩
  | 106 => ⟨S4x4096x2x128, .f32⟩
  | 107 => ⟨S4x4096x2x24, .f32⟩
  | 108 => ⟨S4x4096x2x3x8, .f32⟩
  | 109 => ⟨S4x4096x2x3x8, .f32⟩
  | 110 => ⟨S4x4096x2x3x8, .f32⟩
  | 111 => ⟨S_, .f32⟩
  | 112 => ⟨S4x4096x2x3x8, .f32⟩
  | 113 => ⟨S4x4096x2x3x8, .f32⟩
  | 114 => ⟨S_, .f32⟩
  | 115 => ⟨S4x4096x2x3x8, .f32⟩
  | 116 => ⟨S4x4096x2x3x8, .f32⟩
  | 117 => ⟨S3x4x2x8x4096, .f32⟩
  | 118 => ⟨S3x4x2x8x4096x1, .f32⟩
  | 119 => ⟨S1x4x2x8x4096x1, .f32⟩
  | 120 => ⟨S4x2x8x4096x1, .f32⟩
  | 121 => ⟨S4x2x8x4096x128, .f32⟩
  | 122 => ⟨S4x2x8x4096x128, .f32⟩
  | 123 => ⟨S1x4x2x8x4096x1, .f32⟩
  | 124 => ⟨S4x2x8x4096x1, .f32⟩
  | 125 => ⟨S4x2x8x4096x128, .f32⟩
  | 126 => ⟨S4x2x8x4096x128, .f32⟩
  | 127 => ⟨S4x2x8x4096x128, .f32⟩
  | _ => ⟨S16384x2048, .bf16⟩

abbrev hbmTy0_1 (i : Nat) : BufTy := match i % 128 with
  | 0 => ⟨S4x4096x2x8x128, .f32⟩
  | 1 => ⟨S16384x2048, .f32⟩
  | 2 => ⟨S16384x2048, .bf16⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_7 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]
-- ==== ProjA.lean ====
abbrev S16384x2048 : Shape := ⟨2, ![16384, 2048]⟩
abbrev S2048x11824 : Shape := ⟨2, ![2048, 11824]⟩
abbrev S2048x4096 : Shape := ⟨2, ![2048, 4096]⟩
abbrev S2048x8192 : Shape := ⟨2, ![2048, 8192]⟩
abbrev S2048x48 : Shape := ⟨2, ![2048, 48]⟩
abbrev S2048x8 : Shape := ⟨2, ![2048, 8]⟩
abbrev S_ : Shape := ⟨0, ![]⟩
abbrev S2048x104 : Shape := ⟨2, ![2048, 104]⟩
abbrev S2048x3584 : Shape := ⟨2, ![2048, 3584]⟩
abbrev S2048x3840 : Shape := ⟨2, ![2048, 3840]⟩
abbrev S16384x8192 : Shape := ⟨2, ![16384, 8192]⟩
abbrev S1024x2048 : Shape := ⟨2, ![1024, 2048]⟩
abbrev S2048x2048 : Shape := ⟨2, ![2048, 2048]⟩

abbrev nBuf : Space → Nat
  | .hbm => 20
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x11824, .f32⟩
  | .hbm, ⟨2, _⟩ => ⟨S2048x11824, .bf16⟩
  | .hbm, ⟨3, _⟩ => ⟨S2048x4096, .bf16⟩
  | .hbm, ⟨4, _⟩ => ⟨S2048x4096, .bf16⟩
  | .hbm, ⟨5, _⟩ => ⟨S2048x8192, .bf16⟩
  | .hbm, ⟨6, _⟩ => ⟨S2048x48, .bf16⟩
  | .hbm, ⟨7, _⟩ => ⟨S2048x8, .bf16⟩
  | .hbm, ⟨8, _⟩ => ⟨S2048x8, .bf16⟩
  | .hbm, ⟨9, _⟩ => ⟨S2048x8, .bf16⟩
  | .hbm, ⟨10, _⟩ => ⟨S_, .bf16⟩
  | .hbm, ⟨11, _⟩ => ⟨S2048x104, .bf16⟩
  | .hbm, ⟨12, _⟩ => ⟨S2048x8, .bf16⟩
  | .hbm, ⟨13, _⟩ => ⟨S2048x8, .bf16⟩
  | .hbm, ⟨14, _⟩ => ⟨S2048x8, .bf16⟩
  | .hbm, ⟨15, _⟩ => ⟨S_, .bf16⟩
  | .hbm, ⟨16, _⟩ => ⟨S2048x104, .bf16⟩
  | .hbm, ⟨17, _⟩ => ⟨S2048x3584, .bf16⟩
  | .hbm, ⟨18, _⟩ => ⟨S2048x3840, .bf16⟩
  | .hbm, ⟨19, _⟩ => ⟨S16384x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjARefIdeal.lean ====
abbrev S16384x2048 : Shape := ⟨2, ![16384, 2048]⟩
abbrev S2048x11824 : Shape := ⟨2, ![2048, 11824]⟩
abbrev S16384x11824 : Shape := ⟨2, ![16384, 11824]⟩
abbrev S16384x256 : Shape := ⟨2, ![16384, 256]⟩
abbrev S16384x48 : Shape := ⟨2, ![16384, 48]⟩
abbrev S16384x8192 : Shape := ⟨2, ![16384, 8192]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11824, .f32⟩
  | .hbm, ⟨2, _⟩ => ⟨S16384x2048, .f32⟩
  | .hbm, ⟨3, _⟩ => ⟨S16384x11824, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S16384x48, .f32⟩
  | .hbm, ⟨14, _⟩ => ⟨S16384x2048, .f32⟩
  | .hbm, ⟨15, _⟩ => ⟨S16384x2048, .f32⟩
  | .hbm, ⟨16, _⟩ => ⟨S16384x8192, .f32⟩
  | .hbm, ⟨17, _⟩ => ⟨S16384x8192, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== ProjB.lean ====
abbrev S16384x2048 : Shape := ⟨2, ![16384, 2048]⟩
abbrev S2048x11824 : Shape := ⟨2, ![2048, 11824]⟩
abbrev S2048x4096 : Shape := ⟨2, ![2048, 4096]⟩
abbrev S2048x8192 : Shape := ⟨2, ![2048, 8192]⟩
abbrev S2048x48 : Shape := ⟨2, ![2048, 48]⟩
abbrev S2048x8 : Shape := ⟨2, ![2048, 8]⟩
abbrev S_ : Shape := ⟨0, ![]⟩
abbrev S2048x104 : Shape := ⟨2, ![2048, 104]⟩
abbrev S2048x3584 : Shape := ⟨2, ![2048, 3584]⟩
abbrev S2048x3840 : Shape := ⟨2, ![2048, 3840]⟩
abbrev S16384x3840 : Shape := ⟨2, ![16384, 3840]⟩
abbrev S1024x2048 : Shape := ⟨2, ![1024, 2048]⟩
abbrev S2048x1920 : Shape := ⟨2, ![2048, 1920]⟩
abbrev S1024x1920 : Shape := ⟨2, ![1024, 1920]⟩

abbrev nBuf : Space → Nat
  | .hbm => 20
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x11824, .f32⟩
  | .hbm, ⟨2, _⟩ => ⟨S2048x11824, .bf16⟩
  | .hbm, ⟨3, _⟩ => ⟨S2048x4096, .bf16⟩
  | .hbm, ⟨4, _⟩ => ⟨S2048x4096, .bf16⟩
  | .hbm, ⟨5, _⟩ => ⟨S2048x8192, .bf16⟩
  | .hbm, ⟨6, _⟩ => ⟨S2048x48, .bf16⟩
  | .hbm, ⟨7, _⟩ => ⟨S2048x8, .bf16⟩
  | .hbm, ⟨8, _⟩ => ⟨S2048x8, .bf16⟩
  | .hbm, ⟨9, _⟩ => ⟨S2048x8, .bf16⟩
  | .hbm, ⟨10, _⟩ => ⟨S_, .bf16⟩
  | .hbm, ⟨11, _⟩ => ⟨S2048x104, .bf16⟩
  | .hbm, ⟨12, _⟩ => ⟨S2048x8, .bf16⟩
  | .hbm, ⟨13, _⟩ => ⟨S2048x8, .bf16⟩
  | .hbm, ⟨14, _⟩ => ⟨S2048x8, .bf16⟩
  | .hbm, ⟨15, _⟩ => ⟨S_, .bf16⟩
  | .hbm, ⟨16, _⟩ => ⟨S2048x104, .bf16⟩
  | .hbm, ⟨17, _⟩ => ⟨S2048x3584, .bf16⟩
  | .hbm, ⟨18, _⟩ => ⟨S2048x3840, .bf16⟩
  | .hbm, ⟨19, _⟩ => ⟨S16384x3840, .f32⟩
  | .local _ .vmem, ⟨0, _⟩ => ⟨S1024x2048, .bf16⟩
  | .local _ .vmem, ⟨1, _⟩ => ⟨S1024x2048, .bf16⟩
  | .local _ .vmem, ⟨2, _⟩ => ⟨S2048x1920, .bf16⟩
  | .local _ .vmem, ⟨3, _⟩ => ⟨S2048x1920, .bf16⟩
  | .local _ .vmem, ⟨4, _⟩ => ⟨S1024x1920, .f32⟩
  | .local _ .vmem, ⟨5, _⟩ => ⟨S1024x1920, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjBRefIdeal.lean ====
abbrev S16384x2048 : Shape := ⟨2, ![16384, 2048]⟩
abbrev S2048x11824 : Shape := ⟨2, ![2048, 11824]⟩
abbrev S16384x11824 : Shape := ⟨2, ![16384, 11824]⟩
abbrev S16384x256 : Shape := ⟨2, ![16384, 256]⟩
abbrev S16384x48 : Shape := ⟨2, ![16384, 48]⟩
abbrev S16384x3x2x8 : Shape := ⟨4, ![16384, 3, 2, 8]⟩
abbrev S16384x2x3x8 : Shape := ⟨4, ![16384, 2, 3, 8]⟩
abbrev S16384x2x24 : Shape := ⟨3, ![16384, 2, 24]⟩
abbrev S_ : Shape := ⟨0, ![]⟩
abbrev S16384x2x128 : Shape := ⟨3, ![16384, 2, 128]⟩
abbrev S16384x3840 : Shape := ⟨2, ![16384, 3840]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11824, .f32⟩
  | .hbm, ⟨2, _⟩ => ⟨S16384x2048, .f32⟩
  | .hbm, ⟨3, _⟩ => ⟨S16384x11824, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S16384x48, .f32⟩
  | .hbm, ⟨14, _⟩ => ⟨S16384x2048, .f32⟩
  | .hbm, ⟨15, _⟩ => ⟨S16384x2048, .f32⟩
  | .hbm, ⟨16, _⟩ => ⟨S16384x3x2x8, .f32⟩
  | .hbm, ⟨17, _⟩ => ⟨S16384x2x3x8, .f32⟩
  | .hbm, ⟨18, _⟩ => ⟨S16384x2x24, .f32⟩
  | .hbm, ⟨19, _⟩ => ⟨S_, .i32⟩
  | .hbm, ⟨20, _⟩ => ⟨S_, .f32⟩
  | .hbm, ⟨21, _⟩ => ⟨S16384x2x128, .f32⟩
  | .hbm, ⟨22, _⟩ => ⟨S16384x256, .f32⟩
  | .hbm, ⟨23, _⟩ => ⟨S16384x3840, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_call0_v0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Merge.lean ====
abbrev S16384x2048 : Shape := ⟨2, ![16384, 2048]⟩
abbrev S16384x8192 : Shape := ⟨2, ![16384, 8192]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x8192, .bf16⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S16384x2048 : Shape := ⟨2, ![16384, 2048]⟩
abbrev S16384x8192 : Shape := ⟨2, ![16384, 8192]⟩
abbrev S2048x2048 : Shape := ⟨2, ![2048, 2048]⟩
abbrev S16384x4096 : Shape := ⟨2, ![16384, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x8192, .bf16⟩
  | .hbm, ⟨3, _⟩ => ⟨S2048x2048, .f32⟩
  | .hbm, ⟨4, _⟩ => ⟨S2048x2048, .f32⟩
  | .hbm, ⟨5, _⟩ => ⟨S16384x4096, .bf16⟩
  | .hbm, ⟨6, _⟩ => ⟨S16384x4096, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S2048x2048, .bf16⟩
  | .hbm, ⟨4, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ffn.lean ====
abbrev S16384x2048 : Shape := ⟨2, ![16384, 2048]⟩
abbrev S1x2048 : Shape := ⟨2, ![1, 2048]⟩
abbrev S2048x5504 : Shape := ⟨2, ![2048, 5504]⟩
abbrev S5504x2048 : Shape := ⟨2, ![5504, 2048]⟩
abbrev S1024x2048 : Shape := ⟨2, ![1024, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S2048x128 : Shape := ⟨2, ![2048, 128]⟩
abbrev S1024x128 : Shape := ⟨2, ![1024, 128]⟩
abbrev S128x2048 : Shape := ⟨2, ![128, 2048]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x2048, .f32⟩
  | .local _ .vmem, ⟨8, _⟩ => ⟨S256x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c21_i32 : BitVec 32 := 21#32
  let v4 : BitVec 1 := Scalar.cmpi .slt arg1 c21_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c21_i32_3 : BitVec 32 := 21#32
  let v8 : BitVec 1 := Scalar.cmpi .eq arg1 c21_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c1_i32 : BitVec 32 := 1#32
  let v1 : BitVec 32 := Scalar.subi v0 c1_i32
  let c22_i32_0 : BitVec 32 := 22#32
  let c0_i32 : BitVec 32 := 0#32
  let v2 : BitVec 1 := Scalar.cmpi .eq c22_i32_0 c0_i32
  let c1_i32_1 : BitVec 32 := 1#32
  let v3 : BitVec 32 := Scalar.select v2 c1_i32_1 c22_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c1_i32 : BitVec 32 := 1#32
  let v1 : BitVec 32 := Scalar.subi v0 c1_i32
  let c22_i32_0 : BitVec 32 := 22#32
  let c0_i32 : BitVec 32 := 0#32
  let v2 : BitVec 1 := Scalar.cmpi .eq c22_i32_0 c0_i32
  let c1_i32_1 : BitVec 32 := 1#32
  let v3 : BitVec 32 := Scalar.select v2 c1_i32_1 c22_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c1_i32 : BitVec 32 := 1#32
  let v1 : BitVec 32 := Scalar.subi v0 c1_i32
  let c22_i32_0 : BitVec 32 := 22#32
  let c0_i32 : BitVec 32 := 0#32
  let v2 : BitVec 1 := Scalar.cmpi .eq c22_i32_0 c0_i32
  let c1_i32_1 : BitVec 32 := 1#32
  let v3 : BitVec 32 := Scalar.select v2 c1_i32_1 c22_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S16384x5504 : Shape := ⟨2, ![16384, 5504]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x5504, .f32⟩
  | .hbm, ⟨21, _⟩ => ⟨S16384x5504, .f32⟩
  | .hbm, ⟨22, _⟩ => ⟨S16384x5504, .f32⟩
  | .hbm, ⟨23, _⟩ => ⟨S_, .f32⟩
  | .hbm, ⟨24, _⟩ => ⟨S16384x5504, .f32⟩
  | .hbm, ⟨25, _⟩ => ⟨S16384x5504, .f32⟩
  | .hbm, ⟨26, _⟩ => ⟨S_, .f32⟩
  | .hbm, ⟨27, _⟩ => ⟨S16384x5504, .f32⟩
  | .hbm, ⟨28, _⟩ => ⟨S16384x5504, .f32⟩
  | .hbm, ⟨29, _⟩ => ⟨S16384x5504, .f32⟩
  | .hbm, ⟨30, _⟩ => ⟨S16384x5504, .f32⟩
  | .hbm, ⟨31, _⟩ => ⟨S16384x5504, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== FfnNorm.lean ====
abbrev S16384x2048 : Shape := ⟨2, ![16384, 2048]⟩
abbrev S1x2048 : Shape := ⟨2, ![1, 2048]⟩
abbrev S2048x5504 : Shape := ⟨2, ![2048, 5504]⟩
abbrev S5504x2048 : Shape := ⟨2, ![5504, 2048]⟩
abbrev S1024x2048 : Shape := ⟨2, ![1024, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S2048x128 : Shape := ⟨2, ![2048, 128]⟩
abbrev S1024x128 : Shape := ⟨2, ![1024, 128]⟩
abbrev S128x2048 : Shape := ⟨2, ![128, 2048]⟩
abbrev S1024x256 : Shape := ⟨2, ![1024, 256]⟩

abbrev nBuf : Space → Nat
  | .hbm => 8
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S1x2048, .f32⟩
  | .hbm, ⟨6, _⟩ => ⟨S16384x2048, .f32⟩
  | .hbm, ⟨7, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c21_i32 : BitVec 32 := 21#32
  let v4 : BitVec 1 := Scalar.cmpi .slt arg1 c21_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c21_i32_3 : BitVec 32 := 21#32
  let v8 : BitVec 1 := Scalar.cmpi .eq arg1 c21_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c1_i32 : BitVec 32 := 1#32
  let v1 : BitVec 32 := Scalar.subi v0 c1_i32
  let c22_i32_0 : BitVec 32 := 22#32
  let c0_i32 : BitVec 32 := 0#32
  let v2 : BitVec 1 := Scalar.cmpi .eq c22_i32_0 c0_i32
  let c1_i32_1 : BitVec 32 := 1#32
  let v3 : BitVec 32 := Scalar.select v2 c1_i32_1 c22_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c1_i32 : BitVec 32 := 1#32
  let v1 : BitVec 32 := Scalar.subi v0 c1_i32
  let c22_i32_0 : BitVec 32 := 22#32
  let c0_i32 : BitVec 32 := 0#32
  let v2 : BitVec 1 := Scalar.cmpi .eq c22_i32_0 c0_i32
  let c1_i32_1 : BitVec 32 := 1#32
  let v3 : BitVec 32 := Scalar.select v2 c1_i32_1 c22_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c1_i32 : BitVec 32 := 1#32
  let v1 : BitVec 32 := Scalar.subi v0 c1_i32
  let c22_i32_0 : BitVec 32 := 22#32
  let c0_i32 : BitVec 32 := 0#32
  let v2 : BitVec 1 := Scalar.cmpi .eq c22_i32_0 c0_i32
  let c1_i32_1 : BitVec 32 := 1#32
  let v3 : BitVec 32 := Scalar.select v2 c1_i32_1 c22_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnNormRefIdeal.lean ====
abbrev S16384x2048 : Shape := ⟨2, ![16384, 2048]⟩
abbrev S1x2048 : Shape := ⟨2, ![1, 2048]⟩
abbrev S2048x5504 : Shape := ⟨2, ![2048, 5504]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S16384x5504 : Shape := ⟨2, ![16384, 5504]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S1x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x5504, .f32⟩
  | .hbm, ⟨22, _⟩ => ⟨S16384x5504, .f32⟩
  | .hbm, ⟨23, _⟩ => ⟨S16384x5504, .f32⟩
  | .hbm, ⟨24, _⟩ => ⟨S_, .f32⟩
  | .hbm, ⟨25, _⟩ => ⟨S16384x5504, .f32⟩
  | .hbm, ⟨26, _⟩ => ⟨S16384x5504, .f32⟩
  | .hbm, ⟨27, _⟩ => ⟨S_, .f32⟩
  | .hbm, ⟨28, _⟩ => ⟨S16384x5504, .f32⟩
  | .hbm, ⟨29, _⟩ => ⟨S16384x5504, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Sel.lean ====
abbrev S16384x2048 : Shape := ⟨2, ![16384, 2048]⟩
abbrev S16384x256 : Shape := ⟨2, ![16384, 256]⟩
abbrev S16384x512 : Shape := ⟨2, ![16384, 512]⟩
abbrev S16384x3840 : Shape := ⟨2, ![16384, 3840]⟩
abbrev S256x1024 : Shape := ⟨2, ![256, 1024]⟩
abbrev S256x128 : Shape := ⟨2, ![256, 128]⟩
abbrev S4096x256 : Shape := ⟨2, ![4096, 256]⟩
abbrev S2048x256 : Shape := ⟨2, ![2048, 256]⟩
abbrev S2048x128 : Shape := ⟨2, ![2048, 128]⟩
abbrev S2048x512 : Shape := ⟨2, ![2048, 512]⟩
abbrev S512x256 : Shape := ⟨2, ![512, 256]⟩
abbrev S1x256x512 : Shape := ⟨3, ![1, 256, 512]⟩
abbrev S8x256x512 : Shape := ⟨3, ![8, 256, 512]⟩
abbrev S2048 : Shape := ⟨1, ![2048]⟩
abbrev S2048x1 : Shape := ⟨2, ![2048, 1]⟩
abbrev S256x1 : Shape := ⟨2, ![256, 1]⟩

abbrev nBuf : Space → Nat
  | .hbm => 7
  | .vmem => 19
  | .smem => 0
  | _ => 0

abbrev bufTy : (tb : Table) → Fin (tcTables nBuf tb) → BufTy
  | .hbm, ⟨0, _⟩ => ⟨S16384x2048, .bf16⟩
  | .hbm, ⟨1, _⟩ => ⟨S16384x256, .bf16⟩
  | .hbm, ⟨2, _⟩ => ⟨S16384x512, .bf16⟩
  | .hbm, ⟨3, _⟩ => ⟨S16384x512, .bf16⟩
  | .hbm, ⟨4, _⟩ => ⟨S16384x2048, .bf16⟩
  | .hbm, ⟨5, _⟩ => ⟨S16384x3840, .f32⟩
  | .hbm, ⟨6, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x128, .bf16⟩
  | .local _ .vmem, ⟨3, _⟩ => ⟨S256x128, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S256x1024, .bf16⟩
  | .local _ .vmem, ⟨9, _⟩ => ⟨S256x1024, .bf16⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | .local _ .vmem, ⟨14, _⟩ => ⟨S2048x256, .bf16⟩
  | .local _ .vmem, ⟨15, _⟩ => ⟨S2048x128, .f32⟩
  | .local _ .vmem, ⟨16, _⟩ => ⟨S2048x256, .f32⟩
  | .local _ .vmem, ⟨17, _⟩ => ⟨S2048x512, .f32⟩
  | .local _ .vmem, ⟨18, _⟩ => ⟨S2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 16], ![false, false, false]⟩

def k0_mult1 : BitVec 32 :=
  let c0_i32_49 : BitVec 32 := 0#32
  c0_i32_49
@[reducible] def k0_t1_loop (i : grid0.Coords) : Scf.Loop 32 :=
  let c0_i32_58 : BitVec 32 := 0#32
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let v106 : BitVec 32 := Scalar.subi v76 c0_i32_58
  let c1_i32_59 : BitVec 32 := 1#32
  let v108 : BitVec 32 := Scalar.divsi v106 c1_i32_59
  let v109 : BitVec 32 := Scalar.muli v108 c1_i32_59
  let v110 : BitVec 32 := Scalar.addi c0_i32_58 v109
  let c1_i32_60 : BitVec 32 := 1#32
  ⟨c0_i32_58, v110, c1_i32_60⟩
def k0_cond1 (i : grid0.Coords) (k0_t1 : Fin (k0_t1_loop i).trips) : BitVec 1 :=
  let c0_i32_58 : BitVec 32 := 0#32
  let c1_i32_60 : BitVec 32 := 1#32
  let arg15 : BitVec 32 := Scf.iv c0_i32_58 c1_i32_60 k0_t1
  let c2_i32_116 : BitVec 32 := 2#32
  let c0_i32_117 : BitVec 32 := 0#32
  let v216 : BitVec 1 := Scalar.cmpi .eq c2_i32_116 c0_i32_117
  let c1_i32_118 : BitVec 32 := 1#32
  let v217 : BitVec 32 := Scalar.select v216 c1_i32_118 c2_i32_116
  let v218 : BitVec 32 := Scalar.remsi arg15 v217
  let c0_i32_120 : BitVec 32 := 0#32
  let v220 : BitVec 1 := Scalar.cmpi .slt v218 c0_i32_120
  let c0_i32_121 : BitVec 32 := 0#32
  let v221 : BitVec 1 := Scalar.cmpi .slt v217 c0_i32_121
  let v222 : BitVec 1 := Scalar.xori v220 v221
  let c0_i32_119 : BitVec 32 := 0#32
  let v219 : BitVec 1 := Scalar.cmpi .ne v218 c0_i32_119
  let v223 : BitVec 1 := Scalar.andi v222 v219
  let v224 : BitVec 32 := Scalar.addi v218 v217
  let v225 : BitVec 32 := Scalar.select v223 v224 v218
  let c0_i32_122 : BitVec 32 := 0#32
  let v226 : BitVec 1 := Scalar.cmpi .eq v225 c0_i32_122
  let v227 : BitVec 32 := Scalar.extui v226
  let c0_i32_123 : BitVec 32 := 0#32
  let v228 : BitVec 1 := Scalar.cmpi .ne v227 c0_i32_123
  v228

def k0_mult2 (i : grid0.Coords) (k0_t1 : Fin (k0_t1_loop i).trips) : BitVec 32 :=
  let c0_i32_58 : BitVec 32 := 0#32
  let c1_i32_60 : BitVec 32 := 1#32
  let arg15 : BitVec 32 := Scf.iv c0_i32_58 c1_i32_60 k0_t1
  let c1_i32_132 : BitVec 32 := 1#32
  let v242 : BitVec 32 := Scalar.addi arg15 c1_i32_132
  let c512_i32_133 : BitVec 32 := 512#32
  let v243 : BitVec 32 := Scalar.muli v242 c512_i32_133
  v243
def k0_off1 (i : grid0.Coords) (k0_t1 : Fin (k0_t1_loop i).trips) : Fin 2 → Nat :=
  let c0_i32_58 : BitVec 32 := 0#32
  let c1_i32_60 : BitVec 32 := 1#32
  let arg15 : BitVec 32 := Scf.iv c0_i32_58 c1_i32_60 k0_t1
  let c1_i32_132 : BitVec 32 := 1#32
  let v242 : BitVec 32 := Scalar.addi arg15 c1_i32_132
  let c512_i32_133 : BitVec 32 := 512#32
  let v243 : BitVec 32 := Scalar.muli v242 c512_i32_133
  let v244 : BitVec 32 := v243
  let v245 : Index := Scalar.indexCast v244
  let c0_134 : Index := 0#32
  ![v245.toNat, 0]
def k0_mult3 (i : grid0.Coords) (k0_t1 : Fin (k0_t1_loop i).trips) : BitVec 32 :=
  let c0_i32_58 : BitVec 32 := 0#32
  let c1_i32_60 : BitVec 32 := 1#32
  let arg15 : BitVec 32 := Scf.iv c0_i32_58 c1_i32_60 k0_t1
  let c512_i32_143 : BitVec 32 := 512#32
  let v266 : BitVec 32 := Scalar.muli arg15 c512_i32_143
  v266
def k0_off2 (i : grid0.Coords) (k0_t1 : Fin (k0_t1_loop i).trips) : Fin 2 → Nat :=
  let c0_i32_58 : BitVec 32 := 0#32
  let c1_i32_60 : BitVec 32 := 1#32
  let arg15 : BitVec 32 := Scf.iv c0_i32_58 c1_i32_60 k0_t1
  let c512_i32_143 : BitVec 32 := 512#32
  let v266 : BitVec 32 := Scalar.muli arg15 c512_i32_143
  let v267 : BitVec 32 := v266
  let v268 : Index := Scalar.indexCast v267
  let c0_144 : Index := 0#32
  ![v268.toNat, 0]
def k0_cond2 (i : grid0.Coords) (k0_t1 : Fin (k0_t1_loop i).trips) : BitVec 1 :=
  let c0_i32_58 : BitVec 32 := 0#32
  let c1_i32_60 : BitVec 32 := 1#32
  let arg15 : BitVec 32 := Scf.iv c0_i32_58 c1_i32_60 k0_t1
  let c2_i32_124 : BitVec 32 := 2#32
  let c0_i32_125 : BitVec 32 := 0#32
  let v229 : BitVec 1 := Scalar.cmpi .eq c2_i32_124 c0_i32_125
  let c1_i32_126 : BitVec 32 := 1#32
  let v230 : BitVec 32 := Scalar.select v229 c1_i32_126 c2_i32_124
  let v231 : BitVec 32 := Scalar.remsi arg15 v230
  let c0_i32_128 : BitVec 32 := 0#32
  let v233 : BitVec 1 := Scalar.cmpi .slt v231 c0_i32_128
  let c0_i32_129 : BitVec 32 := 0#32
  let v234 : BitVec 1 := Scalar.cmpi .slt v230 c0_i32_129
  let v235 : BitVec 1 := Scalar.xori v233 v234
  let c0_i32_127 : BitVec 32 := 0#32
  let v232 : BitVec 1 := Scalar.cmpi .ne v231 c0_i32_127
  let v236 : BitVec 1 := Scalar.andi v235 v232
  let v237 : BitVec 32 := Scalar.addi v231 v230
  let v238 : BitVec 32 := Scalar.select v236 v237 v231
  let c1_i32_130 : BitVec 32 := 1#32
  let v239 : BitVec 1 := Scalar.cmpi .eq v238 c1_i32_130
  let v240 : BitVec 32 := Scalar.extui v239
  let c0_i32_131 : BitVec 32 := 0#32
  let v241 : BitVec 1 := Scalar.cmpi .ne v240 c0_i32_131
  v241

def k0_mult4 (i : grid0.Coords) (k0_t1 : Fin (k0_t1_loop i).trips) : BitVec 32 :=
  let c0_i32_58 : BitVec 32 := 0#32
  let c1_i32_60 : BitVec 32 := 1#32
  let arg15 : BitVec 32 := Scf.iv c0_i32_58 c1_i32_60 k0_t1
  let c1_i32_132 : BitVec 32 := 1#32
  let v242 : BitVec 32 := Scalar.addi arg15 c1_i32_132
  let c512_i32_133 : BitVec 32 := 512#32
  let v243 : BitVec 32 := Scalar.muli v242 c512_i32_133
  v243
def k0_off3 (i : grid0.Coords) (k0_t1 : Fin (k0_t1_loop i).trips) : Fin 2 → Nat :=
  let c0_i32_58 : BitVec 32 := 0#32
  let c1_i32_60 : BitVec 32 := 1#32
  let arg15 : BitVec 32 := Scf.iv c0_i32_58 c1_i32_60 k0_t1
  let c1_i32_132 : BitVec 32 := 1#32
  let v242 : BitVec 32 := Scalar.addi arg15 c1_i32_132
  let c512_i32_133 : BitVec 32 := 512#32
  let v243 : BitVec 32 := Scalar.muli v242 c512_i32_133
  let v244 : BitVec 32 := v243
  let v245 : Index := Scalar.indexCast v244
  let c0_134 : Index := 0#32
  ![v245.toNat, 0]
def k0_mult5 (i : grid0.Coords) (k0_t1 : Fin (k0_t1_loop i).trips) : BitVec 32 :=
  let c0_i32_58 : BitVec 32 := 0#32
  let c1_i32_60 : BitVec 32 := 1#32
  let arg15 : BitVec 32 := Scf.iv c0_i32_58 c1_i32_60 k0_t1
  let c512_i32_143 : BitVec 32 := 512#32
  let v266 : BitVec 32 := Scalar.muli arg15 c512_i32_143
  v266
def k0_off4 (i : grid0.Coords) (k0_t1 : Fin (k0_t1_loop i).trips) : Fin 2 → Nat :=
  let c0_i32_58 : BitVec 32 := 0#32
  let c1_i32_60 : BitVec 32 := 1#32
  let arg15 : BitVec 32 := Scf.iv c0_i32_58 c1_i32_60 k0_t1
  let c512_i32_143 : BitVec 32 := 512#32
  let v266 : BitVec 32 := Scalar.muli arg15 c512_i32_143
  let v267 : BitVec 32 := v266
  let v268 : Index := Scalar.indexCast v267
  let c0_144 : Index := 0#32
  ![v268.toNat, 0]
@[reducible] def k0_t2_loop (i : grid0.Coords) : Scf.Loop 32 :=
  let c0_i32_58 : BitVec 32 := 0#32
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let v106 : BitVec 32 := Scalar.subi v76 c0_i32_58
  let c1_i32_59 : BitVec 32 := 1#32
  let v108 : BitVec 32 := Scalar.divsi v106 c1_i32_59
  let v109 : BitVec 32 := Scalar.muli v108 c1_i32_59
  let v110 : BitVec 32 := Scalar.addi c0_i32_58 v109
  let v107 : BitVec 32 := Scalar.addi c0_i32_58 v106
  let c1_i32_61 : BitVec 32 := 1#32
  ⟨v110, v107, c1_i32_61⟩
def k0_cond3 (i : grid0.Coords) (k0_t2 : Fin (k0_t2_loop i).trips) : BitVec 1 :=
  let c0_i32_58 : BitVec 32 := 0#32
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let v106 : BitVec 32 := Scalar.subi v76 c0_i32_58
  let c1_i32_59 : BitVec 32 := 1#32
  let v108 : BitVec 32 := Scalar.divsi v106 c1_i32_59
  let v109 : BitVec 32 := Scalar.muli v108 c1_i32_59
  let v110 : BitVec 32 := Scalar.addi c0_i32_58 v109
  let c1_i32_61 : BitVec 32 := 1#32
  let arg15 : BitVec 32 := Scf.iv v110 c1_i32_61 k0_t2
  let c2_i32_116 : BitVec 32 := 2#32
  let c0_i32_117 : BitVec 32 := 0#32
  let v216 : BitVec 1 := Scalar.cmpi .eq c2_i32_116 c0_i32_117
  let c1_i32_118 : BitVec 32 := 1#32
  let v217 : BitVec 32 := Scalar.select v216 c1_i32_118 c2_i32_116
  let v218 : BitVec 32 := Scalar.remsi arg15 v217
  let c0_i32_120 : BitVec 32 := 0#32
  let v220 : BitVec 1 := Scalar.cmpi .slt v218 c0_i32_120
  let c0_i32_121 : BitVec 32 := 0#32
  let v221 : BitVec 1 := Scalar.cmpi .slt v217 c0_i32_121
  let v222 : BitVec 1 := Scalar.xori v220 v221
  let c0_i32_119 : BitVec 32 := 0#32
  let v219 : BitVec 1 := Scalar.cmpi .ne v218 c0_i32_119
  let v223 : BitVec 1 := Scalar.andi v222 v219
  let v224 : BitVec 32 := Scalar.addi v218 v217
  let v225 : BitVec 32 := Scalar.select v223 v224 v218
  let c0_i32_122 : BitVec 32 := 0#32
  let v226 : BitVec 1 := Scalar.cmpi .eq v225 c0_i32_122
  let v227 : BitVec 32 := Scalar.extui v226
  let c0_i32_123 : BitVec 32 := 0#32
  let v228 : BitVec 1 := Scalar.cmpi .ne v227 c0_i32_123
  v228

def k0_mult6 (i : grid0.Coords) (k0_t2 : Fin (k0_t2_loop i).trips) : BitVec 32 :=
  let c0_i32_58 : BitVec 32 := 0#32
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let v106 : BitVec 32 := Scalar.subi v76 c0_i32_58
  let c1_i32_59 : BitVec 32 := 1#32
  let v108 : BitVec 32 := Scalar.divsi v106 c1_i32_59
  let v109 : BitVec 32 := Scalar.muli v108 c1_i32_59
  let v110 : BitVec 32 := Scalar.addi c0_i32_58 v109
  let c1_i32_61 : BitVec 32 := 1#32
  let arg15 : BitVec 32 := Scf.iv v110 c1_i32_61 k0_t2
  let c1_i32_132 : BitVec 32 := 1#32
  let v242 : BitVec 32 := Scalar.addi arg15 c1_i32_132
  let c512_i32_133 : BitVec 32 := 512#32
  let v243 : BitVec 32 := Scalar.muli v242 c512_i32_133
  v243
def k0_off5 (i : grid0.Coords) (k0_t2 : Fin (k0_t2_loop i).trips) : Fin 2 → Nat :=
  let c0_i32_58 : BitVec 32 := 0#32
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let v106 : BitVec 32 := Scalar.subi v76 c0_i32_58
  let c1_i32_59 : BitVec 32 := 1#32
  let v108 : BitVec 32 := Scalar.divsi v106 c1_i32_59
  let v109 : BitVec 32 := Scalar.muli v108 c1_i32_59
  let v110 : BitVec 32 := Scalar.addi c0_i32_58 v109
  let c1_i32_61 : BitVec 32 := 1#32
  let arg15 : BitVec 32 := Scf.iv v110 c1_i32_61 k0_t2
  let c1_i32_132 : BitVec 32 := 1#32
  let v242 : BitVec 32 := Scalar.addi arg15 c1_i32_132
  let c512_i32_133 : BitVec 32 := 512#32
  let v243 : BitVec 32 := Scalar.muli v242 c512_i32_133
  let v244 : BitVec 32 := v243
  let v245 : Index := Scalar.indexCast v244
  let c0_134 : Index := 0#32
  ![v245.toNat, 0]
def k0_mult7 (i : grid0.Coords) (k0_t2 : Fin (k0_t2_loop i).trips) : BitVec 32 :=
  let c0_i32_58 : BitVec 32 := 0#32
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let v106 : BitVec 32 := Scalar.subi v76 c0_i32_58
  let c1_i32_59 : BitVec 32 := 1#32
  let v108 : BitVec 32 := Scalar.divsi v106 c1_i32_59
  let v109 : BitVec 32 := Scalar.muli v108 c1_i32_59
  let v110 : BitVec 32 := Scalar.addi c0_i32_58 v109
  let c1_i32_61 : BitVec 32 := 1#32
  let arg15 : BitVec 32 := Scf.iv v110 c1_i32_61 k0_t2
  let c512_i32_143 : BitVec 32 := 512#32
  let v266 : BitVec 32 := Scalar.muli arg15 c512_i32_143
  v266
def k0_off6 (i : grid0.Coords) (k0_t2 : Fin (k0_t2_loop i).trips) : Fin 2 → Nat :=
  let c0_i32_58 : BitVec 32 := 0#32
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let v106 : BitVec 32 := Scalar.subi v76 c0_i32_58
  let c1_i32_59 : BitVec 32 := 1#32
  let v108 : BitVec 32 := Scalar.divsi v106 c1_i32_59
  let v109 : BitVec 32 := Scalar.muli v108 c1_i32_59
  let v110 : BitVec 32 := Scalar.addi c0_i32_58 v109
  let c1_i32_61 : BitVec 32 := 1#32
  let arg15 : BitVec 32 := Scf.iv v110 c1_i32_61 k0_t2
  let c512_i32_143 : BitVec 32 := 512#32
  let v266 : BitVec 32 := Scalar.muli arg15 c512_i32_143
  let v267 : BitVec 32 := v266
  let v268 : Index := Scalar.indexCast v267
  let c0_144 : Index := 0#32
  ![v268.toNat, 0]
def k0_cond4 (i : grid0.Coords) (k0_t2 : Fin (k0_t2_loop i).trips) : BitVec 1 :=
  let c0_i32_58 : BitVec 32 := 0#32
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let v106 : BitVec 32 := Scalar.subi v76 c0_i32_58
  let c1_i32_59 : BitVec 32 := 1#32
  let v108 : BitVec 32 := Scalar.divsi v106 c1_i32_59
  let v109 : BitVec 32 := Scalar.muli v108 c1_i32_59
  let v110 : BitVec 32 := Scalar.addi c0_i32_58 v109
  let c1_i32_61 : BitVec 32 := 1#32
  let arg15 : BitVec 32 := Scf.iv v110 c1_i32_61 k0_t2
  let c2_i32_124 : BitVec 32 := 2#32
  let c0_i32_125 : BitVec 32 := 0#32
  let v229 : BitVec 1 := Scalar.cmpi .eq c2_i32_124 c0_i32_125
  let c1_i32_126 : BitVec 32 := 1#32
  let v230 : BitVec 32 := Scalar.select v229 c1_i32_126 c2_i32_124
  let v231 : BitVec 32 := Scalar.remsi arg15 v230
  let c0_i32_128 : BitVec 32 := 0#32
  let v233 : BitVec 1 := Scalar.cmpi .slt v231 c0_i32_128
  let c0_i32_129 : BitVec 32 := 0#32
  let v234 : BitVec 1 := Scalar.cmpi .slt v230 c0_i32_129
  let v235 : BitVec 1 := Scalar.xori v233 v234
  let c0_i32_127 : BitVec 32 := 0#32
  let v232 : BitVec 1 := Scalar.cmpi .ne v231 c0_i32_127
  let v236 : BitVec 1 := Scalar.andi v235 v232
  let v237 : BitVec 32 := Scalar.addi v231 v230
  let v238 : BitVec 32 := Scalar.select v236 v237 v231
  let c1_i32_130 : BitVec 32 := 1#32
  let v239 : BitVec 1 := Scalar.cmpi .eq v238 c1_i32_130
  let v240 : BitVec 32 := Scalar.extui v239
  let c0_i32_131 : BitVec 32 := 0#32
  let v241 : BitVec 1 := Scalar.cmpi .ne v240 c0_i32_131
  v241

def k0_mult8 (i : grid0.Coords) (k0_t2 : Fin (k0_t2_loop i).trips) : BitVec 32 :=
  let c0_i32_58 : BitVec 32 := 0#32
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let v106 : BitVec 32 := Scalar.subi v76 c0_i32_58
  let c1_i32_59 : BitVec 32 := 1#32
  let v108 : BitVec 32 := Scalar.divsi v106 c1_i32_59
  let v109 : BitVec 32 := Scalar.muli v108 c1_i32_59
  let v110 : BitVec 32 := Scalar.addi c0_i32_58 v109
  let c1_i32_61 : BitVec 32 := 1#32
  let arg15 : BitVec 32 := Scf.iv v110 c1_i32_61 k0_t2
  let c1_i32_132 : BitVec 32 := 1#32
  let v242 : BitVec 32 := Scalar.addi arg15 c1_i32_132
  let c512_i32_133 : BitVec 32 := 512#32
  let v243 : BitVec 32 := Scalar.muli v242 c512_i32_133
  v243
def k0_off7 (i : grid0.Coords) (k0_t2 : Fin (k0_t2_loop i).trips) : Fin 2 → Nat :=
  let c0_i32_58 : BitVec 32 := 0#32
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let v106 : BitVec 32 := Scalar.subi v76 c0_i32_58
  let c1_i32_59 : BitVec 32 := 1#32
  let v108 : BitVec 32 := Scalar.divsi v106 c1_i32_59
  let v109 : BitVec 32 := Scalar.muli v108 c1_i32_59
  let v110 : BitVec 32 := Scalar.addi c0_i32_58 v109
  let c1_i32_61 : BitVec 32 := 1#32
  let arg15 : BitVec 32 := Scf.iv v110 c1_i32_61 k0_t2
  let c1_i32_132 : BitVec 32 := 1#32
  let v242 : BitVec 32 := Scalar.addi arg15 c1_i32_132
  let c512_i32_133 : BitVec 32 := 512#32
  let v243 : BitVec 32 := Scalar.muli v242 c512_i32_133
  let v244 : BitVec 32 := v243
  let v245 : Index := Scalar.indexCast v244
  let c0_134 : Index := 0#32
  ![v245.toNat, 0]
def k0_mult9 (i : grid0.Coords) (k0_t2 : Fin (k0_t2_loop i).trips) : BitVec 32 :=
  let c0_i32_58 : BitVec 32 := 0#32
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let v106 : BitVec 32 := Scalar.subi v76 c0_i32_58
  let c1_i32_59 : BitVec 32 := 1#32
  let v108 : BitVec 32 := Scalar.divsi v106 c1_i32_59
  let v109 : BitVec 32 := Scalar.muli v108 c1_i32_59
  let v110 : BitVec 32 := Scalar.addi c0_i32_58 v109
  let c1_i32_61 : BitVec 32 := 1#32
  let arg15 : BitVec 32 := Scf.iv v110 c1_i32_61 k0_t2
  let c512_i32_143 : BitVec 32 := 512#32
  let v266 : BitVec 32 := Scalar.muli arg15 c512_i32_143
  v266
def k0_off8 (i : grid0.Coords) (k0_t2 : Fin (k0_t2_loop i).trips) : Fin 2 → Nat :=
  let c0_i32_58 : BitVec 32 := 0#32
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let v106 : BitVec 32 := Scalar.subi v76 c0_i32_58
  let c1_i32_59 : BitVec 32 := 1#32
  let v108 : BitVec 32 := Scalar.divsi v106 c1_i32_59
  let v109 : BitVec 32 := Scalar.muli v108 c1_i32_59
  let v110 : BitVec 32 := Scalar.addi c0_i32_58 v109
  let c1_i32_61 : BitVec 32 := 1#32
  let arg15 : BitVec 32 := Scf.iv v110 c1_i32_61 k0_t2
  let c512_i32_143 : BitVec 32 := 512#32
  let v266 : BitVec 32 := Scalar.muli arg15 c512_i32_143
  let v267 : BitVec 32 := v266
  let v268 : Index := Scalar.indexCast v267
  let c0_144 : Index := 0#32
  ![v268.toNat, 0]
def k0_cond5 (i : grid0.Coords) : BitVec 1 :=
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let c2_i32 : BitVec 32 := 2#32
  let c0_i32_62 : BitVec 32 := 0#32
  let v111 : BitVec 1 := Scalar.cmpi .eq c2_i32 c0_i32_62
  let c1_i32_63 : BitVec 32 := 1#32
  let v112 : BitVec 32 := Scalar.select v111 c1_i32_63 c2_i32
  let v113 : BitVec 32 := Scalar.remsi v76 v112
  let c0_i32_65 : BitVec 32 := 0#32
  let v115 : BitVec 1 := Scalar.cmpi .slt v113 c0_i32_65
  let c0_i32_66 : BitVec 32 := 0#32
  let v116 : BitVec 1 := Scalar.cmpi .slt v112 c0_i32_66
  let v117 : BitVec 1 := Scalar.xori v115 v116
  let c0_i32_64 : BitVec 32 := 0#32
  let v114 : BitVec 1 := Scalar.cmpi .ne v113 c0_i32_64
  let v118 : BitVec 1 := Scalar.andi v117 v114
  let v119 : BitVec 32 := Scalar.addi v113 v112
  let v120 : BitVec 32 := Scalar.select v118 v119 v113
  let c0_i32_67 : BitVec 32 := 0#32
  let v121 : BitVec 1 := Scalar.cmpi .eq v120 c0_i32_67
  let v122 : BitVec 32 := Scalar.extui v121
  let c0_i32_68 : BitVec 32 := 0#32
  let v123 : BitVec 1 := Scalar.cmpi .ne v122 c0_i32_68
  v123

def k0_mult10 (i : grid0.Coords) : BitVec 32 :=
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let c512_i32_118 : BitVec 32 := 512#32
  let v217 : BitVec 32 := Scalar.muli v76 c512_i32_118
  v217
def k0_off9 (i : grid0.Coords) : Fin 2 → Nat :=
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let c512_i32_118 : BitVec 32 := 512#32
  let v217 : BitVec 32 := Scalar.muli v76 c512_i32_118
  let v218 : BitVec 32 := v217
  let v219 : Index := Scalar.indexCast v218
  let c0_119 : Index := 0#32
  ![v219.toNat, 0]
def k0_cond6 (i : grid0.Coords) : BitVec 1 :=
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let c2_i32_69 : BitVec 32 := 2#32
  let c0_i32_70 : BitVec 32 := 0#32
  let v124 : BitVec 1 := Scalar.cmpi .eq c2_i32_69 c0_i32_70
  let c1_i32_71 : BitVec 32 := 1#32
  let v125 : BitVec 32 := Scalar.select v124 c1_i32_71 c2_i32_69
  let v126 : BitVec 32 := Scalar.remsi v76 v125
  let c0_i32_73 : BitVec 32 := 0#32
  let v128 : BitVec 1 := Scalar.cmpi .slt v126 c0_i32_73
  let c0_i32_74 : BitVec 32 := 0#32
  let v129 : BitVec 1 := Scalar.cmpi .slt v125 c0_i32_74
  let v130 : BitVec 1 := Scalar.xori v128 v129
  let c0_i32_72 : BitVec 32 := 0#32
  let v127 : BitVec 1 := Scalar.cmpi .ne v126 c0_i32_72
  let v131 : BitVec 1 := Scalar.andi v130 v127
  let v132 : BitVec 32 := Scalar.addi v126 v125
  let v133 : BitVec 32 := Scalar.select v131 v132 v126
  let c1_i32_75 : BitVec 32 := 1#32
  let v134 : BitVec 1 := Scalar.cmpi .eq v133 c1_i32_75
  let v135 : BitVec 32 := Scalar.extui v134
  let c0_i32_76 : BitVec 32 := 0#32
  let v136 : BitVec 1 := Scalar.cmpi .ne v135 c0_i32_76
  v136

def k0_mult11 (i : grid0.Coords) : BitVec 32 :=
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let c512_i32_118 : BitVec 32 := 512#32
  let v217 : BitVec 32 := Scalar.muli v76 c512_i32_118
  v217
def k0_off10 (i : grid0.Coords) : Fin 2 → Nat :=
  let arg2 : BitVec 32 := BitVec.ofNat 32 (i 2).val
  let c256_i32 : BitVec 32 := 256#32
  let v0 : BitVec 32 := Scalar.muli arg2 c256_i32
  let c256_i32_38 : BitVec 32 := 256#32
  let v58 : BitVec 32 := Scalar.addi v0 c256_i32_38
  let c1_i32 : BitVec 32 := 1#32
  let v59 : BitVec 32 := Scalar.subi v58 c1_i32
  let c0_i32 : BitVec 32 := 0#32
  let v61 : BitVec 1 := Scalar.cmpi .sgt v59 c0_i32
  let v62 : BitVec 32 := Scalar.extui v61
  let c0_i32_39 : BitVec 32 := 0#32
  let v63 : BitVec 1 := Scalar.cmpi .slt v59 c0_i32_39
  let v64 : BitVec 32 := Scalar.extui v63
  let v65 : BitVec 32 := Scalar.subi v62 v64
  let c512_i32 : BitVec 32 := 512#32
  let c0_i32_40 : BitVec 32 := 0#32
  let v66 : BitVec 1 := Scalar.cmpi .sgt c512_i32 c0_i32_40
  let v67 : BitVec 32 := Scalar.extui v66
  let c0_i32_41 : BitVec 32 := 0#32
  let v68 : BitVec 1 := Scalar.cmpi .slt c512_i32 c0_i32_41
  let v69 : BitVec 32 := Scalar.extui v68
  let v70 : BitVec 32 := Scalar.subi v67 v69
  let v71 : BitVec 1 := Scalar.cmpi .ne v65 v70
  let v72 : BitVec 32 := Scalar.remsi v59 c512_i32
  let c0_i32_42 : BitVec 32 := 0#32
  let v73 : BitVec 1 := Scalar.cmpi .ne v72 c0_i32_42
  let v74 : BitVec 1 := Scalar.andi v71 v73
  let v60 : BitVec 32 := Scalar.divsi v59 c512_i32
  let c1_i32_43 : BitVec 32 := 1#32
  let v75 : BitVec 32 := Scalar.subi v60 c1_i32_43
  let v76 : BitVec 32 := Scalar.select v74 v75 v60
  let c512_i32_118 : BitVec 32 := 512#32
  let v217 : BitVec 32 := Scalar.muli v76 c512_i32_118
  let v218 : BitVec 32 := v217
  let v219 : Index := Scalar.indexCast v218
  let c0_119 : Index := 0#32
  ![v219.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c28_i32 : BitVec 32 := 28#32
  let v2 : BitVec 32 := Scalar.addi c28_i32 arg1
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== SelIdeal.lean ====
variable {F : FTy → Type} [FloatOps F] [Named F]
def κ : String → Option EReal := fun
  | "mask" => some ⊥
  | _ => none
-- ==== SelRefIdeal.lean ====
abbrev S16384x2048 : Shape := ⟨2, ![16384, 2048]⟩
abbrev S16384x256 : Shape := ⟨2, ![16384, 256]⟩
abbrev S16384x512 : Shape := ⟨2, ![16384, 512]⟩
abbrev S16384x3840 : Shape := ⟨2, ![16384, 3840]⟩
abbrev S4096 : Shape := ⟨1, ![4096]⟩
abbrev S4x4096x2x8x128 : Shape := ⟨5, ![4, 4096, 2, 8, 128]⟩
abbrev S4x2x8x4096x128 : Shape := ⟨5, ![4, 2, 8, 4096, 128]⟩
abbrev S4x4096x2x256 : Shape := ⟨4, ![4, 4096, 2, 256]⟩
abbrev S4x4096x2x128 : Shape := ⟨4, ![4, 4096, 2, 128]⟩
abbrev S4x2x4096x128 : Shape := ⟨4, ![4, 2, 4096, 128]⟩
abbrev S4x4096x2x64 : Shape := ⟨4, ![4, 4096, 2, 64]⟩
abbrev S4x2x4096x64 : Shape := ⟨4, ![4, 2, 4096, 64]⟩
abbrev S4x2x4096x64x1 : Shape := ⟨5, ![4, 2, 4096, 64, 1]⟩
abbrev S4x2x4096x64x64 : Shape := ⟨5, ![4, 2, 4096, 64, 64]⟩
abbrev S4x2x1x4096x4096 : Shape := ⟨5, ![4, 2, 1, 4096, 4096]⟩
abbrev S4x2x8x4096x4096 : Shape := ⟨5, ![4, 2, 8, 4096, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x2x8x4096 : Shape := ⟨4, ![4, 2, 8, 4096]⟩
abbrev S4x2x8x4096x1 : Shape := ⟨5, ![4, 2, 8, 4096, 1]⟩
abbrev S4x4096x2x8 : Shape := ⟨4, ![4, 4096, 2, 8]⟩

abbrev nBuf : Space → Nat
  | .hbm => 80
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x256, .bf16⟩
  | .hbm, ⟨2, _⟩ => ⟨S16384x512, .bf16⟩
  | .hbm, ⟨3, _⟩ => ⟨S16384x512, .bf16⟩
  | .hbm, ⟨4, _⟩ => ⟨S16384x2048, .bf16⟩
  | .hbm, ⟨5, _⟩ => ⟨S16384x3840, .f32⟩
  | .hbm, ⟨6, _⟩ => ⟨S4096, .i32⟩
  | .hbm, ⟨7, _⟩ => ⟨S16384x2048, .f32⟩
  | .hbm, ⟨8, _⟩ => ⟨S4x4096x2x8x128, .f32⟩
  | .hbm, ⟨9, _⟩ => ⟨S4x2x8x4096x128, .f32⟩
  | .hbm, ⟨10, _⟩ => ⟨S16384x512, .f32⟩
  | .hbm, ⟨11, _⟩ => ⟨S4x4096x2x256, .f32⟩
  | .hbm, ⟨12, _⟩ => ⟨S4x4096x2x128, .f32⟩
  | .hbm, ⟨13, _⟩ => ⟨S4x2x4096x128, .f32⟩
  | .hbm, ⟨14, _⟩ => ⟨S16384x512, .f32⟩
  | .hbm, ⟨15, _⟩ => ⟨S4x4096x2x256, .f32⟩
  | .hbm, ⟨16, _⟩ => ⟨S4x4096x2x128, .f32⟩
  | .hbm, ⟨17, _⟩ => ⟨S4x2x4096x128, .f32⟩
  | .hbm, ⟨18, _⟩ => ⟨S16384x256, .f32⟩
  | .hbm, ⟨19, _⟩ => ⟨S4x4096x2x128, .f32⟩
  | .hbm, ⟨20, _⟩ => ⟨S4x4096x2x64, .f32⟩
  | .hbm, ⟨21, _⟩ => ⟨S4x2x4096x64, .f32⟩
  | .hbm, ⟨22, _⟩ => ⟨S4x2x4096x64x1, .f32⟩
  | .hbm, ⟨23, _⟩ => ⟨S4x2x4096x64x64, .f32⟩
  | .hbm, ⟨24, _⟩ => ⟨S4x2x1x4096x4096, .f32⟩
  | .hbm, ⟨25, _⟩ => ⟨S4x2x8x4096x4096, .f32⟩
  | .hbm, ⟨26, _⟩ => ⟨S4x2x8x4096x4096, .f32⟩
  | .hbm, ⟨27, _⟩ => ⟨S4x2x8x4096x4096, .f32⟩
  | .hbm, ⟨28, _⟩ => ⟨S1x4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S4x2x8x4096x4096, .i1⟩
  | .hbm, ⟨36, _⟩ => ⟨S4x2x8x4096x4096, .f32⟩
  | .hbm, ⟨37, _⟩ => ⟨S4x2x8x4096x4096, .f32⟩
  | .hbm, ⟨38, _⟩ => ⟨S_, .f32⟩
  | .hbm, ⟨39, _⟩ => ⟨S4x2x8x4096, .f32⟩
  | .hbm, ⟨40, _⟩ => ⟨S4x2x8x4096x1, .f32⟩
  | .hbm, ⟨41, _⟩ => ⟨S4x2x8x4096x4096, .f32⟩
  | .hbm, ⟨42, _⟩ => ⟨S4x2x8x4096x4096, .f32⟩
  | .hbm, ⟨43, _⟩ => ⟨S_, .f32⟩
  | .hbm, ⟨44, _⟩ => ⟨S4x2x8x4096x4096, .f32⟩
  | .hbm, ⟨45, _⟩ => ⟨S4x2x8x4096x4096, .f32⟩
  | .hbm, ⟨46, _⟩ => ⟨S_, .f32⟩
  | .hbm, ⟨47, _⟩ => ⟨S4x2x8x4096, .f32⟩
  | .hbm, ⟨48, _⟩ => ⟨S4x2x8x4096x1, .f32⟩
  | .hbm, ⟨49, _⟩ => ⟨S_, .f32⟩
  | .hbm, ⟨50, _⟩ => ⟨S4x2x8x4096x1, .f32⟩
  | .hbm, ⟨51, _⟩ => ⟨S4x2x8x4096x1, .f32⟩
  | .hbm, ⟨52, _⟩ => ⟨S4x2x8x4096x4096, .f32⟩
  | .hbm, ⟨53, _⟩ => ⟨S4x2x8x4096x4096, .f32⟩
  | .hbm, ⟨54, _⟩ => ⟨S_, .f32⟩
  | .hbm, ⟨55, _⟩ => ⟨S_, .f32⟩
  | .hbm, ⟨56, _⟩ => ⟨S4x2x8x4096x4096, .i1⟩
  | .hbm, ⟨57, _⟩ => ⟨S4x2x8x4096x4096, .f32⟩
  | .hbm, ⟨58, _⟩ => ⟨S4x2x8x4096x4096, .f32⟩
  | .hbm, ⟨59, _⟩ => ⟨S4x2x8x4096x128, .f32⟩
  | .hbm, ⟨60, _⟩ => ⟨S16384x256, .f32⟩
  | .hbm, ⟨61, _⟩ => ⟨S4x4096x2x128, .f32⟩
  | .hbm, ⟨62, _⟩ => ⟨S4x4096x2x8, .f32⟩
  | .hbm, ⟨63, _⟩ => ⟨S4x4096x2x8, .f32⟩
  | .hbm, ⟨64, _⟩ => ⟨S4x4096x2x8, .f32⟩
  | .hbm, ⟨65, _⟩ => ⟨S_, .f32⟩
  | .hbm, ⟨66, _⟩ => ⟨S4x4096x2x8, .f32⟩
  | .hbm, ⟨67, _⟩ => ⟨S4x4096x2x8, .f32⟩
  | .hbm, ⟨68, _⟩ => ⟨S_, .f32⟩
  | .hbm, ⟨69, _⟩ => ⟨S4x4096x2x8, .f32⟩
  | .hbm, ⟨70, _⟩ => ⟨S4x4096x2x8, .f32⟩
  | .hbm, ⟨71, _⟩ => ⟨S4x2x8x4096, .f32⟩
  | .hbm, ⟨72, _⟩ => ⟨S4x2x8x4096x1, .f32⟩
  | .hbm, ⟨73, _⟩ => ⟨S4x2x8x4096x128, .f32⟩
  | .hbm, ⟨74, _⟩ => ⟨S4x2x8x4096x128, .f32⟩
  | .hbm, ⟨75, _⟩ => ⟨S4x4096x2x8x128, .f32⟩
  | .hbm, ⟨76, _⟩ => ⟨S16384x2048, .f32⟩
  | .hbm, ⟨77, _⟩ => ⟨S16384x2048, .f32⟩
  | .hbm, ⟨78, _⟩ => ⟨S16384x2048, .f32⟩
  | .hbm, ⟨79, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Gmlp.lean ====
abbrev S16384x8192 : Shape := ⟨2, ![16384, 8192]⟩
abbrev S1x2048 : Shape := ⟨2, ![1, 2048]⟩
abbrev S8x128x128 : Shape := ⟨3, ![8, 128, 128]⟩
abbrev S128x8 : Shape := ⟨2, ![128, 8]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 5
  | .vmem => 9
  | .smem => 0
  | _ => 0

abbrev bufTy : (tb : Table) → Fin (tcTables nBuf tb) → BufTy
  | .hbm, ⟨0, _⟩ => ⟨S16384x8192, .bf16⟩
  | .hbm, ⟨1, _⟩ => ⟨S1x2048, .f32⟩
  | .hbm, ⟨2, _⟩ => ⟨S8x128x128, .f32⟩
  | .hbm, ⟨3, _⟩ => ⟨S128x8, .f32⟩
  | .hbm, ⟨4, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S8x128x128, .f32⟩
  | .local _ .vmem, ⟨6, _⟩ => ⟨S128x8, .f32⟩
  | .local _ .vmem, ⟨7, _⟩ => ⟨S512x2048, .bf16⟩
  | .local _ .vmem, ⟨8, _⟩ => ⟨S512x2048, .bf16⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpRefIdeal.lean ====
abbrev S16384x8192 : Shape := ⟨2, ![16384, 8192]⟩
abbrev S1x2048 : Shape := ⟨2, ![1, 2048]⟩
abbrev S8x128x128 : Shape := ⟨3, ![8, 128, 128]⟩
abbrev S128x8 : Shape := ⟨2, ![128, 8]⟩
abbrev S16384x4096 : Shape := ⟨2, ![16384, 4096]⟩
abbrev S4x4096x4096 : Shape := ⟨3, ![4, 4096, 4096]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x32x128x8x256 : Shape := ⟨5, ![4, 32, 128, 8, 256]⟩
abbrev S128x128 : Shape := ⟨2, ![128, 128]⟩
abbrev S8x4x32x256x128 : Shape := ⟨5, ![8, 4, 32, 256, 128]⟩
abbrev S128x8x1 : Shape := ⟨3, ![128, 8, 1]⟩
abbrev S1x1x128x8x1 : Shape := ⟨5, ![1, 1, 128, 8, 1]⟩
abbrev S16384x2048 : Shape := ⟨2, ![16384, 2048]⟩

abbrev nBuf : Space → Nat
  | .hbm => 80
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S1x2048, .f32⟩
  | .hbm, ⟨2, _⟩ => ⟨S8x128x128, .f32⟩
  | .hbm, ⟨3, _⟩ => ⟨S128x8, .f32⟩
  | .hbm, ⟨4, _⟩ => ⟨S16384x4096, .bf16⟩
  | .hbm, ⟨5, _⟩ => ⟨S16384x4096, .f32⟩
  | .hbm, ⟨6, _⟩ => ⟨S4x4096x4096, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S_, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S_, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x4096x2048, .f32⟩
  | .hbm, ⟨38, _⟩ => ⟨S4x4096x2048, .f32⟩
  | .hbm, ⟨39, _⟩ => ⟨S_, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x2048, .f32⟩
  | .hbm, ⟨55, _⟩ => ⟨S4x4096x2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | .hbm, ⟨59, _⟩ => ⟨S4x32x128x8x256, .f32⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S8x128x128, .i1⟩
  | .hbm, ⟨67, _⟩ => ⟨S_, .f32⟩
  | .hbm, ⟨68, _⟩ => ⟨S8x128x128, .f32⟩
  | .hbm, ⟨69, _⟩ => ⟨S8x128x128, .f32⟩
  | .hbm, ⟨70, _⟩ => ⟨S8x4x32x256x128, .f32⟩
  | .hbm, ⟨71, _⟩ => ⟨S4x32x128x8x256, .f32⟩
  | .hbm, ⟨72, _⟩ => ⟨S128x8x1, .f32⟩
  | .hbm, ⟨73, _⟩ => ⟨S1x1x128x8x1, .f32⟩
  | .hbm, ⟨74, _⟩ => ⟨S4x32x128x8x256, .f32⟩
  | .hbm, ⟨75, _⟩ => ⟨S4x32x128x8x256, .f32⟩
  | .hbm, ⟨76, _⟩ => ⟨S4x4096x2048, .f32⟩
  | .hbm, ⟨77, _⟩ => ⟨S4x4096x2048, .f32⟩
  | .hbm, ⟨78, _⟩ => ⟨S16384x2048, .f32⟩
  | .hbm, ⟨79, _⟩ => ⟨S16384x2048, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_cst : Ref sig .tc := ⟨.hbm, 67, rfl⟩
abbrev main_call0_v6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Proof.Softmax.lean ====
/-
  Softmax over the extended reals, as both programs of this certificate compute it: base 2, the row's
  maximum subtracted first, masked entries at minus infinity, and the normaliser taken as a reciprocal.
  Nothing here speaks of a program. The facts need no finiteness of the scores or of the values.
-/
module

public import Idealize.ShloMosaic.PureOps.Ideal.Laws
public import Mathlib.Data.EReal.Operations
public import Mathlib.Data.EReal.Inv

@[expose] public section
noncomputable section
open Idealize.ShloMosaic

namespace Cert.Softmax

variable {α β : Type} [Fintype α] [Fintype β]

/-- The largest score of a row. -/
def top (s : α → EReal) : EReal := Finset.univ.fold max ⊥ s

/-- The weight of entry `k`: `2 ^ (s k - max s)`. -/
def weight (s : α → EReal) (k : α) : EReal := Ideal.exp2 (s k - top s)

/-- One row of attention: the weights, each times the reciprocal of their sum, against the values. -/
def attend (s v : α → EReal) : EReal :=
  ∑ k, weight s k * Ideal.div 1 (∑ k', weight s k') * v k

theorem top_eq_sup (s : α → EReal) : top s = Finset.univ.sup s := rfl

theorem le_top (s : α → EReal) (k : α) : s k ≤ top s := by
  rw [top_eq_sup]; exact Finset.le_sup (Finset.mem_univ k)

/-- A masked entry weighs nothing, whatever the row's maximum is. -/
theorem weight_of_bot {s : α → EReal} {k : α} (h : s k = ⊥) : weight s k = 0 := by
  rw [weight, h, EReal.bot_sub]; rfl

/-- Powers of two with base 2 written out are the exponential. -/
theorem pow_two (x : EReal) : Ideal.pow ((2 : ℝ) : EReal) x = Ideal.exp2 x := by
  induction x with
  | bot =>
    show (if (2 : ℝ) < 0 then (⊥ : EReal) else if (1 : ℝ) < 2 then 0 else if (2 : ℝ) = 1 then 1 else ⊤) = 0
    norm_num
  | coe r => rfl
  | top =>
    show (if (2 : ℝ) < 0 then (⊥ : EReal) else if (1 : ℝ) < 2 then ⊤ else if (2 : ℝ) = 1 then 1 else 0) = ⊤
    norm_num

/-- When the row's maximum is infinite, every weight is zero. -/
theorem weight_of_top {s : α → EReal} (h : top s = ⊤) (k : α) : weight s k = 0 := by
  rw [weight, h, EReal.sub_top]; rfl

theorem weight_of_top_bot {s : α → EReal} (h : top s = ⊥) (k : α) : weight s k = 0 :=
  weight_of_bot (le_bot_iff.mp (h ▸ le_top s k))

/-- When the row's maximum is finite, every weight is a real number between 0 and 1. -/
theorem weight_real {s : α → EReal} {M : ℝ} (h : top s = M) (k : α) :
    ∃ r : ℝ, 0 ≤ r ∧ weight s k = r := by
  have hk := le_top s k
  rw [weight, h]
  rw [h] at hk
  induction hs : s k with
  | bot => exact ⟨0, le_refl _, by rw [EReal.bot_sub]; rfl⟩
  | coe r => exact ⟨Real.rpow 2 (r - M), Real.rpow_nonneg (by norm_num) _, by rw [← EReal.coe_sub]; rfl⟩
  | top => rw [hs] at hk; exact absurd hk (by simp)

/-- … and one of them is 1, so that their sum is a positive real number. -/
theorem sum_real {s : α → EReal} {M : ℝ} (h : top s = M) :
    ∃ r : ℝ, 0 < r ∧ ∑ k, weight s k = r := by
  choose w hw0 hw using weight_real h
  refine ⟨∑ k, w k, ?_, ?_⟩
  · obtain ⟨k, hk⟩ : ∃ k, s k = top s := by
      have hne : (Finset.univ : Finset α).Nonempty := by
        by_contra hne
        rw [Finset.not_nonempty_iff_eq_empty] at hne
        rw [top_eq_sup, hne, Finset.sup_empty] at h
        exact EReal.bot_ne_coe _ h
      obtain ⟨k, _, hk⟩ := Finset.exists_mem_eq_sup Finset.univ hne s
      exact ⟨k, hk.symm⟩
    have h1 : w k = 1 := by
      have := hw k
      rw [weight, hk, h, ← EReal.coe_sub, sub_self] at this
      have h2 : ((Real.rpow 2 0 : ℝ) : EReal) = w k := this
      rw [← EReal.coe_eq_coe_iff.mp h2]; exact Real.rpow_zero 2
    have := Finset.single_le_sum (fun k _ => hw0 k) (Finset.mem_univ k)
    linarith
  · rw [Finset.sum_congr rfl fun k _ => hw k]
    exact (map_sum (⟨⟨Real.toEReal, EReal.coe_zero⟩, EReal.coe_add⟩ : ℝ →+ EReal) w Finset.univ).symm

/-- A sum times a nonnegative real number, term by term. -/
theorem sum_mul_real (f : α → EReal) {r : ℝ} (hr : 0 ≤ r) : (∑ k, f k) * (r : EReal) = ∑ k, f k * (r : EReal) := by
  classical
  induction (Finset.univ : Finset α) using Finset.induction_on with
  | empty => simp
  | insert a t ha ih =>
    rw [Finset.sum_insert ha, Finset.sum_insert ha, ← ih]
    exact EReal.right_distrib_of_nonneg_of_ne_top (by exact_mod_cast hr) (EReal.coe_ne_top r) _ _

/-- Normalising the product instead of the weights gives the same row. -/
theorem attend_eq_mul (s v : α → EReal) :
    (∑ k, weight s k * v k) * Ideal.div 1 (∑ k, weight s k) = attend s v := by
  unfold attend
  induction h : top s with
  | bot => simp [weight_of_top_bot h]
  | top => simp [weight_of_top h]
  | coe M =>
    obtain ⟨r, hr, hs⟩ := sum_real h
    have hd : Ideal.div 1 ((r : ℝ) : EReal) = ((r⁻¹ : ℝ) : EReal) := by
      rw [Ideal.div, if_neg (by exact_mod_cast hr.ne'), one_mul, EReal.coe_inv]
    rw [hs, hd, sum_mul_real _ (inv_nonneg.mpr hr.le)]
    exact Finset.sum_congr rfl fun k _ => by rw [mul_assoc, mul_assoc, mul_comm (v k)]

/-- Entries that are masked on every row may be dropped: a row over `β` whose scores are minus infinity
    off the image of `α` is the row over `α`. -/
theorem attend_comp (ι : α → β) (hι : Function.Injective ι) (s v : α → EReal) (s' v' : β → EReal)
    (hs : ∀ k, s' (ι k) = s k) (hv : ∀ k, v' (ι k) = v k) (h0 : ∀ j, j ∉ Set.range ι → s' j = ⊥) :
    attend s' v' = attend s v := by
  have ht : top s' = top s := by
    rw [top_eq_sup, top_eq_sup]
    refine le_antisymm (Finset.sup_le fun j _ => ?_) (Finset.sup_le fun k _ => ?_)
    · by_cases hj : j ∈ Set.range ι
      · obtain ⟨k, rfl⟩ := hj
        rw [hs]; exact Finset.le_sup (Finset.mem_univ k)
      · rw [h0 j hj]; exact bot_le
    · rw [← hs]; exact Finset.le_sup (Finset.mem_univ (ι k))
  have hw : ∀ k, weight s' (ι k) = weight s k := fun k => by rw [weight, weight, ht, hs]
  have hsum : ∀ f : β → EReal, (∀ j, j ∉ Set.range ι → f j = 0) → ∑ j, f j = ∑ k, f (ι k) := fun f hf =>
    (Finset.sum_of_injOn ι hι.injOn (fun _ _ => Finset.mem_coe.mpr (Finset.mem_univ _))
      (fun j _ hj => hf j fun ⟨k, hk⟩ => hj ⟨k, Finset.mem_coe.mpr (Finset.mem_univ _), hk⟩) fun _ _ => rfl).symm
  unfold attend
  rw [hsum (fun k => weight s' k * _ * v' k), hsum (weight s')]
  · simp only [hw, hv]
  · exact fun j hj => weight_of_bot (h0 j hj)
  · intro j hj
    rw [weight_of_bot (h0 j hj), zero_mul, zero_mul]

end Cert.Softmax
-- ==== Proof.AttnSpec.lean ====
/-
  The compressed and sliding-window attention of one layer, as a function of its arrays: token `t` of batch
  entry `b`, query head `h` of key/value group `g`, lane `d`.
-/
module

public import proofs.«01_k».proof.Proof.Softmax
public import Idealize.ShloMosaic.Lib.Pointwise

@[expose] public section
noncomputable section
open Idealize.ShloMosaic

namespace Cert.AttnSpec
open Cert.Softmax

/-- A matrix, and a rank-four array, of extended reals. -/
abbrev Mat (n m : ℕ) : Type := (⟨2, ![n, m]⟩ : Shape).Idx → EReal
abbrev Arr4 (a b c d : ℕ) : Type := (⟨4, ![a, b, c, d]⟩ : Shape).Idx → EReal

/-- The row of token `t` of batch entry `b`. -/
abbrev row (b : Fin 4) (t : Fin 4096) : Fin 16384 := ⟨b.val * 4096 + t.val, by omega⟩

/-- The query of head `h` of group `g`, lane `x`. -/
abbrev qcol (g : Fin 2) (h : Fin 8) (x : Fin 128) : Fin 2048 := ⟨g.val * 1024 + h.val * 128 + x.val, by omega⟩

/-- Scores against the compressed blocks: block `k` is seen once it has ended, at position `16 k + 31`. -/
def scoreC (q : Mat 16384 2048) (kc : Arr4 4 2 256 128) (b : Fin 4) (t : Fin 4096) (g : Fin 2) (h : Fin 8) (k : Fin 255) : EReal :=
  if 16 * k.val + 31 ≤ t.val then ∑ x : Fin 128, q (ix2 (row b t) (qcol g h x)) * kc (ix4 b g ⟨k.val, by omega⟩ x) else ⊥

/-- Scores against the window: position `k` is seen from the 512 positions `k, …, k + 511`. -/
def scoreW (q : Mat 16384 2048) (kw : Mat 16384 256) (b : Fin 4) (t : Fin 4096) (g : Fin 2) (h : Fin 8) (k : Fin 4096) : EReal :=
  if k.val ≤ t.val ∧ t.val < k.val + 512 then
    ∑ x : Fin 128, q (ix2 (row b t) (qcol g h x)) * kw (ix2 (row b k) ⟨g.val * 128 + x.val, by omega⟩) else ⊥

/-- The two branches, each under its head's gate. -/
def attn (q : Mat 16384 2048) (kc vc : Arr4 4 2 256 128) (kw : Mat 16384 256) (vw : Mat 16384 512) (gate : Mat 16384 3840)
    (b : Fin 4) (t : Fin 4096) (g : Fin 2) (h : Fin 8) (d : Fin 128) : EReal :=
  Ideal.logistic (gate (ix2 (row b t) ⟨3584 + (g.val * 128 + h.val), by omega⟩))
      * attend (scoreC q kc b t g h) (fun k => vc (ix4 b g ⟨k.val, by omega⟩ d))
    + Ideal.logistic (gate (ix2 (row b t) ⟨3584 + (g.val * 128 + (16 + h.val)), by omega⟩))
      * attend (scoreW q kw b t g h) (fun k => vw (ix2 (row b k) ⟨g.val * 256 + d.val, by omega⟩))

end Cert.AttnSpec
-- ==== Proof.Masks.lean ====
/-
  The two attention masks as inequalities between positions: the programs compare 32-bit words, and every
  position here is far below the range of a word.
-/
module

public import Idealize.ShloMosaic.Lib.Tactic
public import Idealize.ShloMosaic.Lib.Tactic.WordOmega

@[expose] public section
noncomputable section
open Idealize.ShloMosaic

namespace Cert.Masks

/-- A choice by a word of one bit, where the bit says whether `p` holds. -/
theorem select_of_iff {α : Type} {b : BitVec 1} {p : Prop} [Decidable p] (h : b = 1#1 ↔ p) (x y : α) :
    Scalar.select b x y = if p then x else y := by
  have h' : b = 1 ↔ p := h
  unfold Scalar.select
  by_cases hp : p
  · rw [if_pos hp, if_pos (h'.mpr hp)]
  · rw [if_neg hp, if_neg fun hb => hp (h'.mp hb)]

/-- Sums and products of small words are the words of the sums and products. -/
theorem muli_ofNat (a b : ℕ) : IntOp.muli (BitVec.ofNat 32 a) (BitVec.ofNat 32 b) = BitVec.ofNat 32 (a * b) :=
  (BitVec.ofNat_mul ..).symm
theorem scalar_muli_ofNat (a b : ℕ) : Scalar.muli (BitVec.ofNat 32 a) (BitVec.ofNat 32 b) = BitVec.ofNat 32 (a * b) :=
  (BitVec.ofNat_mul ..).symm
theorem addi_ofNat (a b : ℕ) : IntOp.addi (BitVec.ofNat 32 a) (BitVec.ofNat 32 b) = BitVec.ofNat 32 (a + b) :=
  (BitVec.ofNat_add ..).symm

/-- The word of a difference, which may be below zero. -/
theorem subi_ofNat_toNat (a b : ℕ) (ha : a < 2 ^ 31) (hb : b < 2 ^ 31) :
    (IntOp.subi (BitVec.ofNat 32 a) (BitVec.ofNat 32 b)).toNat = if b ≤ a then a - b else 2 ^ 32 + a - b := by
  show (BitVec.ofNat 32 a - BitVec.ofNat 32 b).toNat = _
  rw [BitVec.toNat_sub, BitVec.toNat_ofNat, BitVec.toNat_ofNat]
  split <;> omega

theorem subi_ofNat (a b : ℕ) (hb : b ≤ a) (ha : a < 2 ^ 31) :
    IntOp.subi (BitVec.ofNat 32 a) (BitVec.ofNat 32 b) = BitVec.ofNat 32 (a - b) := by
  apply BitVec.eq_of_toNat_eq
  rw [subi_ofNat_toNat a b ha (by omega), if_pos hb, BitVec.toNat_ofNat]; omega

/-- The reference's mask of the compressed branch: block `k` ends at or before token `t`. -/
theorem ref_block_mask (t k : ℕ) (ht : t < 4096) (hk : k < 255) :
    IntOp.cmpi CmpIPredicate.sle (IntOp.subi (IntOp.addi (IntOp.muli (BitVec.ofNat 32 k) 16#32) 32#32) 1#32)
      (BitVec.ofNat 32 t) = 1#1 ↔ 16 * k + 31 ≤ t := by
  rw [muli_ofNat, addi_ofNat, subi_ofNat _ _ (by omega) (by omega)]
  word_omega

/-- The kernel's: the token is row `r` of a tile that starts at `256 * i`. -/
theorem tile_block_mask (i r k : ℕ) (hi : i < 16) (hr : r < 256) (hk : k < 256) :
    IntOp.cmpi CmpIPredicate.sle (IntOp.addi (IntOp.muli (BitVec.ofNat 32 k) 16#32) 31#32)
      (IntOp.addi (Scalar.muli (BitVec.ofNat 32 i) 256#32) (BitVec.ofNat 32 r)) = 1#1 ↔ 16 * k + 31 ≤ 256 * i + r := by
  rw [muli_ofNat, addi_ofNat, scalar_muli_ofNat, addi_ofNat]
  word_omega

/-- The reference's window mask: `0 ≤ t - k < 512`. -/
theorem ref_window_mask (t k : ℕ) (ht : t < 4096) (hk : k < 4096) :
    IntOp.andi (IntOp.cmpi CmpIPredicate.sge (IntOp.subi (BitVec.ofNat 32 t) (BitVec.ofNat 32 k)) 0#32)
      (IntOp.cmpi CmpIPredicate.slt (IntOp.subi (BitVec.ofNat 32 t) (BitVec.ofNat 32 k)) 512#32) = 1#1
      ↔ k ≤ t ∧ t < k + 512 := by
  have hd := subi_ofNat_toNat t k (by omega) (by omega)
  generalize IntOp.subi (BitVec.ofNat 32 t) (BitVec.ofNat 32 k) = d at hd ⊢
  word_omega

/-- The kernel's window starts 512 positions before its tile, or at 0. -/
theorem window_start (i : ℕ) (hi : i < 16) :
    Scalar.maxsi (Scalar.subi (Scalar.muli (BitVec.ofNat 32 i) 256#32) 512#32) 0#32 = BitVec.ofNat 32 (256 * i - 512) :=
  (by decide : ∀ i : Fin 16, Scalar.maxsi (Scalar.subi (Scalar.muli (BitVec.ofNat 32 i.val) 256#32) 512#32) 0#32
    = BitVec.ofNat 32 (256 * i.val - 512)) ⟨i, hi⟩

/-- The kernel's window mask, one unsigned comparison of the difference. -/
theorem tile_window_mask (i r k : ℕ) (hi : i < 16) (hr : r < 256) (hk : k < 768) :
    IntOp.cmpi CmpIPredicate.ult
      (IntOp.subi (IntOp.addi (Scalar.muli (BitVec.ofNat 32 i) 256#32) (BitVec.ofNat 32 r))
        (IntOp.addi (Scalar.maxsi (Scalar.subi (Scalar.muli (BitVec.ofNat 32 i) 256#32) 512#32) 0#32) (BitVec.ofNat 32 k)))
      512#32 = 1#1 ↔ 256 * i - 512 + k ≤ 256 * i + r ∧ 256 * i + r < 256 * i - 512 + k + 512 := by
  rw [window_start i hi, scalar_muli_ofNat, addi_ofNat, addi_ofNat]
  have hd := subi_ofNat_toNat (i * 256 + r) (256 * i - 512 + k) (by omega) (by omega)
  generalize IntOp.subi (BitVec.ofNat 32 (i * 256 + r)) (BitVec.ofNat 32 (256 * i - 512 + k)) = d at hd ⊢
  word_omega

end Cert.Masks
-- ==== Proof.AttnBlock.lean ====
/-
  One tile of the attention kernel: what its vector operations leave at a row and a lane, in the terms of
  `Softmax`. A tile holds 256 tokens of eight query heads, stacked head by head into 2048 rows.
-/
module

public import proofs.«01_k».proof.Proof.Gen.AttnIdeal.Value
public import proofs.«01_k».proof.Proof.AttnSpec
public import proofs.«01_k».proof.Proof.Masks
public import Idealize.ShloMosaic.Lib.Pipeline.ValueKit
public import Idealize.ShloMosaic.Lib.Pipeline.ReadBack
public import Idealize.ShloMosaic.Lib.Pointwise
public import Idealize.ShloMosaic.Lib.Tactic

@[expose] public section
set_option maxRecDepth 16384
noncomputable section
open Idealize.ShloMosaic Idealize.ShloMosaic.TcCoe Idealize.SL.Sem
open Idealize.ShloMosaic.Pipeline (Dat)
open Cert.Softmax Cert.AttnSpec
namespace Cert.AttnIdeal.Value
open Cert.AttnIdeal Cert.AttnIdeal.Gen
variable (i : Fin 16) (q : Vec Ideal S2048x128 .bf16) (kc vc : Vec Ideal S1x1x256x128 .bf16) (kw : Vec Ideal S768x128 .bf16)
  (vw : Vec Ideal S768x256 .bf16) (gate : Vec Ideal S256x128 .f32)

/-- The named constant of the masks is minus infinity. -/
theorem mask_value : Named.named (F := Ideal) (φ := .f32) κ "mask" 0xF149F2CA#32 = (⊥ : EReal) :=
  IdealRules.named_const.ideal_named_scalar (φ := .f32) κ "mask" 0xF149F2CA#32 ⊥ (by simp [κ])
theorem negInf : Ideal.ofBits FTy.f32 0xFF800000#32 = (⊥ : EReal) := by
  simp [Ideal.ofBits, Ideal.ieee]

/-- Masked scores of stacked row `r` of tile `i`, against the compressed blocks. -/
def tileC (r : Fin 2048) (k : Fin 256) : EReal :=
  if 16 * k.val + 31 ≤ 256 * i.val + r.val % 256 then ∑ x : Fin 128, q (ix2 r x) * kc (ix4 0 0 k x) else ⊥

/-- Masked scores of stacked row `r` of tile `i`, against the 768 positions its window is read from. -/
def tileW (r : Fin 2048) (k : Fin 768) : EReal :=
  if 256 * i.val - 512 + k.val ≤ 256 * i.val + r.val % 256 ∧ 256 * i.val + r.val % 256 < 256 * i.val - 512 + k.val + 512 then
    ∑ x : Fin 128, q (ix2 r x) * kw (ix2 k x) else ⊥

theorem select_block (r : Fin 2048) (k : Fin 256) (X : EReal) :
    Scalar.select (IntOp.cmpi CmpIPredicate.sle (IntOp.addi (IntOp.muli (BitVec.ofNat 32 k.val) 16#32) 31#32)
      (IntOp.addi (Scalar.muli (BitVec.ofNat 32 i.val) 256#32) (BitVec.ofNat 32 (r.val % 256)))) X (⊥ : EReal)
    = if 16 * k.val + 31 ≤ 256 * i.val + r.val % 256 then X else ⊥ :=
  Masks.select_of_iff (Masks.tile_block_mask i (r.val % 256) k i.isLt (Nat.mod_lt _ (by omega)) k.isLt) _ _

theorem select_window (r : Fin 2048) (k : Fin 768) (X : EReal) :
    Scalar.select (IntOp.cmpi CmpIPredicate.ult
      (IntOp.subi (IntOp.addi (Scalar.muli (BitVec.ofNat 32 i.val) 256#32) (BitVec.ofNat 32 (r.val % 256)))
        (IntOp.addi (Scalar.maxsi (Scalar.subi (Scalar.muli (BitVec.ofNat 32 i.val) 256#32) 512#32) 0#32) (BitVec.ofNat 32 k.val)))
      512#32) X (⊥ : EReal)
    = if 256 * i.val - 512 + k.val ≤ 256 * i.val + r.val % 256 ∧ 256 * i.val + r.val % 256 < 256 * i.val - 512 + k.val + 512
      then X else ⊥ :=
  Masks.select_of_iff (Masks.tile_window_mask i (r.val % 256) k i.isLt (Nat.mod_lt _ (by omega)) k.isLt) _ _

/-- The window's weights against any column of the values: nothing is normalised yet. -/
theorem window_sums (r : Fin 2048) (l : Fin 256) :
    k0_pay10 (F := Ideal) (Scalar.muli (BitVec.ofNat 32 i.val) 256#32) q kw vw (ix2 r l)
      = ∑ k, weight (tileW i q kw r) k * vw (ix2 k l) := by
  pointwise [k0_pay10]
  simp only [mask_value, select_window, negInf]
  rfl

/-- Where the last 128 columns of the values are ones, the window's sums over its normaliser are attention. -/
theorem window_attend (hv : ∀ (k : Fin 768) (l : Fin 128), vw (ix2 k ⟨128 + l.val, by omega⟩) = (1 : EReal)) (r : Fin 2048) (l : Fin 128) :
    k0_pay12 (k0_pay10 (F := Ideal) (Scalar.muli (BitVec.ofNat 32 i.val) 256#32) q kw vw)
        (k0_pay11 (F := Ideal) (Scalar.muli (BitVec.ofNat 32 i.val) 256#32) q kw vw) (ix2 r l)
      = attend (tileW i q kw r) (fun k => vw (ix2 k ⟨l.val, by omega⟩)) := by
  pointwise [k0_pay12, k0_pay11]
  rw [window_sums, window_sums]
  simp only [hv, mul_one]
  exact attend_eq_mul _ _

/-- The compressed branch's normalised weights. -/
theorem block_weights (r : Fin 2048) (l : Fin 256) :
    k0_pay14 (F := Ideal) (Scalar.muli (BitVec.ofNat 32 i.val) 256#32) q kc (ix2 r l)
      = weight (tileC i q kc r) l * Ideal.div 1 (∑ k, weight (tileC i q kc r) k) := by
  have hr : ∀ h, (⟨r.val / 256 * 256 + r.val % 256, h⟩ : Fin 2048) = r := fun _ => Fin.ext (Nat.div_add_mod' _ _)
  pointwise [k0_pay14, k0_pay13]
  simp only [mask_value, select_block, negInf, hr]
  rw [Masks.select_of_iff (Masks.tile_block_mask i (r.val % 256) l i.isLt (Nat.mod_lt _ (by omega)) l.isLt)]
  split
  · next h => rw [weight, tileC, if_pos h]; rfl
  · next h => rw [weight_of_bot (s := tileC i q kc r) (k := l) (if_neg h), zero_mul]

/-- The compressed branch of every stacked row. -/
theorem block_attend (r : Fin 2048) (l : Fin 128) :
    k0_pay16 (k0_pay14 (F := Ideal) (Scalar.muli (BitVec.ofNat 32 i.val) 256#32) q kc) (k0_pay15 vc) (ix2 r l)
      = attend (tileC i q kc r) (fun k => vc (ix4 0 0 k l)) := by
  pointwise [k0_pay16, k0_pay15]
  simp only [block_weights]
  rfl

/-- What the tile leaves for head `h`, row `r`, lane `l`. -/
def headVal (h : Fin 8) (r : Fin 256) (l : Fin 128) : EReal :=
  attend (tileC i q kc ⟨h.val * 256 + r.val, by omega⟩) (fun k => vc (ix4 0 0 k l)) * Ideal.logistic (gate (ix2 r ⟨h.val, by omega⟩))
    + attend (tileW i q kw ⟨h.val * 256 + r.val, by omega⟩) (fun k => vw (ix2 k ⟨l.val, by omega⟩))
      * Ideal.logistic (gate (ix2 r ⟨16 + h.val, by omega⟩))

section
variable (hv : ∀ (k : Fin 768) (l : Fin 128), vw (ix2 k ⟨128 + l.val, by omega⟩) = (1 : EReal)) (r : Fin 256) (l : Fin 128)
include hv

/-- Head 0's store. -/
theorem store_head0 : k0_pay18 (k0_pay12 (k0_pay10 (F := Ideal) (Scalar.muli (BitVec.ofNat 32 i.val) 256#32) q kw vw)
      (k0_pay11 (F := Ideal) (Scalar.muli (BitVec.ofNat 32 i.val) 256#32) q kw vw))
    (k0_pay14 (F := Ideal) (Scalar.muli (BitVec.ofNat 32 i.val) 256#32) q kc) (k0_pay15 vc) gate (ix2 r l)
      = headVal i q kc vc kw vw gate 0 r l := by
  have h0 : ∀ h, (⟨(0 : Fin 8).val * 256 + r.val, h⟩ : Fin 2048) = ⟨r.val, by omega⟩ := fun _ => Fin.ext (by simp)
  pointwise [k0_pay18, k0_pay17]
  simp only [block_attend, window_attend i q kw vw hv]
  simp only [headVal, attend, h0]
  rfl

/-- Head 1's store. -/
theorem store_head1 : k0_pay19 (k0_pay12 (k0_pay10 (F := Ideal) (Scalar.muli (BitVec.ofNat 32 i.val) 256#32) q kw vw)
      (k0_pay11 (F := Ideal) (Scalar.muli (BitVec.ofNat 32 i.val) 256#32) q kw vw))
    (k0_pay14 (F := Ideal) (Scalar.muli (BitVec.ofNat 32 i.val) 256#32) q kc) (k0_pay15 vc) gate (ix2 r l)
      = headVal i q kc vc kw vw gate 1 r l := by
  pointwise [k0_pay19, k0_pay17]
  simp only [block_attend, window_attend i q kw vw hv]
  simp only [headVal, attend]
  rfl

/-- Head 2's store. -/
theorem store_head2 : k0_pay20 (k0_pay12 (k0_pay10 (F := Ideal) (Scalar.muli (BitVec.ofNat 32 i.val) 256#32) q kw vw)
      (k0_pay11 (F := Ideal) (Scalar.muli (BitVec.ofNat 32 i.val) 256#32) q kw vw))
    (k0_pay14 (F := Ideal) (Scalar.muli (BitVec.ofNat 32 i.val) 256#32) q kc) (k0_pay15 vc) gate (ix2 r l)
      = headVal i q kc vc kw vw gate 2 r l := by
  pointwise [k0_pay20, k0_pay17]
  simp only [block_attend, window_attend i q kw vw hv]
  simp only [headVal, attend]
  rfl

/-- Head 3's store. -/
theorem store_head3 : k0_pay21 (k0_pay12 (k0_pay10 (F := Ideal) (Scalar.muli (BitVec.ofNat 32 i.val) 256#32) q kw vw)
      (k0_pay11 (F := Ideal) (Scalar.muli (BitVec.ofNat 32 i.val) 256#32) q kw vw))
    (k0_pay14 (F := Ideal) (Scalar.muli (BitVec.ofNat 32 i.val) 256#32) q kc) (k0_pay15 vc) gate (ix2 r l)
      = headVal i q kc vc kw vw gate 3 r l := by
  pointwise [k0_pay21, k0_pay17]
  simp only [block_attend, window_attend i q kw vw hv]
  simp only [headVal, attend]
  rfl

/-- Head 4's store. -/
theorem store_head4 : k0_pay22 (k0_pay12 (k0_pay10 (F := Ideal) (Scalar.muli (BitVec.ofNat 32 i.val) 256#32) q kw vw)
      (k0_pay11 (F := Ideal) (Scalar.muli (BitVec.ofNat 32 i.val) 256#32) q kw vw))
    (k0_pay16 (k0_pay14 (F := Ideal) (Scalar.muli (BitVec.ofNat 32 i.val) 256#32) q kc) (k0_pay15 vc)) (k0_pay17 gate) (ix2 r l)
      = headVal i q kc vc kw vw gate 4 r l := by
  pointwise [k0_pay22, k0_pay17]
  simp only [block_attend, window_attend i q kw vw hv]
  simp only [headVal, attend]
  rfl

/-- Head 5's store. -/
theorem store_head5 : k0_pay23 (k0_pay12 (k0_pay10 (F := Ideal) (Scalar.muli (BitVec.ofNat 32 i.val) 256#32) q kw vw)
      (k0_pay11 (F := Ideal) (Scalar.muli (BitVec.ofNat 32 i.val) 256#32) q kw vw))
    (k0_pay16 (k0_pay14 (F := Ideal) (Scalar.muli (BitVec.ofNat 32 i.val) 256#32) q kc) (k0_pay15 vc)) (k0_pay17 gate) (ix2 r l)
      = headVal i q kc vc kw vw gate 5 r l := by
  pointwise [k0_pay23, k0_pay17]
  simp only [block_attend, window_attend i q kw vw hv]
  simp only [headVal, attend]
  rfl

/-- Head 6's store. -/
theorem store_head6 : k0_pay24 (k0_pay12 (k0_pay10 (F := Ideal) (Scalar.muli (BitVec.ofNat 32 i.val) 256#32) q kw vw)
      (k0_pay11 (F := Ideal) (Scalar.muli (BitVec.ofNat 32 i.val) 256#32) q kw vw))
    (k0_pay16 (k0_pay14 (F := Ideal) (Scalar.muli (BitVec.ofNat 32 i.val) 256#32) q kc) (k0_pay15 vc)) (k0_pay17 gate) (ix2 r l)
      = headVal i q kc vc kw vw gate 6 r l := by
  pointwise [k0_pay24, k0_pay17]
  simp only [block_attend, window_attend i q kw vw hv]
  simp only [headVal, attend]
  rfl

/-- Head 7's store. -/
theorem store_head7 : k0_pay25 (k0_pay12 (k0_pay10 (F := Ideal) (Scalar.muli (BitVec.ofNat 32 i.val) 256#32) q kw vw)
      (k0_pay11 (F := Ideal) (Scalar.muli (BitVec.ofNat 32 i.val) 256#32) q kw vw))
    (k0_pay16 (k0_pay14 (F := Ideal) (Scalar.muli (BitVec.ofNat 32 i.val) 256#32) q kc) (k0_pay15 vc)) (k0_pay17 gate) (ix2 r l)
      = headVal i q kc vc kw vw gate 7 r l := by
  pointwise [k0_pay25, k0_pay17]
  simp only [block_attend, window_attend i q kw vw hv]
  simp only [headVal, attend]
  rfl
end

end Cert.AttnIdeal.Value
-- ==== Proof.AttnTile.lean ====
/-
  From one tile to the layer: a tile's scores and values are rows of the layer's arrays, its masked slots and the
  positions it does not read weigh nothing.
-/
module

public import proofs.«01_k».proof.Proof.Gen.AttnIdeal.Value
public import proofs.«01_k».proof.Proof.AttnBlock
public import Idealize.ShloMosaic.Lib.Pipeline.ValueKit
public import Idealize.ShloMosaic.Lib.Pipeline.ReadBack
public import Idealize.ShloMosaic.Lib.Pointwise
public import Idealize.ShloMosaic.Lib.Tactic

@[expose] public section
set_option maxRecDepth 16384
noncomputable section
open Idealize.ShloMosaic Idealize.ShloMosaic.TcCoe Idealize.SL.Sem
open Idealize.ShloMosaic.Pipeline (Dat)
open Cert.Softmax Cert.AttnSpec
namespace Cert.AttnIdeal.Value
open Cert.AttnIdeal Cert.AttnIdeal.Gen
/-- The queries of a tile, head by head. -/
def stacked (x : Vec Ideal S256x1024 .bf16) : Vec Ideal S2048x128 .bf16 :=
  fun j => x (ix2 ⟨(j 0).val % 256, Nat.mod_lt _ (by omega)⟩ ⟨(j 0).val / 256 * 128 + (j 1).val, by
    have := (j 0).isLt; have := (j 1).isLt; simp only [S2048x128, Matrix.cons_val_zero, Matrix.cons_val_one] at *; omega⟩)

theorem stacked_eq (x : Vec Ideal S256x1024 .bf16) :
   (View.whole cc0_scratch0).readCov
                [⟨Rect.unit ![1792, 0] ![256, 128] inb_S2048x128_S256x128_1792_0,
                    k0_pay9 (View.ld x (Rect.unit ![0, 896] ![256, 128] inb_S256x1024_S256x128_0_896))⟩,
                  ⟨Rect.unit ![1536, 0] ![256, 128] inb_S2048x128_S256x128_1536_0,
                    k0_pay8 (View.ld x (Rect.unit ![0, 768] ![256, 128] inb_S256x1024_S256x128_0_768))⟩,
                  ⟨Rect.unit ![1280, 0] ![256, 128] inb_S2048x128_S256x128_1280_0,
                    k0_pay7 (View.ld x (Rect.unit ![0, 640] ![256, 128] inb_S256x1024_S256x128_0_640))⟩,
                  ⟨Rect.unit ![1024, 0] ![256, 128] inb_S2048x128_S256x128_1024_0,
                    k0_pay6 (View.ld x (Rect.unit ![0, 512] ![256, 128] inb_S256x1024_S256x128_0_512))⟩,
                  ⟨Rect.unit ![768, 0] ![256, 128] inb_S2048x128_S256x128_768_0,
                    k0_pay5 (View.ld x (Rect.unit ![0, 384] ![256, 128] inb_S256x1024_S256x128_0_384))⟩,
                  ⟨Rect.unit ![512, 0] ![256, 128] inb_S2048x128_S256x128_512_0,
                    k0_pay4 (View.ld x (Rect.unit ![0, 256] ![256, 128] inb_S256x1024_S256x128_0_256))⟩,
                  ⟨Rect.unit ![256, 0] ![256, 128] inb_S2048x128_S256x128_256_0,
                    k0_pay3 (View.ld x (Rect.unit ![0, 128] ![256, 128] inb_S256x1024_S256x128_0_128))⟩,
                  ⟨Rect.unit ![0, 0] ![256, 128] inb_S2048x128_S256x128_0_0,
                    k0_pay2 (View.ld x (Rect.unit ![0, 0] ![256, 128] inb_S256x1024_S256x128_0_0))⟩]
                (Rect.unit ![0, 0] ![2048, 128] inb_S2048x128_S2048x128_0_0).toLoadRect = stacked x := by
  rw [View.readCov_eq_canon']
  show View.ld (View.canon _) (Rect.unit (s := S2048x128) ![0, 0] ![2048, 128] inb_S2048x128_S2048x128_0_0) = _
  rw [View.ld_unit_zero (funext fun a => by fin_cases a <;> rfl)]
  funext y
  canon_tiles y
  all_goals
    unfold stacked
    pointwise [k0_pay2, k0_pay3, k0_pay4, k0_pay5, k0_pay6, k0_pay7, k0_pay8, k0_pay9]
    exact congrArg₂ (fun a b => x (ix2 a b)) (Fin.ext (by simp only; omega)) (Fin.ext (by simp only; omega))

/-- One stacked row: head `h`, row `r`. -/
theorem stacked_apply (x : Vec Ideal S256x1024 .bf16) (h : Fin 8) (r : Fin 256) (l : Fin 128) :
    stacked x (ix2 ⟨h.val * 256 + r.val, by omega⟩ l) = x (ix2 r ⟨h.val * 128 + l.val, by omega⟩) := by
  unfold stacked
  exact congrArg₂ (fun a b => x (ix2 a b)) (Fin.ext (by show (h.val * 256 + r.val) % 256 = r.val; omega))
    (Fin.ext (by show (h.val * 256 + r.val) / 256 * 128 + l.val = h.val * 128 + l.val; omega))

/-- Token `r` of tile `i`, and position `k` of the 768 that the tile reads. -/
abbrev tok (i : Fin 16) (r : Fin 256) : Fin 4096 := ⟨256 * i.val + r.val, by omega⟩
abbrev seen (i : Fin 16) (k : Fin 768) : Fin 4096 := ⟨256 * i.val - 512 + k.val, by omega⟩
/-- The columns of group `g` in the queries, the keys, the values and the gates. -/
abbrev qlane (g : Fin 2) (x : Fin 1024) : Fin 2048 := ⟨g.val * 1024 + x.val, by omega⟩
abbrev klane (g : Fin 2) (x : Fin 128) : Fin 256 := ⟨g.val * 128 + x.val, by omega⟩
abbrev vlane (g : Fin 2) (x : Fin 256) : Fin 512 := ⟨g.val * 256 + x.val, by omega⟩
abbrev glane (g : Fin 2) (x : Fin 128) : Fin 3840 := ⟨3584 + (g.val * 128 + x.val), by omega⟩

section
variable (i : Fin 16) (b : Fin 4) (g : Fin 2) (Q : Mat 16384 2048) (KC VC : Arr4 4 2 256 128) (KW : Mat 16384 256) (VW : Mat 16384 512)
  (G : Mat 16384 3840) (xq : Vec Ideal S256x1024 .bf16) (kc vc : Vec Ideal S1x1x256x128 .bf16) (kw : Vec Ideal S768x128 .bf16)
  (vw : Vec Ideal S768x256 .bf16) (gate : Vec Ideal S256x128 .f32)
  (hq : ∀ (r : Fin 256) (x : Fin 1024), xq (ix2 r x) = Q (ix2 (row b (tok i r)) (qlane g x)))
  (hkc : ∀ (k : Fin 256) (x : Fin 128), kc (ix4 0 0 k x) = KC (ix4 b g k x))
  (hvc : ∀ (k : Fin 256) (x : Fin 128), vc (ix4 0 0 k x) = VC (ix4 b g k x))
  (hkw : ∀ (k : Fin 768) (x : Fin 128),
    kw (ix2 k x) = KW (ix2 (row b (seen i k)) (klane g x)))
  (hvw : ∀ (k : Fin 768) (x : Fin 256),
    vw (ix2 k x) = VW (ix2 (row b (seen i k)) (vlane g x)))
  (hg : ∀ (r : Fin 256) (x : Fin 128), gate (ix2 r x)
    = G (ix2 (row b (tok i r)) (glane g x)))

include hq hkc in
/-- The tile's masked scores against the compressed blocks are the layer's; its last slot is masked for every token. -/
theorem tile_blocks (h : Fin 8) (r : Fin 256) (v : Fin 256 → EReal) :
    attend (tileC i (stacked xq) kc ⟨h.val * 256 + r.val, by omega⟩) v
      = attend (scoreC Q KC b (tok i r) g h) (fun k => v ⟨k.val, by omega⟩) := by
  have e : (h.val * 256 + r.val) % 256 = r.val := by omega
  refine attend_comp (fun k : Fin 255 => (⟨k.val, by omega⟩ : Fin 256)) (fun a b hab => Fin.ext (Fin.mk.inj_iff.mp hab)) _ _ _ _
    (fun k => ?_) (fun _ => rfl) fun j hj => ?_
  · simp only [tileC, scoreC, e, stacked_apply, hq, hkc, qcol, Nat.add_assoc]
  · have hj' : j.val = 255 := by
      by_contra hne
      exact hj ⟨⟨j.val, by omega⟩, rfl⟩
    refine if_neg ?_
    show ¬16 * j.val + 31 ≤ 256 * i.val + (h.val * 256 + r.val) % 256
    omega

include hq hkw in
/-- The tile's masked scores against the 768 positions it reads are the layer's against all 4096. -/
theorem tile_window (h : Fin 8) (r : Fin 256) (v : Fin 4096 → EReal) :
    attend (tileW i (stacked xq) kw ⟨h.val * 256 + r.val, by omega⟩) (fun k => v (seen i k))
      = attend (scoreW Q KW b (tok i r) g h) v := by
  have e : (h.val * 256 + r.val) % 256 = r.val := by omega
  refine (attend_comp (fun k : Fin 768 => ((seen i k) : Fin 4096))
    (fun a b hab => Fin.ext (by have := Fin.mk.inj_iff.mp hab; omega)) _ _ _ _ (fun k => ?_) (fun _ => rfl) fun j hj => ?_).symm
  · simp only [tileW, scoreW, e, stacked_apply, hq, hkw, qcol, Nat.add_assoc]
  · refine if_neg fun hm => hj ⟨⟨j.val - (256 * i.val - 512), ?_⟩, Fin.ext ?_⟩
    · have := hm.1; have := hm.2; simp only at *; omega
    · have := hm.1; have := hm.2; simp only at *; omega

include hq hkc hvc hkw hvw hg in
/-- One head of one tile is the layer's attention at its tokens. -/
theorem head_attn (h : Fin 8) (r : Fin 256) (l : Fin 128) :
    headVal i (stacked xq) kc vc kw vw gate h r l = attn Q KC VC KW VW G b (tok i r) g h l := by
  unfold headVal attn
  rw [tile_blocks i b g Q KC xq kc hq hkc, mul_comm, mul_comm (attend (tileW _ _ _ _) _), hg, hg]
  simp only [hvc, hvw]
  rw [tile_window i b g Q KW xq kw hq hkw h r (fun k => VW (ix2 (row b k) ⟨g.val * 256 + l.val, by omega⟩))]

end
end Cert.AttnIdeal.Value
-- ==== Proof.AttnArray.lean ====
module

public import proofs.«01_k».proof.Proof.Gen.AttnIdeal.Value
public import proofs.«01_k».proof.Proof.AttnTile
public import Idealize.ShloMosaic.Lib.Pipeline.ValueKit
public import Idealize.ShloMosaic.Lib.Pipeline.ReadBack
public import Idealize.ShloMosaic.Lib.Pointwise
public import Idealize.ShloMosaic.Lib.Tactic

@[expose] public section
set_option maxRecDepth 16384
noncomputable section
open Idealize.ShloMosaic Idealize.ShloMosaic.TcCoe Idealize.SL.Sem
open Idealize.ShloMosaic.Pipeline (Dat)
open Cert.Softmax Cert.AttnSpec
namespace Cert.AttnIdeal.Value
open Cert.AttnIdeal Cert.AttnIdeal.Gen
variable (m : (ℓ : Loc nD τ sig) → Buf (Elt Ideal) ℓ) (c : Dev nD)

/-- The arrays of device `c`. -/
abbrev aQ : Mat 16384 2048 := m ((c : Thread nD τ).loc main_arg0)
abbrev aKC : Arr4 4 2 256 128 := m ((c : Thread nD τ).loc main_arg1)
abbrev aVC : Arr4 4 2 256 128 := m ((c : Thread nD τ).loc main_arg2)
abbrev aKW : Mat 16384 256 := m ((c : Thread nD τ).loc main_arg3)
abbrev aVW : Mat 16384 512 := m ((c : Thread nD τ).loc main_arg4)
abbrev aG : Mat 16384 3840 := m ((c : Thread nD τ).loc main_arg5)

def layer : S16384x2048.Idx → EReal := fun j =>
  attn (aQ m c) (aKC m c) (aVC m c) (aKW m c) (aVW m c) (aG m c) ⟨(j 0).val / 4096, by have : (j 0).val < 16384 := (j 0).isLt; omega⟩
    ⟨(j 0).val % 4096, by omega⟩ ⟨(j 1).val / 1024, by have : (j 1).val < 2048 := (j 1).isLt; omega⟩ ⟨(j 1).val / 128 % 8, by omega⟩ ⟨(j 1).val % 128, by omega⟩

/-- The layer at row `b * 4096 + t`, column `g * 1024 + h * 128 + d`. -/
theorem layer_apply (j : S16384x2048.Idx) (b : Fin 4) (t : Fin 4096) (g : Fin 2) (h : Fin 8) (d : Fin 128)
    (h0 : (j 0).val = b.val * 4096 + t.val) (h1 : (j 1).val = g.val * 1024 + h.val * 128 + d.val) :
    layer m c j = attn (aQ m c) (aKC m c) (aVC m c) (aKW m c) (aVW m c) (aG m c) b t g h d := by
  unfold layer
  congr 1 <;> apply Fin.ext <;> simp only [h0, h1] <;> omega

/-- Where each point's blocks lie: point `t` is tile `i` of batch entry `b` and group `g`. -/
theorem idx : ∀ t : Fin grid0.N,
    win0_0.index t = ![(grid0.coords t 0).val * 16 + (grid0.coords t 2).val, (grid0.coords t 1).val]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val]
    ∧ win0_4.index t = ![(grid0.coords t 0).val, (grid0.coords t 1).val]
    ∧ win0_5.index t = ![(grid0.coords t 0).val * 16 + (grid0.coords t 2).val, 28 + (grid0.coords t 1).val]
    ∧ win0_7.index t = ![(grid0.coords t 0).val * 16 + (grid0.coords t 2).val, (grid0.coords t 1).val] := by
  decide +kernel

/-- Where each point reads its window's keys and values. -/
theorem off (t : Fin grid0.N) : k0_off1 (grid0.coords t) = ![256 * (grid0.coords t 2).val - 512, 0]
    ∧ k0_off2 (grid0.coords t) = ![256 * (grid0.coords t 2).val - 512, 0] :=
  (by decide +kernel : ∀ t : Fin grid0.N, k0_off1 (grid0.coords t) = ![256 * (grid0.coords t 2).val - 512, 0]
    ∧ k0_off2 (grid0.coords t) = ![256 * (grid0.coords t 2).val - 512, 0]) t

section
variable (t : Fin grid0.N) (b : Fin 4) (g : Fin 2) (i : Fin 16) (hb : (grid0.coords t 0).val = b.val)
  (hg : (grid0.coords t 1).val = g.val) (hi : (grid0.coords t 2).val = i.val)
include hb hg hi

theorem block_q (r : Fin 256) (x : Fin 1024) : iblk m c 0 t (ix2 r x)
    = aQ m c (ix2 (row b (tok i r)) (qlane g x)) := by
  blk_ext [iblk, V, idx t, hb, hg, hi]

theorem block_kc (k : Fin 256) (x : Fin 128) : iblk m c 1 t (ix4 0 0 k x) = aKC m c (ix4 b g k x) := by
  blk_ext [iblk, V, idx t, hb, hg, hi]

theorem block_vc (k : Fin 256) (x : Fin 128) : iblk m c 2 t (ix4 0 0 k x) = aVC m c (ix4 b g k x) := by
  blk_ext [iblk, V, idx t, hb, hg, hi]

theorem block_kw (inb) (k : Fin 768) (x : Fin 128) :
    View.ld (iblk m c 3 t) (Rect.unit (s := S4096x128) (k0_off1 (grid0.coords t)) ![768, 128] inb) (ix2 k x)
      = aKW m c (ix2 (row b (seen i k)) (klane g x)) := by
  pointwise []
  blk_ext [iblk, V, idx t, off t, hb, hg, hi]

theorem block_vw (inb) (k : Fin 768) (x : Fin 256) :
    View.ld (iblk m c 4 t) (Rect.unit (s := S4096x256) (k0_off2 (grid0.coords t)) ![768, 256] inb) (ix2 k x)
      = aVW m c (ix2 (row b (seen i k)) (vlane g x)) := by
  pointwise []
  blk_ext [iblk, V, idx t, off t, hb, hg, hi]

theorem block_gate (r : Fin 256) (x : Fin 128) : iblk m c 5 t (ix2 r x)
    = aG m c (ix2 (row b (tok i r)) (glane g x)) := by
  blk_ext [iblk, V, idx t, hb, hg, hi]
end

theorem array_eq (hv : ∀ (r : Fin 16384) (g : Fin 2) (l : Fin 128), aVW m c (ix2 r ⟨g.val * 256 + (128 + l.val), by omega⟩) = (1 : EReal)) :
    (dats m 0 c).arrAt 7 cfg0.N = layer m c := by
  refine (dats m 0 c).arrAt_eq_of_covers 7 _ (by decide +kernel) fun t hf y => ?_
  blk_simp
  rw [after0_7]
  unfold outsAt0
  dsimp only
  frame_open
  frame_out
  rw [stacked_eq]
  obtain ⟨b, hb⟩ : ∃ b : Fin 4, (grid0.coords t 0).val = b.val := ⟨grid0.coords t 0, rfl⟩
  obtain ⟨g, hg⟩ : ∃ g : Fin 2, (grid0.coords t 1).val = g.val := ⟨grid0.coords t 1, rfl⟩
  obtain ⟨i, hi⟩ : ∃ i : Fin 16, (grid0.coords t 2).val = i.val := ⟨grid0.coords t 2, rfl⟩
  have he0 : ((((View.whole main_v0_0).slice (win0_7.rect t)).emb y) 0).val = b.val * 4096 + (256 * i.val + (y 0).val) := by
    blk_simp [idx t, hb, hg, hi]
    omega
  have he1 : ((((View.whole main_v0_0).slice (win0_7.rect t)).emb y) 1).val = g.val * 1024 + (y 1).val := by
    blk_simp [idx t, hb, hg, hi]
  generalize ((View.whole main_v0_0).slice (win0_7.rect t)).emb y = j at he0 he1 ⊢
  have ones : ∀ (k : Fin 768) (l : Fin 128), View.ld (iblk m c 4 t) (Rect.unit (s := S4096x256) (k0_off2 (grid0.coords t)) ![768, 256]
      (k0_off2_inb (grid0.coords t))) (ix2 k ⟨128 + l.val, by omega⟩) = (1 : EReal) := fun k l => by
    rw [block_vw m c t b g i hb hg hi]; exact hv _ _ _
  have hh := fun h => head_attn i b g (aQ m c) (aKC m c) (aVC m c) (aKW m c) (aVW m c) (aG m c) (iblk m c 0 t) (iblk m c 1 t) (iblk m c 2 t)
    _ _ (iblk m c 5 t) (block_q m c t b g i hb hg hi) (block_kc m c t b g i hb hg hi) (block_vc m c t b g i hb hg hi)
    (block_kw m c t b g i hb hg hi (k0_off1_inb (grid0.coords t))) (block_vw m c t b g i hb hg hi (k0_off2_inb (grid0.coords t))) (block_gate m c t b g i hb hg hi) h
  rw [hi]
  canon_tiles y
  · rw [eq_ix2 y]
    exact (store_head7 i (stacked (iblk m c 0 t)) _ _ _ _ _ ones (y 0) (y 1)).trans ((hh 7 (y 0) (y 1)).trans (layer_apply m c j b (tok i (y 0)) g 7 (y 1) (he0.trans (by rw [h0])) (he1.trans (by rw [h1]; simp <;> omega))).symm)
  · rw [eq_ix2 y]
    exact (store_head6 i (stacked (iblk m c 0 t)) _ _ _ _ _ ones (y 0) (y 1)).trans ((hh 6 (y 0) (y 1)).trans (layer_apply m c j b (tok i (y 0)) g 6 (y 1) (he0.trans (by rw [h0])) (he1.trans (by rw [h1]; simp <;> omega))).symm)
  · rw [eq_ix2 y]
    exact (store_head5 i (stacked (iblk m c 0 t)) _ _ _ _ _ ones (y 0) (y 1)).trans ((hh 5 (y 0) (y 1)).trans (layer_apply m c j b (tok i (y 0)) g 5 (y 1) (he0.trans (by rw [h0])) (he1.trans (by rw [h1]; simp <;> omega))).symm)
  · rw [eq_ix2 y]
    exact (store_head4 i (stacked (iblk m c 0 t)) _ _ _ _ _ ones (y 0) (y 1)).trans ((hh 4 (y 0) (y 1)).trans (layer_apply m c j b (tok i (y 0)) g 4 (y 1) (he0.trans (by rw [h0])) (he1.trans (by rw [h1]; simp <;> omega))).symm)
  · rw [eq_ix2 y]
    exact (store_head3 i (stacked (iblk m c 0 t)) _ _ _ _ _ ones (y 0) (y 1)).trans ((hh 3 (y 0) (y 1)).trans (layer_apply m c j b (tok i (y 0)) g 3 (y 1) (he0.trans (by rw [h0])) (he1.trans (by rw [h1]; simp <;> omega))).symm)
  · rw [eq_ix2 y]
    exact (store_head2 i (stacked (iblk m c 0 t)) _ _ _ _ _ ones (y 0) (y 1)).trans ((hh 2 (y 0) (y 1)).trans (layer_apply m c j b (tok i (y 0)) g 2 (y 1) (he0.trans (by rw [h0])) (he1.trans (by rw [h1]; simp <;> omega))).symm)
  · rw [eq_ix2 y]
    exact (store_head1 i (stacked (iblk m c 0 t)) _ _ _ _ _ ones (y 0) (y 1)).trans ((hh 1 (y 0) (y 1)).trans (layer_apply m c j b (tok i (y 0)) g 1 (y 1) (he0.trans (by rw [h0])) (he1.trans (by rw [h1]; simp <;> omega))).symm)
  · rw [eq_ix2 y]
    exact (store_head0 i (stacked (iblk m c 0 t)) _ _ _ _ _ ones (y 0) (y 1)).trans ((hh 0 (y 0) (y 1)).trans (layer_apply m c j b (tok i (y 0)) g 0 (y 1) (he0.trans (by rw [h0])) (he1.trans (by rw [h1]; simp <;> omega))).symm)

end Cert.AttnIdeal.Value
-- ==== Proof.RefValue.lean ====
/-
  What the attention reference computes at one element, in closed form: `AttnSpec.attn` of its arguments.
-/
module

public import proofs.«01_k».proof.Proof.Gen.AttnRefIdeal.Read
public import proofs.«01_k».proof.Proof.AttnSpec
public import proofs.«01_k».proof.Proof.Masks
public import Idealize.ShloMosaic.Lib.Pointwise

@[expose] public section
set_option maxRecDepth 16384
noncomputable section
open Idealize.ShloMosaic Idealize.ShloMosaic.TcCoe Idealize.SL.Sem
open Cert.Softmax Cert.AttnSpec
namespace Cert.AttnRefIdeal.Read
open Cert.AttnRefIdeal Cert.AttnRefIdeal.Gen

/-- The pattern of minus infinity, and that of two. -/
theorem negInf : Ideal.ofBits FTy.f32 0xFF800000#32 = (⊥ : EReal) := by
  simp [Ideal.ofBits, Ideal.ieee]
theorem two : Ideal.ofBits FTy.f32 0x40000000#32 = ((2 : ℝ) : EReal) := by
  simp [Ideal.ofBits, Ideal.ieee, -EReal.coe_mul]; norm_num

variable (x0 : (⟨S16384x2048, .bf16⟩ : BufTy).Contents (Elt Ideal)) (x1 x2 : (⟨S4x2x256x128, .bf16⟩ : BufTy).Contents (Elt Ideal))
  (x3 : (⟨S16384x256, .bf16⟩ : BufTy).Contents (Elt Ideal)) (x4 : (⟨S16384x512, .bf16⟩ : BufTy).Contents (Elt Ideal))
  (x5 : (⟨S16384x3840, .f32⟩ : BufTy).Contents (Elt Ideal)) (b : Fin 4) (g : Fin 2) (h : Fin 8) (t : Fin 4096) (d : Fin 128)

/-- The mask of the compressed branch. -/
theorem block_mask (k : Fin 255) : val_main_v18 (F := Ideal) (ix2 t k) = 1#1 ↔ 16 * k.val + 31 ≤ t.val := by
  pointwise [val_main_v18, val_main_v17, val_main_v16, val_main_v15, val_main_v14, val_main_v10, val_main_v9, val_main_c_1,
    val_main_v8, val_main_v7, val_main_c_0, val_main_v6, val_main_v5, val_main_c, val_main_v4, val_main_v0]
  exact Masks.ref_block_mask t k t.isLt k.isLt

/-- The mask of the window. -/
theorem window_mask (k : Fin 4096) : val_main_v53 (F := Ideal) (ix2 t k) = 1#1 ↔ k.val ≤ t.val ∧ t.val < k.val + 512 := by
  pointwise [val_main_v53, val_main_v52, val_main_v51, val_main_c_8, val_main_v50, val_main_v49, val_main_c_7, val_main_v47,
    val_main_v46, val_main_v45, val_main_v44, val_main_v43, val_main_v0]
  exact Masks.ref_window_mask t k t.isLt k.isLt

/-- The masked scores of the compressed branch. -/
theorem scoreC_eq (k : Fin 255) : val_main_v19 (F := Ideal) x0 x1 (ix5 b g h t k) = scoreC x0 x1 b t g h k := by
  pointwise [val_main_v19, val_main_call0_v2, val_main_call0_v1, val_main_call0_v0, val_main_cst, val_main_v13, val_main_v12,
    val_main_v11, val_main_v3, val_main_v2, val_main_v1]
  rw [Masks.select_of_iff (block_mask t k)]
  show (if _ then _ else Ideal.ofBits FTy.f32 0xFF800000#32) = _
  rw [negInf]
  rfl

/-- The masked scores of the window. -/
theorem scoreW_eq (k : Fin 4096) : val_main_v54 (F := Ideal) x0 x3 (ix5 b g h t k) = scoreW x0 x3 b t g h k := by
  pointwise [val_main_v54, val_main_call2_v2, val_main_call2_v1, val_main_call2_v0, val_main_cst_9, val_main_v48, val_main_v38,
    val_main_v37, val_main_v36, val_main_v3, val_main_v2, val_main_v1]
  rw [Masks.select_of_iff (window_mask t k)]
  show (if _ then _ else Ideal.ofBits FTy.f32 0xFF800000#32) = _
  rw [negInf]
  rfl

/-- The weights of the compressed branch before they are normalised. -/
theorem weightC_eq (k : Fin 255) : val_main_v25 (F := Ideal) x0 x1 (ix5 b g h t k) = weight (scoreC x0 x1 b t g h) k := by
  pointwise [val_main_v25, val_main_v24, val_main_cst_3, val_main_v23, val_main_v22, val_main_v21, val_main_v20, val_main_cst_2]
  simp only [scoreC_eq, negInf, two]
  exact pow_two _

/-- The weights of the window before they are normalised. -/
theorem weightW_eq (k : Fin 4096) : val_main_v60 (F := Ideal) x0 x3 (ix5 b g h t k) = weight (scoreW x0 x3 b t g h) k := by
  pointwise [val_main_v60, val_main_v59, val_main_cst_11, val_main_v58, val_main_v57, val_main_v56, val_main_v55, val_main_cst_10]
  simp only [scoreW_eq, negInf, two]
  exact pow_two _

/-- A masked weight: dropping it changes nothing, since it is zero already. -/
theorem select_weight {n : ℕ} {m : BitVec 1} {p : Prop} [Decidable p] (hm : m = 1#1 ↔ p) (s : Fin n → EReal) (k : Fin n)
    (hs : ¬p → s k = ⊥) (r : EReal) : Scalar.select m (weight s k * r) 0 = weight s k * r := by
  rw [Masks.select_of_iff hm]
  split
  · rfl
  · rw [weight_of_bot (hs ‹_›), zero_mul]

/-- The compressed branch. -/
theorem attendC_eq : val_main_v35 (F := Ideal) x0 x1 x2 (ix5 b g h t d)
    = attend (scoreC x0 x1 b t g h) (fun k => x2 (ix4 b g ⟨k.val, by omega⟩ d)) := by
  pointwise [val_main_v35, val_main_v34, val_main_v33, val_main_v32, val_main_call1_v2, val_main_call1_v1, val_main_call1_v0,
    val_main_cst_6, val_main_v31, val_main_v30, val_main_v29, val_main_v28, val_main_v27, val_main_v26, val_main_cst_5, val_main_cst_4]
  simp only [weightC_eq]
  refine Finset.sum_congr rfl fun k _ => ?_
  congr 1
  refine Eq.trans ?_ (select_weight (block_mask t k) (scoreC x0 x1 b t g h) k (fun hp => if_neg hp) _)
  congr 1
  exact Ideal.ofBits_zero_f32

/-- The window. -/
theorem attendW_eq : val_main_v68 (F := Ideal) x0 x3 x4 (ix5 b g h t d)
    = attend (scoreW x0 x3 b t g h) (fun k => x4 (ix2 (row b k) ⟨g.val * 256 + d.val, by omega⟩)) := by
  pointwise [val_main_v68, val_main_v67, val_main_v66, val_main_v65, val_main_v64, val_main_v63, val_main_v62, val_main_v61,
    val_main_call3_v2, val_main_call3_v1, val_main_call3_v0, val_main_cst_12, val_main_cst_13, val_main_cst_14, val_main_v42,
    val_main_v41, val_main_v40, val_main_v39]
  simp only [weightW_eq]
  refine Finset.sum_congr rfl fun k _ => ?_
  congr 1
  refine Eq.trans ?_ (select_weight (window_mask t k) (scoreW x0 x3 b t g h) k (fun hp => if_neg hp) _)
  congr 1
  exact Ideal.ofBits_zero_f32

/-- The gate of the compressed branch, and that of the window. -/
theorem gateC_eq : val_main_v83 (F := Ideal) x5 (ix5 b g h t d)
    = Ideal.logistic (x5 (ix2 (row b t) ⟨3584 + (g.val * 128 + h.val), by omega⟩)) := by
  pointwise [val_main_v83, val_main_v82, val_main_v81, val_main_v80, val_main_v79, val_main_v78, val_main_v77, val_main_v76,
    val_main_v75, val_main_v74, val_main_v73, val_main_v72, val_main_v71, val_main_v70, val_main_v69, val_main_cst_15, val_main_cst_16]
  rfl
theorem gateW_eq : val_main_v87 (F := Ideal) x5 (ix5 b g h t d)
    = Ideal.logistic (x5 (ix2 (row b t) ⟨3584 + (g.val * 128 + (16 + h.val)), by omega⟩)) := by
  pointwise [val_main_v87, val_main_v86, val_main_v85, val_main_v80, val_main_v79, val_main_v78, val_main_v77, val_main_v76,
    val_main_v75, val_main_v74, val_main_v73, val_main_v72, val_main_v71, val_main_v70, val_main_v69, val_main_cst_15, val_main_cst_16]
  rfl

/-- The reference at row `r`, column `k` of its result. -/
theorem result_eq (r : Fin 16384) (k : Fin 2048) : val_main_v92 (F := Ideal) x0 x1 x2 x3 x4 x5 (ix2 r k)
    = attn x0 x1 x2 x3 x4 x5 ⟨r.val / 4096, by omega⟩ ⟨r.val % 4096, by omega⟩ ⟨k.val / 1024, by omega⟩ ⟨k.val / 128 % 8, by omega⟩
        ⟨k.val % 128, by omega⟩ := by
  pointwise [val_main_v92, val_main_v91, val_main_v90, val_main_v89, val_main_v88, val_main_v84]
  rw [gateC_eq, gateW_eq, attendC_eq, attendW_eq]
  rfl

end Cert.AttnRefIdeal.Read
-- ==== Proof.AttnClaims.lean ====
/-
  The claims about the compressed and sliding-window attention: every run ends, and over the extended reals the
  kernel's array is the reference's.
-/
module

public import proofs.«01_k».proof.Defs
public import proofs.«01_k».proof.Proof.Gen.Attn.Frame
public import proofs.«01_k».proof.Proof.Gen.AttnRefIdeal.Run
public import proofs.«01_k».proof.Proof.Gen.Pre_v_ones
public import proofs.«01_k».proof.Proof.AttnArray
public import proofs.«01_k».proof.Proof.RefValue
public import Idealize.ShloMosaic.Lib.Quiescent

@[expose] public section
set_option maxRecDepth 16384
noncomputable section
open Idealize.ShloMosaic Idealize.ShloMosaic.TcCoe Idealize.SL.Sem
open Cert.AttnSpec
namespace Cert.Proof.Attn

instance : Cert.Pre_v_ones.Facts := Cert.Pre_v_ones.Gen.facts

/-- Where the precondition holds, the second half of each group's window values is ones. -/
theorem ones (q kc vc kw g o) (v : FVec Ideal Cert.Pre_v_ones.S16384x512 .bf16)
    (h : Cert.Pre_v_ones.fn (F := Ideal) q kc vc kw v g o = fun _ => 1#1) (r : Fin 16384) (p : Fin 2) (l : Fin 128) :
    v (ix2 r ⟨p.val * 256 + (128 + l.val), by omega⟩) = (1 : EReal) := by
  have e := congrFun h (ix3 r p l)
  pointwise [Cert.Pre_v_ones.fn] at e
  simp only [Nat.add_assoc] at e
  by_contra hne
  rw [decide_eq_false hne] at e
  exact absurd e (by decide)

/-- The kernel runs to its end at the machine's words, from any memory, and leaves its arguments. -/
theorem frame : Cert.quiescent_Attn := fun m ρ _ => Cert.Attn.Gen.frame m ρ
/-- So does its idealization, -/
theorem frame_ideal : Cert.quiescent_AttnIdeal := fun m ρ _ => Cert.AttnIdeal.Gen.frame m ρ
/-- also where the precondition holds. -/
theorem frame_ideal_pre : Cert.quiescent_AttnIdeal_pre_v_ones := fun m ρ _ => Cert.AttnIdeal.Gen.frame m ρ
/-- The reference runs to its end and leaves its arguments, -/
theorem frame_reference : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)
/-- also where the precondition holds. -/
theorem frame_reference_pre : Cert.quiescent_AttnRefIdeal_pre_v_ones := fun m ρ _ => frame_reference m ρ trivial

/-- The masks' constant is minus infinity: the one rewrite. -/
theorem preserves : Cert.preserves_Attn_AttnIdeal :=
  IdealRules.named_const.statement Cert.AttnIdeal.κ "mask" .f32 0xF149F2CA#32 ⊥ rfl

/-- The kernel's array and the reference's are the same function of the arguments. -/
theorem algebraic : Cert.algebraic_AttnIdeal_AttnRefIdeal_pre_v_ones := by
  intro m ρ m' ρ' hpre hagree
  refine ⟨fun c => Cert.AttnIdeal.Value.layer m c, ?_, ?_⟩
  · exact (θ_run Cert.AttnIdeal.defs _ _).mono
      (fun _ h c => ⟨(h c).1.trans (Cert.AttnIdeal.Value.array_eq m c (ones _ _ _ _ _ _ _ (hpre c))), (h c).2.2⟩)
      (Cert.AttnIdeal.Value.run_blocks (F := Ideal) m ρ)
  · refine (θ_run Cert.AttnRefIdeal.defs _ _).mono (fun _ h c => ⟨(h c).1.trans ?_, (h c).2⟩)
      (Cert.AttnRefIdeal.Value.run (F := Ideal) m' ρ')
    obtain ⟨h0, h1, h2, h3, h4, h5, _⟩ := hagree c
    rw [Cert.AttnRefIdeal.Read.val_main_v92_eq, h0, h1, h2, h3, h4, h5]
    funext j
    rw [eq_ix2 j]
    exact Cert.AttnRefIdeal.Read.result_eq _ _ _ _ _ _ (j 0) (j 1)

end Cert.Proof.Attn
-- ==== Proof.ProjAClaims.lean ====
/-
  The claims about the first half of the input projection (the two mixers' columns and the merge gates): every run ends, and over the extended reals the
  kernel's array is the reference's.
-/
module

public import proofs.«01_k».proof.Defs
public import proofs.«01_k».proof.Proof.Gen.ProjA.Frame
public import proofs.«01_k».proof.Proof.Gen.ProjAIdeal.Value
public import proofs.«01_k».proof.Proof.Gen.ProjARefIdeal.Run
public import proofs.«01_k».proof.Proof.Gen.ProjARefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Tactic

@[expose] public section
set_option maxRecDepth 16384
noncomputable section
open Idealize.ShloMosaic Idealize.ShloMosaic.TcCoe Idealize.SL.Sem
open Idealize.ShloMosaic.Pipeline (Dat)

namespace Cert.ProjAIdeal.Value
open Cert.ProjAIdeal Cert.ProjAIdeal.Gen
variable (m : (ℓ : Loc nD τ sig) → Buf (Elt Ideal) ℓ) (c : Dev nD)

/-- The activations and the weights of device `c`. -/
abbrev aH : S16384x2048.Idx → EReal := m ((c : Thread nD τ).loc main_arg0)
abbrev aW : S2048x11824.Idx → EReal := m ((c : Thread nD τ).loc main_arg1)

/-- The columns of the weights that the call multiplies by: the first 4096, then the last 4096. -/
def col (k : Fin 8192) : Fin 11824 := if k.val < 4096 then ⟨k.val, by omega⟩ else ⟨7728 + (k.val - 4096), by omega⟩

/-- What the call computes at row `r`, column `k`. -/
def proj (h : S16384x2048.Idx → EReal) (w : S2048x11824.Idx → EReal) (r : Fin 16384) (k : Fin 8192) : EReal :=
  ∑ e : Fin 2048, h (ix2 r e) * w (ix2 e (col k))

/-- Where each point's blocks lie. -/
theorem idx : ∀ t : Fin grid0.N,
    win0_0.index t = ![(grid0.coords t 0).val, 0]
    ∧ win0_1.index t = ![0, (grid0.coords t 1).val]
    ∧ win0_2.index t = ![(grid0.coords t 0).val, (grid0.coords t 1).val] := by
  decide +kernel

/-- The weights the region finds: columns of the argument, the cast changing nothing over the extended reals. -/
theorem weights (e : Fin 2048) (k : Fin 8192) : (V m c main_v3 : S2048x8192.Idx → EReal) (ix2 e k) = aW m c (ix2 e (col k)) := by
  show concatenate S2048x8192 1 [⟨S2048x4096, extractStridedSlice S2048x4096 ![0, 0] (aW m c) slices_S2048x11824_S2048x4096_0_0⟩,
    ⟨S2048x4096, extractStridedSlice S2048x4096 ![0, 7728] (aW m c) slices_S2048x11824_S2048x4096_0_7728⟩]
    concatenates_S2048x4096_S2048x4096_S2048x8192_d1 (ix2 e k) = _
  pointwise []
  unfold col
  split <;> rfl

/-- One block of the result. -/
theorem block_proj (A : Vec Ideal S1024x2048 .bf16) (W : Vec Ideal S2048x2048 .bf16) (p : Fin 1024) (q : Fin 2048) :
    k0_pay1 (F := Ideal) A W (ix2 p q) = ∑ e : Fin 2048, (A (ix2 p e) : EReal) * W (ix2 e q) := by
  pointwise [k0_pay1]

section
variable (t : Fin grid0.N) (i : Fin 16) (j : Fin 4) (hi : (grid0.coords t 0).val = i.val) (hj : (grid0.coords t 1).val = j.val)
  (r : Fin 16384) (k : Fin 8192)
include hi hj

/-- The blocks of point `t`, read at an element. -/
theorem block_h (p : Fin 1024) (e : Fin 2048) (hr : r.val = i.val * 1024 + p.val) :
    View.ld (iblk m c 0 t) r0_0 (ix2 p e) = aH m c (ix2 r e) := by
  pointwise [r0_0]
  rw [show aH m c = V m c main_arg0 from (V_main_arg0 m c).symm]
  blk_ext [iblk, idx t, hi, hj, hr]

theorem block_w (e : Fin 2048) (q : Fin 2048) (hk : k.val = j.val * 2048 + q.val) :
    View.ld (iblk m c 1 t) r0_1 (ix2 e q) = aW m c (ix2 e (col k)) := by
  pointwise [r0_1]
  rw [← weights]
  blk_ext [iblk, idx t, hi, hj, hk]
end

/-- The kernel's array. -/
theorem array_eq : (dats m 0 c).arrAt 2 cfg0.N = fun j => proj (aH m c) (aW m c) (j 0) (j 1) := by
  refine (dats m 0 c).arrAt_eq_of_covers 2 _ (by decide +kernel) fun t hf y => ?_
  blk_simp
  rw [after0_2]
  unfold out0_2
  obtain ⟨i, hi⟩ : ∃ i : Fin 16, (grid0.coords t 0).val = i.val := ⟨grid0.coords t 0, rfl⟩
  obtain ⟨j, hj⟩ : ∃ j : Fin 4, (grid0.coords t 1).val = j.val := ⟨grid0.coords t 1, rfl⟩
  have he0 : ((((View.whole main_v15).slice (win0_2.rect t)).emb y) 0).val = i.val * 1024 + (y 0).val := by
    blk_simp [idx t, hi, hj]
  have he1 : ((((View.whole main_v15).slice (win0_2.rect t)).emb y) 1).val = j.val * 2048 + (y 1).val := by
    blk_simp [idx t, hi, hj]
  generalize ((View.whole main_v15).slice (win0_2.rect t)).emb y = k at he0 he1 ⊢
  canon_tiles y
  rw [eq_ix2 y]
  refine (block_proj _ _ (y 0) (y 1)).trans ?_
  unfold proj
  refine Finset.sum_congr rfl fun e _ => ?_
  rw [block_h m c t i j hi hj (k 0) (y 0) e (he0.trans (by rw [h0])),
    block_w m c t i j hi hj (k 1) e (y 1) (he1.trans (by rw [h1]))]

end Cert.ProjAIdeal.Value

namespace Cert.Proof.ProjA
open Cert.ProjARefIdeal.Read

/-- The whole product at an element. -/
theorem product (h : Cert.ProjARefIdeal.S16384x2048.Idx → EReal) (w : Cert.ProjARefIdeal.S2048x11824.Idx → EReal) (r : Fin 16384) (k : Fin 11824) :
    val_main_v1 (F := Ideal) h w (ix2 r k) = ∑ e : Fin 2048, h (ix2 r e) * w (ix2 e k) := by
  pointwise [val_main_v1, val_main_v0]

/-- The product at a column that the kernel takes. -/
theorem straight (h : Cert.ProjARefIdeal.S16384x2048.Idx → EReal) (w : Cert.ProjARefIdeal.S2048x11824.Idx → EReal) (r : Fin 16384)
    (k : Fin 8192) (q : Fin 11824) (hq : q.val = if k.val < 4096 then k.val else 7728 + (k.val - 4096)) :
    val_main_v1 (F := Ideal) h w (ix2 r q) = Cert.ProjAIdeal.Value.proj h w r k := by
  have : q = Cert.ProjAIdeal.Value.col k := by
    refine Fin.ext (hq.trans ?_)
    unfold Cert.ProjAIdeal.Value.col
    split_ifs <;> rfl
  rw [this]
  exact product h w r _

/-- The reference at an element. -/
theorem reference_eq (h : Cert.ProjARefIdeal.S16384x2048.Idx → EReal) (w : Cert.ProjARefIdeal.S2048x11824.Idx → EReal) (r : Fin 16384) (k : Fin 8192) :
    val_main_v15 (F := Ideal) h w (ix2 r k) = Cert.ProjAIdeal.Value.proj h w r k := by
  pointwise [val_main_v15, val_main_v14, val_main_v2, val_main_v3, val_main_v12, val_main_v13]
  split_ifs <;> exact straight h w r k _ (by simp only; split_ifs <;> omega)

/-- The kernel runs to its end at the machine's words, from any memory, and leaves its arguments. -/
theorem frame : Cert.quiescent_ProjA := fun m ρ _ => Cert.ProjA.Gen.frame m ρ
/-- So does its idealization. -/
theorem frame_ideal : Cert.quiescent_ProjAIdeal := fun m ρ _ => Cert.ProjAIdeal.Gen.frame m ρ
/-- The reference runs to its end and leaves its arguments. -/
theorem frame_reference : Cert.quiescent_ProjARefIdeal := fun m ρ _ =>
  (θ_run Cert.ProjARefIdeal.defs _ _).mono (fun r h => ⟨fun c => (h c).2, sem_eq_zero_of_no_sems (by decide) r.2⟩)
    (Cert.ProjARefIdeal.Value.run (F := Ideal) m ρ)
/-- Nothing was rewritten. -/
theorem preserves : Cert.preserves_ProjA_ProjAIdeal := trivial

/-- The kernel's array and the reference's are the same function of the arguments. -/
theorem algebraic : Cert.algebraic_ProjAIdeal_ProjARefIdeal := by
  intro m ρ m' ρ' _ hagree
  refine ⟨fun c => fun j => Cert.ProjAIdeal.Value.proj (Cert.ProjAIdeal.Value.aH m c) (Cert.ProjAIdeal.Value.aW m c) (j 0) (j 1), ?_, ?_⟩
  · exact (θ_run Cert.ProjAIdeal.defs _ _).mono (fun _ h c => ⟨(h c).1.trans (Cert.ProjAIdeal.Value.array_eq m c), (h c).2⟩)
      (Cert.ProjAIdeal.Value.run_blocks (F := Ideal) m ρ)
  · refine (θ_run Cert.ProjARefIdeal.defs _ _).mono (fun _ h c => ⟨(h c).1.trans ?_, (h c).2⟩)
      (Cert.ProjARefIdeal.Value.run (F := Ideal) m' ρ')
    obtain ⟨h0, h1⟩ := hagree c
    rw [val_main_v15_eq, h0, h1]
    funext j
    rw [eq_ix2 j]
    exact reference_eq _ _ (j 0) (j 1)

end Cert.Proof.ProjA
-- ==== Proof.ProjBClaims.lean ====
/-
  The claims about the second half of the input projection (queries, keys, values and the heads' gates): every run ends, and over the extended reals the
  kernel's array is the reference's.
-/
module

public import proofs.«01_k».proof.Defs
public import proofs.«01_k».proof.Proof.Gen.ProjB.Frame
public import proofs.«01_k».proof.Proof.Gen.ProjBIdeal.Value
public import proofs.«01_k».proof.Proof.Gen.ProjBRefIdeal.Run
public import proofs.«01_k».proof.Proof.Gen.ProjBRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Tactic

@[expose] public section
set_option maxRecDepth 16384
noncomputable section
open Idealize.ShloMosaic Idealize.ShloMosaic.TcCoe Idealize.SL.Sem
open Idealize.ShloMosaic.Pipeline (Dat)

namespace Cert.ProjBIdeal.Value
open Cert.ProjBIdeal Cert.ProjBIdeal.Gen
variable (m : (ℓ : Loc nD τ sig) → Buf (Elt Ideal) ℓ) (c : Dev nD)

/-- The activations and the weights of device `c`. -/
abbrev aH : S16384x2048.Idx → EReal := m ((c : Thread nD τ).loc main_arg0)
abbrev aW : S2048x11824.Idx → EReal := m ((c : Thread nD τ).loc main_arg1)

/-- The weights that the call multiplies by: columns 4096 to 7680; then for each of the two groups 24 gate columns,
    eight for each branch, and zeros up to a full block of 128. -/
def wide (w : S2048x11824.Idx → EReal) (e : Fin 2048) (k : Fin 3840) : EReal :=
  if k.val < 3584 then w (ix2 e ⟨4096 + k.val % 3584, by omega⟩)
  else if k.val % 128 < 24 then
    w (ix2 e ⟨7680 + (k.val % 128 % 24 / 8 * 16 + (k.val - 3584) / 128 * 8 + k.val % 8), by omega⟩)
  else 0

theorem wide_straight (w : S2048x11824.Idx → EReal) (e : Fin 2048) (k : Fin 3840) (q : Fin 11824) (hk : k.val < 3584)
    (hq : q.val = 4096 + k.val) : w (ix2 e q) = wide w e k := by
  unfold wide
  rw [if_pos hk]
  exact congrArg (fun q => w (ix2 e q)) (Fin.ext (by simp only [hq]; omega))

theorem wide_gate (w : S2048x11824.Idx → EReal) (e : Fin 2048) (k : Fin 3840) (q : Fin 11824) (hk : ¬ k.val < 3584)
    (hl : k.val % 128 < 24) (hq : q.val = 7680 + (k.val % 128 / 8 * 16 + (k.val - 3584) / 128 * 8 + k.val % 8)) :
    w (ix2 e q) = wide w e k := by
  unfold wide
  rw [if_neg hk, if_pos hl]
  exact congrArg (fun q => w (ix2 e q)) (Fin.ext (by simp only [hq]; omega))

theorem wide_zero (w : S2048x11824.Idx → EReal) (e : Fin 2048) (k : Fin 3840) (hk : ¬ k.val < 3584)
    (hl : ¬ k.val % 128 < 24) : wide w e k = 0 := by
  unfold wide
  rw [if_neg hk, if_neg hl]

/-- What the call computes at row `r`, column `k`. -/
def proj (h : S16384x2048.Idx → EReal) (w : S2048x11824.Idx → EReal) (r : Fin 16384) (k : Fin 3840) : EReal :=
  ∑ e : Fin 2048, h (ix2 r e) * wide w e k

/-- Where each point's blocks lie. -/
theorem idx : ∀ t : Fin grid0.N,
    win0_0.index t = ![(grid0.coords t 0).val, 0]
    ∧ win0_1.index t = ![0, (grid0.coords t 1).val]
    ∧ win0_2.index t = ![(grid0.coords t 0).val, (grid0.coords t 1).val] := by
  decide +kernel

set_option maxHeartbeats 1000000 in
/-- The weights the region finds: columns of the argument, the cast changing nothing over the extended reals. -/
theorem weights (e : Fin 2048) (k : Fin 3840) : (V m c main_v14 : S2048x3840.Idx → EReal) (ix2 e k) = wide (aW m c) e k := by
  show concatenate S2048x3840 1 [⟨S2048x3584, extractStridedSlice S2048x3584 ![0, 4096] (aW m c) slices_S2048x11824_S2048x3584_0_4096⟩,
      ⟨S2048x8, extractStridedSlice S2048x8 ![0, 0] (extractStridedSlice S2048x48 ![0, 7680] (aW m c) slices_S2048x11824_S2048x48_0_7680) slices_S2048x48_S2048x8_0_0⟩,
      ⟨S2048x8, extractStridedSlice S2048x8 ![0, 16] (extractStridedSlice S2048x48 ![0, 7680] (aW m c) slices_S2048x11824_S2048x48_0_7680) slices_S2048x48_S2048x8_0_16⟩,
      ⟨S2048x8, extractStridedSlice S2048x8 ![0, 32] (extractStridedSlice S2048x48 ![0, 7680] (aW m c) slices_S2048x11824_S2048x48_0_7680) slices_S2048x48_S2048x8_0_32⟩,
      ⟨S2048x104, broadcastInDim S2048x104 ![] bcast_S_S2048x104 (constant (F := Ideal) S_ .bf16 0x0000#16)⟩,
      ⟨S2048x8, extractStridedSlice S2048x8 ![0, 8] (extractStridedSlice S2048x48 ![0, 7680] (aW m c) slices_S2048x11824_S2048x48_0_7680) slices_S2048x48_S2048x8_0_8⟩,
      ⟨S2048x8, extractStridedSlice S2048x8 ![0, 24] (extractStridedSlice S2048x48 ![0, 7680] (aW m c) slices_S2048x11824_S2048x48_0_7680) slices_S2048x48_S2048x8_0_24⟩,
      ⟨S2048x8, extractStridedSlice S2048x8 ![0, 40] (extractStridedSlice S2048x48 ![0, 7680] (aW m c) slices_S2048x11824_S2048x48_0_7680) slices_S2048x48_S2048x8_0_40⟩,
      ⟨S2048x104, broadcastInDim S2048x104 ![] bcast_S_S2048x104 (constant (F := Ideal) S_ .bf16 0x0000#16)⟩]
    concatenates_S2048x3584_S2048x8_S2048x8_S2048x8_S2048x104_S2048x8_S2048x8_S2048x8_S2048x104_S2048x3840_d1 (ix2 e k) = _
  pointwise []
  split_ifs <;> first
    | (exfalso; omega)
    | exact wide_straight _ e k _ (by omega) rfl
    | exact wide_gate _ e k _ (by omega) (by omega) (by simp only; omega)
    | exact (wide_zero _ e k (by omega) (by omega)).symm
    | exact Ideal.ofBits_zero_bf16.trans (wide_zero _ e k (by omega) (by omega)).symm

/-- One block of the result. -/
theorem block_proj (A : Vec Ideal S1024x2048 .bf16) (W : Vec Ideal S2048x1920 .bf16) (p : Fin 1024) (q : Fin 1920) :
    k0_pay1 (F := Ideal) A W (ix2 p q) = ∑ e : Fin 2048, (A (ix2 p e) : EReal) * W (ix2 e q) := by
  pointwise [k0_pay1]

section
variable (t : Fin grid0.N) (i : Fin 16) (j : Fin 2) (hi : (grid0.coords t 0).val = i.val) (hj : (grid0.coords t 1).val = j.val)
  (r : Fin 16384) (k : Fin 3840)
include hi hj

/-- The blocks of point `t`, read at an element. -/
theorem block_h (p : Fin 1024) (e : Fin 2048) (hr : r.val = i.val * 1024 + p.val) :
    View.ld (iblk m c 0 t) r0_0 (ix2 p e) = aH m c (ix2 r e) := by
  pointwise [r0_0]
  rw [show aH m c = V m c main_arg0 from (V_main_arg0 m c).symm]
  blk_ext [iblk, idx t, hi, hj, hr]

theorem block_w (e : Fin 2048) (q : Fin 1920) (hk : k.val = j.val * 1920 + q.val) :
    View.ld (iblk m c 1 t) r0_1 (ix2 e q) = wide (aW m c) e k := by
  pointwise [r0_1]
  rw [← weights]
  blk_ext [iblk, idx t, hi, hj, hk]
end

/-- The kernel's array. -/
theorem array_eq : (dats m 0 c).arrAt 2 cfg0.N = fun j => proj (aH m c) (aW m c) (j 0) (j 1) := by
  refine (dats m 0 c).arrAt_eq_of_covers 2 _ (by decide +kernel) fun t hf y => ?_
  blk_simp
  rw [after0_2]
  unfold out0_2
  obtain ⟨i, hi⟩ : ∃ i : Fin 16, (grid0.coords t 0).val = i.val := ⟨grid0.coords t 0, rfl⟩
  obtain ⟨j, hj⟩ : ∃ j : Fin 2, (grid0.coords t 1).val = j.val := ⟨grid0.coords t 1, rfl⟩
  have he0 : ((((View.whole main_v15).slice (win0_2.rect t)).emb y) 0).val = i.val * 1024 + (y 0).val := by
    blk_simp [idx t, hi, hj]
  have he1 : ((((View.whole main_v15).slice (win0_2.rect t)).emb y) 1).val = j.val * 1920 + (y 1).val := by
    blk_simp [idx t, hi, hj]
  generalize ((View.whole main_v15).slice (win0_2.rect t)).emb y = k at he0 he1 ⊢
  canon_tiles y
  rw [eq_ix2 y]
  refine (block_proj _ _ (y 0) (y 1)).trans ?_
  unfold proj
  refine Finset.sum_congr rfl fun e _ => ?_
  rw [block_h m c t i j hi hj (k 0) (y 0) e (he0.trans (by rw [h0])),
    block_w m c t i j hi hj (k 1) e (y 1) (he1.trans (by rw [h1]))]

end Cert.ProjBIdeal.Value

namespace Cert.Proof.ProjB
open Cert.ProjBRefIdeal.Read

/-- The whole product at an element. -/
theorem product (h : Cert.ProjBRefIdeal.S16384x2048.Idx → EReal) (w : Cert.ProjBRefIdeal.S2048x11824.Idx → EReal) (r : Fin 16384) (k : Fin 11824) :
    val_main_v1 (F := Ideal) h w (ix2 r k) = ∑ e : Fin 2048, h (ix2 r e) * w (ix2 e k) := by
  pointwise [val_main_v1, val_main_v0]

/-- The integer zero, read as a number. -/
theorem zero_pad : (FloatOps.sitofp (F := Ideal) FTy.f32 0#32 : EReal) = 0 := by
  show (((0#32 : BitVec 32).toInt : ℝ) : EReal) = 0
  simp

/-- The gates' columns of the reference: a full block of 128 for each group. -/
theorem gates (h : Cert.ProjBRefIdeal.S16384x2048.Idx → EReal) (w : Cert.ProjBRefIdeal.S2048x11824.Idx → EReal) (r : Fin 16384) (k : Fin 256) :
    val_main_v18 (F := Ideal) h w (ix2 r k) = Cert.ProjBIdeal.Value.proj h w r ⟨3584 + k.val, by omega⟩ := by
  pointwise [val_main_v18, val_main_v17, val_main_v16, val_main_v15, val_main_v14, val_main_v11, val_main_call0_v0, val_main_c]
  unfold Cert.ProjBIdeal.Value.proj
  split_ifs with hl
  · rw [product]
    refine Finset.sum_congr rfl fun e _ => congrArg (h (ix2 r e) * ·) ?_
    exact Cert.ProjBIdeal.Value.wide_gate w e _ _ (by simp only; omega) (by simp only; omega) (by simp only; omega)
  · refine zero_pad.trans (Finset.sum_eq_zero fun e _ => ?_).symm
    rw [Cert.ProjBIdeal.Value.wide_zero w e _ (by simp only; omega) (by simp only; omega), mul_zero]

/-- The other columns. -/
theorem straight (h : Cert.ProjBRefIdeal.S16384x2048.Idx → EReal) (w : Cert.ProjBRefIdeal.S2048x11824.Idx → EReal) (r : Fin 16384)
    (k : Fin 3840) (q : Fin 11824) (hk : k.val < 3584) (hq : q.val = 4096 + k.val) :
    val_main_v1 (F := Ideal) h w (ix2 r q) = Cert.ProjBIdeal.Value.proj h w r k := by
  rw [product]
  unfold Cert.ProjBIdeal.Value.proj
  exact Finset.sum_congr rfl fun e _ => congrArg (h (ix2 r e) * ·) (Cert.ProjBIdeal.Value.wide_straight w e k q hk hq)

section
variable (h : Cert.ProjBRefIdeal.S16384x2048.Idx → EReal) (w : Cert.ProjBRefIdeal.S2048x11824.Idx → EReal) (r : Fin 16384) (k : Fin 3840)

/-! The reference's pieces, each at its columns of the result. -/

theorem piece_4 (q : Fin 2048) (hk : k.val = 0 + q.val) :
    val_main_v4 (F := Ideal) h w (ix2 r q) = Cert.ProjBIdeal.Value.proj h w r k := by
  pointwise [val_main_v4]
  exact straight h w r k _ (by omega) (by simp only; omega)

theorem piece_5 (q : Fin 256) (hk : k.val = 2048 + q.val) :
    val_main_v5 (F := Ideal) h w (ix2 r q) = Cert.ProjBIdeal.Value.proj h w r k := by
  pointwise [val_main_v5]
  exact straight h w r k _ (by omega) (by simp only; omega)

theorem piece_6 (q : Fin 256) (hk : k.val = 2304 + q.val) :
    val_main_v6 (F := Ideal) h w (ix2 r q) = Cert.ProjBIdeal.Value.proj h w r k := by
  pointwise [val_main_v6]
  exact straight h w r k _ (by omega) (by simp only; omega)

theorem piece_7 (q : Fin 256) (hk : k.val = 2560 + q.val) :
    val_main_v7 (F := Ideal) h w (ix2 r q) = Cert.ProjBIdeal.Value.proj h w r k := by
  pointwise [val_main_v7]
  exact straight h w r k _ (by omega) (by simp only; omega)

theorem piece_8 (q : Fin 256) (hk : k.val = 2816 + q.val) :
    val_main_v8 (F := Ideal) h w (ix2 r q) = Cert.ProjBIdeal.Value.proj h w r k := by
  pointwise [val_main_v8]
  exact straight h w r k _ (by omega) (by simp only; omega)

theorem piece_9 (q : Fin 256) (hk : k.val = 3072 + q.val) :
    val_main_v9 (F := Ideal) h w (ix2 r q) = Cert.ProjBIdeal.Value.proj h w r k := by
  pointwise [val_main_v9]
  exact straight h w r k _ (by omega) (by simp only; omega)

theorem piece_10 (q : Fin 256) (hk : k.val = 3328 + q.val) :
    val_main_v10 (F := Ideal) h w (ix2 r q) = Cert.ProjBIdeal.Value.proj h w r k := by
  pointwise [val_main_v10]
  exact straight h w r k _ (by omega) (by simp only; omega)

theorem piece_18 (q : Fin 256) (hk : k.val = 3584 + q.val) :
    val_main_v18 (F := Ideal) h w (ix2 r q) = Cert.ProjBIdeal.Value.proj h w r k := by
  rw [gates]
  exact congrArg (Cert.ProjBIdeal.Value.proj h w r) (Fin.ext hk.symm)

/-- The reference at an element. -/
theorem reference_eq : val_main_v19 (F := Ideal) h w (ix2 r k) = Cert.ProjBIdeal.Value.proj h w r k := by
  unfold val_main_v19
  pointwise []
  split_ifs
  · exact piece_4 h w r k _ (by simp only; omega)
  · exact piece_4 h w r k _ (by simp only; omega)
  · exact piece_5 h w r k _ (by simp only; omega)
  · exact piece_5 h w r k _ (by simp only; omega)
  · exact piece_6 h w r k _ (by simp only; omega)
  · exact piece_6 h w r k _ (by simp only; omega)
  · exact piece_7 h w r k _ (by simp only; omega)
  · exact piece_7 h w r k _ (by simp only; omega)
  · exact piece_8 h w r k _ (by simp only; omega)
  · exact piece_8 h w r k _ (by simp only; omega)
  · exact piece_9 h w r k _ (by simp only; omega)
  · exact piece_9 h w r k _ (by simp only; omega)
  · exact piece_10 h w r k _ (by simp only; omega)
  · exact piece_10 h w r k _ (by simp only; omega)
  · exact piece_18 h w r k _ (by simp only; omega)
  · exact piece_18 h w r k _ (by simp only; omega)
end

/-- The kernel runs to its end at the machine's words, from any memory, and leaves its arguments. -/
theorem frame : Cert.quiescent_ProjB := fun m ρ _ => Cert.ProjB.Gen.frame m ρ
/-- So does its idealization. -/
theorem frame_ideal : Cert.quiescent_ProjBIdeal := fun m ρ _ => Cert.ProjBIdeal.Gen.frame m ρ
/-- The reference runs to its end and leaves its arguments. -/
theorem frame_reference : Cert.quiescent_ProjBRefIdeal := fun m ρ _ =>
  (θ_run Cert.ProjBRefIdeal.defs _ _).mono (fun r h => ⟨fun c => (h c).2, sem_eq_zero_of_no_sems (by decide) r.2⟩)
    (Cert.ProjBRefIdeal.Value.run (F := Ideal) m ρ)
/-- Nothing was rewritten. -/
theorem preserves : Cert.preserves_ProjB_ProjBIdeal := trivial

/-- The kernel's array and the reference's are the same function of the arguments. -/
theorem algebraic : Cert.algebraic_ProjBIdeal_ProjBRefIdeal := by
  intro m ρ m' ρ' _ hagree
  refine ⟨fun c => fun j => Cert.ProjBIdeal.Value.proj (Cert.ProjBIdeal.Value.aH m c) (Cert.ProjBIdeal.Value.aW m c) (j 0) (j 1), ?_, ?_⟩
  · exact (θ_run Cert.ProjBIdeal.defs _ _).mono (fun _ h c => ⟨(h c).1.trans (Cert.ProjBIdeal.Value.array_eq m c), (h c).2⟩)
      (Cert.ProjBIdeal.Value.run_blocks (F := Ideal) m ρ)
  · refine (θ_run Cert.ProjBRefIdeal.defs _ _).mono (fun _ h c => ⟨(h c).1.trans ?_, (h c).2⟩)
      (Cert.ProjBRefIdeal.Value.run (F := Ideal) m' ρ')
    obtain ⟨h0, h1⟩ := hagree c
    rw [val_main_v19_eq, h0, h1]
    funext j
    rw [eq_ix2 j]
    exact reference_eq _ _ (j 0) (j 1)

end Cert.Proof.ProjB
-- ==== Proof.MergeClaims.lean ====
/-
  The claims about the gated merge: every run ends, and over the extended reals the kernel's array is the reference's.
-/
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Tactic

@[expose] public section
set_option maxRecDepth 16384
noncomputable section
open Idealize.ShloMosaic Idealize.ShloMosaic.TcCoe Idealize.SL.Sem
open Idealize.ShloMosaic.Pipeline (Dat)

namespace Cert.MergeIdeal.Value
open Cert.MergeIdeal Cert.MergeIdeal.Gen
variable (m : (ℓ : Loc nD τ sig) → Buf (Elt Ideal) ℓ) (c : Dev nD)

/-- The two branches, the array that carries their gates and the two weights of device `c`. -/
abbrev aA : S16384x2048.Idx → EReal := m ((c : Thread nD τ).loc main_arg0)
abbrev aB : S16384x2048.Idx → EReal := m ((c : Thread nD τ).loc main_arg1)
abbrev aG : S16384x8192.Idx → EReal := m ((c : Thread nD τ).loc main_arg2)
abbrev aWA : S2048x2048.Idx → EReal := m ((c : Thread nD τ).loc main_arg3)
abbrev aWB : S2048x2048.Idx → EReal := m ((c : Thread nD τ).loc main_arg4)

/-- The gates' columns: those of the first branch start at 4096, those of the second at 6144. -/
abbrev gateA (k : Fin 2048) : Fin 8192 := ⟨4096 + k.val, by omega⟩
abbrev gateB (k : Fin 2048) : Fin 8192 := ⟨4096 + (2048 + k.val), by omega⟩

/-- What the call computes at row `r`, column `k`. -/
def merged (a b : S16384x2048.Idx → EReal) (g : S16384x8192.Idx → EReal) (wa wb : S2048x2048.Idx → EReal) (r : Fin 16384) (k : Fin 2048) : EReal :=
  Ideal.logistic (g (ix2 r (gateA k))) * (∑ e : Fin 2048, a (ix2 r e) * wa (ix2 e k))
    + Ideal.logistic (g (ix2 r (gateB k))) * (∑ e : Fin 2048, b (ix2 r e) * wb (ix2 e k))

/-- Where each point's blocks lie. -/
theorem idx : ∀ t : Fin grid0.N,
    win0_0.index t = ![(grid0.coords t 0).val, 0]
    ∧ win0_1.index t = ![(grid0.coords t 0).val, 0]
    ∧ win0_2.index t = ![(grid0.coords t 0).val, 4 + (grid0.coords t 1).val]
    ∧ win0_3.index t = ![(grid0.coords t 0).val, 6 + (grid0.coords t 1).val]
    ∧ win0_4.index t = ![0, (grid0.coords t 1).val]
    ∧ win0_5.index t = ![0, (grid0.coords t 1).val]
    ∧ win0_6.index t = ![(grid0.coords t 0).val, (grid0.coords t 1).val] := by
  decide +kernel

/-- The weights the region finds: the casts change nothing over the extended reals. -/
theorem weights_a (i : S2048x2048.Idx) : (V m c main_v0 : S2048x2048.Idx → EReal) i = aWA m c i := rfl
theorem weights_b (i : S2048x2048.Idx) : (V m c main_v1 : S2048x2048.Idx → EReal) i = aWB m c i := rfl

/-- One block of the result. -/
theorem block_merged (A B : Vec Ideal S1024x2048 .bf16) (WA WB : Vec Ideal S2048x1024 .bf16) (GA GB : Vec Ideal S1024x1024 .bf16)
    (p : Fin 1024) (q : Fin 1024) :
    k0_pay1 (F := Ideal) A WA B WB GA GB (ix2 p q)
      = Ideal.logistic (GA (ix2 p q)) * (∑ e : Fin 2048, (A (ix2 p e) : EReal) * WA (ix2 e q))
        + Ideal.logistic (GB (ix2 p q)) * (∑ e : Fin 2048, (B (ix2 p e) : EReal) * WB (ix2 e q)) := by
  pointwise [k0_pay1]

section
variable (t : Fin grid0.N) (i : Fin 16) (j : Fin 2) (hi : (grid0.coords t 0).val = i.val) (hj : (grid0.coords t 1).val = j.val)
  (r : Fin 16384) (k : Fin 2048)
include hi hj

/-- The blocks of point `t`, read at an element. -/
theorem block_a (p : Fin 1024) (e : Fin 2048) (hr : r.val = i.val * 1024 + p.val) :
    View.ld (iblk m c 0 t) r0_0 (ix2 p e) = aA m c (ix2 r e) := by
  pointwise [r0_0]
  blk_ext [iblk, V, idx t, hi, hj, hr]

theorem block_b (p : Fin 1024) (e : Fin 2048) (hr : r.val = i.val * 1024 + p.val) :
    View.ld (iblk m c 1 t) r0_0 (ix2 p e) = aB m c (ix2 r e) := by
  pointwise [r0_0]
  blk_ext [iblk, V, idx t, hi, hj, hr]

theorem block_ga (p q : Fin 1024) (hr : r.val = i.val * 1024 + p.val) (hk : k.val = j.val * 1024 + q.val) :
    View.ld (iblk m c 2 t) r0_2 (ix2 p q) = aG m c (ix2 r (gateA k)) := by
  pointwise [r0_2]
  blk_ext [iblk, V, idx t, hi, hj, hr, hk]

theorem block_gb (p q : Fin 1024) (hr : r.val = i.val * 1024 + p.val) (hk : k.val = j.val * 1024 + q.val) :
    View.ld (iblk m c 3 t) r0_2 (ix2 p q) = aG m c (ix2 r (gateB k)) := by
  pointwise [r0_2]
  blk_ext [iblk, V, idx t, hi, hj, hr, hk]

theorem block_wa (e : Fin 2048) (q : Fin 1024) (hk : k.val = j.val * 1024 + q.val) :
    View.ld (iblk m c 4 t) r0_1 (ix2 e q) = aWA m c (ix2 e k) := by
  pointwise [r0_1]
  rw [← weights_a]
  blk_ext [iblk, idx t, hi, hj, hk]

theorem block_wb (e : Fin 2048) (q : Fin 1024) (hk : k.val = j.val * 1024 + q.val) :
    View.ld (iblk m c 5 t) r0_1 (ix2 e q) = aWB m c (ix2 e k) := by
  pointwise [r0_1]
  rw [← weights_b]
  blk_ext [iblk, idx t, hi, hj, hk]
end

/-- The kernel's array. -/
theorem array_eq : (dats m 0 c).arrAt 6 cfg0.N = fun j => merged (aA m c) (aB m c) (aG m c) (aWA m c) (aWB m c) (j 0) (j 1) := by
  refine (dats m 0 c).arrAt_eq_of_covers 6 _ (by decide +kernel) fun t hf y => ?_
  blk_simp
  rw [after0_6]
  unfold out0_6
  obtain ⟨i, hi⟩ : ∃ i : Fin 16, (grid0.coords t 0).val = i.val := ⟨grid0.coords t 0, rfl⟩
  obtain ⟨j, hj⟩ : ∃ j : Fin 2, (grid0.coords t 1).val = j.val := ⟨grid0.coords t 1, rfl⟩
  have he0 : ((((View.whole main_v2).slice (win0_6.rect t)).emb y) 0).val = i.val * 1024 + (y 0).val := by
    blk_simp [idx t, hi, hj]
  have he1 : ((((View.whole main_v2).slice (win0_6.rect t)).emb y) 1).val = j.val * 1024 + (y 1).val := by
    blk_simp [idx t, hi, hj]
  generalize ((View.whole main_v2).slice (win0_6.rect t)).emb y = k at he0 he1 ⊢
  canon_tiles y
  rw [eq_ix2 y]
  refine (block_merged _ _ _ _ _ _ (y 0) (y 1)).trans ?_
  have e0 : (k 0).val = i.val * 1024 + (y 0).val := he0.trans (by rw [h0])
  have e1 : (k 1).val = j.val * 1024 + (y 1).val := he1.trans (by rw [h1])
  unfold merged
  rw [block_ga m c t i j hi hj (k 0) (k 1) (y 0) (y 1) e0 e1, block_gb m c t i j hi hj (k 0) (k 1) (y 0) (y 1) e0 e1]
  refine congrArg₂ _ (congrArg _ (Finset.sum_congr rfl fun e _ => ?_)) (congrArg _ (Finset.sum_congr rfl fun e _ => ?_))
  · rw [block_a m c t i j hi hj (k 0) (y 0) e e0, block_wa m c t i j hi hj (k 1) e (y 1) e1]
  · rw [block_b m c t i j hi hj (k 0) (y 0) e e0, block_wb m c t i j hi hj (k 1) e (y 1) e1]

end Cert.MergeIdeal.Value

namespace Cert.Proof.Merge

/-- The gates of the two branches. -/
theorem gate_a (g : Cert.MergeRefIdeal.S16384x8192.Idx → EReal) (r : Fin 16384) (k : Fin 2048) :
    Cert.MergeRefIdeal.Read.val_main_v9 (F := Ideal) g (ix2 r k) = Ideal.logistic (g (ix2 r (Cert.MergeIdeal.Value.gateA k))) := by
  pointwise [Cert.MergeRefIdeal.Read.val_main_v9, Cert.MergeRefIdeal.Read.val_main_v8, Cert.MergeRefIdeal.Read.val_main_v7, Cert.MergeRefIdeal.Read.val_main_v6,
    Cert.MergeRefIdeal.Read.val_main_v5, Cert.MergeRefIdeal.Read.val_main_v4, Cert.MergeRefIdeal.Read.val_main_v2, Cert.MergeRefIdeal.Read.val_main_v1,
    Cert.MergeRefIdeal.Read.val_main_v0, Cert.MergeRefIdeal.Read.val_main_cst, Cert.MergeRefIdeal.Read.val_main_cst_0]
  rfl
theorem gate_b (g : Cert.MergeRefIdeal.S16384x8192.Idx → EReal) (r : Fin 16384) (k : Fin 2048) :
    Cert.MergeRefIdeal.Read.val_main_v18 (F := Ideal) g (ix2 r k) = Ideal.logistic (g (ix2 r (Cert.MergeIdeal.Value.gateB k))) := by
  pointwise [Cert.MergeRefIdeal.Read.val_main_v18, Cert.MergeRefIdeal.Read.val_main_v17, Cert.MergeRefIdeal.Read.val_main_v16, Cert.MergeRefIdeal.Read.val_main_v15,
    Cert.MergeRefIdeal.Read.val_main_v14, Cert.MergeRefIdeal.Read.val_main_v13, Cert.MergeRefIdeal.Read.val_main_v3, Cert.MergeRefIdeal.Read.val_main_v1,
    Cert.MergeRefIdeal.Read.val_main_v0, Cert.MergeRefIdeal.Read.val_main_cst_1, Cert.MergeRefIdeal.Read.val_main_cst_2]
  rfl

/-- The reference at an element. -/
theorem reference_eq (a b : Cert.MergeRefIdeal.S16384x2048.Idx → EReal) (g : Cert.MergeRefIdeal.S16384x8192.Idx → EReal)
    (wa wb : Cert.MergeRefIdeal.S2048x2048.Idx → EReal) (r : Fin 16384) (k : Fin 2048) :
    Cert.MergeRefIdeal.Read.val_main_v23 (F := Ideal) a b g wa wb (ix2 r k) = Cert.MergeIdeal.Value.merged a b g wa wb r k := by
  pointwise [Cert.MergeRefIdeal.Read.val_main_v23, Cert.MergeRefIdeal.Read.val_main_v22, Cert.MergeRefIdeal.Read.val_main_v21, Cert.MergeRefIdeal.Read.val_main_v20,
    Cert.MergeRefIdeal.Read.val_main_v19, Cert.MergeRefIdeal.Read.val_main_v12, Cert.MergeRefIdeal.Read.val_main_v11, Cert.MergeRefIdeal.Read.val_main_v10]
  rw [gate_a, gate_b]
  rfl

/-- The kernel runs to its end at the machine's words, from any memory, and leaves its arguments. -/
theorem frame : Cert.quiescent_Merge := fun m ρ _ => Cert.Merge.Gen.frame m ρ
/-- So does its idealization. -/
theorem frame_ideal : Cert.quiescent_MergeIdeal := fun m ρ _ => Cert.MergeIdeal.Gen.frame m ρ
/-- The reference runs to its end and leaves its arguments. -/
theorem frame_reference : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)
/-- Nothing was rewritten. -/
theorem preserves : Cert.preserves_Merge_MergeIdeal := trivial

/-- The kernel's array and the reference's are the same function of the arguments. -/
theorem algebraic : Cert.algebraic_MergeIdeal_MergeRefIdeal := by
  intro m ρ m' ρ' _ hagree
  refine ⟨fun c => fun j => Cert.MergeIdeal.Value.merged (Cert.MergeIdeal.Value.aA m c) (Cert.MergeIdeal.Value.aB m c) (Cert.MergeIdeal.Value.aG m c) (Cert.MergeIdeal.Value.aWA m c) (Cert.MergeIdeal.Value.aWB m c) (j 0) (j 1), ?_, ?_⟩
  · exact (θ_run Cert.MergeIdeal.defs _ _).mono (fun _ h c => ⟨(h c).1.trans (Cert.MergeIdeal.Value.array_eq m c), (h c).2⟩)
      (Cert.MergeIdeal.Value.run_blocks (F := Ideal) m ρ)
  · refine (θ_run Cert.MergeRefIdeal.defs _ _).mono (fun _ h c => ⟨(h c).1.trans ?_, (h c).2⟩)
      (Cert.MergeRefIdeal.Value.run (F := Ideal) m' ρ')
    obtain ⟨h0, h1, h2, h3, h4⟩ := hagree c
    rw [Cert.MergeRefIdeal.Read.val_main_v23_eq, h0, h1, h2, h3, h4]
    funext j
    rw [eq_ix2 j]
    exact reference_eq _ _ _ _ _ (j 0) (j 1)

end Cert.Proof.Merge
-- ==== Proof.OutClaims.lean ====
/-
  The claims about the output projection and its residual: every run ends, and over the extended reals the kernel's
  array is the reference's.
-/
module

public import proofs.«01_k».proof.Defs
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Pipeline.ReadBack
public import Idealize.ShloMosaic.Lib.Pointwise
public import Idealize.ShloMosaic.Lib.Quiescent
public import Idealize.ShloMosaic.Lib.Tactic

@[expose] public section
set_option maxRecDepth 16384
noncomputable section
open Idealize.ShloMosaic Idealize.ShloMosaic.TcCoe Idealize.SL.Sem
open Idealize.ShloMosaic.Pipeline (Dat)

namespace Cert.OutIdeal.Value
open Cert.OutIdeal Cert.OutIdeal.Gen
variable (m : (ℓ : Loc nD τ sig) → Buf (Elt Ideal) ℓ) (c : Dev nD)

/-- The residual, the merged activations and the weights of device `c`. -/
abbrev aX : S16384x2048.Idx → EReal := m ((c : Thread nD τ).loc main_arg0)
abbrev aM : S16384x2048.Idx → EReal := m ((c : Thread nD τ).loc main_arg1)
abbrev aW : S2048x2048.Idx → EReal := m ((c : Thread nD τ).loc main_arg2)

/-- What the call computes at row `r`, column `k`. -/
def out (x a : S16384x2048.Idx → EReal) (w : S2048x2048.Idx → EReal) (r : Fin 16384) (k : Fin 2048) : EReal :=
  x (ix2 r k) + ∑ e : Fin 2048, a (ix2 r e) * w (ix2 e k)

/-- Where each point's blocks lie. -/
theorem idx : ∀ t : Fin grid0.N,
    win0_0.index t = ![(grid0.coords t 0).val, (grid0.coords t 1).val]
    ∧ win0_1.index t = ![(grid0.coords t 0).val, 0]
    ∧ win0_2.index t = ![0, (grid0.coords t 1).val]
    ∧ win0_3.index t = ![(grid0.coords t 0).val, (grid0.coords t 1).val] := by
  decide +kernel

/-- The weights the region finds: the cast changes nothing over the extended reals. -/
theorem weights (i : S2048x2048.Idx) : (V m c main_v0 : S2048x2048.Idx → EReal) i = aW m c i := rfl

/-- One block of the result. -/
theorem block_out (X : Vec Ideal S1024x1024 .f32) (A : Vec Ideal S1024x2048 .bf16) (W : Vec Ideal S2048x1024 .bf16)
    (p : Fin 1024) (q : Fin 1024) :
    k0_pay1 (F := Ideal) X A W (ix2 p q) = (X (ix2 p q) : EReal) + ∑ e : Fin 2048, (A (ix2 p e) : EReal) * W (ix2 e q) := by
  pointwise [k0_pay1]

section
variable (t : Fin grid0.N) (i : Fin 16) (j : Fin 2) (hi : (grid0.coords t 0).val = i.val) (hj : (grid0.coords t 1).val = j.val)
  (r : Fin 16384) (k : Fin 2048)
include hi hj

/-- The blocks of point `t`, read at an element. -/
theorem block_x (p q : Fin 1024) (hr : r.val = i.val * 1024 + p.val) (hk : k.val = j.val * 1024 + q.val) :
    View.ld (iblk m c 0 t) r0_0 (ix2 p q) = aX m c (ix2 r k) := by
  pointwise [r0_0]
  blk_ext [iblk, V, idx t, hi, hj, hr, hk]

theorem block_m (p : Fin 1024) (e : Fin 2048) (hr : r.val = i.val * 1024 + p.val) :
    View.ld (iblk m c 1 t) r0_1 (ix2 p e) = aM m c (ix2 r e) := by
  pointwise [r0_1]
  blk_ext [iblk, V, idx t, hi, hj, hr]

theorem block_w (e : Fin 2048) (q : Fin 1024) (hk : k.val = j.val * 1024 + q.val) :
    View.ld (iblk m c 2 t) r0_2 (ix2 e q) = aW m c (ix2 e k) := by
  pointwise [r0_2]
  rw [← weights]
  blk_ext [iblk, idx t, hi, hj, hk]
end

/-- The kernel's array. -/
theorem array_eq : (dats m 0 c).arrAt 3 cfg0.N = fun j => out (aX m c) (aM m c) (aW m c) (j 0) (j 1) := by
  refine (dats m 0 c).arrAt_eq_of_covers 3 _ (by decide +kernel) fun t hf y => ?_
  blk_simp
  rw [after0_3]
  unfold out0_3
  obtain ⟨i, hi⟩ : ∃ i : Fin 16, (grid0.coords t 0).val = i.val := ⟨grid0.coords t 0, rfl⟩
  obtain ⟨j, hj⟩ : ∃ j : Fin 2, (grid0.coords t 1).val = j.val := ⟨grid0.coords t 1, rfl⟩
  have he0 : ((((View.whole main_v1).slice (win0_3.rect t)).emb y) 0).val = i.val * 1024 + (y 0).val := by
    blk_simp [idx t, hi, hj]
  have he1 : ((((View.whole main_v1).slice (win0_3.rect t)).emb y) 1).val = j.val * 1024 + (y 1).val := by
    blk_simp [idx t, hi, hj]
  generalize ((View.whole main_v1).slice (win0_3.rect t)).emb y = k at he0 he1 ⊢
  canon_tiles y
  rw [eq_ix2 y]
  refine (block_out _ _ _ (y 0) (y 1)).trans ?_
  unfold out
  rw [block_x m c t i j hi hj (k 0) (k 1) (y 0) (y 1) (he0.trans (by rw [h0])) (he1.trans (by rw [h1]))]
  refine congrArg _ (Finset.sum_congr rfl fun e _ => ?_)
  rw [block_m m c t i j hi hj (k 0) (y 0) e (he0.trans (by rw [h0])),
    block_w m c t i j hi hj (k 1) e (y 1) (he1.trans (by rw [h1]))]

end Cert.OutIdeal.Value

namespace Cert.Proof.Out

/-- The reference at an element. -/
theorem reference_eq (x a : Cert.OutRefIdeal.S16384x2048.Idx → EReal) (w : Cert.OutRefIdeal.S2048x2048.Idx → EReal) (r : Fin 16384) (k : Fin 2048) :
    Cert.OutRefIdeal.Read.val_main_v2 (F := Ideal) x a w (ix2 r k) = Cert.OutIdeal.Value.out x a w r k := by
  pointwise [Cert.OutRefIdeal.Read.val_main_v2, Cert.OutRefIdeal.Read.val_main_v1, Cert.OutRefIdeal.Read.val_main_v0]
  rfl

/-- The kernel runs to its end at the machine's words, from any memory, and leaves its arguments. -/
theorem frame : Cert.quiescent_Out := fun m ρ _ => Cert.Out.Gen.frame m ρ
/-- So does its idealization. -/
theorem frame_ideal : Cert.quiescent_OutIdeal := fun m ρ _ => Cert.OutIdeal.Gen.frame m ρ
/-- The reference runs to its end and leaves its arguments. -/
theorem frame_reference : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)
/-- Nothing was rewritten. -/
theorem preserves : Cert.preserves_Out_OutIdeal := trivial

/-- The kernel's array and the reference's are the same function of the arguments. -/
theorem algebraic : Cert.algebraic_OutIdeal_OutRefIdeal := by
  intro m ρ m' ρ' _ hagree
  refine ⟨fun c => fun j => Cert.OutIdeal.Value.out (Cert.OutIdeal.Value.aX m c) (Cert.OutIdeal.Value.aM m c) (Cert.OutIdeal.Value.aW m c) (j 0) (j 1), ?_, ?_⟩
  · exact (θ_run Cert.OutIdeal.defs _ _).mono (fun _ h c => ⟨(h c).1.trans (Cert.OutIdeal.Value.array_eq m c), (h c).2⟩)
      (Cert.OutIdeal.Value.run_blocks (F := Ideal) m ρ)
  · refine (θ_run Cert.OutRefIdeal.defs _ _).mono (fun _ h c => ⟨(h c).1.trans ?_, (h c).2⟩)
      (Cert.OutRefIdeal.Value.run (F := Ideal) m' ρ')
    obtain ⟨h0, h1, h2⟩ := hagree c
    rw [Cert.OutRefIdeal.Read.val_main_v2_eq, h0, h1, h2]
    funext j
    rw [eq_ix2 j]
    exact reference_eq _ _ _ (j 0) (j 1)

end Cert.Proof.Out
-- ==== Proof.FfnIdealRun.lean ====
module

public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

/-! # One grid point of the feed-forward call (FfnIdeal): the three cases of the body

The body has three cases, by the position `j` of the point in its row of 22: at `j = 0` it normalises the row tile, keeps it
in the scratch buffer and starts the accumulation with the last (overhanging) block of the weights; for `0 < j < 21` it adds the
contribution of one block; at `j = 21` it adds the last contribution, halves, and adds the row tile itself. -/

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer read after one store that covers all of it holds the stored value. -/
theorem read_store_all {κ : Kind} {sp : Space} {s : Shape} {e : EltTy} (v : View sig κ sp s e)
    (f : v.ty.Contents (Elt F)) {off : Fin s.rank → ℕ} (h : off = fun _ => 0) (inb : ∀ a, off a + s.size a ≤ s.size a)
    (w : s.Idx → Elt F e) :
    v.read (Elt F) (v.writes (Elt F) f [(⟨Rect.unit off s.size inb, w⟩ : View.Piece (Elt F) s e)]) = w := by
  subst h
  funext y
  have e := View.read_writes_cons_emb (Val := Elt F) v f (Rect.whole s) w [] y
  rw [Rect.emb_whole_apply] at e
  exact e

/-- The first 128 columns of a 256-column weight block. -/
abbrev left128 (w : Vec F S2048x256 .f32) : Vec F S2048x128 .f32 :=
  View.ld w (Rect.unit ![0, 0] S2048x128.size inb_S2048x256_S2048x128_0_0)

/-- The first 128 rows of a 256-row weight block. -/
abbrev top128 (w : Vec F S256x2048 .f32) : Vec F S128x2048 .f32 :=
  View.ld w (Rect.unit ![0, 0] S128x2048.size inb_S256x2048_S128x2048_0_0)

theorem zz : (![0, 0] : Fin 2 → ℕ) = fun _ => 0 := by
  funext a; fin_cases a <;> rfl

/-- A load of a whole buffer, at each of the shapes of this call, is the buffer's contents. -/
theorem ld_tile {e : EltTy} (x : S1024x2048.Idx → Elt F e) (inb) :
    View.ld x (Rect.unit (s := S1024x2048) ![0, 0] ![1024, 2048] inb) = x := View.ld_unit_zero zz _ _
theorem ld_gain {e : EltTy} (x : S1x2048.Idx → Elt F e) (inb) :
    View.ld x (Rect.unit (s := S1x2048) ![0, 0] ![1, 2048] inb) = x := View.ld_unit_zero zz _ _
theorem ld_cols {e : EltTy} (x : S2048x256.Idx → Elt F e) (inb) :
    View.ld x (Rect.unit (s := S2048x256) ![0, 0] ![2048, 256] inb) = x := View.ld_unit_zero zz _ _
theorem ld_rows {e : EltTy} (x : S256x2048.Idx → Elt F e) (inb) :
    View.ld x (Rect.unit (s := S256x2048) ![0, 0] ![256, 2048] inb) = x := View.ld_unit_zero zz _ _

set_option maxHeartbeats 1000000 in
/-- At the first point of a row: the normalised tile goes to the scratch buffer and the output tile is the product over the first 128 columns of the block. -/
theorem run_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x256 .f32) (harg4 : arg4.IsWhole) (arg5 : Memref sig .tc .vmem S2048x256 .f32) (harg5 : arg5.IsWhole)
    (arg6 : Memref sig .tc .vmem S256x2048 .f32) (harg6 : arg6.IsWhole) (arg7 : Memref sig .tc .vmem S1024x2048 .f32) (harg7 : arg7.IsWhole) (arg8 : Memref sig .tc .vmem S1024x2048 .bf16) (harg8 : arg8.IsWhole)
    (hc0 : k0_cond1 i = 1#1) (hc1 : ¬k0_cond2 i = 1#1) (hc2 : ¬k0_cond3 i = 1#1)
    (x0 : Vec F S1024x2048 .f32) (x1 : Vec F S1x2048 .f32) (x2 x3 : Vec F S2048x256 .f32) (x4 : Vec F S256x2048 .f32)
    (xo : Vec F S1024x2048 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 (k0_pay1 x0 x1) (left128 x2) (left128 x3) (top128 x4)) ∗ owns (c : Thread nD τ) arg8 fullShare (k0_pay1 x0 x1)) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | sl_exact hc0 | sl_exact hc1 | sl_exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]
  · iexists _; isplitr
    swap; · iexact H5
    ipureintro
    refine (read_store_all _ _ zz _ _).trans ?_
    have e : run_A.sl.v29 c arg2 harg2 arg3 harg3 arg8 x0 x1 = k0_pay1 x0 x1 := by
      unfold run_A.sl.v29
      first
        | refine (View.readCov_unit_zero _ zz _ _).trans ?_
        | (unfold run_A.sl.HS0_1; refine (View.readCov_unit_zero _ zz _ _).trans ?_)
      simp only [View.readAt_eq_ld, Memref.IsWhole.read_unread, ld_tile, ld_gain, ld_cols, ld_rows]
    rw [e]
    simp only [View.readAt_eq_ld, Memref.IsWhole.read_unread]
    try rfl
  iexists _; isplitr
  swap; · iexact HS
  ipureintro
  unfold run_A.sl.HS_1
  refine (read_store_all _ _ zz _ _).trans ?_
  simp only [View.readAt_eq_ld, Memref.IsWhole.read_unread, ld_tile, ld_gain, ld_cols, ld_rows]

set_option maxHeartbeats 1000000 in
/-- At an inner point of a row: one block is added to the output tile. -/
theorem run_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x256 .f32) (harg4 : arg4.IsWhole) (arg5 : Memref sig .tc .vmem S2048x256 .f32) (harg5 : arg5.IsWhole)
    (arg6 : Memref sig .tc .vmem S256x2048 .f32) (harg6 : arg6.IsWhole) (arg7 : Memref sig .tc .vmem S1024x2048 .f32) (harg7 : arg7.IsWhole) (arg8 : Memref sig .tc .vmem S1024x2048 .bf16) (harg8 : arg8.IsWhole)
    (hc0 : ¬k0_cond1 i = 1#1) (hc1 : k0_cond2 i = 1#1) (hc2 : ¬k0_cond3 i = 1#1)
    (x0 : Vec F S1024x2048 .f32) (x1 : Vec F S1x2048 .f32) (x2 x3 : Vec F S2048x256 .f32) (x4 : Vec F S256x2048 .f32)
    (xo : Vec F S1024x2048 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 xo xs x2 x3 x4) ∗ owns (c : Thread nD τ) arg8 fullShare xs) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | sl_exact hc0 | sl_exact hc1 | sl_exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]
  · iexists _; isplitr
    swap; · iexact H5
    ipureintro
    refine (read_store_all _ _ zz _ _).trans ?_
    simp only [View.readAt_eq_ld, Memref.IsWhole.read_unread, ld_tile, ld_gain, ld_cols, ld_rows]
  iexists _; isplitr; · ipureintro; exact harg8.read_unread _
  iexact HS

set_option maxHeartbeats 1000000 in
/-- At the last point of a row: the last block is added, the sum is halved and the row tile is added. -/
theorem run_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x256 .f32) (harg4 : arg4.IsWhole) (arg5 : Memref sig .tc .vmem S2048x256 .f32) (harg5 : arg5.IsWhole)
    (arg6 : Memref sig .tc .vmem S256x2048 .f32) (harg6 : arg6.IsWhole) (arg7 : Memref sig .tc .vmem S1024x2048 .f32) (harg7 : arg7.IsWhole) (arg8 : Memref sig .tc .vmem S1024x2048 .bf16) (harg8 : arg8.IsWhole)
    (hc0 : ¬k0_cond1 i = 1#1) (hc1 : ¬k0_cond2 i = 1#1) (hc2 : k0_cond3 i = 1#1)
    (x0 : Vec F S1024x2048 .f32) (x1 : Vec F S1x2048 .f32) (x2 x3 : Vec F S2048x256 .f32) (x4 : Vec F S256x2048 .f32)
    (xo : Vec F S1024x2048 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 x0 xo xs x2 x3 x4) ∗ owns (c : Thread nD τ) arg8 fullShare xs) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | sl_exact hc0 | sl_exact hc1 | sl_exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]
  · iexists _; isplitr
    swap; · iexact H5
    ipureintro
    refine (read_store_all _ _ zz _ _).trans ?_
    simp only [View.readAt_eq_ld, Memref.IsWhole.read_unread, ld_tile, ld_gain, ld_cols, ld_rows]
  iexists _; isplitr; · ipureintro; exact harg8.read_unread _
  iexact HS

end Cert.FfnIdeal.Hand
-- ==== Proof.FfnIdealFrame.lean ====
module

public import proofs.«01_k».proof.Proof.FfnIdealRun
public import Idealize.ShloMosaic.Lib.Claim

@[expose] public section

/-! # The feed-forward call (FfnIdeal): what its buffers hold after every point, and its run

The three weight windows are read in blocks of 256 of the 5504 hidden columns, so the last block overhangs its array by
half: a fetch of it leaves the second half of the staging buffer as it was. Only the first point of a row meets that block, and
the body there reads the first half alone. The contents below are therefore stated with the overhanging half at zero. -/

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the three cases lie -/

/-- The first case is met at the first point of each row of 22, -/
theorem first_iff : ∀ t : Fin cfg0.N, k0_cond1 (grid0.coords t) = 1#1 ↔ t.val % 22 = 0 :=
  (by decide +kernel : ∀ t : Fin grid0.N, k0_cond1 (grid0.coords t) = 1#1 ↔ t.val % 22 = 0)
/-- the second at the inner points, -/
theorem inner_iff : ∀ t : Fin cfg0.N, k0_cond2 (grid0.coords t) = 1#1 ↔ (1 ≤ t.val % 22 ∧ t.val % 22 ≤ 20) :=
  (by decide +kernel : ∀ t : Fin grid0.N, k0_cond2 (grid0.coords t) = 1#1 ↔ (1 ≤ t.val % 22 ∧ t.val % 22 ≤ 20))
/-- the third at the last. -/
theorem last_iff : ∀ t : Fin cfg0.N, k0_cond3 (grid0.coords t) = 1#1 ↔ t.val % 22 = 21 :=
  (by decide +kernel : ∀ t : Fin grid0.N, k0_cond3 (grid0.coords t) = 1#1 ↔ t.val % 22 = 21)

/-- The output window is stored into at every point. -/
theorem live_out : ∀ t : Fin cfg0.N, cfg0.idle 5 (grid0.coords t) = false :=
  (by decide +kernel : ∀ t : Fin grid0.N, idle0 5 (grid0.coords t) = false)

/-! ## The blocks -/

/-- Window `w`'s block at point `t`, as far as it lies inside its array. -/
def iblk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The row tile of the activations at point `t`. -/
def xt (c : Dev nD) (t : Fin cfg0.N) : Vec F S1024x2048 .f32 := iblk m c 0 t
/-- The gain of the norm. -/
def gt (c : Dev nD) (t : Fin cfg0.N) : Vec F S1x2048 .f32 := iblk m c 1 t
/-- The block of the gate weights at point `t`, zero past the array's end, -/
def wgt (c : Dev nD) (t : Fin cfg0.N) : Vec F S2048x256 .f32 :=
  win0_2.fill (grid0.coords t) (fun _ => Scalar.ofBits .f32 0#32) (iblk m c 2 t)
/-- of the up weights, -/
def wut (c : Dev nD) (t : Fin cfg0.N) : Vec F S2048x256 .f32 :=
  win0_3.fill (grid0.coords t) (fun _ => Scalar.ofBits .f32 0#32) (iblk m c 3 t)
/-- and of the down weights. -/
def wdt (c : Dev nD) (t : Fin cfg0.N) : Vec F S256x2048 .f32 :=
  win0_4.fill (grid0.coords t) (fun _ => Scalar.ofBits .f32 0#32) (iblk m c 4 t)

/-- How much of each weight block lies inside its array: half of it at the first point of a row, all of it elsewhere. -/
theorem size_2 : ∀ t : Fin cfg0.N, win0_2.xsize (grid0.coords t) 0 = 2048 ∧
    win0_2.xsize (grid0.coords t) 1 = if t.val % 22 = 0 then 128 else 256 :=
  (by decide +kernel : ∀ t : Fin grid0.N, win0_2.xsize (grid0.coords t) 0 = 2048 ∧
    win0_2.xsize (grid0.coords t) 1 = if t.val % 22 = 0 then 128 else 256)
theorem size_3 : ∀ t : Fin cfg0.N, win0_3.xsize (grid0.coords t) 0 = 2048 ∧
    win0_3.xsize (grid0.coords t) 1 = if t.val % 22 = 0 then 128 else 256 :=
  (by decide +kernel : ∀ t : Fin grid0.N, win0_3.xsize (grid0.coords t) 0 = 2048 ∧
    win0_3.xsize (grid0.coords t) 1 = if t.val % 22 = 0 then 128 else 256)
theorem size_4 : ∀ t : Fin cfg0.N, win0_4.xsize (grid0.coords t) 1 = 2048 ∧
    win0_4.xsize (grid0.coords t) 0 = if t.val % 22 = 0 then 128 else 256 :=
  (by decide +kernel : ∀ t : Fin grid0.N, win0_4.xsize (grid0.coords t) 1 = 2048 ∧
    win0_4.xsize (grid0.coords t) 0 = if t.val % 22 = 0 then 128 else 256)

/-- Inside the part a fetch moves, what the buffer held before does not matter. -/
theorem fill_inside {G : Pipeline.Grid} (w : Window sig G) {α : Type} (i : G.Coords) (d d' : w.block.Idx → α)
    (g : (w.xblock i).Idx → α) (j : w.block.Idx) (h : ∀ a, (j a).val < w.xsize i a) :
    w.fill i d g j = w.fill i d' g j := by
  unfold Window.fill
  rw [dif_pos ((w.moved_iff i j).mpr h), dif_pos ((w.moved_iff i j).mpr h)]

/-- At the points after the first of a row the fetched weight blocks are whole. -/
theorem whole_2 (c : Dev nD) (t : Fin cfg0.N) (h : t.val % 22 ≠ 0) (d) :
    win0_2.fill (grid0.coords t) d (iblk m c 2 t) = wgt m c t := by
  funext j
  refine fill_inside win0_2 _ _ _ _ j fun a => ?_
  obtain ⟨h0, h1⟩ := size_2 t
  rw [if_neg h] at h1
  match a with
  | 0 => exact lt_of_lt_of_eq (j 0).isLt h0.symm
  | 1 => exact lt_of_lt_of_eq (j 1).isLt h1.symm
theorem whole_3 (c : Dev nD) (t : Fin cfg0.N) (h : t.val % 22 ≠ 0) (d) :
    win0_3.fill (grid0.coords t) d (iblk m c 3 t) = wut m c t := by
  funext j
  refine fill_inside win0_3 _ _ _ _ j fun a => ?_
  obtain ⟨h0, h1⟩ := size_3 t
  rw [if_neg h] at h1
  match a with
  | 0 => exact lt_of_lt_of_eq (j 0).isLt h0.symm
  | 1 => exact lt_of_lt_of_eq (j 1).isLt h1.symm
theorem whole_4 (c : Dev nD) (t : Fin cfg0.N) (h : t.val % 22 ≠ 0) (d) :
    win0_4.fill (grid0.coords t) d (iblk m c 4 t) = wdt m c t := by
  funext j
  refine fill_inside win0_4 _ _ _ _ j fun a => ?_
  obtain ⟨h1, h0⟩ := size_4 t
  rw [if_neg h] at h0
  match a with
  | 0 => exact lt_of_lt_of_eq (j 0).isLt h0.symm
  | 1 => exact lt_of_lt_of_eq (j 1).isLt h1.symm

/-- At the first point of a row the half of them the body reads is. -/
theorem half_2 (c : Dev nD) (t : Fin cfg0.N) (h : t.val % 22 = 0) (d) :
    left128 (F := F) (win0_2.fill (grid0.coords t) d (iblk m c 2 t)) = left128 (wgt m c t) := by
  funext y
  refine fill_inside win0_2 _ _ _ _ _ fun a => ?_
  obtain ⟨h0, h1⟩ := size_2 t
  rw [if_pos h] at h1
  match a with
  | 0 => exact lt_of_lt_of_eq (show 0 + 1 * (y 0).val < 2048 by have := (y 0).isLt; change (y 0).val < 2048 at this; omega) h0.symm
  | 1 => exact lt_of_lt_of_eq (show 0 + 1 * (y 1).val < 128 by have := (y 1).isLt; change (y 1).val < 128 at this; omega) h1.symm
theorem half_3 (c : Dev nD) (t : Fin cfg0.N) (h : t.val % 22 = 0) (d) :
    left128 (F := F) (win0_3.fill (grid0.coords t) d (iblk m c 3 t)) = left128 (wut m c t) := by
  funext y
  refine fill_inside win0_3 _ _ _ _ _ fun a => ?_
  obtain ⟨h0, h1⟩ := size_3 t
  rw [if_pos h] at h1
  match a with
  | 0 => exact lt_of_lt_of_eq (show 0 + 1 * (y 0).val < 2048 by have := (y 0).isLt; change (y 0).val < 2048 at this; omega) h0.symm
  | 1 => exact lt_of_lt_of_eq (show 0 + 1 * (y 1).val < 128 by have := (y 1).isLt; change (y 1).val < 128 at this; omega) h1.symm
theorem half_4 (c : Dev nD) (t : Fin cfg0.N) (h : t.val % 22 = 0) (d) :
    top128 (F := F) (win0_4.fill (grid0.coords t) d (iblk m c 4 t)) = top128 (wdt m c t) := by
  funext y
  refine fill_inside win0_4 _ _ _ _ _ fun a => ?_
  obtain ⟨h1, h0⟩ := size_4 t
  rw [if_pos h] at h0
  match a with
  | 0 => exact lt_of_lt_of_eq (show 0 + 1 * (y 0).val < 128 by have := (y 0).isLt; change (y 0).val < 128 at this; omega) h0.symm
  | 1 => exact lt_of_lt_of_eq (show 0 + 1 * (y 1).val < 2048 by have := (y 1).isLt; change (y 1).val < 2048 at this; omega) h1.symm

/-! ## What the output tile and the scratch buffer hold after each point -/

/-- The normalised row tile. -/
def hid (c : Dev nD) (t : Fin cfg0.N) : Vec F S1024x2048 .bf16 := k0_pay1 (xt m c t) (gt m c t)

/-- What the first point of a row leaves: the first contribution, and the normalised tile. -/
def start (c : Dev nD) (t : Fin cfg0.N) : Vec F S1024x2048 .f32 × Vec F S1024x2048 .bf16 :=
  (k0_pay2 (hid m c t) (left128 (wgt m c t)) (left128 (wut m c t)) (top128 (wdt m c t)), hid m c t)

/-- What a later point makes of what the point before left. -/
def next (c : Dev nD) (t : Fin cfg0.N) (p : Vec F S1024x2048 .f32 × Vec F S1024x2048 .bf16) :
    Vec F S1024x2048 .f32 × Vec F S1024x2048 .bf16 :=
  if t.val % 22 = 21 then (k0_pay4 (xt m c t) p.1 p.2 (wgt m c t) (wut m c t) (wdt m c t), p.2)
  else (k0_pay3 p.1 p.2 (wgt m c t) (wut m c t) (wdt m c t), p.2)

/-- The output tile and the scratch buffer after point `n`. -/
def outs (c : Dev nD) : (n : ℕ) → n < cfg0.N → Vec F S1024x2048 .f32 × Vec F S1024x2048 .bf16
  | 0, hn => start m c ⟨0, hn⟩
  | n + 1, hn =>
    if (n + 1) % 22 = 0 then start m c ⟨n + 1, hn⟩
    else next m c ⟨n + 1, hn⟩ (outs c n (Nat.lt_of_succ_lt hn))

theorem outs_first (c : Dev nD) (t : Fin cfg0.N) (h : t.val % 22 = 0) : outs m c t.val t.isLt = start m c t := by
  obtain ⟨n, hn⟩ := t
  cases n with
  | zero => rfl
  | succ n => exact if_pos h

theorem outs_next (c : Dev nD) (t : Fin cfg0.N) (h : t.val % 22 ≠ 0) :
    outs m c t.val t.isLt = next m c t (outs m c (t.val - 1) (Nat.lt_of_le_of_lt (Nat.sub_le _ _) t.isLt)) := by
  obtain ⟨n, hn⟩ := t
  cases n with
  | zero => exact absurd rfl h
  | succ n => exact if_neg h

/-- The invariant between points: before the first point the scratch buffer holds anything, later what the point before left. -/
def Inv (c : Dev nD) : (n : ℕ) → n ≤ cfg0.N → sProp 𝕄
  | 0, _ => Pipeline.ΦA spec0 c
  | n + 1, hn => iprop(owns (c : Thread nD τ) (Memref.whole cc0_scratch0) fullShare (outs m c n hn).2 ∗ (∃ r, prngReg c r))

theorem Inv_pos (c : Dev nD) (n : ℕ) (h : n ≤ cfg0.N) (hz : n ≠ 0) :
    Inv m c n h = iprop(owns (c : Thread nD τ) (Memref.whole cc0_scratch0) fullShare (outs m c (n - 1) (by omega)).2 ∗ (∃ r, prngReg c r)) := by
  cases n with
  | zero => exact absurd rfl hz
  | succ n => rfl

theorem rest_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- The invariant always gives the scratch buffer at some contents. -/
theorem Inv_some (c : Dev nD) (n : ℕ) (h : n ≤ cfg0.N) : Inv m c n h ⊢ Pipeline.ΦA spec0 c := by
  cases n with
  | zero => exact Idealize.SL.BI.Entails.refl _
  | succ n =>
    rw [rest_eq]; unfold Inv
    iintro ⟨HS, Hg⟩
    isplitl [HS]
    · iexists _; iexact HS
    iexact Hg

theorem Inv_split (c : Dev nD) (n : ℕ) (h : n ≤ cfg0.N) :
    Inv m c n h ⊢ iprop(iprop((∃ d, owns (c : Thread nD τ) (Memref.whole cc0_scratch0) fullShare d)) ∗ (∃ r, prngReg c r)) := by
  rw [← rest_eq]; exact Inv_some m c n h

/-- The proof data of the call: its arrays as launched; after each point the input buffers at their blocks, the output at
    `outs`; the invariant `Inv`. -/
def dats (_ : Fin 1) (c : Dev nD) : Dat τ (Elt F) Unit ℕ (UR sig nD τ) ℕ cfg0 c where
  A w := m ((c : Thread nD τ).loc (Pipeline.arrRef spec0 w))
  after w t := match w with
    | ⟨0, _⟩ => xt m c t
    | ⟨1, _⟩ => gt m c t
    | ⟨2, _⟩ => wgt m c t
    | ⟨3, _⟩ => wut m c t
    | ⟨4, _⟩ => wdt m c t
    | ⟨5, _⟩ => (outs m c t.val t.isLt).1
  Φ t := Inv m c t.val (Nat.le_of_lt_succ t.isLt)
  q _ := fullShare
  owed _ := 0

theorem A_eq (c : Dev nD) (w : Fin cfg0.W) : (dats m 0 c).A w = m ((c : Thread nD τ).loc (Pipeline.arrRef spec0 w)) := by
  dsimp only [dats]

theorem after_0 (c : Dev nD) (t : Fin cfg0.N) : (dats m 0 c).after 0 t = xt m c t := by dsimp only [dats]
theorem after_1 (c : Dev nD) (t : Fin cfg0.N) : (dats m 0 c).after 1 t = gt m c t := by dsimp only [dats]
theorem after_2 (c : Dev nD) (t : Fin cfg0.N) : (dats m 0 c).after 2 t = wgt m c t := by dsimp only [dats]
theorem after_3 (c : Dev nD) (t : Fin cfg0.N) : (dats m 0 c).after 3 t = wut m c t := by dsimp only [dats]
theorem after_4 (c : Dev nD) (t : Fin cfg0.N) : (dats m 0 c).after 4 t = wdt m c t := by dsimp only [dats]
theorem after_5 (c : Dev nD) (t : Fin cfg0.N) : (dats m 0 c).after 5 t = (outs m c t.val t.isLt).1 := by dsimp only [dats]

/-! ## What the body finds -/

theorem before_0 (c : Dev nD) (t : Fin cfg0.N) (d) : (dats m 0 c).before 0 t d = xt m c t :=
  ((dats m 0 c).before_in_eq_fetched 0 rfl (fun _ => rfl) (fun _ _ _ => rfl)
    (fun t => by rw [after_0]; unfold Dat.blockOf xt iblk; rw [A_eq]; try rfl) t d).trans
    (by unfold Dat.fetched Dat.blockOf xt iblk; rw [A_eq]; try rfl)
theorem before_1 (c : Dev nD) (t : Fin cfg0.N) (d) : (dats m 0 c).before 1 t d = gt m c t :=
  ((dats m 0 c).before_in_eq_fetched 1 rfl (fun _ => rfl) (fun _ _ _ => rfl)
    (fun t => by rw [after_1]; unfold Dat.blockOf gt iblk; rw [A_eq]; try rfl) t d).trans
    (by unfold Dat.fetched Dat.blockOf gt iblk; rw [A_eq]; try rfl)
theorem before_2 (c : Dev nD) (t : Fin cfg0.N) (d) :
    (dats m 0 c).before 2 t d = win0_2.fill (grid0.coords t) d (iblk m c 2 t) := by
  unfold Dat.before; rw [if_pos (fetch0_2 t)]; rfl
theorem before_3 (c : Dev nD) (t : Fin cfg0.N) (d) :
    (dats m 0 c).before 3 t d = win0_3.fill (grid0.coords t) d (iblk m c 3 t) := by
  unfold Dat.before; rw [if_pos (fetch0_3 t)]; rfl
theorem before_4 (c : Dev nD) (t : Fin cfg0.N) (d) :
    (dats m 0 c).before 4 t d = win0_4.fill (grid0.coords t) d (iblk m c 4 t) := by
  unfold Dat.before; rw [if_pos (fetch0_4 t)]; rfl

/-- After the first point of a row the output buffer holds what the point before left in it. -/
theorem before_5 (c : Dev nD) (t : Fin cfg0.N) (h : t.val % 22 ≠ 0) (d) :
    (dats m 0 c).before 5 t d = (outs m c (t.val - 1) (Nat.lt_of_le_of_lt (Nat.sub_le _ _) t.isLt)).1 := by
  have hp : t.val ≠ 0 := fun e => h (by rw [e])
  have hnf : (cfg0.win 5).flush ⟨t.val - 1, Nat.lt_of_le_of_lt (Nat.sub_le _ _) t.isLt⟩ = false := by
    by_contra hc
    rw [Bool.not_eq_false] at hc
    have := (flush0_5 _).mp hc
    dsimp only at this
    omega
  have hf : (cfg0.win 5).fetch t = false := rfl
  unfold Dat.before
  rw [if_neg (by rw [hf]; exact Bool.false_ne_true), if_neg hp]
  show (if (cfg0.win 5).flush ⟨t.val - 1, Nat.lt_of_le_of_lt (Nat.sub_le _ _) t.isLt⟩ = true then d else _) = _
  rw [hnf, if_neg Bool.false_ne_true, live_out]
  exact after_5 m c ⟨t.val - 1, Nat.lt_of_le_of_lt (Nat.sub_le _ _) t.isLt⟩

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t)

theorem leaves_0 (c : Dev nD) (t : Fin cfg0.N) :
    (dats m 0 c).leaves 0 t = owns (c : Thread nD τ) (st0_0 t) fullShare (xt m c t) := by
  rw [← after_0]; try rfl
theorem leaves_1 (c : Dev nD) (t : Fin cfg0.N) :
    (dats m 0 c).leaves 1 t = owns (c : Thread nD τ) (st0_1 t) fullShare (gt m c t) := by
  rw [← after_1]; try rfl
theorem leaves_2 (c : Dev nD) (t : Fin cfg0.N) :
    (dats m 0 c).leaves 2 t = iprop(∃ d, owns (c : Thread nD τ) (st0_2 t) fullShare (win0_2.fill (grid0.coords t) d (iblk m c 2 t))) := by
  have e : win0_2.cut (grid0.coords t) (wgt m c t) = iblk m c 2 t := win0_2.cut_fill _ _ _
  rw [← e, ← after_2]; try rfl
theorem leaves_3 (c : Dev nD) (t : Fin cfg0.N) :
    (dats m 0 c).leaves 3 t = iprop(∃ d, owns (c : Thread nD τ) (st0_3 t) fullShare (win0_3.fill (grid0.coords t) d (iblk m c 3 t))) := by
  have e : win0_3.cut (grid0.coords t) (wut m c t) = iblk m c 3 t := win0_3.cut_fill _ _ _
  rw [← e, ← after_3]; try rfl
theorem leaves_4 (c : Dev nD) (t : Fin cfg0.N) :
    (dats m 0 c).leaves 4 t = iprop(∃ d, owns (c : Thread nD τ) (st0_4 t) fullShare (win0_4.fill (grid0.coords t) d (iblk m c 4 t))) := by
  have e : win0_4.cut (grid0.coords t) (wdt m c t) = iblk m c 4 t := win0_4.cut_fill _ _ _
  rw [← e, ← after_4]; try rfl
theorem leaves_5 (c : Dev nD) (t : Fin cfg0.N) :
    (dats m 0 c).leaves 5 t = owns (c : Thread nD τ) (st0_5 t) fullShare (outs m c t.val t.isLt).1 := by
  rw [← after_5]
  unfold Dat.leaves
  rw [live_out t]; try rfl

theorem Phi_start (c : Dev nD) (t : Fin cfg0.N) : (dats m 0 c).Φ t.castSucc = Inv m c t.val (Nat.le_of_lt t.isLt) := by
  dsimp only [dats]; exact Pipeline.Dat.Φ_castSucc (Inv m c) t

theorem Phi_end (c : Dev nD) (t : Fin cfg0.N) :
    (dats m 0 c).Φ t.succ = iprop(owns (c : Thread nD τ) (Memref.whole cc0_scratch0) fullShare (outs m c t.val t.isLt).2 ∗ (∃ r, prngReg c r)) := rfl

set_option maxHeartbeats 4000000 in
/-- The body at the first point of a row. -/
theorem body_first (c : Dev nD) (t : Fin cfg0.N) (h : t.val % 22 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4, leaves_5]
  rw [show (dats m 0 c).owesAt () t.succ = (dats m 0 c).owesAt () t.castSucc from rfl, Phi_end, Phi_start, outs_first m c t h]
  iintro ⟨HI, Ho, ⟨%d0, H0⟩, ⟨%d1, H1⟩, ⟨%d2, H2⟩, ⟨%d3, H3⟩, ⟨%d4, H4⟩, ⟨%d5, H5⟩⟩
  ihave HI2 := (Inv_split m c t.val (Nat.le_of_lt t.isLt)) $$ HI
  icases HI2 with ⟨⟨%ds, HS⟩, Hg⟩
  iapply (run_A c (grid0.coords t) _ _ _ _ _ _ _ _ _ _ _ _ _ _ ((first_iff t).mpr h)
    (fun e => by have := (inner_iff t).mp e; omega) (fun e => by have := (last_iff t).mp e; omega)
    (xt m c t) (gt m c t) (win0_2.fill (grid0.coords t) d2 (iblk m c 2 t)) (win0_3.fill (grid0.coords t) d3 (iblk m c 3 t))
    (win0_4.fill (grid0.coords t) d4 (iblk m c 4 t)) ((dats m 0 c).before 5 t d5) ds Set.univ _)
  rw [half_2 m c t h, half_3 m c t h, half_4 m c t h]
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexact H5

set_option maxHeartbeats 4000000 in
/-- The body at an inner point of a row. -/
theorem body_inner (c : Dev nD) (t : Fin cfg0.N) (h : t.val % 22 ≠ 0) (h2 : t.val % 22 ≠ 21) :
    bodyPre m c t ⊢ wp frame (wpE (defs₀ (F := F)) Variants.none c none) Set.univ (bodyAt0 t) (fun _ => bodyPost m c t) := by
  have hp : t.val ≠ 0 := fun e => h (by rw [e])
  unfold bodyPre bodyPost bodyAt0
  simp only [before_0, before_1, before_2, before_3, before_4, before_5 m c t h, leaves_0, leaves_1, leaves_2, leaves_3, leaves_4, leaves_5]
  rw [show (dats m 0 c).owesAt () t.succ = (dats m 0 c).owesAt () t.castSucc from rfl, Phi_end, Phi_start, Inv_pos m c _ _ hp,
    outs_next m c t h]
  simp only [whole_2 m c t h, whole_3 m c t h, whole_4 m c t h]
  unfold next
  rw [if_neg h2]
  iintro ⟨⟨HS, Hg⟩, Ho, ⟨%d0, H0⟩, ⟨%d1, H1⟩, ⟨%d2, H2⟩, ⟨%d3, H3⟩, ⟨%d4, H4⟩, ⟨%d5, H5⟩⟩
  iapply (run_B c (grid0.coords t) _ _ _ _ _ _ _ _ _ _ _ _ _ _ (fun e => h ((first_iff t).mp e))
    ((inner_iff t).mpr (by omega)) (fun e => h2 ((last_iff t).mp e))
    (xt m c t) (gt m c t) (wgt m c t) (wut m c t) (wdt m c t) _ _ Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexact H5

set_option maxHeartbeats 4000000 in
/-- The body at the last point of a row. -/
theorem body_last (c : Dev nD) (t : Fin cfg0.N) (h : t.val % 22 ≠ 0) (h2 : t.val % 22 = 21) :
    bodyPre m c t ⊢ wp frame (wpE (defs₀ (F := F)) Variants.none c none) Set.univ (bodyAt0 t) (fun _ => bodyPost m c t) := by
  have hp : t.val ≠ 0 := fun e => h (by rw [e])
  unfold bodyPre bodyPost bodyAt0
  simp only [before_0, before_1, before_2, before_3, before_4, before_5 m c t h, leaves_0, leaves_1, leaves_2, leaves_3, leaves_4, leaves_5]
  rw [show (dats m 0 c).owesAt () t.succ = (dats m 0 c).owesAt () t.castSucc from rfl, Phi_end, Phi_start, Inv_pos m c _ _ hp,
    outs_next m c t h]
  simp only [whole_2 m c t h, whole_3 m c t h, whole_4 m c t h]
  unfold next
  rw [if_pos h2]
  iintro ⟨⟨HS, Hg⟩, Ho, ⟨%d0, H0⟩, ⟨%d1, H1⟩, ⟨%d2, H2⟩, ⟨%d3, H3⟩, ⟨%d4, H4⟩, ⟨%d5, H5⟩⟩
  iapply (run_C c (grid0.coords t) _ _ _ _ _ _ _ _ _ _ _ _ _ _ (fun e => h ((first_iff t).mp e))
    (fun e => by have := (inner_iff t).mp e; omega) ((last_iff t).mpr h2)
    (xt m c t) (gt m c t) (wgt m c t) (wut m c t) (wdt m c t) _ _ Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 22 = 0
  · exact body_first m c t h
  · by_cases h2 : t.val % 22 = 21
    · exact body_last m c t h h2
    · exact body_inner m c t h h2

theorem defs₀_row (t : Fin cfg0.N) :
    defs₀ (F := F) .tc cfg0.body (cfg0.bodyArgs t (cfg0.slots t)) = bodyAt0 t := by
  unfold defs₀; rw [Defs.onTc_tc]

/-- The body obligation of the pipeline, the weight windows stated on the part inside their arrays. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

theorem hmain (𝒱₀ : Variants) : Pipeline.HMain (Ix := Unit) (Name := ℕ) (U := UR sig nD τ) (Lvl := ℕ) cfgs 0 defs₀ 𝒱₀ m (main (F := F))
    (fun c b => m ((c : Thread nD τ).loc b)) :=
  Pipeline.hmain_region cfgs 0 defs₀ 𝒱₀ m main fun c => (main_chain c).trans rfl

theorem hin (c : Dev nD) : Pipeline.ΦA spec0 c ⊢ (dats m 0 c).Φ 0 :=
  Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl]
  exact Inv_some m c _ _

set_option backward.isDefEq.respectTransparency.types false in
/-- Every execution of the call terminates with its arrays at what the proof data computes, and every counter at zero. -/
theorem run_main : θ_run defs (onTc (τ := τ) (main (F := F))) (s₀ m ρ)
    (fun r => (Pipeline.FramePost cfgs (dats m) 0 (fun c b => m ((c : Thread nD τ).loc b))) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := fun c b => m ((c : Thread nD τ).loc b)) (hmain := hmain m Variants.none) (hA := A_eq m) (hin := hin m) (hout := hout m)

/-- The run, with what the result's array holds at its end. -/
theorem run_array : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨(h.1 c).1 5,
       ((h.1 c).1 0).trans (((dats m 0 c).arrAt_in 0 rfl _).trans (A_eq m c 0)),
       ((h.1 c).1 1).trans (((dats m 0 c).arrAt_in 1 rfl _).trans (A_eq m c 1)),
       ((h.1 c).1 2).trans (((dats m 0 c).arrAt_in 2 rfl _).trans (A_eq m c 2)),
       ((h.1 c).1 3).trans (((dats m 0 c).arrAt_in 3 rfl _).trans (A_eq m c 3)),
       ((h.1 c).1 4).trans (((dats m 0 c).arrAt_in 4 rfl _).trans (A_eq m c 4))⟩) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).1 0).trans (((dats m 0 c).arrAt_in 0 rfl _).trans (A_eq m c 0)),
       ((h.1 c).1 1).trans (((dats m 0 c).arrAt_in 1 rfl _).trans (A_eq m c 1)),
       ((h.1 c).1 2).trans (((dats m 0 c).arrAt_in 2 rfl _).trans (A_eq m c 2)),
       ((h.1 c).1 3).trans (((dats m 0 c).arrAt_in 3 rfl _).trans (A_eq m c 3)),
       ((h.1 c).1 4).trans (((dats m 0 c).arrAt_in 4 rfl _).trans (A_eq m c 4))⟩, h.2⟩) (run_main m ρ)

end Cert.FfnIdeal.Hand
-- ==== Proof.FfnIdealValue.lean ====
/-
  The value of the feed-forward call over the extended reals: what one point of the grid computes, what the output tile holds
  along a row of 22 points, and what the array holds at the end.
-/
module

public import proofs.«01_k».proof.Proof.FfnIdealFrame
public import Idealize.ShloMosaic.Lib.Pipeline.ValueKit
public import Idealize.ShloMosaic.Lib.Pipeline.ReadBack
public import Idealize.ShloMosaic.Lib.Pointwise
public import Idealize.ShloMosaic.Lib.Tactic

@[expose] public section
set_option maxRecDepth 16384
noncomputable section
open Idealize.ShloMosaic Idealize.ShloMosaic.TcCoe Idealize.SL.Sem
open Idealize.ShloMosaic.Pipeline (Dat)

namespace Cert.FfnIdeal.Hand
open Cert.FfnIdeal Cert.FfnIdeal.Gen

/-! ## The mathematics of the layer -/

/-- The root mean square norm of one row, with its gain, at one column. -/
def normed (x : Fin 2048 → EReal) (g : Fin 2048 → EReal) (k : Fin 2048) : EReal :=
  x k * Ideal.rsqrt (Ideal.div (∑ e : Fin 2048, x e * x e) (Ideal.ofBits .f32 0x45000000#32) + Ideal.ofBits .f32 0x358637BD#32) * g k

/-- What one hidden column gives to one output column: the gated product of the row with the column's gate and up weights,
    times the down weight. -/
def gated (h : Fin 2048 → EReal) (g u : Fin 2048 → EReal) (d : EReal) : EReal :=
  (∑ k : Fin 2048, h k * g k) * Ideal.logistic (∑ k : Fin 2048, h k * g k) * (∑ k : Fin 2048, h k * u k) * d

/-- The half-step feed-forward network at row `r`, column `n`. -/
def ffn (X : S16384x2048.Idx → EReal) (G : S1x2048.Idx → EReal) (Wg Wu : S2048x5504.Idx → EReal) (Wd : S5504x2048.Idx → EReal)
    (r : Fin 16384) (n : Fin 2048) : EReal :=
  X (ix2 r n) + Ideal.ofBits .f32 0x3F000000#32 * ∑ e : Fin 5504,
    gated (normed (fun k => X (ix2 r k)) (fun k => G (ix2 0 k))) (fun k => Wg (ix2 k e)) (fun k => Wu (ix2 k e)) (Wd (ix2 e n))

/-! ## One point -/

/-- The normalised tile. -/
theorem tile_norm (x : Vec Ideal S1024x2048 .f32) (g : Vec Ideal S1x2048 .f32) (p : Fin 1024) (k : Fin 2048) :
    k0_pay1 (F := Ideal) x g (ix2 p k) = normed (fun k => (x (ix2 p k) : EReal)) (fun k => (g (ix2 0 k) : EReal)) k := by
  unfold normed
  pointwise [k0_pay1]

/-- The first contribution of a row. -/
theorem tile_first (h : Vec Ideal S1024x2048 .bf16) (g u : Vec Ideal S2048x128 .f32) (d : Vec Ideal S128x2048 .f32) (p : Fin 1024) (q : Fin 2048) :
    k0_pay2 (F := Ideal) h g u d (ix2 p q)
      = ∑ e : Fin 128, gated (fun k => (h (ix2 p k) : EReal)) (fun k => (g (ix2 k e) : EReal)) (fun k => (u (ix2 k e) : EReal)) (d (ix2 e q)) := by
  unfold gated
  pointwise [k0_pay2]

/-- One more contribution. -/
theorem tile_inner (o : Vec Ideal S1024x2048 .f32) (h : Vec Ideal S1024x2048 .bf16) (g u : Vec Ideal S2048x256 .f32) (d : Vec Ideal S256x2048 .f32) (p : Fin 1024) (q : Fin 2048) :
    k0_pay3 (F := Ideal) o h g u d (ix2 p q) = (o (ix2 p q) : EReal)
      + ∑ e : Fin 256, gated (fun k => (h (ix2 p k) : EReal)) (fun k => (g (ix2 k e) : EReal)) (fun k => (u (ix2 k e) : EReal)) (d (ix2 e q)) := by
  unfold gated
  pointwise [k0_pay3]

/-- The last contribution, and the residual. -/
theorem tile_last (x o : Vec Ideal S1024x2048 .f32) (h : Vec Ideal S1024x2048 .bf16) (g u : Vec Ideal S2048x256 .f32) (d : Vec Ideal S256x2048 .f32) (p : Fin 1024) (q : Fin 2048) :
    k0_pay4 (F := Ideal) x o h g u d (ix2 p q) = (x (ix2 p q) : EReal) + Ideal.ofBits .f32 0x3F000000#32 * ((o (ix2 p q) : EReal)
      + ∑ e : Fin 256, gated (fun k => (h (ix2 p k) : EReal)) (fun k => (g (ix2 k e) : EReal)) (fun k => (u (ix2 k e) : EReal)) (d (ix2 e q))) := by
  unfold gated
  pointwise [k0_pay4]

/-! ## The blocks as parts of the arrays -/

variable (m : (ℓ : Loc nD τ sig) → Buf (Elt Ideal) ℓ) (c : Dev nD)

/-- The arguments of device `c`: activations, gain, gate, up and down weights. -/
abbrev aX : S16384x2048.Idx → EReal := m ((c : Thread nD τ).loc main_arg0)
abbrev aG : S1x2048.Idx → EReal := m ((c : Thread nD τ).loc main_arg1)
abbrev aWg : S2048x5504.Idx → EReal := m ((c : Thread nD τ).loc main_arg2)
abbrev aWu : S2048x5504.Idx → EReal := m ((c : Thread nD τ).loc main_arg3)
abbrev aWd : S5504x2048.Idx → EReal := m ((c : Thread nD τ).loc main_arg4)

/-- Where each point's blocks lie. -/
theorem place : ∀ t : Fin grid0.N,
    win0_0.index t = ![t.val / 22, 0] ∧ win0_1.index t = ![0, 0]
    ∧ win0_2.index t = ![0, (t.val % 22 + 21) % 22] ∧ win0_3.index t = ![0, (t.val % 22 + 21) % 22]
    ∧ win0_4.index t = ![(t.val % 22 + 21) % 22, 0] ∧ win0_5.index t = ![t.val / 22, 0] := by
  decide +kernel

theorem xt_eq (t : Fin cfg0.N) (p : Fin 1024) (k : Fin 2048) (r : Fin 16384) (hr : r.val = t.val / 22 * 1024 + p.val) :
    xt m c t (ix2 p k) = aX m c (ix2 r k) := by
  unfold xt
  blk_ext [iblk, place t, hr]

theorem gt_eq (t : Fin cfg0.N) (k : Fin 2048) : gt m c t (ix2 0 k) = aG m c (ix2 0 k) := by
  unfold gt
  blk_ext [iblk, place t]

theorem wgt_eq (t : Fin cfg0.N) (k : Fin 2048) (e : Fin 256) (f : Fin 5504) (hf : f.val = (t.val % 22 + 21) % 22 * 256 + e.val) :
    wgt m c t (ix2 k e) = aWg m c (ix2 k f) := by
  unfold wgt Pipeline.Window.fill
  rw [dif_pos ((win0_2.moved_iff _ _).mpr fun a => by
    obtain ⟨h0, h1⟩ := size_2 t
    have hf' := f.isLt
    match a with
    | 0 => exact lt_of_lt_of_eq k.isLt h0.symm
    | 1 => exact lt_of_lt_of_eq (show e.val < if t.val % 22 = 0 then 128 else 256 by split <;> omega) h1.symm)]
  blk_ext [iblk, place t, hf]

theorem wut_eq (t : Fin cfg0.N) (k : Fin 2048) (e : Fin 256) (f : Fin 5504) (hf : f.val = (t.val % 22 + 21) % 22 * 256 + e.val) :
    wut m c t (ix2 k e) = aWu m c (ix2 k f) := by
  unfold wut Pipeline.Window.fill
  rw [dif_pos ((win0_3.moved_iff _ _).mpr fun a => by
    obtain ⟨h0, h1⟩ := size_3 t
    have hf' := f.isLt
    match a with
    | 0 => exact lt_of_lt_of_eq k.isLt h0.symm
    | 1 => exact lt_of_lt_of_eq (show e.val < if t.val % 22 = 0 then 128 else 256 by split <;> omega) h1.symm)]
  blk_ext [iblk, place t, hf]

theorem wdt_eq (t : Fin cfg0.N) (e : Fin 256) (q : Fin 2048) (f : Fin 5504) (hf : f.val = (t.val % 22 + 21) % 22 * 256 + e.val) :
    wdt m c t (ix2 e q) = aWd m c (ix2 f q) := by
  unfold wdt Pipeline.Window.fill
  rw [dif_pos ((win0_4.moved_iff _ _).mpr fun a => by
    obtain ⟨h1, h0⟩ := size_4 t
    have hf' := f.isLt
    match a with
    | 0 => exact lt_of_lt_of_eq (show e.val < if t.val % 22 = 0 then 128 else 256 by split <;> omega) h0.symm
    | 1 => exact lt_of_lt_of_eq q.isLt h1.symm)]
  blk_ext [iblk, place t, hf]

/-- The first 128 columns of a block, and its first 128 rows. -/
theorem left128_eq (w : Vec Ideal S2048x256 .f32) (k : Fin 2048) (e : Fin 128) :
    left128 w (ix2 k e) = w (ix2 k ⟨e.val, by omega⟩) := by
  pointwise [left128]
theorem top128_eq (w : Vec Ideal S256x2048 .f32) (e : Fin 128) (q : Fin 2048) :
    top128 w (ix2 e q) = w (ix2 ⟨e.val, by omega⟩ q) := by
  pointwise [top128]

/-! ## A row of points -/

/-- The normalised row `r` of the arguments. -/
abbrev nrow (r : Fin 16384) : Fin 2048 → EReal := normed (fun k => aX m c (ix2 r k)) (fun k => aG m c (ix2 0 k))

/-- What hidden column `e` gives to row `r`, output column `q`; nothing past the last hidden column. -/
def term (r : Fin 16384) (q : Fin 2048) (e : ℕ) : EReal :=
  if h : e < 5504 then gated (nrow m c r) (fun k => aWg m c (ix2 k ⟨e, h⟩)) (fun k => aWu m c (ix2 k ⟨e, h⟩)) (aWd m c (ix2 ⟨e, h⟩ q)) else 0

/-- The sum over all the hidden columns, as the mathematics writes it. -/
theorem all_terms (r : Fin 16384) (q : Fin 2048) : ∑ e ∈ Finset.range 5504, term m c r q e
    = ∑ e : Fin 5504, gated (nrow m c r) (fun k => aWg m c (ix2 k e)) (fun k => aWu m c (ix2 k e)) (aWd m c (ix2 e q)) := by
  rw [Finset.sum_range]
  exact Finset.sum_congr rfl fun e _ => dif_pos e.isLt

/-- One hidden column of a point's blocks. -/
theorem block_term (t : Fin cfg0.N) (h : Vec Ideal S1024x2048 .bf16) (p : Fin 1024) (q : Fin 2048) (r : Fin 16384) (e : Fin 256) (f : ℕ)
    (hh : ∀ k : Fin 2048, h (ix2 p k) = nrow m c r k) (hf : f = (t.val % 22 + 21) % 22 * 256 + e.val) (hlt : f < 5504) :
    gated (fun k => (h (ix2 p k) : EReal)) (fun k => (wgt m c t (ix2 k e) : EReal)) (fun k => (wut m c t (ix2 k e) : EReal)) (wdt m c t (ix2 e q))
      = term m c r q f := by
  unfold term
  rw [dif_pos hlt]
  exact congr (congr (congr (congrArg gated (funext hh)) (funext fun k => wgt_eq m c t k e ⟨f, hlt⟩ hf))
    (funext fun k => wut_eq m c t k e ⟨f, hlt⟩ hf)) (wdt_eq m c t e q ⟨f, hlt⟩ hf)

/-- The normalised tile of a point. -/
theorem hid_eq (t : Fin cfg0.N) (p : Fin 1024) (r : Fin 16384) (hr : r.val = t.val / 22 * 1024 + p.val) (k : Fin 2048) :
    hid m c t (ix2 p k) = nrow m c r k := by
  unfold hid
  refine (tile_norm _ _ p k).trans ?_
  exact congrFun (congr (congrArg normed (funext fun k => xt_eq m c t p k r hr)) (funext fun k => gt_eq m c t k)) k

/-- The whole block's contribution, at a point that is not the first of its row. -/
theorem block_sum (t : Fin cfg0.N) (h : Vec Ideal S1024x2048 .bf16) (p : Fin 1024) (q : Fin 2048) (r : Fin 16384) (j : ℕ)
    (hh : ∀ k : Fin 2048, h (ix2 p k) = nrow m c r k) (hj : t.val % 22 = j + 1) :
    ∑ e : Fin 256, gated (fun k => (h (ix2 p k) : EReal)) (fun k => (wgt m c t (ix2 k e) : EReal)) (fun k => (wut m c t (ix2 k e) : EReal)) (wdt m c t (ix2 e q))
      = ∑ e ∈ Finset.range 256, term m c r q (256 * j + e) := by
  rw [Finset.sum_range]
  refine Finset.sum_congr rfl fun e _ => block_term m c t h p q r e _ hh ?_ ?_ <;> omega

/-- After point `j` of row `i` of the grid, before the last: the scratch buffer holds the normalised tile, and the output tile
    the contributions of the last 128 hidden columns and of the first `256 * j`. -/
theorem outs_eq (i : ℕ) (p : Fin 1024) (r : Fin 16384) (hr : r.val = i * 1024 + p.val) (j : ℕ) (hj : j ≤ 20) (hn : 22 * i + j < cfg0.N) :
    (∀ k : Fin 2048, (outs m c (22 * i + j) hn).2 (ix2 p k) = nrow m c r k)
    ∧ ∀ q : Fin 2048, (outs m c (22 * i + j) hn).1 (ix2 p q)
        = ((∑ e ∈ Finset.range 128, term m c r q (5376 + e)) + ∑ e ∈ Finset.range (256 * j), term m c r q e : EReal) := by
  induction j with
  | zero =>
    have h0 := outs_first m c ⟨22 * i + 0, hn⟩ (by show (22 * i + 0) % 22 = 0; omega)
    have hid0 := hid_eq m c ⟨22 * i + 0, hn⟩ p r (by show r.val = (22 * i + 0) / 22 * 1024 + p.val; omega)
    change outs m c (22 * i + 0) hn = _ at h0
    rw [h0]
    refine ⟨hid0, fun q => ?_⟩
    refine (tile_first _ _ _ _ p q).trans ?_
    rw [Finset.sum_range, Nat.mul_zero, Finset.range_zero, Finset.sum_empty]
    refine Eq.trans ?_ (add_zero _).symm
    refine Finset.sum_congr rfl fun e _ => ?_
    refine Eq.trans ?_ (block_term m c ⟨22 * i + 0, hn⟩ (hid m c ⟨22 * i + 0, hn⟩) p q r ⟨e.val, by omega⟩ (5376 + e.val) hid0
      (by show 5376 + e.val = ((22 * i + 0) % 22 + 21) % 22 * 256 + e.val; omega) (by omega))
    exact congr (congr (congrArg (gated _) (funext fun k => left128_eq _ k e)) (funext fun k => left128_eq _ k e)) (top128_eq _ e q)
  | succ j ih =>
    obtain ⟨ih2, ih1⟩ := ih (by omega) (by omega)
    have h0 := outs_next m c ⟨22 * i + (j + 1), hn⟩ (by show (22 * i + (j + 1)) % 22 ≠ 0; omega)
    change outs m c (22 * i + (j + 1)) hn = next m c _ (outs m c (22 * i + j) _) at h0
    rw [h0]
    unfold next
    rw [if_neg (show ¬(22 * i + (j + 1)) % 22 = 21 by omega)]
    refine ⟨ih2, fun q => ?_⟩
    refine (tile_inner _ _ _ _ _ p q).trans ?_
    rw [ih1 q, block_sum m c ⟨22 * i + (j + 1), hn⟩ _ p q r j ih2 (by show (22 * i + (j + 1)) % 22 = j + 1; omega),
      Nat.mul_succ, Finset.sum_range_add, add_assoc]

/-- After the last point of row `i` the output tile holds the network's value. -/
theorem outs_last (i : ℕ) (p : Fin 1024) (r : Fin 16384) (hr : r.val = i * 1024 + p.val) (hn : 22 * i + 21 < cfg0.N) (q : Fin 2048) :
    (outs m c (22 * i + 21) hn).1 (ix2 p q) = ffn (aX m c) (aG m c) (aWg m c) (aWu m c) (aWd m c) r q := by
  obtain ⟨ih2, ih1⟩ := outs_eq m c i p r hr 20 le_rfl (by omega)
  have h0 := outs_next m c ⟨22 * i + 21, hn⟩ (by show (22 * i + 21) % 22 ≠ 0; omega)
  change outs m c (22 * i + 21) hn = next m c _ (outs m c (22 * i + 20) _) at h0
  rw [h0]
  unfold next
  rw [if_pos (show (22 * i + 21) % 22 = 21 by omega)]
  refine (tile_last _ _ _ _ _ _ p q).trans ?_
  unfold ffn
  rw [ih1 q, block_sum m c ⟨22 * i + 21, hn⟩ _ p q r 20 ih2 (by show (22 * i + 21) % 22 = 20 + 1; omega),
    xt_eq m c ⟨22 * i + 21, hn⟩ p q r (by show r.val = (22 * i + 21) / 22 * 1024 + p.val; omega), ← all_terms,
    show 5504 = 256 * 20 + 256 + 128 from rfl, Finset.sum_range_add, Finset.sum_range_add, add_assoc, add_comm (∑ e ∈ Finset.range 128, _)]

/-! ## The array -/

/-- The kernel's array. -/
theorem array_eq : (dats m 0 c).arrAt 5 cfg0.N = fun j => ffn (aX m c) (aG m c) (aWg m c) (aWu m c) (aWd m c) (j 0) (j 1) := by
  refine (dats m 0 c).arrAt_eq_of_covers 5 _ (by decide +kernel) fun t hf y => ?_
  blk_simp
  rw [after_5]
  have h21 := (flush0_5 t).mp hf
  obtain ⟨n, hn⟩ := t
  obtain ⟨i, rfl⟩ : ∃ i, n = 22 * i + 21 := ⟨n / 22, by simp only at h21; omega⟩
  have he0 : ((((View.whole main_v0).slice (win0_5.rect ⟨22 * i + 21, hn⟩)).emb y) 0).val = i * 1024 + (y 0).val := by
    have hq : (⟨22 * i + 21, hn⟩ : Fin cfg0.N).val / 22 = i := by show (22 * i + 21) / 22 = i; omega
    blk_simp [place ⟨22 * i + 21, hn⟩]
    omega
  have he1 : ((((View.whole main_v0).slice (win0_5.rect ⟨22 * i + 21, hn⟩)).emb y) 1).val = (y 1).val := by
    blk_simp [place ⟨22 * i + 21, hn⟩]
  generalize ((View.whole main_v0).slice (win0_5.rect ⟨22 * i + 21, hn⟩)).emb y = k at he0 he1 ⊢
  refine (congrArg (outs m c (22 * i + 21) hn).1 (eq_ix2 (y : S1024x2048.Idx))).trans
    ((outs_last m c i (y 0) (k 0) he0 hn (y 1)).trans ?_)
  exact congrArg _ (Fin.ext he1.symm)

end Cert.FfnIdeal.Hand
-- ==== Proof.FfnClaims.lean ====
/-
  The claims about the feed-forward call (the half-step gated network, with its own norm and residual): every run ends, and over
  the extended reals the kernel's array is the reference's.
-/
module

public import proofs.«01_k».proof.Defs
public import proofs.«01_k».proof.Proof.FfnFrame
public import proofs.«01_k».proof.Proof.FfnIdealValue
public import proofs.«01_k».proof.Proof.Gen.FfnRefIdeal
public import proofs.«01_k».proof.Proof.Gen.FfnRefIdeal.Run
public import proofs.«01_k».proof.Proof.Gen.FfnRefIdeal.Read
public import Idealize.ShloMosaic.Lib.Pipeline.ValueKit
public import Idealize.ShloMosaic.Lib.Pointwise
public import Idealize.ShloMosaic.Lib.Quiescent
public import Idealize.ShloMosaic.Lib.Tactic

@[expose] public section
set_option maxRecDepth 16384
noncomputable section
open Idealize.ShloMosaic Idealize.ShloMosaic.TcCoe Idealize.SL.Sem

namespace Cert.Proof.Ffn
open Cert.FfnRefIdeal.Read
open Cert.FfnIdeal.Hand (normed gated ffn)

section
variable (x : Cert.FfnRefIdeal.S16384x2048.Idx → EReal) (g : Cert.FfnRefIdeal.S1x2048.Idx → EReal)
  (wg wu : Cert.FfnRefIdeal.S2048x5504.Idx → EReal) (wd : Cert.FfnRefIdeal.S5504x2048.Idx → EReal)

/-- The reference's row of squares. -/
theorem squares (r : Fin 16384) : val_main_v1 (F := Ideal) x (ix1 r) = ∑ e : Fin 2048, x (ix2 r e) * x (ix2 r e) := by
  pointwise [val_main_v1, val_main_v0, val_main_cst]

/-- The reference's norm. -/
theorem norm_eq (r : Fin 16384) (k : Fin 2048) :
    val_main_v11 (F := Ideal) x g (ix2 r k) = normed (fun k => x (ix2 r k)) (fun k => g (ix2 0 k)) k := by
  unfold normed
  rw [← squares]
  pointwise [val_main_v11, val_main_v10, val_main_v9, val_main_v8, val_main_v7, val_main_v6, val_main_v5, val_main_v4, val_main_v3, val_main_v2,
    val_main_cst_0, val_main_cst_1]

/-- The reference's gate product. -/
theorem gate_eq (r : Fin 16384) (e : Fin 5504) :
    val_main_v12 (F := Ideal) x g wg (ix2 r e) = ∑ k : Fin 2048, val_main_v11 (F := Ideal) x g (ix2 r k) * wg (ix2 k e) := by
  pointwise [val_main_v12]

/-- The reference's up product. -/
theorem up_eq (r : Fin 16384) (e : Fin 5504) :
    val_main_v14 (F := Ideal) x g wu (ix2 r e) = ∑ k : Fin 2048, val_main_v11 (F := Ideal) x g (ix2 r k) * wu (ix2 k e) := by
  pointwise [val_main_v14]

/-- The reference's gated gate. -/
theorem silu_eq (r : Fin 16384) (e : Fin 5504) : val_main_v13 (F := Ideal) x g wg (ix2 r e)
    = val_main_v12 (F := Ideal) x g wg (ix2 r e) * Ideal.logistic (val_main_v12 (F := Ideal) x g wg (ix2 r e)) := by
  pointwise [val_main_v13, val_main_call0_v5, val_main_call0_v4, val_main_call0_v3, val_main_call0_v2, val_main_call0_v1, val_main_call0_v0,
    val_main_call0_cst, val_main_call0_cst_0]
  rfl

/-- The reference at an element. -/
theorem reference_eq (r : Fin 16384) (n : Fin 2048) : val_main_v19 (F := Ideal) x g wg wu wd (ix2 r n) = ffn x g wg wu wd r n := by
  unfold ffn
  have each : ∀ e : Fin 5504, val_main_v15 (F := Ideal) x g wg wu (ix2 r e) * wd (ix2 e n)
      = gated (normed (fun k => x (ix2 r k)) (fun k => g (ix2 0 k))) (fun k => wg (ix2 k e)) (fun k => wu (ix2 k e)) (wd (ix2 e n)) := by
    intro e
    unfold gated
    simp only [← norm_eq]
    rw [← gate_eq, ← up_eq, ← silu_eq]
    rfl
  simp only [← each]
  pointwise [val_main_v19, val_main_v18, val_main_v17, val_main_v16, val_main_cst_2]
end

/-- The kernel runs to its end at the machine's words, from any memory, and leaves its arguments. -/
theorem frame : Cert.quiescent_Ffn := fun m ρ _ => Cert.Ffn.Hand.frame m ρ
/-- So does its idealization. -/
theorem frame_ideal : Cert.quiescent_FfnIdeal := fun m ρ _ => Cert.FfnIdeal.Hand.frame m ρ
/-- The reference runs to its end and leaves its arguments. -/
theorem frame_reference : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)
/-- Nothing was rewritten. -/
theorem preserves : Cert.preserves_Ffn_FfnIdeal := trivial

/-- The kernel's array and the reference's are the same function of the arguments. -/
theorem algebraic : Cert.algebraic_FfnIdeal_FfnRefIdeal := by
  intro m ρ m' ρ' _ hagree
  refine ⟨fun c => fun j => ffn (Cert.FfnIdeal.Hand.aX m c) (Cert.FfnIdeal.Hand.aG m c) (Cert.FfnIdeal.Hand.aWg m c)
    (Cert.FfnIdeal.Hand.aWu m c) (Cert.FfnIdeal.Hand.aWd m c) (j 0) (j 1), ?_, ?_⟩
  · exact (θ_run Cert.FfnIdeal.defs _ _).mono (fun _ h c => ⟨(h c).1.trans (Cert.FfnIdeal.Hand.array_eq m c), (h c).2⟩)
      (Cert.FfnIdeal.Hand.run_array (F := Ideal) m ρ)
  · refine (θ_run Cert.FfnRefIdeal.defs _ _).mono (fun _ h c => ⟨(h c).1.trans ?_, (h c).2⟩)
      (Cert.FfnRefIdeal.Value.run (F := Ideal) m' ρ')
    obtain ⟨h0, h1, h2, h3, h4⟩ := hagree c
    rw [val_main_v19_eq, h0, h1, h2, h3, h4]
    funext j
    rw [eq_ix2 j]
    exact reference_eq _ _ _ _ _ (j 0) (j 1)

end Cert.Proof.Ffn
-- ==== Proof.FfnNormIdealRun.lean ====
module

public import proofs.«01_k».proof.Proof.Gen.FfnNormIdeal.Launch
public import proofs.«01_k».proof.Proof.Gen.FfnNormIdeal.Skeleton
public import proofs.«01_k».proof.Proof.Gen.FfnNormIdeal.Points
public import Idealize.ShloMosaic.Lib.Pipeline.FrameBody
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

/-! # One grid point of the feed-forward call (FfnNormIdeal): the three cases of the body

The body has three cases, by the position `j` of the point in its row of 22: at `j = 0` it normalises the row tile, keeps it
in the scratch buffer and starts the accumulation with the last (overhanging) block of the weights; for `0 < j < 21` it adds the
contribution of one block; at `j = 21` it adds the last contribution, halves, adds the row tile itself, and writes the norm of
the result to the second output. -/

set_option maxRecDepth 16384

noncomputable section

namespace Cert.FfnNormIdeal.Hand

open Cert.FfnNormIdeal Cert.FfnNormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer read after one store that covers all of it holds the stored value. -/
theorem read_store_all {κ : Kind} {sp : Space} {s : Shape} {e : EltTy} (v : View sig κ sp s e)
    (f : v.ty.Contents (Elt F)) {off : Fin s.rank → ℕ} (h : off = fun _ => 0) (inb : ∀ a, off a + s.size a ≤ s.size a)
    (w : s.Idx → Elt F e) :
    v.read (Elt F) (v.writes (Elt F) f [(⟨Rect.unit off s.size inb, w⟩ : View.Piece (Elt F) s e)]) = w := by
  subst h
  funext y
  have e := View.read_writes_cons_emb (Val := Elt F) v f (Rect.whole s) w [] y
  rw [Rect.emb_whole_apply] at e
  exact e

/-- The first 128 columns of a 256-column weight block. -/
abbrev left128 (w : Vec F S2048x256 .f32) : Vec F S2048x128 .f32 :=
  View.ld w (Rect.unit ![0, 0] S2048x128.size inb_S2048x256_S2048x128_0_0)

/-- The first 128 rows of a 256-row weight block. -/
abbrev top128 (w : Vec F S256x2048 .f32) : Vec F S128x2048 .f32 :=
  View.ld w (Rect.unit ![0, 0] S128x2048.size inb_S256x2048_S128x2048_0_0)

theorem zz : (![0, 0] : Fin 2 → ℕ) = fun _ => 0 := by
  funext a; fin_cases a <;> rfl

/-- A load of a whole buffer, at each of the shapes of this call, is the buffer's contents. -/
theorem ld_tile {e : EltTy} (x : S1024x2048.Idx → Elt F e) (inb) :
    View.ld x (Rect.unit (s := S1024x2048) ![0, 0] ![1024, 2048] inb) = x := View.ld_unit_zero zz _ _
theorem ld_gain {e : EltTy} (x : S1x2048.Idx → Elt F e) (inb) :
    View.ld x (Rect.unit (s := S1x2048) ![0, 0] ![1, 2048] inb) = x := View.ld_unit_zero zz _ _
theorem ld_cols {e : EltTy} (x : S2048x256.Idx → Elt F e) (inb) :
    View.ld x (Rect.unit (s := S2048x256) ![0, 0] ![2048, 256] inb) = x := View.ld_unit_zero zz _ _
theorem ld_rows {e : EltTy} (x : S256x2048.Idx → Elt F e) (inb) :
    View.ld x (Rect.unit (s := S256x2048) ![0, 0] ![256, 2048] inb) = x := View.ld_unit_zero zz _ _

set_option maxHeartbeats 2000000 in
/-- At the first point of a row: the normalised tile goes to the scratch buffer and the output tile is the product over the first 128 columns of the block; the second output keeps what it held. -/
theorem run_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x256 .f32) (harg4 : arg4.IsWhole) (arg5 : Memref sig .tc .vmem S2048x256 .f32) (harg5 : arg5.IsWhole)
    (arg6 : Memref sig .tc .vmem S256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole)
    (hc0 : k0_cond1 i = 1#1) (hc1 : ¬k0_cond2 i = 1#1) (hc2 : ¬k0_cond3 i = 1#1)
    (x0 : Vec F S1024x2048 .f32) (x1 : Vec F S1x2048 .f32) (x2 x3 : Vec F S2048x256 .f32) (x4 : Vec F S256x2048 .f32) (x5 : Vec F S1x2048 .f32)
    (xo : Vec F S1024x2048 .f32) (xh xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xh ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 (k0_pay1 x0 x1) (left128 x2) (left128 x3) (top128 x4)) ∗ owns (c : Thread nD τ) arg9 fullShare xh ∗ owns (c : Thread nD τ) arg10 fullShare (k0_pay1 x0 x1)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hfs
  sl_exec (disch := first | sl_exact hc0 | sl_exact hc1 | sl_exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]
  · iexists _; isplitr
    swap; · iexact H6
    ipureintro
    refine (read_store_all _ _ zz _ _).trans ?_
    have e : run_A.sl.v29 c arg2 harg2 arg3 harg3 arg10 x0 x1 = k0_pay1 x0 x1 := by
      unfold run_A.sl.v29
      first
        | refine (View.readCov_unit_zero _ zz _ _).trans ?_
        | (unfold run_A.sl.HS0_1; refine (View.readCov_unit_zero _ zz _ _).trans ?_)
      simp only [View.readAt_eq_ld, Memref.IsWhole.read_unread, ld_tile, ld_gain, ld_cols, ld_rows]
    rw [e]
    simp only [View.readAt_eq_ld, Memref.IsWhole.read_unread]
    try rfl
  isplitl [H7]; · iexists _; isplitr; · ipureintro; exact harg9.read_unread _
                  iexact H7
  iexists _; isplitr
  swap; · iexact HS
  ipureintro
  unfold run_A.sl.HS_1
  refine (read_store_all _ _ zz _ _).trans ?_
  simp only [View.readAt_eq_ld, Memref.IsWhole.read_unread, ld_tile, ld_gain, ld_cols, ld_rows]

set_option maxHeartbeats 2000000 in
/-- At an inner point of a row: one block is added to the output tile. -/
theorem run_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x256 .f32) (harg4 : arg4.IsWhole) (arg5 : Memref sig .tc .vmem S2048x256 .f32) (harg5 : arg5.IsWhole)
    (arg6 : Memref sig .tc .vmem S256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole)
    (hc0 : ¬k0_cond1 i = 1#1) (hc1 : k0_cond2 i = 1#1) (hc2 : ¬k0_cond3 i = 1#1)
    (x0 : Vec F S1024x2048 .f32) (x1 : Vec F S1x2048 .f32) (x2 x3 : Vec F S2048x256 .f32) (x4 : Vec F S256x2048 .f32) (x5 : Vec F S1x2048 .f32)
    (xo : Vec F S1024x2048 .f32) (xh xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xh ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 xo xs x2 x3 x4) ∗ owns (c : Thread nD τ) arg9 fullShare xh ∗ owns (c : Thread nD τ) arg10 fullShare xs) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hfs
  sl_exec (disch := first | sl_exact hc0 | sl_exact hc1 | sl_exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]
  · iexists _; isplitr
    swap; · iexact H6
    ipureintro
    refine (read_store_all _ _ zz _ _).trans ?_
    simp only [View.readAt_eq_ld, Memref.IsWhole.read_unread, ld_tile, ld_gain, ld_cols, ld_rows]
  isplitl [H7]; · iexists _; isplitr; · ipureintro; exact harg9.read_unread _
                  iexact H7
  iexists _; isplitr; · ipureintro; exact harg10.read_unread _
  iexact HS

set_option maxHeartbeats 2000000 in
/-- At the last point of a row: the last block is added, the sum is halved and the row tile is added; the second output is the norm of the result. -/
theorem run_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x256 .f32) (harg4 : arg4.IsWhole) (arg5 : Memref sig .tc .vmem S2048x256 .f32) (harg5 : arg5.IsWhole)
    (arg6 : Memref sig .tc .vmem S256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .bf16) (harg10 : arg10.IsWhole)
    (hc0 : ¬k0_cond1 i = 1#1) (hc1 : ¬k0_cond2 i = 1#1) (hc2 : k0_cond3 i = 1#1)
    (x0 : Vec F S1024x2048 .f32) (x1 : Vec F S1x2048 .f32) (x2 x3 : Vec F S2048x256 .f32) (x4 : Vec F S256x2048 .f32) (x5 : Vec F S1x2048 .f32)
    (xo : Vec F S1024x2048 .f32) (xh xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xh ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x0 xo xs x2 x3 x4) ∗ owns (c : Thread nD τ) arg9 fullShare (k0_pay5 x0 xo xs x2 x3 x4 x5) ∗ owns (c : Thread nD τ) arg10 fullShare xs) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hfs
  sl_exec (disch := first | sl_exact hc0 | sl_exact hc1 | sl_exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]
  · iexists _; isplitr
    swap; · iexact H6
    ipureintro
    refine (read_store_all _ _ zz _ _).trans ?_
    simp only [View.readAt_eq_ld, Memref.IsWhole.read_unread, ld_tile, ld_gain, ld_cols, ld_rows]
  isplitl [H7]
  · iexists _; isplitr
    swap; · iexact H7
    ipureintro
    refine (read_store_all _ _ zz _ _).trans ?_
    simp only [View.readAt_eq_ld, Memref.IsWhole.read_unread, ld_tile, ld_gain, ld_cols, ld_rows]
  iexists _; isplitr; · ipureintro; exact harg10.read_unread _
  iexact HS

end Cert.FfnNormIdeal.Hand
-- ==== Proof.FfnNormIdealFrame.lean ====
module

public import proofs.«01_k».proof.Proof.FfnNormIdealRun
public import Idealize.ShloMosaic.Lib.Claim

@[expose] public section

/-! # The feed-forward call (FfnNormIdeal): what its buffers hold after every point, and its run

The three weight windows are read in blocks of 256 of the 5504 hidden columns, so the last block overhangs its array by
half: a fetch of it leaves the second half of the staging buffer as it was. Only the first point of a row meets that block, and
the body there reads the first half alone. The contents below are therefore stated with the overhanging half at zero. -/

set_option maxRecDepth 16384

noncomputable section

namespace Cert.FfnNormIdeal.Hand

open Cert.FfnNormIdeal Cert.FfnNormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the three cases lie -/

/-- The first case is met at the first point of each row of 22, -/
theorem first_iff : ∀ t : Fin cfg0.N, k0_cond1 (grid0.coords t) = 1#1 ↔ t.val % 22 = 0 :=
  (by decide +kernel : ∀ t : Fin grid0.N, k0_cond1 (grid0.coords t) = 1#1 ↔ t.val % 22 = 0)
/-- the second at the inner points, -/
theorem inner_iff : ∀ t : Fin cfg0.N, k0_cond2 (grid0.coords t) = 1#1 ↔ (1 ≤ t.val % 22 ∧ t.val % 22 ≤ 20) :=
  (by decide +kernel : ∀ t : Fin grid0.N, k0_cond2 (grid0.coords t) = 1#1 ↔ (1 ≤ t.val % 22 ∧ t.val % 22 ≤ 20))
/-- the third at the last. -/
theorem last_iff : ∀ t : Fin cfg0.N, k0_cond3 (grid0.coords t) = 1#1 ↔ t.val % 22 = 21 :=
  (by decide +kernel : ∀ t : Fin grid0.N, k0_cond3 (grid0.coords t) = 1#1 ↔ t.val % 22 = 21)

/-- The output window is stored into at every point. -/
theorem live_out : ∀ t : Fin cfg0.N, cfg0.idle 6 (grid0.coords t) = false :=
  (by decide +kernel : ∀ t : Fin grid0.N, idle0 6 (grid0.coords t) = false)

/-- The second output is stored into at the last point of each row alone. -/
theorem idle_norm : ∀ t : Fin cfg0.N, t.val % 22 ≠ 21 → cfg0.idle 7 (grid0.coords t) = true :=
  (by decide +kernel : ∀ t : Fin grid0.N, t.val % 22 ≠ 21 → idle0 7 (grid0.coords t) = true)
theorem live_norm : ∀ t : Fin cfg0.N, t.val % 22 = 21 → cfg0.idle 7 (grid0.coords t) = false :=
  (by decide +kernel : ∀ t : Fin grid0.N, t.val % 22 = 21 → idle0 7 (grid0.coords t) = false)

/-! ## The blocks -/

/-- Window `w`'s block at point `t`, as far as it lies inside its array. -/
def iblk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The row tile of the activations at point `t`. -/
def xt (c : Dev nD) (t : Fin cfg0.N) : Vec F S1024x2048 .f32 := iblk m c 0 t
/-- The gain of the norm. -/
def gt (c : Dev nD) (t : Fin cfg0.N) : Vec F S1x2048 .f32 := iblk m c 1 t
/-- The gain of the next norm. -/
def gnt (c : Dev nD) (t : Fin cfg0.N) : Vec F S1x2048 .f32 := iblk m c 5 t
/-- The block of the gate weights at point `t`, zero past the array's end, -/
def wgt (c : Dev nD) (t : Fin cfg0.N) : Vec F S2048x256 .f32 :=
  win0_2.fill (grid0.coords t) (fun _ => Scalar.ofBits .f32 0#32) (iblk m c 2 t)
/-- of the up weights, -/
def wut (c : Dev nD) (t : Fin cfg0.N) : Vec F S2048x256 .f32 :=
  win0_3.fill (grid0.coords t) (fun _ => Scalar.ofBits .f32 0#32) (iblk m c 3 t)
/-- and of the down weights. -/
def wdt (c : Dev nD) (t : Fin cfg0.N) : Vec F S256x2048 .f32 :=
  win0_4.fill (grid0.coords t) (fun _ => Scalar.ofBits .f32 0#32) (iblk m c 4 t)

/-- How much of each weight block lies inside its array: half of it at the first point of a row, all of it elsewhere. -/
theorem size_2 : ∀ t : Fin cfg0.N, win0_2.xsize (grid0.coords t) 0 = 2048 ∧
    win0_2.xsize (grid0.coords t) 1 = if t.val % 22 = 0 then 128 else 256 :=
  (by decide +kernel : ∀ t : Fin grid0.N, win0_2.xsize (grid0.coords t) 0 = 2048 ∧
    win0_2.xsize (grid0.coords t) 1 = if t.val % 22 = 0 then 128 else 256)
theorem size_3 : ∀ t : Fin cfg0.N, win0_3.xsize (grid0.coords t) 0 = 2048 ∧
    win0_3.xsize (grid0.coords t) 1 = if t.val % 22 = 0 then 128 else 256 :=
  (by decide +kernel : ∀ t : Fin grid0.N, win0_3.xsize (grid0.coords t) 0 = 2048 ∧
    win0_3.xsize (grid0.coords t) 1 = if t.val % 22 = 0 then 128 else 256)
theorem size_4 : ∀ t : Fin cfg0.N, win0_4.xsize (grid0.coords t) 1 = 2048 ∧
    win0_4.xsize (grid0.coords t) 0 = if t.val % 22 = 0 then 128 else 256 :=
  (by decide +kernel : ∀ t : Fin grid0.N, win0_4.xsize (grid0.coords t) 1 = 2048 ∧
    win0_4.xsize (grid0.coords t) 0 = if t.val % 22 = 0 then 128 else 256)

/-- Inside the part a fetch moves, what the buffer held before does not matter. -/
theorem fill_inside {G : Pipeline.Grid} (w : Window sig G) {α : Type} (i : G.Coords) (d d' : w.block.Idx → α)
    (g : (w.xblock i).Idx → α) (j : w.block.Idx) (h : ∀ a, (j a).val < w.xsize i a) :
    w.fill i d g j = w.fill i d' g j := by
  unfold Window.fill
  rw [dif_pos ((w.moved_iff i j).mpr h), dif_pos ((w.moved_iff i j).mpr h)]

/-- At the points after the first of a row the fetched weight blocks are whole. -/
theorem whole_2 (c : Dev nD) (t : Fin cfg0.N) (h : t.val % 22 ≠ 0) (d) :
    win0_2.fill (grid0.coords t) d (iblk m c 2 t) = wgt m c t := by
  funext j
  refine fill_inside win0_2 _ _ _ _ j fun a => ?_
  obtain ⟨h0, h1⟩ := size_2 t
  rw [if_neg h] at h1
  match a with
  | 0 => exact lt_of_lt_of_eq (j 0).isLt h0.symm
  | 1 => exact lt_of_lt_of_eq (j 1).isLt h1.symm
theorem whole_3 (c : Dev nD) (t : Fin cfg0.N) (h : t.val % 22 ≠ 0) (d) :
    win0_3.fill (grid0.coords t) d (iblk m c 3 t) = wut m c t := by
  funext j
  refine fill_inside win0_3 _ _ _ _ j fun a => ?_
  obtain ⟨h0, h1⟩ := size_3 t
  rw [if_neg h] at h1
  match a with
  | 0 => exact lt_of_lt_of_eq (j 0).isLt h0.symm
  | 1 => exact lt_of_lt_of_eq (j 1).isLt h1.symm
theorem whole_4 (c : Dev nD) (t : Fin cfg0.N) (h : t.val % 22 ≠ 0) (d) :
    win0_4.fill (grid0.coords t) d (iblk m c 4 t) = wdt m c t := by
  funext j
  refine fill_inside win0_4 _ _ _ _ j fun a => ?_
  obtain ⟨h1, h0⟩ := size_4 t
  rw [if_neg h] at h0
  match a with
  | 0 => exact lt_of_lt_of_eq (j 0).isLt h0.symm
  | 1 => exact lt_of_lt_of_eq (j 1).isLt h1.symm

/-- At the first point of a row the half of them the body reads is. -/
theorem half_2 (c : Dev nD) (t : Fin cfg0.N) (h : t.val % 22 = 0) (d) :
    left128 (F := F) (win0_2.fill (grid0.coords t) d (iblk m c 2 t)) = left128 (wgt m c t) := by
  funext y
  refine fill_inside win0_2 _ _ _ _ _ fun a => ?_
  obtain ⟨h0, h1⟩ := size_2 t
  rw [if_pos h] at h1
  match a with
  | 0 => exact lt_of_lt_of_eq (show 0 + 1 * (y 0).val < 2048 by have := (y 0).isLt; change (y 0).val < 2048 at this; omega) h0.symm
  | 1 => exact lt_of_lt_of_eq (show 0 + 1 * (y 1).val < 128 by have := (y 1).isLt; change (y 1).val < 128 at this; omega) h1.symm
theorem half_3 (c : Dev nD) (t : Fin cfg0.N) (h : t.val % 22 = 0) (d) :
    left128 (F := F) (win0_3.fill (grid0.coords t) d (iblk m c 3 t)) = left128 (wut m c t) := by
  funext y
  refine fill_inside win0_3 _ _ _ _ _ fun a => ?_
  obtain ⟨h0, h1⟩ := size_3 t
  rw [if_pos h] at h1
  match a with
  | 0 => exact lt_of_lt_of_eq (show 0 + 1 * (y 0).val < 2048 by have := (y 0).isLt; change (y 0).val < 2048 at this; omega) h0.symm
  | 1 => exact lt_of_lt_of_eq (show 0 + 1 * (y 1).val < 128 by have := (y 1).isLt; change (y 1).val < 128 at this; omega) h1.symm
theorem half_4 (c : Dev nD) (t : Fin cfg0.N) (h : t.val % 22 = 0) (d) :
    top128 (F := F) (win0_4.fill (grid0.coords t) d (iblk m c 4 t)) = top128 (wdt m c t) := by
  funext y
  refine fill_inside win0_4 _ _ _ _ _ fun a => ?_
  obtain ⟨h1, h0⟩ := size_4 t
  rw [if_pos h] at h0
  match a with
  | 0 => exact lt_of_lt_of_eq (show 0 + 1 * (y 0).val < 128 by have := (y 0).isLt; change (y 0).val < 128 at this; omega) h0.symm
  | 1 => exact lt_of_lt_of_eq (show 0 + 1 * (y 1).val < 2048 by have := (y 1).isLt; change (y 1).val < 2048 at this; omega) h1.symm

/-! ## What the output tile and the scratch buffer hold after each point -/

/-- The normalised row tile. -/
def hid (c : Dev nD) (t : Fin cfg0.N) : Vec F S1024x2048 .bf16 := k0_pay1 (xt m c t) (gt m c t)

/-- What the first point of a row leaves: the first contribution, and the normalised tile. -/
def start (c : Dev nD) (t : Fin cfg0.N) : Vec F S1024x2048 .f32 × Vec F S1024x2048 .bf16 :=
  (k0_pay2 (hid m c t) (left128 (wgt m c t)) (left128 (wut m c t)) (top128 (wdt m c t)), hid m c t)

/-- What a later point makes of what the point before left. -/
def next (c : Dev nD) (t : Fin cfg0.N) (p : Vec F S1024x2048 .f32 × Vec F S1024x2048 .bf16) :
    Vec F S1024x2048 .f32 × Vec F S1024x2048 .bf16 :=
  if t.val % 22 = 21 then (k0_pay4 (xt m c t) p.1 p.2 (wgt m c t) (wut m c t) (wdt m c t), p.2)
  else (k0_pay3 p.1 p.2 (wgt m c t) (wut m c t) (wdt m c t), p.2)

/-- The output tile and the scratch buffer after point `n`. -/
def outs (c : Dev nD) : (n : ℕ) → n < cfg0.N → Vec F S1024x2048 .f32 × Vec F S1024x2048 .bf16
  | 0, hn => start m c ⟨0, hn⟩
  | n + 1, hn =>
    if (n + 1) % 22 = 0 then start m c ⟨n + 1, hn⟩
    else next m c ⟨n + 1, hn⟩ (outs c n (Nat.lt_of_succ_lt hn))

theorem outs_first (c : Dev nD) (t : Fin cfg0.N) (h : t.val % 22 = 0) : outs m c t.val t.isLt = start m c t := by
  obtain ⟨n, hn⟩ := t
  cases n with
  | zero => rfl
  | succ n => exact if_pos h

theorem outs_next (c : Dev nD) (t : Fin cfg0.N) (h : t.val % 22 ≠ 0) :
    outs m c t.val t.isLt = next m c t (outs m c (t.val - 1) (Nat.lt_of_le_of_lt (Nat.sub_le _ _) t.isLt)) := by
  obtain ⟨n, hn⟩ := t
  cases n with
  | zero => exact absurd rfl h
  | succ n => exact if_neg h

/-- What the last point of a row leaves in the second output: the norm of the row tile's result. -/
def normOut (c : Dev nD) (t : Fin cfg0.N) : Vec F S1024x2048 .bf16 :=
  k0_pay5 (xt m c t) (outs m c (t.val - 1) (Nat.lt_of_le_of_lt (Nat.sub_le _ _) t.isLt)).1
    (outs m c (t.val - 1) (Nat.lt_of_le_of_lt (Nat.sub_le _ _) t.isLt)).2 (wgt m c t) (wut m c t) (wdt m c t) (gnt m c t)

/-- The invariant between points: before the first point the scratch buffer holds anything, later what the point before left. -/
def Inv (c : Dev nD) : (n : ℕ) → n ≤ cfg0.N → sProp 𝕄
  | 0, _ => Pipeline.ΦA spec0 c
  | n + 1, hn => iprop(owns (c : Thread nD τ) (Memref.whole cc0_scratch0) fullShare (outs m c n hn).2 ∗ (∃ r, prngReg c r))

theorem Inv_pos (c : Dev nD) (n : ℕ) (h : n ≤ cfg0.N) (hz : n ≠ 0) :
    Inv m c n h = iprop(owns (c : Thread nD τ) (Memref.whole cc0_scratch0) fullShare (outs m c (n - 1) (by omega)).2 ∗ (∃ r, prngReg c r)) := by
  cases n with
  | zero => exact absurd rfl hz
  | succ n => rfl

theorem rest_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- The invariant always gives the scratch buffer at some contents. -/
theorem Inv_some (c : Dev nD) (n : ℕ) (h : n ≤ cfg0.N) : Inv m c n h ⊢ Pipeline.ΦA spec0 c := by
  cases n with
  | zero => exact Idealize.SL.BI.Entails.refl _
  | succ n =>
    rw [rest_eq]; unfold Inv
    iintro ⟨HS, Hg⟩
    isplitl [HS]
    · iexists _; iexact HS
    iexact Hg

theorem Inv_split (c : Dev nD) (n : ℕ) (h : n ≤ cfg0.N) :
    Inv m c n h ⊢ iprop(iprop((∃ d, owns (c : Thread nD τ) (Memref.whole cc0_scratch0) fullShare d)) ∗ (∃ r, prngReg c r)) := by
  rw [← rest_eq]; exact Inv_some m c n h

/-- The proof data of the call: its arrays as launched; after each point the input buffers at their blocks, the output at
    `outs`; the invariant `Inv`. -/
def dats (_ : Fin 1) (c : Dev nD) : Dat τ (Elt F) Unit ℕ (UR sig nD τ) ℕ cfg0 c where
  A w := m ((c : Thread nD τ).loc (Pipeline.arrRef spec0 w))
  after w t := match w with
    | ⟨0, _⟩ => xt m c t
    | ⟨1, _⟩ => gt m c t
    | ⟨2, _⟩ => wgt m c t
    | ⟨3, _⟩ => wut m c t
    | ⟨4, _⟩ => wdt m c t
    | ⟨5, _⟩ => gnt m c t
    | ⟨6, _⟩ => (outs m c t.val t.isLt).1
    | ⟨7, _⟩ => normOut m c t
  Φ t := Inv m c t.val (Nat.le_of_lt_succ t.isLt)
  q _ := fullShare
  owed _ := 0

theorem A_eq (c : Dev nD) (w : Fin cfg0.W) : (dats m 0 c).A w = m ((c : Thread nD τ).loc (Pipeline.arrRef spec0 w)) := by
  dsimp only [dats]

theorem after_0 (c : Dev nD) (t : Fin cfg0.N) : (dats m 0 c).after 0 t = xt m c t := by dsimp only [dats]
theorem after_1 (c : Dev nD) (t : Fin cfg0.N) : (dats m 0 c).after 1 t = gt m c t := by dsimp only [dats]
theorem after_2 (c : Dev nD) (t : Fin cfg0.N) : (dats m 0 c).after 2 t = wgt m c t := by dsimp only [dats]
theorem after_3 (c : Dev nD) (t : Fin cfg0.N) : (dats m 0 c).after 3 t = wut m c t := by dsimp only [dats]
theorem after_4 (c : Dev nD) (t : Fin cfg0.N) : (dats m 0 c).after 4 t = wdt m c t := by dsimp only [dats]
theorem after_6 (c : Dev nD) (t : Fin cfg0.N) : (dats m 0 c).after 6 t = (outs m c t.val t.isLt).1 := by dsimp only [dats]

theorem after_5 (c : Dev nD) (t : Fin cfg0.N) : (dats m 0 c).after 5 t = gnt m c t := by dsimp only [dats]
theorem after_7 (c : Dev nD) (t : Fin cfg0.N) : (dats m 0 c).after 7 t = normOut m c t := by dsimp only [dats]

/-! ## What the body finds -/

theorem before_0 (c : Dev nD) (t : Fin cfg0.N) (d) : (dats m 0 c).before 0 t d = xt m c t :=
  ((dats m 0 c).before_in_eq_fetched 0 rfl (fun _ => rfl) (fun _ _ _ => rfl)
    (fun t => by rw [after_0]; unfold Dat.blockOf xt iblk; rw [A_eq]; try rfl) t d).trans
    (by unfold Dat.fetched Dat.blockOf xt iblk; rw [A_eq]; try rfl)
theorem before_1 (c : Dev nD) (t : Fin cfg0.N) (d) : (dats m 0 c).before 1 t d = gt m c t :=
  ((dats m 0 c).before_in_eq_fetched 1 rfl (fun _ => rfl) (fun _ _ _ => rfl)
    (fun t => by rw [after_1]; unfold Dat.blockOf gt iblk; rw [A_eq]; try rfl) t d).trans
    (by unfold Dat.fetched Dat.blockOf gt iblk; rw [A_eq]; try rfl)
theorem before_2 (c : Dev nD) (t : Fin cfg0.N) (d) :
    (dats m 0 c).before 2 t d = win0_2.fill (grid0.coords t) d (iblk m c 2 t) := by
  unfold Dat.before; rw [if_pos (fetch0_2 t)]; rfl
theorem before_3 (c : Dev nD) (t : Fin cfg0.N) (d) :
    (dats m 0 c).before 3 t d = win0_3.fill (grid0.coords t) d (iblk m c 3 t) := by
  unfold Dat.before; rw [if_pos (fetch0_3 t)]; rfl
theorem before_4 (c : Dev nD) (t : Fin cfg0.N) (d) :
    (dats m 0 c).before 4 t d = win0_4.fill (grid0.coords t) d (iblk m c 4 t) := by
  unfold Dat.before; rw [if_pos (fetch0_4 t)]; rfl

theorem before_5 (c : Dev nD) (t : Fin cfg0.N) (d) : (dats m 0 c).before 5 t d = gnt m c t :=
  ((dats m 0 c).before_in_eq_fetched 5 rfl (fun _ => rfl) (fun _ _ _ => rfl)
    (fun t => by rw [after_5]; unfold Dat.blockOf gnt iblk; rw [A_eq]; try rfl) t d).trans
    (by unfold Dat.fetched Dat.blockOf gnt iblk; rw [A_eq]; try rfl)

/-- After the first point of a row the output buffer holds what the point before left in it. -/
theorem before_6 (c : Dev nD) (t : Fin cfg0.N) (h : t.val % 22 ≠ 0) (d) :
    (dats m 0 c).before 6 t d = (outs m c (t.val - 1) (Nat.lt_of_le_of_lt (Nat.sub_le _ _) t.isLt)).1 := by
  have hp : t.val ≠ 0 := fun e => h (by rw [e])
  have hnf : (cfg0.win 6).flush ⟨t.val - 1, Nat.lt_of_le_of_lt (Nat.sub_le _ _) t.isLt⟩ = false := by
    by_contra hc
    rw [Bool.not_eq_false] at hc
    have := (flush0_6 _).mp hc
    dsimp only at this
    omega
  have hf : (cfg0.win 6).fetch t = false := rfl
  unfold Dat.before
  rw [if_neg (by rw [hf]; exact Bool.false_ne_true), if_neg hp]
  show (if (cfg0.win 6).flush ⟨t.val - 1, Nat.lt_of_le_of_lt (Nat.sub_le _ _) t.isLt⟩ = true then d else _) = _
  rw [hnf, if_neg Bool.false_ne_true, live_out]
  exact after_6 m c ⟨t.val - 1, Nat.lt_of_le_of_lt (Nat.sub_le _ _) t.isLt⟩

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t ∗ (dats m 0 c).leaves 7 t)

theorem leaves_0 (c : Dev nD) (t : Fin cfg0.N) :
    (dats m 0 c).leaves 0 t = owns (c : Thread nD τ) (st0_0 t) fullShare (xt m c t) := by
  rw [← after_0]; try rfl
theorem leaves_1 (c : Dev nD) (t : Fin cfg0.N) :
    (dats m 0 c).leaves 1 t = owns (c : Thread nD τ) (st0_1 t) fullShare (gt m c t) := by
  rw [← after_1]; try rfl
theorem leaves_2 (c : Dev nD) (t : Fin cfg0.N) :
    (dats m 0 c).leaves 2 t = iprop(∃ d, owns (c : Thread nD τ) (st0_2 t) fullShare (win0_2.fill (grid0.coords t) d (iblk m c 2 t))) := by
  have e : win0_2.cut (grid0.coords t) (wgt m c t) = iblk m c 2 t := win0_2.cut_fill _ _ _
  rw [← e, ← after_2]; try rfl
theorem leaves_3 (c : Dev nD) (t : Fin cfg0.N) :
    (dats m 0 c).leaves 3 t = iprop(∃ d, owns (c : Thread nD τ) (st0_3 t) fullShare (win0_3.fill (grid0.coords t) d (iblk m c 3 t))) := by
  have e : win0_3.cut (grid0.coords t) (wut m c t) = iblk m c 3 t := win0_3.cut_fill _ _ _
  rw [← e, ← after_3]; try rfl
theorem leaves_4 (c : Dev nD) (t : Fin cfg0.N) :
    (dats m 0 c).leaves 4 t = iprop(∃ d, owns (c : Thread nD τ) (st0_4 t) fullShare (win0_4.fill (grid0.coords t) d (iblk m c 4 t))) := by
  have e : win0_4.cut (grid0.coords t) (wdt m c t) = iblk m c 4 t := win0_4.cut_fill _ _ _
  rw [← e, ← after_4]; try rfl
theorem leaves_6 (c : Dev nD) (t : Fin cfg0.N) :
    (dats m 0 c).leaves 6 t = owns (c : Thread nD τ) (st0_6 t) fullShare (outs m c t.val t.isLt).1 := by
  rw [← after_6]
  unfold Dat.leaves
  rw [live_out t]; try rfl

theorem leaves_5 (c : Dev nD) (t : Fin cfg0.N) :
    (dats m 0 c).leaves 5 t = owns (c : Thread nD τ) (st0_5 t) fullShare (gnt m c t) := by
  rw [← after_5]; try rfl
/-- Before the last point of a row the second output's buffer is handed back as it was found, -/
theorem leaves_7 (c : Dev nD) (t : Fin cfg0.N) (h : t.val % 22 ≠ 21) :
    (dats m 0 c).leaves 7 t = iprop(∃ d, owns (c : Thread nD τ) (st0_7 t) fullShare ((dats m 0 c).before 7 t d)) := by
  have hnf : (cfg0.win 7).flush t = false := by
    by_contra hc
    rw [Bool.not_eq_false] at hc
    exact h ((flush0_7 t).mp hc)
  unfold Dat.leaves
  rw [idle_norm t h, hnf]; try rfl
/-- and at the last point it holds the norm. -/
theorem leaves_7_last (c : Dev nD) (t : Fin cfg0.N) (h : t.val % 22 = 21) :
    (dats m 0 c).leaves 7 t = owns (c : Thread nD τ) (st0_7 t) fullShare (normOut m c t) := by
  rw [← after_7]
  unfold Dat.leaves
  rw [live_norm t h]; try rfl

theorem Phi_start (c : Dev nD) (t : Fin cfg0.N) : (dats m 0 c).Φ t.castSucc = Inv m c t.val (Nat.le_of_lt t.isLt) := by
  dsimp only [dats]; exact Pipeline.Dat.Φ_castSucc (Inv m c) t

theorem Phi_end (c : Dev nD) (t : Fin cfg0.N) :
    (dats m 0 c).Φ t.succ = iprop(owns (c : Thread nD τ) (Memref.whole cc0_scratch0) fullShare (outs m c t.val t.isLt).2 ∗ (∃ r, prngReg c r)) := rfl

set_option maxHeartbeats 4000000 in
/-- The body at the first point of a row. -/
theorem body_first (c : Dev nD) (t : Fin cfg0.N) (h : t.val % 22 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5, leaves_6, leaves_7 m c t (by omega)]
  rw [show (dats m 0 c).owesAt () t.succ = (dats m 0 c).owesAt () t.castSucc from rfl, Phi_end, Phi_start, outs_first m c t h]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HI2 := (Inv_split m c t.val (Nat.le_of_lt t.isLt)) $$ HI
  icases HI2 with ⟨⟨%ds, HS⟩, Hg⟩
  iapply (run_A c (grid0.coords t) _ _ _ _ _ _ _ _ _ _ _ _ _ _ _ _ _ _ ((first_iff t).mpr h)
    (fun e => by have := (inner_iff t).mp e; omega) (fun e => by have := (last_iff t).mp e; omega)
    (xt m c t) (gt m c t) (win0_2.fill (grid0.coords t) d2 (iblk m c 2 t)) (win0_3.fill (grid0.coords t) d3 (iblk m c 3 t))
    (win0_4.fill (grid0.coords t) d4 (iblk m c 4 t)) (gnt m c t) ((dats m 0 c).before 6 t d6) ((dats m 0 c).before 7 t d7) ds Set.univ _)
  rw [half_2 m c t h, half_3 m c t h, half_4 m c t h]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexists d2; iexact H2
  isplitl [H3]; · iexists d3; iexact H3
  isplitl [H4]; · iexists d4; iexact H4
  isplitl [H5]; · iexact H5
  isplitl [H6]; · iexact H6
  iexists d7; iexact H7

set_option maxHeartbeats 4000000 in
/-- The body at an inner point of a row. -/
theorem body_inner (c : Dev nD) (t : Fin cfg0.N) (h : t.val % 22 ≠ 0) (h2 : t.val % 22 ≠ 21) :
    bodyPre m c t ⊢ wp frame (wpE (defs₀ (F := F)) Variants.none c none) Set.univ (bodyAt0 t) (fun _ => bodyPost m c t) := by
  have hp : t.val ≠ 0 := fun e => h (by rw [e])
  unfold bodyPre bodyPost bodyAt0
  simp only [before_0, before_1, before_2, before_3, before_4, before_5, before_6 m c t h, leaves_0, leaves_1, leaves_2, leaves_3, leaves_4, leaves_5, leaves_6, leaves_7 m c t h2]
  rw [show (dats m 0 c).owesAt () t.succ = (dats m 0 c).owesAt () t.castSucc from rfl, Phi_end, Phi_start, Inv_pos m c _ _ hp,
    outs_next m c t h]
  simp only [whole_2 m c t h, whole_3 m c t h, whole_4 m c t h]
  unfold next
  rw [if_neg h2]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_B c (grid0.coords t) _ _ _ _ _ _ _ _ _ _ _ _ _ _ _ _ _ _ (fun e => h ((first_iff t).mp e))
    ((inner_iff t).mpr (by omega)) (fun e => h2 ((last_iff t).mp e))
    (xt m c t) (gt m c t) (wgt m c t) (wut m c t) (wdt m c t) (gnt m c t) _ ((dats m 0 c).before 7 t d7) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexists d2; iexact H2
  isplitl [H3]; · iexists d3; iexact H3
  isplitl [H4]; · iexists d4; iexact H4
  isplitl [H5]; · iexact H5
  isplitl [H6]; · iexact H6
  iexists d7; iexact H7

set_option maxHeartbeats 4000000 in
/-- The body at the last point of a row. -/
theorem body_last (c : Dev nD) (t : Fin cfg0.N) (h : t.val % 22 ≠ 0) (h2 : t.val % 22 = 21) :
    bodyPre m c t ⊢ wp frame (wpE (defs₀ (F := F)) Variants.none c none) Set.univ (bodyAt0 t) (fun _ => bodyPost m c t) := by
  have hp : t.val ≠ 0 := fun e => h (by rw [e])
  unfold bodyPre bodyPost bodyAt0
  simp only [before_0, before_1, before_2, before_3, before_4, before_5, before_6 m c t h, leaves_0, leaves_1, leaves_2, leaves_3, leaves_4, leaves_5, leaves_6, leaves_7_last m c t h2]
  rw [show (dats m 0 c).owesAt () t.succ = (dats m 0 c).owesAt () t.castSucc from rfl, Phi_end, Phi_start, Inv_pos m c _ _ hp,
    outs_next m c t h]
  simp only [whole_2 m c t h, whole_3 m c t h, whole_4 m c t h]
  unfold next
  rw [if_pos h2]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_C c (grid0.coords t) _ _ _ _ _ _ _ _ _ _ _ _ _ _ _ _ _ _ (fun e => h ((first_iff t).mp e))
    (fun e => by have := (inner_iff t).mp e; omega) ((last_iff t).mpr h2)
    (xt m c t) (gt m c t) (wgt m c t) (wut m c t) (wdt m c t) (gnt m c t) _ ((dats m 0 c).before 7 t d7) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexists d2; iexact H2
  isplitl [H3]; · iexists d3; iexact H3
  isplitl [H4]; · iexists d4; iexact H4
  isplitl [H5]; · iexact H5
  isplitl [H6]; · iexact H6
  unfold normOut; iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 22 = 0
  · exact body_first m c t h
  · by_cases h2 : t.val % 22 = 21
    · exact body_last m c t h h2
    · exact body_inner m c t h h2

theorem defs₀_row (t : Fin cfg0.N) :
    defs₀ (F := F) .tc cfg0.body (cfg0.bodyArgs t (cfg0.slots t)) = bodyAt0 t := by
  unfold defs₀; rw [Defs.onTc_tc]

/-- The body obligation of the pipeline, the weight windows stated on the part inside their arrays. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

theorem hmain (𝒱₀ : Variants) : Pipeline.HMain (Ix := Unit) (Name := ℕ) (U := UR sig nD τ) (Lvl := ℕ) cfgs 0 defs₀ 𝒱₀ m (main (F := F))
    (fun c b => m ((c : Thread nD τ).loc b)) :=
  Pipeline.hmain_region cfgs 0 defs₀ 𝒱₀ m main fun c => (main_chain c).trans rfl

theorem hin (c : Dev nD) : Pipeline.ΦA spec0 c ⊢ (dats m 0 c).Φ 0 :=
  Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl]
  exact Inv_some m c _ _

set_option backward.isDefEq.respectTransparency.types false in
/-- Every execution of the call terminates with its arrays at what the proof data computes, and every counter at zero. -/
theorem run_main : θ_run defs (onTc (τ := τ) (main (F := F))) (s₀ m ρ)
    (fun r => (Pipeline.FramePost cfgs (dats m) 0 (fun c b => m ((c : Thread nD τ).loc b))) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := fun c b => m ((c : Thread nD τ).loc b)) (hmain := hmain m Variants.none) (hA := A_eq m) (hin := hin m) (hout := hout m)

/-- The run, with what the results' arrays hold at its end. -/
theorem run_array : θ_run defs (onTc (τ := τ) (main (F := F))) ⟨m, fun _ => 0, ρ⟩ (fun r => ∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h.1 c).1 6, (h.1 c).1 7,
       ((h.1 c).1 0).trans (((dats m 0 c).arrAt_in 0 rfl _).trans (A_eq m c 0)),
       ((h.1 c).1 1).trans (((dats m 0 c).arrAt_in 1 rfl _).trans (A_eq m c 1)),
       ((h.1 c).1 2).trans (((dats m 0 c).arrAt_in 2 rfl _).trans (A_eq m c 2)),
       ((h.1 c).1 3).trans (((dats m 0 c).arrAt_in 3 rfl _).trans (A_eq m c 3)),
       ((h.1 c).1 4).trans (((dats m 0 c).arrAt_in 4 rfl _).trans (A_eq m c 4)),
       ((h.1 c).1 5).trans (((dats m 0 c).arrAt_in 5 rfl _).trans (A_eq m c 5))⟩) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨((h.1 c).1 0).trans (((dats m 0 c).arrAt_in 0 rfl _).trans (A_eq m c 0)),
       ((h.1 c).1 1).trans (((dats m 0 c).arrAt_in 1 rfl _).trans (A_eq m c 1)),
       ((h.1 c).1 2).trans (((dats m 0 c).arrAt_in 2 rfl _).trans (A_eq m c 2)),
       ((h.1 c).1 3).trans (((dats m 0 c).arrAt_in 3 rfl _).trans (A_eq m c 3)),
       ((h.1 c).1 4).trans (((dats m 0 c).arrAt_in 4 rfl _).trans (A_eq m c 4)),
       ((h.1 c).1 5).trans (((dats m 0 c).arrAt_in 5 rfl _).trans (A_eq m c 5))⟩, h.2⟩) (run_main m ρ)

end Cert.FfnNormIdeal.Hand
-- ==== Proof.FfnNormIdealValue.lean ====
/-
  The value of the feed-forward call that also gives the next norm, over the extended reals: what one point of the grid
  computes, what the output tile holds along a row of 22 points, and what the two arrays hold at the end.
-/
module

public import proofs.«01_k».proof.Proof.FfnNormIdealFrame
public import proofs.«01_k».proof.Proof.FfnIdealValue
public import Idealize.ShloMosaic.Lib.Pipeline.ValueKit
public import Idealize.ShloMosaic.Lib.Pipeline.ReadBack
public import Idealize.ShloMosaic.Lib.Pointwise
public import Idealize.ShloMosaic.Lib.Tactic

@[expose] public section
set_option maxRecDepth 16384
noncomputable section
open Idealize.ShloMosaic Idealize.ShloMosaic.TcCoe Idealize.SL.Sem
open Idealize.ShloMosaic.Pipeline (Dat)

namespace Cert.FfnNormIdeal.Hand
open Cert.FfnNormIdeal Cert.FfnNormIdeal.Gen
open Cert.FfnIdeal.Hand (normed gated ffn)

/-! ## One point -/

/-- The normalised tile. -/
theorem tile_norm (x : Vec Ideal S1024x2048 .f32) (g : Vec Ideal S1x2048 .f32) (p : Fin 1024) (k : Fin 2048) :
    k0_pay1 (F := Ideal) x g (ix2 p k) = normed (fun k => (x (ix2 p k) : EReal)) (fun k => (g (ix2 0 k) : EReal)) k := by
  unfold normed
  pointwise [k0_pay1]

/-- The first contribution of a row. -/
theorem tile_first (h : Vec Ideal S1024x2048 .bf16) (g u : Vec Ideal S2048x128 .f32) (d : Vec Ideal S128x2048 .f32) (p : Fin 1024) (q : Fin 2048) :
    k0_pay2 (F := Ideal) h g u d (ix2 p q)
      = ∑ e : Fin 128, gated (fun k => (h (ix2 p k) : EReal)) (fun k => (g (ix2 k e) : EReal)) (fun k => (u (ix2 k e) : EReal)) (d (ix2 e q)) := by
  unfold gated
  pointwise [k0_pay2]

/-- One more contribution. -/
theorem tile_inner (o : Vec Ideal S1024x2048 .f32) (h : Vec Ideal S1024x2048 .bf16) (g u : Vec Ideal S2048x256 .f32) (d : Vec Ideal S256x2048 .f32) (p : Fin 1024) (q : Fin 2048) :
    k0_pay3 (F := Ideal) o h g u d (ix2 p q) = (o (ix2 p q) : EReal)
      + ∑ e : Fin 256, gated (fun k => (h (ix2 p k) : EReal)) (fun k => (g (ix2 k e) : EReal)) (fun k => (u (ix2 k e) : EReal)) (d (ix2 e q)) := by
  unfold gated
  pointwise [k0_pay3]

/-- The last contribution, and the residual. -/
theorem tile_last (x o : Vec Ideal S1024x2048 .f32) (h : Vec Ideal S1024x2048 .bf16) (g u : Vec Ideal S2048x256 .f32) (d : Vec Ideal S256x2048 .f32) (p : Fin 1024) (q : Fin 2048) :
    k0_pay4 (F := Ideal) x o h g u d (ix2 p q) = (x (ix2 p q) : EReal) + Ideal.ofBits .f32 0x3F000000#32 * ((o (ix2 p q) : EReal)
      + ∑ e : Fin 256, gated (fun k => (h (ix2 p k) : EReal)) (fun k => (g (ix2 k e) : EReal)) (fun k => (u (ix2 k e) : EReal)) (d (ix2 e q))) := by
  unfold gated
  pointwise [k0_pay4]

/-- The second output: the norm of the first. -/
theorem tile_second (x o : Vec Ideal S1024x2048 .f32) (h : Vec Ideal S1024x2048 .bf16) (g u : Vec Ideal S2048x256 .f32) (d : Vec Ideal S256x2048 .f32)
    (n : Vec Ideal S1x2048 .f32) (p : Fin 1024) (k : Fin 2048) :
    k0_pay5 (F := Ideal) x o h g u d n (ix2 p k)
      = normed (fun k => (k0_pay4 (F := Ideal) x o h g u d (ix2 p k) : EReal)) (fun k => (n (ix2 0 k) : EReal)) k := by
  unfold normed
  pointwise [k0_pay5]

/-! ## The blocks as parts of the arrays -/

variable (m : (ℓ : Loc nD τ sig) → Buf (Elt Ideal) ℓ) (c : Dev nD)

/-- The arguments of device `c`: activations, gain, gate, up and down weights, the next gain. -/
abbrev aX : S16384x2048.Idx → EReal := m ((c : Thread nD τ).loc main_arg0)
abbrev aG : S1x2048.Idx → EReal := m ((c : Thread nD τ).loc main_arg1)
abbrev aWg : S2048x5504.Idx → EReal := m ((c : Thread nD τ).loc main_arg2)
abbrev aWu : S2048x5504.Idx → EReal := m ((c : Thread nD τ).loc main_arg3)
abbrev aWd : S5504x2048.Idx → EReal := m ((c : Thread nD τ).loc main_arg4)
abbrev aN : S1x2048.Idx → EReal := m ((c : Thread nD τ).loc main_arg5)

/-- Where each point's blocks lie. -/
theorem place : ∀ t : Fin grid0.N,
    win0_0.index t = ![t.val / 22, 0] ∧ win0_1.index t = ![0, 0]
    ∧ win0_2.index t = ![0, (t.val % 22 + 21) % 22] ∧ win0_3.index t = ![0, (t.val % 22 + 21) % 22]
    ∧ win0_4.index t = ![(t.val % 22 + 21) % 22, 0] ∧ win0_5.index t = ![0, 0]
    ∧ win0_6.index t = ![t.val / 22, 0] ∧ win0_7.index t = ![t.val / 22, 0] := by
  decide +kernel

theorem xt_eq (t : Fin cfg0.N) (p : Fin 1024) (k : Fin 2048) (r : Fin 16384) (hr : r.val = t.val / 22 * 1024 + p.val) :
    xt m c t (ix2 p k) = aX m c (ix2 r k) := by
  unfold xt
  blk_ext [iblk, place t, hr]

theorem gt_eq (t : Fin cfg0.N) (k : Fin 2048) : gt m c t (ix2 0 k) = aG m c (ix2 0 k) := by
  unfold gt
  blk_ext [iblk, place t]

theorem gnt_eq (t : Fin cfg0.N) (k : Fin 2048) : gnt m c t (ix2 0 k) = aN m c (ix2 0 k) := by
  unfold gnt
  blk_ext [iblk, place t]

theorem wgt_eq (t : Fin cfg0.N) (k : Fin 2048) (e : Fin 256) (f : Fin 5504) (hf : f.val = (t.val % 22 + 21) % 22 * 256 + e.val) :
    wgt m c t (ix2 k e) = aWg m c (ix2 k f) := by
  unfold wgt Pipeline.Window.fill
  rw [dif_pos ((win0_2.moved_iff _ _).mpr fun a => by
    obtain ⟨h0, h1⟩ := size_2 t
    have hf' := f.isLt
    match a with
    | 0 => exact lt_of_lt_of_eq k.isLt h0.symm
    | 1 => exact lt_of_lt_of_eq (show e.val < if t.val % 22 = 0 then 128 else 256 by split <;> omega) h1.symm)]
  blk_ext [iblk, place t, hf]

theorem wut_eq (t : Fin cfg0.N) (k : Fin 2048) (e : Fin 256) (f : Fin 5504) (hf : f.val = (t.val % 22 + 21) % 22 * 256 + e.val) :
    wut m c t (ix2 k e) = aWu m c (ix2 k f) := by
  unfold wut Pipeline.Window.fill
  rw [dif_pos ((win0_3.moved_iff _ _).mpr fun a => by
    obtain ⟨h0, h1⟩ := size_3 t
    have hf' := f.isLt
    match a with
    | 0 => exact lt_of_lt_of_eq k.isLt h0.symm
    | 1 => exact lt_of_lt_of_eq (show e.val < if t.val % 22 = 0 then 128 else 256 by split <;> omega) h1.symm)]
  blk_ext [iblk, place t, hf]

theorem wdt_eq (t : Fin cfg0.N) (e : Fin 256) (q : Fin 2048) (f : Fin 5504) (hf : f.val = (t.val % 22 + 21) % 22 * 256 + e.val) :
    wdt m c t (ix2 e q) = aWd m c (ix2 f q) := by
  unfold wdt Pipeline.Window.fill
  rw [dif_pos ((win0_4.moved_iff _ _).mpr fun a => by
    obtain ⟨h1, h0⟩ := size_4 t
    have hf' := f.isLt
    match a with
    | 0 => exact lt_of_lt_of_eq (show e.val < if t.val % 22 = 0 then 128 else 256 by split <;> omega) h0.symm
    | 1 => exact lt_of_lt_of_eq q.isLt h1.symm)]
  blk_ext [iblk, place t, hf]

/-- The first 128 columns of a block, and its first 128 rows. -/
theorem left128_eq (w : Vec Ideal S2048x256 .f32) (k : Fin 2048) (e : Fin 128) :
    left128 w (ix2 k e) = w (ix2 k ⟨e.val, by omega⟩) := by
  pointwise [left128]
theorem top128_eq (w : Vec Ideal S256x2048 .f32) (e : Fin 128) (q : Fin 2048) :
    top128 w (ix2 e q) = w (ix2 ⟨e.val, by omega⟩ q) := by
  pointwise [top128]

/-! ## A row of points -/

/-- The normalised row `r` of the arguments. -/
abbrev nrow (r : Fin 16384) : Fin 2048 → EReal := normed (fun k => aX m c (ix2 r k)) (fun k => aG m c (ix2 0 k))

/-- What hidden column `e` gives to row `r`, output column `q`; nothing past the last hidden column. -/
def term (r : Fin 16384) (q : Fin 2048) (e : ℕ) : EReal :=
  if h : e < 5504 then gated (nrow m c r) (fun k => aWg m c (ix2 k ⟨e, h⟩)) (fun k => aWu m c (ix2 k ⟨e, h⟩)) (aWd m c (ix2 ⟨e, h⟩ q)) else 0

/-- The sum over all the hidden columns, as the mathematics writes it. -/
theorem all_terms (r : Fin 16384) (q : Fin 2048) : ∑ e ∈ Finset.range 5504, term m c r q e
    = ∑ e : Fin 5504, gated (nrow m c r) (fun k => aWg m c (ix2 k e)) (fun k => aWu m c (ix2 k e)) (aWd m c (ix2 e q)) := by
  rw [Finset.sum_range]
  exact Finset.sum_congr rfl fun e _ => dif_pos e.isLt

/-- One hidden column of a point's blocks. -/
theorem block_term (t : Fin cfg0.N) (h : Vec Ideal S1024x2048 .bf16) (p : Fin 1024) (q : Fin 2048) (r : Fin 16384) (e : Fin 256) (f : ℕ)
    (hh : ∀ k : Fin 2048, h (ix2 p k) = nrow m c r k) (hf : f = (t.val % 22 + 21) % 22 * 256 + e.val) (hlt : f < 5504) :
    gated (fun k => (h (ix2 p k) : EReal)) (fun k => (wgt m c t (ix2 k e) : EReal)) (fun k => (wut m c t (ix2 k e) : EReal)) (wdt m c t (ix2 e q))
      = term m c r q f := by
  unfold term
  rw [dif_pos hlt]
  exact congr (congr (congr (congrArg gated (funext hh)) (funext fun k => wgt_eq m c t k e ⟨f, hlt⟩ hf))
    (funext fun k => wut_eq m c t k e ⟨f, hlt⟩ hf)) (wdt_eq m c t e q ⟨f, hlt⟩ hf)

/-- The normalised tile of a point. -/
theorem hid_eq (t : Fin cfg0.N) (p : Fin 1024) (r : Fin 16384) (hr : r.val = t.val / 22 * 1024 + p.val) (k : Fin 2048) :
    hid m c t (ix2 p k) = nrow m c r k := by
  unfold hid
  refine (tile_norm _ _ p k).trans ?_
  exact congrFun (congr (congrArg normed (funext fun k => xt_eq m c t p k r hr)) (funext fun k => gt_eq m c t k)) k

/-- The whole block's contribution, at a point that is not the first of its row. -/
theorem block_sum (t : Fin cfg0.N) (h : Vec Ideal S1024x2048 .bf16) (p : Fin 1024) (q : Fin 2048) (r : Fin 16384) (j : ℕ)
    (hh : ∀ k : Fin 2048, h (ix2 p k) = nrow m c r k) (hj : t.val % 22 = j + 1) :
    ∑ e : Fin 256, gated (fun k => (h (ix2 p k) : EReal)) (fun k => (wgt m c t (ix2 k e) : EReal)) (fun k => (wut m c t (ix2 k e) : EReal)) (wdt m c t (ix2 e q))
      = ∑ e ∈ Finset.range 256, term m c r q (256 * j + e) := by
  rw [Finset.sum_range]
  refine Finset.sum_congr rfl fun e _ => block_term m c t h p q r e _ hh ?_ ?_ <;> omega

/-- After point `j` of row `i` of the grid, before the last: the scratch buffer holds the normalised tile, and the output tile
    the contributions of the last 128 hidden columns and of the first `256 * j`. -/
theorem outs_eq (i : ℕ) (p : Fin 1024) (r : Fin 16384) (hr : r.val = i * 1024 + p.val) (j : ℕ) (hj : j ≤ 20) (hn : 22 * i + j < cfg0.N) :
    (∀ k : Fin 2048, (outs m c (22 * i + j) hn).2 (ix2 p k) = nrow m c r k)
    ∧ ∀ q : Fin 2048, (outs m c (22 * i + j) hn).1 (ix2 p q)
        = ((∑ e ∈ Finset.range 128, term m c r q (5376 + e)) + ∑ e ∈ Finset.range (256 * j), term m c r q e : EReal) := by
  induction j with
  | zero =>
    have h0 := outs_first m c ⟨22 * i + 0, hn⟩ (by show (22 * i + 0) % 22 = 0; omega)
    have hid0 := hid_eq m c ⟨22 * i + 0, hn⟩ p r (by show r.val = (22 * i + 0) / 22 * 1024 + p.val; omega)
    change outs m c (22 * i + 0) hn = _ at h0
    rw [h0]
    refine ⟨hid0, fun q => ?_⟩
    refine (tile_first _ _ _ _ p q).trans ?_
    rw [Finset.sum_range, Nat.mul_zero, Finset.range_zero, Finset.sum_empty]
    refine Eq.trans ?_ (add_zero _).symm
    refine Finset.sum_congr rfl fun e _ => ?_
    refine Eq.trans ?_ (block_term m c ⟨22 * i + 0, hn⟩ (hid m c ⟨22 * i + 0, hn⟩) p q r ⟨e.val, by omega⟩ (5376 + e.val) hid0
      (by show 5376 + e.val = ((22 * i + 0) % 22 + 21) % 22 * 256 + e.val; omega) (by omega))
    exact congr (congr (congrArg (gated _) (funext fun k => left128_eq _ k e)) (funext fun k => left128_eq _ k e)) (top128_eq _ e q)
  | succ j ih =>
    obtain ⟨ih2, ih1⟩ := ih (by omega) (by omega)
    have h0 := outs_next m c ⟨22 * i + (j + 1), hn⟩ (by show (22 * i + (j + 1)) % 22 ≠ 0; omega)
    change outs m c (22 * i + (j + 1)) hn = next m c _ (outs m c (22 * i + j) _) at h0
    rw [h0]
    unfold next
    rw [if_neg (show ¬(22 * i + (j + 1)) % 22 = 21 by omega)]
    refine ⟨ih2, fun q => ?_⟩
    refine (tile_inner _ _ _ _ _ p q).trans ?_
    rw [ih1 q, block_sum m c ⟨22 * i + (j + 1), hn⟩ _ p q r j ih2 (by show (22 * i + (j + 1)) % 22 = j + 1; omega),
      Nat.mul_succ, Finset.sum_range_add, add_assoc]

/-- After the last point of row `i` the output tile holds the network's value. -/
theorem outs_last (i : ℕ) (p : Fin 1024) (r : Fin 16384) (hr : r.val = i * 1024 + p.val) (hn : 22 * i + 21 < cfg0.N) (q : Fin 2048) :
    (outs m c (22 * i + 21) hn).1 (ix2 p q) = ffn (aX m c) (aG m c) (aWg m c) (aWu m c) (aWd m c) r q := by
  obtain ⟨ih2, ih1⟩ := outs_eq m c i p r hr 20 le_rfl (by omega)
  have h0 := outs_next m c ⟨22 * i + 21, hn⟩ (by show (22 * i + 21) % 22 ≠ 0; omega)
  change outs m c (22 * i + 21) hn = next m c _ (outs m c (22 * i + 20) _) at h0
  rw [h0]
  unfold next
  rw [if_pos (show (22 * i + 21) % 22 = 21 by omega)]
  refine (tile_last _ _ _ _ _ _ p q).trans ?_
  unfold ffn
  rw [ih1 q, block_sum m c ⟨22 * i + 21, hn⟩ _ p q r 20 ih2 (by show (22 * i + 21) % 22 = 20 + 1; omega),
    xt_eq m c ⟨22 * i + 21, hn⟩ p q r (by show r.val = (22 * i + 21) / 22 * 1024 + p.val; omega), ← all_terms,
    show 5504 = 256 * 20 + 256 + 128 from rfl, Finset.sum_range_add, Finset.sum_range_add, add_assoc, add_comm (∑ e ∈ Finset.range 128, _)]

/-- and the second output the norm of it. -/
theorem norm_last (i : ℕ) (p : Fin 1024) (r : Fin 16384) (hr : r.val = i * 1024 + p.val) (hn : 22 * i + 21 < cfg0.N) (k : Fin 2048) :
    normOut m c ⟨22 * i + 21, hn⟩ (ix2 p k)
      = normed (fun k => ffn (aX m c) (aG m c) (aWg m c) (aWu m c) (aWd m c) r k) (fun k => aN m c (ix2 0 k)) k := by
  have h0 := outs_next m c ⟨22 * i + 21, hn⟩ (by show (22 * i + 21) % 22 ≠ 0; omega)
  unfold next at h0
  rw [if_pos (show (22 * i + 21) % 22 = 21 by omega)] at h0
  unfold normOut
  refine (tile_second _ _ _ _ _ _ _ p k).trans ?_
  refine congrFun (congr (congrArg normed (funext fun k => ?_)) (funext fun k => gnt_eq m c _ k)) k
  exact (congrArg (fun f : Vec Ideal S1024x2048 .f32 × Vec Ideal S1024x2048 .bf16 => f.1 (ix2 p k)) h0).symm.trans (outs_last m c i p r hr hn k)

/-! ## The arrays -/

/-- The kernel's first array, -/
theorem array_eq : (dats m 0 c).arrAt 6 cfg0.N = fun j => ffn (aX m c) (aG m c) (aWg m c) (aWu m c) (aWd m c) (j 0) (j 1) := by
  refine (dats m 0 c).arrAt_eq_of_covers 6 _ (by decide +kernel) fun t hf y => ?_
  blk_simp
  rw [after_6]
  have h21 := (flush0_6 t).mp hf
  obtain ⟨n, hn⟩ := t
  obtain ⟨i, rfl⟩ : ∃ i, n = 22 * i + 21 := ⟨n / 22, by simp only at h21; omega⟩
  have he0 : ((((View.whole main_v0_0).slice (win0_6.rect ⟨22 * i + 21, hn⟩)).emb y) 0).val = i * 1024 + (y 0).val := by
    have hq : (⟨22 * i + 21, hn⟩ : Fin cfg0.N).val / 22 = i := by show (22 * i + 21) / 22 = i; omega
    blk_simp [place ⟨22 * i + 21, hn⟩]
    omega
  have he1 : ((((View.whole main_v0_0).slice (win0_6.rect ⟨22 * i + 21, hn⟩)).emb y) 1).val = (y 1).val := by
    blk_simp [place ⟨22 * i + 21, hn⟩]
  generalize ((View.whole main_v0_0).slice (win0_6.rect ⟨22 * i + 21, hn⟩)).emb y = k at he0 he1 ⊢
  refine (congrArg (outs m c (22 * i + 21) hn).1 (eq_ix2 (y : S1024x2048.Idx))).trans
    ((outs_last m c i (y 0) (k 0) he0 hn (y 1)).trans ?_)
  exact congrArg _ (Fin.ext he1.symm)

/-- and its second. -/
theorem norm_eq : (dats m 0 c).arrAt 7 cfg0.N = fun j =>
    normed (fun k => ffn (aX m c) (aG m c) (aWg m c) (aWu m c) (aWd m c) (j 0) k) (fun k => aN m c (ix2 0 k)) (j 1) := by
  refine (dats m 0 c).arrAt_eq_of_covers 7 _ (by decide +kernel) fun t hf y => ?_
  blk_simp
  rw [after_7]
  have h21 := (flush0_7 t).mp hf
  obtain ⟨n, hn⟩ := t
  obtain ⟨i, rfl⟩ : ∃ i, n = 22 * i + 21 := ⟨n / 22, by simp only at h21; omega⟩
  have he0 : ((((View.whole main_v0_1).slice (win0_7.rect ⟨22 * i + 21, hn⟩)).emb y) 0).val = i * 1024 + (y 0).val := by
    have hq : (⟨22 * i + 21, hn⟩ : Fin cfg0.N).val / 22 = i := by show (22 * i + 21) / 22 = i; omega
    blk_simp [place ⟨22 * i + 21, hn⟩]
    omega
  have he1 : ((((View.whole main_v0_1).slice (win0_7.rect ⟨22 * i + 21, hn⟩)).emb y) 1).val = (y 1).val := by
    blk_simp [place ⟨22 * i + 21, hn⟩]
  generalize ((View.whole main_v0_1).slice (win0_7.rect ⟨22 * i + 21, hn⟩)).emb y = k at he0 he1 ⊢
  refine (congrArg (normOut m c ⟨22 * i + 21, hn⟩) (eq_ix2 (y : S1024x2048.Idx))).trans
    ((norm_last m c i (y 0) (k 0) he0 hn (y 1)).trans ?_)
  exact congrArg _ (Fin.ext he1.symm)

end Cert.FfnNormIdeal.Hand
-- ==== Proof.FfnNormClaims.lean ====
/-
  The claims about the first feed-forward call, which also gives the norm of its result: every run ends, and over the extended
  reals the kernel's two arrays are the reference's.
-/
module

public import proofs.«01_k».proof.Defs
public import proofs.«01_k».proof.Proof.FfnNormFrame
public import proofs.«01_k».proof.Proof.FfnNormIdealValue
public import proofs.«01_k».proof.Proof.FfnClaims
public import proofs.«01_k».proof.Proof.Gen.FfnNormRefIdeal
public import proofs.«01_k».proof.Proof.Gen.FfnNormRefIdeal.Run
public import proofs.«01_k».proof.Proof.Gen.FfnNormRefIdeal.Read
public import Idealize.ShloMosaic.Lib.Pipeline.ValueKit
public import Idealize.ShloMosaic.Lib.Pointwise
public import Idealize.ShloMosaic.Lib.Quiescent
public import Idealize.ShloMosaic.Lib.Tactic

@[expose] public section
set_option maxRecDepth 16384
noncomputable section
open Idealize.ShloMosaic Idealize.ShloMosaic.TcCoe Idealize.SL.Sem

namespace Cert.Proof.FfnNorm
open Cert.FfnNormRefIdeal.Read
open Cert.FfnIdeal.Hand (normed ffn)

section
variable (x : Cert.FfnNormRefIdeal.S16384x2048.Idx → EReal) (g : Cert.FfnNormRefIdeal.S1x2048.Idx → EReal)
  (wg wu : Cert.FfnNormRefIdeal.S2048x5504.Idx → EReal) (wd : Cert.FfnNormRefIdeal.S5504x2048.Idx → EReal)
  (n : Cert.FfnNormRefIdeal.S1x2048.Idx → EReal)

/-- The first result of this reference is the result of the other feed-forward call's reference. -/
theorem same_reference : val_main_v19 (F := Ideal) x g wg wu wd = Cert.FfnRefIdeal.Read.val_main_v19 (F := Ideal) x g wg wu wd := rfl

/-- The reference's first result at an element. -/
theorem reference_eq (r : Fin 16384) (k : Fin 2048) : val_main_v19 (F := Ideal) x g wg wu wd (ix2 r k) = ffn x g wg wu wd r k :=
  (congrFun (same_reference x g wg wu wd) (ix2 r k)).trans (Cert.Proof.Ffn.reference_eq x g wg wu wd r k)

/-- The reference's row of squares of its first result. -/
theorem squares (r : Fin 16384) : val_main_v21 (F := Ideal) x g wg wu wd (ix1 r)
    = ∑ e : Fin 2048, val_main_v19 (F := Ideal) x g wg wu wd (ix2 r e) * val_main_v19 (F := Ideal) x g wg wu wd (ix2 r e) := by
  pointwise [val_main_v21, val_main_v20, val_main_cst_3]

/-- The reference's second result at an element. -/
theorem second_eq (r : Fin 16384) (k : Fin 2048) : val_main_v32 (F := Ideal) x g wg wu wd n (ix2 r k)
    = normed (fun k => ffn x g wg wu wd r k) (fun k => n (ix2 0 k)) k := by
  unfold normed
  simp only [← reference_eq]
  rw [← squares]
  pointwise [val_main_v32, val_main_v31, val_main_v30, val_main_v29, val_main_v28, val_main_v27, val_main_v26, val_main_v25, val_main_v24, val_main_v23,
    val_main_v22, val_main_cst_4, val_main_cst_5]
end

/-- The kernel runs to its end at the machine's words, from any memory, and leaves its arguments. -/
theorem frame : Cert.quiescent_FfnNorm := fun m ρ _ => Cert.FfnNorm.Hand.frame m ρ
/-- So does its idealization. -/
theorem frame_ideal : Cert.quiescent_FfnNormIdeal := fun m ρ _ => Cert.FfnNormIdeal.Hand.frame m ρ
/-- The reference runs to its end and leaves its arguments. -/
theorem frame_reference : Cert.quiescent_FfnNormRefIdeal := fun m ρ _ =>
  (θ_run Cert.FfnNormRefIdeal.defs _ _).mono (fun r h => ⟨fun c => (h c).2.2, sem_eq_zero_of_no_sems (by decide) r.2⟩)
    (Cert.FfnNormRefIdeal.Value.run (F := Ideal) m ρ)
/-- Nothing was rewritten. -/
theorem preserves : Cert.preserves_FfnNorm_FfnNormIdeal := trivial

/-- The kernel's two arrays and the reference's are the same functions of the arguments. -/
theorem algebraic : Cert.algebraic_FfnNormIdeal_FfnNormRefIdeal := by
  intro m ρ m' ρ' _ hagree
  refine ⟨fun c => fun j => ffn (Cert.FfnNormIdeal.Hand.aX m c) (Cert.FfnNormIdeal.Hand.aG m c) (Cert.FfnNormIdeal.Hand.aWg m c)
      (Cert.FfnNormIdeal.Hand.aWu m c) (Cert.FfnNormIdeal.Hand.aWd m c) (j 0) (j 1),
    fun c => fun j => normed (fun k => ffn (Cert.FfnNormIdeal.Hand.aX m c) (Cert.FfnNormIdeal.Hand.aG m c) (Cert.FfnNormIdeal.Hand.aWg m c)
      (Cert.FfnNormIdeal.Hand.aWu m c) (Cert.FfnNormIdeal.Hand.aWd m c) (j 0) k) (fun k => Cert.FfnNormIdeal.Hand.aN m c (ix2 0 k)) (j 1), ?_, ?_⟩
  · exact (θ_run Cert.FfnNormIdeal.defs _ _).mono (fun _ h c => ⟨(h c).1.trans (Cert.FfnNormIdeal.Hand.array_eq m c),
        (h c).2.1.trans (Cert.FfnNormIdeal.Hand.norm_eq m c), (h c).2.2⟩)
      (Cert.FfnNormIdeal.Hand.run_array (F := Ideal) m ρ)
  · refine (θ_run Cert.FfnNormRefIdeal.defs _ _).mono (fun _ h c => ⟨(h c).1.trans ?_, (h c).2.1.trans ?_, (h c).2.2⟩)
      (Cert.FfnNormRefIdeal.Value.run (F := Ideal) m' ρ')
    · obtain ⟨h0, h1, h2, h3, h4, h5⟩ := hagree c
      rw [val_main_v19_eq, h0, h1, h2, h3, h4]
      funext j
      rw [eq_ix2 j]
      exact reference_eq _ _ _ _ _ (j 0) (j 1)
    · obtain ⟨h0, h1, h2, h3, h4, h5⟩ := hagree c
      rw [val_main_v32_eq, h0, h1, h2, h3, h4, h5]
      funext j
      rw [eq_ix2 j]
      exact second_eq _ _ _ _ _ _ (j 0) (j 1)

end Cert.Proof.FfnNorm
-- ==== Proof.SelIdealRun.lean ====
module

public import proofs.«01_k».proof.Proof.Gen.SelIdeal.Loops
public import proofs.«01_k».proof.Proof.Gen.SelIdeal.Frame
public import Idealize.ShloMosaic.Lib.Pipeline.ValueKit.Tiles

@[expose] public section

/-! # One grid point of the selected attention (SelIdeal)

At a point the body lays the eight heads' queries, each beside the query's block biases, one under the other; clears the running
maximum and sums; and goes through the blocks of 512 keys up to the one that holds the last query. Two score buffers are used in
turn: while one block's scores are being summed, the next block's scores are written into the other buffer. -/

set_option maxRecDepth 16384

noncomputable section

namespace Cert.SelIdeal.Hand

open Cert.SelIdeal Cert.SelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the four scratch buffers hold between two blocks: the running maximum, the running sums (the upper half of the columns
the weights' own), and the two score buffers. -/
structure St (F : FTy → Type) where
  m : Vec F S2048x128 .f32
  a : Vec F S2048x256 .f32
  s0 : Vec F S2048x512 .f32
  s1 : Vec F S2048x512 .f32

/-- A buffer read after one store that covers all of it holds the stored value. -/
theorem read_store_all {κ : Kind} {sp : Space} {s : Shape} {e : EltTy} (v : View sig κ sp s e)
    (f : v.ty.Contents (Elt F)) {off : Fin s.rank → ℕ} (h : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w := by
  subst h
  funext y
  have e := View.read_writes_cons_emb (Val := Elt F) v f (Rect.whole s) w L y
  rw [Rect.emb_whole_apply] at e
  exact e

theorem zz : (![0, 0] : Fin 2 → ℕ) = fun _ => 0 := by
  funext a; fin_cases a <;> rfl

/-- A load of a whole buffer, at each of the shapes of this call, is the buffer's contents. -/
theorem ld_256 {e : EltTy} (x : S2048x256.Idx → Elt F e) (inb) :
    View.ld x (Rect.unit (s := S2048x256) ![0, 0] ![2048, 256] inb) = x := View.ld_unit_zero zz _ _
theorem ld_128 {e : EltTy} (x : S2048x128.Idx → Elt F e) (inb) :
    View.ld x (Rect.unit (s := S2048x128) ![0, 0] ![2048, 128] inb) = x := View.ld_unit_zero zz _ _
theorem ld_512 {e : EltTy} (x : S2048x512.Idx → Elt F e) (inb) :
    View.ld x (Rect.unit (s := S2048x512) ![0, 0] ![2048, 512] inb) = x := View.ld_unit_zero zz _ _
theorem ld_tile {e : EltTy} (x : S256x128.Idx → Elt F e) (inb) :
    View.ld x (Rect.unit (s := S256x128) ![0, 0] ![256, 128] inb) = x := View.ld_unit_zero zz _ _

/-- A block of 512 rows of the keys or values, at the given offsets. -/
abbrev rows512 (x : Vec F S4096x256 .bf16) (off : Fin 2 → ℕ) (inb : ∀ a, off a + S512x256.size a ≤ S4096x256.size a) :
    Vec F S512x256 .bf16 := View.ld x (Rect.unit (s := S4096x256) off S512x256.size inb)

/-- The position of the point's first query. -/
abbrev pos0 (i : grid0.Coords) : BitVec 32 := Scalar.muli (BitVec.ofNat 32 (i 2).val) 256#32

/-- What one trip of the loop makes of the scratch buffers. -/
def trip (i : grid0.Coords) (x5 x6 : Vec F S4096x256 .bf16) (q : Vec F S2048x256 .bf16) (k : Fin (k0_t1_loop i).trips) (p : St F) : St F :=
  if h : k0_cond1 i k = 1#1 then
    ⟨k0_pay39 (k0_pay4 p.s0 p.m),
     k0_pay38 (rows512 x6 (k0_off2 i k) (k0_off2_inb i k h)) (k0_pay5 p.s0 p.m) (k0_pay6 p.s0 p.m p.a),
     p.s0, k0_pay3 (pos0 i) (Scf.iv 0#32 1#32 k) (rows512 x5 (k0_off1 i k) (k0_off1_inb i k h)) q⟩
  else if h : k0_cond2 i k = 1#1 then
    ⟨k0_pay41 (k0_pay8 p.s1 p.m),
     k0_pay40 (rows512 x6 (k0_off4 i k) (k0_off4_inb i k h)) (k0_pay9 p.s1 p.m) (k0_pay10 p.s1 p.m p.a),
     k0_pay7 (pos0 i) (Scf.iv 0#32 1#32 k) (rows512 x5 (k0_off3 i k) (k0_off3_inb i k h)) q, p.s1⟩
  else p

/-- The scratch buffers before trip `n`, from what the loop is entered with. -/
def st (i : grid0.Coords) (x5 x6 : Vec F S4096x256 .bf16) (q : Vec F S2048x256 .bf16) (p0 : St F) : ℕ → St F
  | 0 => p0
  | n + 1 => if h : n < (k0_t1_loop i).trips then trip i x5 x6 q ⟨n, h⟩ (st i x5 x6 q p0 n) else st i x5 x6 q p0 n

theorem st_succ (i : grid0.Coords) (x5 x6 : Vec F S4096x256 .bf16) (q : Vec F S2048x256 .bf16) (p0 : St F) (k : Fin (k0_t1_loop i).trips) :
    st i x5 x6 q p0 (k.val + 1) = trip i x5 x6 q k (st i x5 x6 q p0 k.val) := dif_pos k.isLt

/-- The columns of the running sums that hold the weighted values, -/
abbrev lo (a : Vec F S2048x256 .f32) : Vec F S2048x128 .f32 :=
  View.ld a (Rect.unit (s := S2048x256) ![0, 0] S2048x128.size inb_S2048x256_S2048x128_0_0)
/-- and those that hold the weights' own sums. -/
abbrev hi (a : Vec F S2048x256 .f32) : Vec F S2048x128 .f32 :=
  View.ld a (Rect.unit (s := S2048x256) ![0, 128] S2048x128.size inb_S2048x256_S2048x128_0_128)

/-- The stores that lay the heads' queries and the biases, the last first. -/
def qsPieces (x3 : Vec F S256x1024 .bf16) (x4 : Vec F S256x128 .bf16) : List (View.Piece (Elt F) S2048x256 .bf16) :=
  [⟨Rect.unit (s := S2048x256) ![1792, 128] S256x128.size inb_S2048x256_S256x128_1792_128, k0_pay34 x4⟩,
   ⟨Rect.unit (s := S2048x256) ![1792, 0] S256x128.size inb_S2048x256_S256x128_1792_0, k0_pay33 (View.ld x3 (Rect.unit (s := S256x1024) ![0, 896] S256x128.size inb_S256x1024_S256x128_0_896))⟩,
   ⟨Rect.unit (s := S2048x256) ![1536, 128] S256x128.size inb_S2048x256_S256x128_1536_128, k0_pay32 x4⟩,
   ⟨Rect.unit (s := S2048x256) ![1536, 0] S256x128.size inb_S2048x256_S256x128_1536_0, k0_pay31 (View.ld x3 (Rect.unit (s := S256x1024) ![0, 768] S256x128.size inb_S256x1024_S256x128_0_768))⟩,
   ⟨Rect.unit (s := S2048x256) ![1280, 128] S256x128.size inb_S2048x256_S256x128_1280_128, k0_pay30 x4⟩,
   ⟨Rect.unit (s := S2048x256) ![1280, 0] S256x128.size inb_S2048x256_S256x128_1280_0, k0_pay29 (View.ld x3 (Rect.unit (s := S256x1024) ![0, 640] S256x128.size inb_S256x1024_S256x128_0_640))⟩,
   ⟨Rect.unit (s := S2048x256) ![1024, 128] S256x128.size inb_S2048x256_S256x128_1024_128, k0_pay28 x4⟩,
   ⟨Rect.unit (s := S2048x256) ![1024, 0] S256x128.size inb_S2048x256_S256x128_1024_0, k0_pay27 (View.ld x3 (Rect.unit (s := S256x1024) ![0, 512] S256x128.size inb_S256x1024_S256x128_0_512))⟩,
   ⟨Rect.unit (s := S2048x256) ![768, 128] S256x128.size inb_S2048x256_S256x128_768_128, k0_pay26 x4⟩,
   ⟨Rect.unit (s := S2048x256) ![768, 0] S256x128.size inb_S2048x256_S256x128_768_0, k0_pay25 (View.ld x3 (Rect.unit (s := S256x1024) ![0, 384] S256x128.size inb_S256x1024_S256x128_0_384))⟩,
   ⟨Rect.unit (s := S2048x256) ![512, 128] S256x128.size inb_S2048x256_S256x128_512_128, k0_pay24 x4⟩,
   ⟨Rect.unit (s := S2048x256) ![512, 0] S256x128.size inb_S2048x256_S256x128_512_0, k0_pay23 (View.ld x3 (Rect.unit (s := S256x1024) ![0, 256] S256x128.size inb_S256x1024_S256x128_0_256))⟩,
   ⟨Rect.unit (s := S2048x256) ![256, 128] S256x128.size inb_S2048x256_S256x128_256_128, k0_pay22 x4⟩,
   ⟨Rect.unit (s := S2048x256) ![256, 0] S256x128.size inb_S2048x256_S256x128_256_0, k0_pay21 (View.ld x3 (Rect.unit (s := S256x1024) ![0, 128] S256x128.size inb_S256x1024_S256x128_0_128))⟩,
   ⟨Rect.unit (s := S2048x256) ![0, 128] S256x128.size inb_S2048x256_S256x128_0_128, k0_pay20 x4⟩,
   ⟨Rect.unit (s := S2048x256) ![0, 0] S256x128.size inb_S2048x256_S256x128_0_0, k0_pay19 (View.ld x3 (Rect.unit (s := S256x1024) ![0, 0] S256x128.size inb_S256x1024_S256x128_0_0))⟩]

/-- The heads' queries one under the other, each row followed by its query's biases. -/
def qs (x3 : Vec F S256x1024 .bf16) (x4 : Vec F S256x128 .bf16) : Vec F S2048x256 .bf16 := View.canon (qsPieces x3 x4)

theorem qs_cover (x3 : Vec F S256x1024 .bf16) (x4 : Vec F S256x128 .bf16) (y : S2048x256.Idx) : ∃ p ∈ qsPieces x3 x4, y ∈ p.1.set :=
  View.cover_of_tiled_head _ _ _ (by rfl) y

/-- The stores of the heads' stripes of the output tile, the last first: from the compressed attention's stripes, the gates and the
two halves of the final sums. -/
def outPieces (w0 w1 w2 w3 w4 w5 w6 w7 : Vec F S256x128 .bf16) (x8 : Vec F S256x128 .f32) (l h : Vec F S2048x128 .f32) :
    List (View.Piece (Elt F) S256x1024 .bf16) :=
  [⟨Rect.unit (s := S256x1024) ![0, 896] S256x128.size inb_S256x1024_S256x128_0_896, k0_pay2 (k0_pay52 l h) (k0_pay53 x8) w7⟩,
   ⟨Rect.unit (s := S256x1024) ![0, 768] S256x128.size inb_S256x1024_S256x128_0_768, k0_pay1 (k0_pay52 l h) (k0_pay53 x8) (k0_pay60 w6)⟩,
   ⟨Rect.unit (s := S256x1024) ![0, 640] S256x128.size inb_S256x1024_S256x128_0_640, k0_pay59 (k0_pay52 l h) (k0_pay53 x8) w5⟩,
   ⟨Rect.unit (s := S256x1024) ![0, 512] S256x128.size inb_S256x1024_S256x128_0_512, k0_pay58 (k0_pay52 l h) (k0_pay53 x8) w4⟩,
   ⟨Rect.unit (s := S256x1024) ![0, 384] S256x128.size inb_S256x1024_S256x128_0_384, k0_pay57 (k0_pay52 l h) (k0_pay53 x8) w3⟩,
   ⟨Rect.unit (s := S256x1024) ![0, 256] S256x128.size inb_S256x1024_S256x128_0_256, k0_pay56 (k0_pay52 l h) (k0_pay53 x8) w2⟩,
   ⟨Rect.unit (s := S256x1024) ![0, 128] S256x128.size inb_S256x1024_S256x128_0_128, k0_pay55 l h x8 w1⟩,
   ⟨Rect.unit (s := S256x1024) ![0, 0] S256x128.size inb_S256x1024_S256x128_0_0, k0_pay54 l h x8 w0⟩]

/-- The output tile from the final sums. -/
def tile (x7 : Vec F S256x1024 .bf16) (x8 : Vec F S256x128 .f32) (a : Vec F S2048x256 .f32) : Vec F S256x1024 .bf16 :=
  View.canon (outPieces (View.ld x7 (Rect.unit (s := S256x1024) ![0, 0] S256x128.size inb_S256x1024_S256x128_0_0)) (View.ld x7 (Rect.unit (s := S256x1024) ![0, 128] S256x128.size inb_S256x1024_S256x128_0_128)) (View.ld x7 (Rect.unit (s := S256x1024) ![0, 256] S256x128.size inb_S256x1024_S256x128_0_256)) (View.ld x7 (Rect.unit (s := S256x1024) ![0, 384] S256x128.size inb_S256x1024_S256x128_0_384)) (View.ld x7 (Rect.unit (s := S256x1024) ![0, 512] S256x128.size inb_S256x1024_S256x128_0_512)) (View.ld x7 (Rect.unit (s := S256x1024) ![0, 640] S256x128.size inb_S256x1024_S256x128_0_640)) (View.ld x7 (Rect.unit (s := S256x1024) ![0, 768] S256x128.size inb_S256x1024_S256x128_0_768)) (View.ld x7 (Rect.unit (s := S256x1024) ![0, 896] S256x128.size inb_S256x1024_S256x128_0_896)) x8 (lo a) (hi a))

/-- The scratch buffers as the loop is entered. -/
def st0 (i : grid0.Coords) (x3 : Vec F S256x1024 .bf16) (x4 : Vec F S256x128 .bf16) (x5 : Vec F S4096x256 .bf16)
    (x14 : Vec F S2048x512 .f32) : St F :=
  ⟨k0_pay35, k0_pay36, k0_pay37 (pos0 i) 0#32 (rows512 x5 ![0, 0] inb_S4096x256_S512x256_0_0) (qs x3 x4), x14⟩

/-- The running sums after the last block, which stays to be summed when the loop is left. -/
def fin (i : grid0.Coords) (x6 : Vec F S4096x256 .bf16) (p : St F) : Vec F S2048x256 .f32 :=
  if h : k0_cond5 i = 1#1 then k0_pay47 p.s0 (rows512 x6 (k0_off9 i) (k0_off9_inb i h)) p.m p.a
  else if h : k0_cond6 i = 1#1 then k0_pay50 p.s1 (rows512 x6 (k0_off10 i) (k0_off10_inb i h)) p.m p.a
  else p.a

/-- The output tile of one point. -/
def out (i : grid0.Coords) (x3 : Vec F S256x1024 .bf16) (x4 : Vec F S256x128 .bf16) (x5 x6 : Vec F S4096x256 .bf16)
    (x7 : Vec F S256x1024 .bf16) (x8 : Vec F S256x128 .f32) (x14 : Vec F S2048x512 .f32) : Vec F S256x1024 .bf16 :=
  tile x7 x8 (fin i x6 (st i x5 x6 (qs x3 x4) (st0 i x3 x4 x5 x14) (k0_t1_loop i).trips))

/-- The buffers the loop touches. -/
abbrev Held (c : Dev nD) (arg3 : Memref sig .tc .vmem S256x1024 .bf16) (harg3 : arg3.IsWhole) (arg4 : Memref sig .tc .vmem S256x128 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x1024 .bf16) (harg7 : arg7.IsWhole) (arg8 : Memref sig .tc .vmem S256x128 .f32) (harg8 : arg8.IsWhole) (arg9 : Memref sig .tc .vmem S256x1024 .bf16) (harg9 : arg9.IsWhole) (arg10 : Memref sig .tc .vmem S2048x256 .bf16) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x512 .f32) (harg13 : arg13.IsWhole) (arg14 : Memref sig .tc .vmem S2048x512 .f32) (harg14 : arg14.IsWhole) (x5 x6 : Vec F S4096x256 .bf16) (q : Vec F S2048x256 .bf16) (p : St F) : sProp 𝕄 :=
  iprop(owns (c : Thread nD τ) arg5 fullShare x5 ∗ owns (c : Thread nD τ) arg6 fullShare x6 ∗ owns (c : Thread nD τ) arg10 fullShare q ∗ owns (c : Thread nD τ) arg11 fullShare (p).m ∗ owns (c : Thread nD τ) arg12 fullShare (p).a ∗ owns (c : Thread nD τ) arg13 fullShare (p).s0 ∗ owns (c : Thread nD τ) arg14 fullShare (p).s1)

set_option maxHeartbeats 2000000 in
/-- One trip at a block of even number: the next block's scores go to the second buffer, the first buffer's scores are summed. -/
theorem trip_even (c : Dev nD) (i : grid0.Coords) (arg3 : Memref sig .tc .vmem S256x1024 .bf16) (harg3 : arg3.IsWhole) (arg4 : Memref sig .tc .vmem S256x128 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x1024 .bf16) (harg7 : arg7.IsWhole) (arg8 : Memref sig .tc .vmem S256x128 .f32) (harg8 : arg8.IsWhole) (arg9 : Memref sig .tc .vmem S256x1024 .bf16) (harg9 : arg9.IsWhole) (arg10 : Memref sig .tc .vmem S2048x256 .bf16) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x512 .f32) (harg13 : arg13.IsWhole) (arg14 : Memref sig .tc .vmem S2048x512 .f32) (harg14 : arg14.IsWhole)
    (v76 v85 : BitVec 32) (v87 : Vec F S512x256 .bf16) (v88 : Vec F S2048x256 .bf16)
    (x5 x6 : Vec F S4096x256 .bf16) (q : Vec F S2048x256 .bf16) (p : St F) (k : Fin (k0_t1_loop i).trips)
    (h1 : k0_cond1 i k = 1#1) (h2 : ¬k0_cond2 i k = 1#1) :
    Held c arg3 harg3 arg4 harg4 arg5 harg5 arg6 harg6 arg7 harg7 arg8 harg8 arg9 harg9 arg10 harg10 arg11 harg11 arg12 harg12 arg13 harg13 arg14 harg14 x5 x6 q p
      ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 (pos0 i) v76 v85 v87 v88 k ())
          (fun _ => Held c arg3 harg3 arg4 harg4 arg5 harg5 arg6 harg6 arg7 harg7 arg8 harg8 arg9 harg9 arg10 harg10 arg11 harg11 arg12 harg12 arg13 harg13 arg14 harg14 x5 x6 q (trip i x5 x6 q k p)) := by
  rw [trip, dif_pos h1]
  unfold Held owns k0_t1_body
  iintro ⟨⟨%f5, %hf5, H5⟩, ⟨%f6, %hf6, H6⟩, ⟨%f10, %hf10, H10⟩, ⟨%f11, %hf11, H11⟩, ⟨%f12, %hf12, H12⟩, ⟨%f13, %hf13, H13⟩, ⟨%f14, %hf14, H14⟩⟩
  obtain rfl := harg5.eq_unread hf5
  obtain rfl := harg6.eq_unread hf6
  obtain rfl := harg10.eq_unread hf10
  obtain rfl := harg11.eq_unread hf11
  obtain rfl := harg12.eq_unread hf12
  obtain rfl := harg13.eq_unread hf13
  obtain rfl := harg14.eq_unread hf14
  sl_exec_parts (disch := first | sl_exact h1 | sl_exact h2)
  sl_step
  isplitl [H5]; · iexists _; isplitr; · ipureintro; exact harg5.read_unread _
                  iexact H5
  isplitl [H6]; · iexists _; isplitr; · ipureintro; exact harg6.read_unread _
                  iexact H6
  isplitl [H10]; · iexists _; isplitr; · ipureintro; exact harg10.read_unread _
                   iexact H10
  isplitl [H11]
  · iexists _; isplitr
    swap; · iexact H11
    ipureintro
    refine (read_store_all _ _ zz _ _ _).trans ?_
    try delta trip_even.sl.r
    try delta trip_even.sl.r_1
    try delta trip_even.sl.r_2
    try delta trip_even.sl.r_3
    simp only [View.readAt_eq_ld, Memref.IsWhole.read_unread, ld_256, ld_128, ld_512]
    try rfl
  isplitl [H12]
  · iexists _; isplitr
    swap; · iexact H12
    ipureintro
    refine (read_store_all _ _ zz _ _ _).trans ?_
    try delta trip_even.sl.r
    try delta trip_even.sl.r_1
    try delta trip_even.sl.r_2
    try delta trip_even.sl.r_3
    simp only [View.readAt_eq_ld, Memref.IsWhole.read_unread, ld_256, ld_128, ld_512]
    try rfl
  isplitl [H13]; · iexists _; isplitr; · ipureintro; exact harg13.read_unread _
                   iexact H13
  · iexists _; isplitr
    swap; · iexact H14
    ipureintro
    refine (read_store_all _ _ zz _ _ _).trans ?_
    try delta trip_even.sl.r
    try delta trip_even.sl.r_1
    try delta trip_even.sl.r_2
    try delta trip_even.sl.r_3
    simp only [View.readAt_eq_ld, Memref.IsWhole.read_unread, ld_256, ld_128, ld_512]
    try rfl

set_option maxHeartbeats 2000000 in
/-- One trip at a block of odd number: the two buffers exchanged. -/
theorem trip_odd (c : Dev nD) (i : grid0.Coords) (arg3 : Memref sig .tc .vmem S256x1024 .bf16) (harg3 : arg3.IsWhole) (arg4 : Memref sig .tc .vmem S256x128 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x1024 .bf16) (harg7 : arg7.IsWhole) (arg8 : Memref sig .tc .vmem S256x128 .f32) (harg8 : arg8.IsWhole) (arg9 : Memref sig .tc .vmem S256x1024 .bf16) (harg9 : arg9.IsWhole) (arg10 : Memref sig .tc .vmem S2048x256 .bf16) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x512 .f32) (harg13 : arg13.IsWhole) (arg14 : Memref sig .tc .vmem S2048x512 .f32) (harg14 : arg14.IsWhole)
    (v76 v85 : BitVec 32) (v87 : Vec F S512x256 .bf16) (v88 : Vec F S2048x256 .bf16)
    (x5 x6 : Vec F S4096x256 .bf16) (q : Vec F S2048x256 .bf16) (p : St F) (k : Fin (k0_t1_loop i).trips)
    (h1 : ¬k0_cond1 i k = 1#1) (h2 : k0_cond2 i k = 1#1) :
    Held c arg3 harg3 arg4 harg4 arg5 harg5 arg6 harg6 arg7 harg7 arg8 harg8 arg9 harg9 arg10 harg10 arg11 harg11 arg12 harg12 arg13 harg13 arg14 harg14 x5 x6 q p
      ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 (pos0 i) v76 v85 v87 v88 k ())
          (fun _ => Held c arg3 harg3 arg4 harg4 arg5 harg5 arg6 harg6 arg7 harg7 arg8 harg8 arg9 harg9 arg10 harg10 arg11 harg11 arg12 harg12 arg13 harg13 arg14 harg14 x5 x6 q (trip i x5 x6 q k p)) := by
  rw [trip, dif_neg h1, dif_pos h2]
  unfold Held owns k0_t1_body
  iintro ⟨⟨%f5, %hf5, H5⟩, ⟨%f6, %hf6, H6⟩, ⟨%f10, %hf10, H10⟩, ⟨%f11, %hf11, H11⟩, ⟨%f12, %hf12, H12⟩, ⟨%f13, %hf13, H13⟩, ⟨%f14, %hf14, H14⟩⟩
  obtain rfl := harg5.eq_unread hf5
  obtain rfl := harg6.eq_unread hf6
  obtain rfl := harg10.eq_unread hf10
  obtain rfl := harg11.eq_unread hf11
  obtain rfl := harg12.eq_unread hf12
  obtain rfl := harg13.eq_unread hf13
  obtain rfl := harg14.eq_unread hf14
  sl_exec_parts (disch := first | sl_exact h1 | sl_exact h2)
  sl_step
  isplitl [H5]; · iexists _; isplitr; · ipureintro; exact harg5.read_unread _
                  iexact H5
  isplitl [H6]; · iexists _; isplitr; · ipureintro; exact harg6.read_unread _
                  iexact H6
  isplitl [H10]; · iexists _; isplitr; · ipureintro; exact harg10.read_unread _
                   iexact H10
  isplitl [H11]
  · iexists _; isplitr
    swap; · iexact H11
    ipureintro
    refine (read_store_all _ _ zz _ _ _).trans ?_
    try delta trip_odd.sl.r
    try delta trip_odd.sl.r_1
    try delta trip_odd.sl.r_2
    try delta trip_odd.sl.r_3
    simp only [View.readAt_eq_ld, Memref.IsWhole.read_unread, ld_256, ld_128, ld_512]
    try rfl
  isplitl [H12]
  · iexists _; isplitr
    swap; · iexact H12
    ipureintro
    refine (read_store_all _ _ zz _ _ _).trans ?_
    try delta trip_odd.sl.r
    try delta trip_odd.sl.r_1
    try delta trip_odd.sl.r_2
    try delta trip_odd.sl.r_3
    simp only [View.readAt_eq_ld, Memref.IsWhole.read_unread, ld_256, ld_128, ld_512]
    try rfl
  isplitl [H13]
  · iexists _; isplitr
    swap; · iexact H13
    ipureintro
    refine (read_store_all _ _ zz _ _ _).trans ?_
    try delta trip_odd.sl.r
    try delta trip_odd.sl.r_1
    try delta trip_odd.sl.r_2
    try delta trip_odd.sl.r_3
    simp only [View.readAt_eq_ld, Memref.IsWhole.read_unread, ld_256, ld_128, ld_512]
    try rfl
  iexists _; isplitr; · ipureintro; exact harg14.read_unread _
  iexact H14

set_option maxHeartbeats 8000000 in
/-- One point of the grid, where the blocks alternate between the two score buffers. -/
theorem run (c : Dev nD) (i : grid0.Coords) (arg3 : Memref sig .tc .vmem S256x1024 .bf16) (harg3 : arg3.IsWhole) (arg4 : Memref sig .tc .vmem S256x128 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x1024 .bf16) (harg7 : arg7.IsWhole) (arg8 : Memref sig .tc .vmem S256x128 .f32) (harg8 : arg8.IsWhole) (arg9 : Memref sig .tc .vmem S256x1024 .bf16) (harg9 : arg9.IsWhole) (arg10 : Memref sig .tc .vmem S2048x256 .bf16) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x512 .f32) (harg13 : arg13.IsWhole) (arg14 : Memref sig .tc .vmem S2048x512 .f32) (harg14 : arg14.IsWhole)
    (htr : (k0_t2_loop i).trips = 0)
    (h12 : ∀ k, (k0_cond1 i k = 1#1 ∧ ¬k0_cond2 i k = 1#1) ∨ (¬k0_cond1 i k = 1#1 ∧ k0_cond2 i k = 1#1))
    (h56 : (k0_cond5 i = 1#1 ∧ ¬k0_cond6 i = 1#1) ∨ (¬k0_cond5 i = 1#1 ∧ k0_cond6 i = 1#1))
    (x3 : Vec F S256x1024 .bf16) (x4 : Vec F S256x128 .bf16) (x5 x6 : Vec F S4096x256 .bf16)
    (x7 : Vec F S256x1024 .bf16) (x8 : Vec F S256x128 .f32) (x9 : Vec F S256x1024 .bf16) (x10 : Vec F S2048x256 .bf16)
    (x11 : Vec F S2048x128 .f32) (x12 : Vec F S2048x256 .f32) (x13 x14 : Vec F S2048x512 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out i x3 x4 x5 x6 x7 x8 x14) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) Set.univ (cc0_sel_attn (F := F) i arg3 harg3 arg4 harg4 arg5 harg5 arg6 harg6 arg7 harg7 arg8 harg8 arg9 harg9 arg10 harg10 arg11 harg11 arg12 harg12 arg13 harg13 arg14 harg14) K := by
  simp only [cc0_sel_attn_eq_skeleton]; unfold cc0_sel_attn_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec
  have hQ : View.canon (run.sl.H10_16 c arg3 harg3 arg4 harg4 x3 x4) = qs x3 x4 := by
    delta run.sl.H10_16
    unfold qs qsPieces
    try delta run.sl.v5
    try delta run.sl.v8
    try delta run.sl.v12
    try delta run.sl.v19
    try delta run.sl.v26
    try delta run.sl.v29
    try delta run.sl.v33
    try delta run.sl.v40
    try delta run.sl.v47
    try delta run.sl.r
    try delta run.sl.r_1
    try delta run.sl.r_2
    try delta run.sl.r_4
    try delta run.sl.r_5
    try delta run.sl.r_6
    simp only [View.readAt_eq_ld, Memref.IsWhole.read_unread, ld_tile]
    rfl
  sl_for (fun k _ => Held c arg3 harg3 arg4 harg4 arg5 harg5 arg6 harg6 arg7 harg7 arg8 harg8 arg9 harg9 arg10 harg10 arg11 harg11 arg12 harg12 arg13 harg13 arg14 harg14 x5 x6 (qs x3 x4) (st i x5 x6 (qs x3 x4) (st0 i x3 x4 x5 x14) k)) $$ [H5 H6 H10 H11 H12 H13 H14]
  case region =>
    intro k _
    dsimp only
    rw [st_succ]
    rcases h12 k with ⟨h1, h2⟩ | ⟨h1, h2⟩
    · exact trip_even c i arg3 harg3 arg4 harg4 arg5 harg5 arg6 harg6 arg7 harg7 arg8 harg8 arg9 harg9 arg10 harg10 arg11 harg11 arg12 harg12 arg13 harg13 arg14 harg14 _ _ _ _ x5 x6 _ _ k h1 h2
    · exact trip_odd c i arg3 harg3 arg4 harg4 arg5 harg5 arg6 harg6 arg7 harg7 arg8 harg8 arg9 harg9 arg10 harg10 arg11 harg11 arg12 harg12 arg13 harg13 arg14 harg14 _ _ _ _ x5 x6 _ _ k h1 h2
  · unfold Held owns
    isplitl [H5]; · iexists _; isplitr; · ipureintro; exact harg5.read_unread _
                    iexact H5
    isplitl [H6]; · iexists _; isplitr; · ipureintro; exact harg6.read_unread _
                    iexact H6
    isplitl [H10]
    · iexists _; isplitr
      swap; · iexact H10
      ipureintro
      exact (View.read_writes_eq_canon _ _ _ (fun y => View.cover_of_tiled_head _ _ _ (by rfl) y)).trans hQ
    isplitl [H11]
    · iexists _; isplitr
      swap; · iexact H11
      ipureintro
      exact read_store_all _ _ zz _ _ _
    isplitl [H12]
    · iexists _; isplitr
      swap; · iexact H12
      ipureintro
      exact read_store_all _ _ zz _ _ _
    isplitl [H13]
    · iexists _; isplitr
      swap; · iexact H13
      ipureintro
      refine (read_store_all _ _ zz _ _ _).trans ?_
      have e88 : run.sl.v88 c arg3 harg3 arg4 harg4 arg10 x3 x4 = qs x3 x4 := by
        delta run.sl.v88
        exact (View.readCov_eq_canon_ld _ _ _ (fun y => View.cover_of_tiled_head _ _ _ (by rfl) y)).trans
          ((View.ld_unit_zero zz _ _).trans hQ)
      rw [e88]
      delta run.sl.r_3
      simp only [View.readAt_eq_ld, Memref.IsWhole.read_unread, ld_tile]
      rfl
    iexists _; isplitr; · ipureintro; exact harg14.read_unread _
    iexact H14
  iintro %_ HI
  unfold Held owns
  icases HI with ⟨⟨%g5, %hg5, H5⟩, ⟨%g6, %hg6, H6⟩, ⟨%g10, %hg10, H10⟩, ⟨%g11, %hg11, H11⟩, ⟨%g12, %hg12, H12⟩, ⟨%g13, %hg13, H13⟩, ⟨%g14, %hg14, H14⟩⟩
  obtain rfl := harg5.eq_unread hg5
  obtain rfl := harg6.eq_unread hg6
  obtain rfl := harg10.eq_unread hg10
  obtain rfl := harg11.eq_unread hg11
  obtain rfl := harg12.eq_unread hg12
  obtain rfl := harg13.eq_unread hg13
  obtain rfl := harg14.eq_unread hg14
  generalize hp : st i x5 x6 (qs x3 x4) (st0 i x3 x4 x5 x14) (k0_t1_loop i).trips = p at *
  sl_for0 htr
  rcases h56 with ⟨hc5, hc6⟩ | ⟨hc5, hc6⟩
  · skip
    sl_exec (disch := first | sl_exact hc5 | sl_exact hc6)
    have e12 : View.canon (run.sl.H12_1_1 c i arg6 harg6 arg11 harg11 arg12 harg12 arg13 harg13 x6 p hc5) = (k0_pay47 p.s0 (rows512 x6 (k0_off9 i) (k0_off9_inb i hc5)) p.m p.a) := by
      refine (View.canon_cons_unit_zero zz _ _ _).trans ?_
      refine Eq.trans (b := (k0_pay47 (View.readAt (Elt F) arg13.view (Rect.unit (s := S2048x512) ![0, 0] S2048x512.size inb_S2048x512_S2048x512_0_0).toLoadRect (harg13.unread p.s0)) (View.readAt (Elt F) arg6.view (Rect.unit (s := S4096x256) (k0_off9 i) S512x256.size (k0_off9_inb i hc5)).toLoadRect (harg6.unread x6)) (View.readAt (Elt F) arg11.view (Rect.unit (s := S2048x128) ![0, 0] S2048x128.size inb_S2048x128_S2048x128_0_0).toLoadRect (harg11.unread p.m)) (View.readAt (Elt F) arg12.view (Rect.unit (s := S2048x256) ![0, 0] S2048x256.size inb_S2048x256_S2048x256_0_0).toLoadRect (harg12.unread p.a)))) rfl ?_
      simp only [View.readAt_eq_ld, Memref.IsWhole.read_unread, ld_256, ld_128, ld_512]
    have el : (arg12.view.readCov (run.sl.H12_1_1 c i arg6 harg6 arg11 harg11 arg12 harg12 arg13 harg13 x6 p hc5) (Rect.unit (s := S2048x256) ![0, 0] S2048x128.size inb_S2048x256_S2048x128_0_0).toLoadRect) = lo (k0_pay47 p.s0 (rows512 x6 (k0_off9 i) (k0_off9_inb i hc5)) p.m p.a) :=
      (View.readCov_eq_canon_ld _ _ _ (fun y => View.cover_of_tiled_head _ _ _ (by rfl) y)).trans (congrArg (fun a : Vec F S2048x256 .f32 => View.ld a _) e12)
    have eh : (arg12.view.readCov (run.sl.H12_1_1 c i arg6 harg6 arg11 harg11 arg12 harg12 arg13 harg13 x6 p hc5) (Rect.unit (s := S2048x256) ![0, 128] S2048x128.size inb_S2048x256_S2048x128_0_128).toLoadRect) = hi (k0_pay47 p.s0 (rows512 x6 (k0_off9 i) (k0_off9_inb i hc5)) p.m p.a) :=
      (View.readCov_eq_canon_ld _ _ _ (fun y => View.cover_of_tiled_head _ _ _ (by rfl) y)).trans (congrArg (fun a : Vec F S2048x256 .f32 => View.ld a _) e12)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr
      swap; · iexact H9
      ipureintro
      refine (View.read_writes_eq_canon _ _ _ (fun y => View.cover_of_tiled_head _ _ _ (by rfl) y)).trans ?_
      unfold out tile
      rw [hp]
      unfold fin
      rw [dif_pos hc5]
      refine Eq.trans (b := View.canon (outPieces (View.readAt (Elt F) arg7.view (Rect.unit (s := S256x1024) ![0, 0] S256x128.size inb_S256x1024_S256x128_0_0).toLoadRect (harg7.unread x7)) (View.readAt (Elt F) arg7.view (Rect.unit (s := S256x1024) ![0, 128] S256x128.size inb_S256x1024_S256x128_0_128).toLoadRect (harg7.unread x7)) (View.readAt (Elt F) arg7.view (Rect.unit (s := S256x1024) ![0, 256] S256x128.size inb_S256x1024_S256x128_0_256).toLoadRect (harg7.unread x7)) (View.readAt (Elt F) arg7.view (Rect.unit (s := S256x1024) ![0, 384] S256x128.size inb_S256x1024_S256x128_0_384).toLoadRect (harg7.unread x7)) (View.readAt (Elt F) arg7.view (Rect.unit (s := S256x1024) ![0, 512] S256x128.size inb_S256x1024_S256x128_0_512).toLoadRect (harg7.unread x7)) (View.readAt (Elt F) arg7.view (Rect.unit (s := S256x1024) ![0, 640] S256x128.size inb_S256x1024_S256x128_0_640).toLoadRect (harg7.unread x7)) (View.readAt (Elt F) arg7.view (Rect.unit (s := S256x1024) ![0, 768] S256x128.size inb_S256x1024_S256x128_0_768).toLoadRect (harg7.unread x7)) (View.readAt (Elt F) arg7.view (Rect.unit (s := S256x1024) ![0, 896] S256x128.size inb_S256x1024_S256x128_0_896).toLoadRect (harg7.unread x7)) (View.readAt (Elt F) arg8.view (Rect.unit (s := S256x128) ![0, 0] S256x128.size inb_S256x128_S256x128_0_0).toLoadRect (harg8.unread x8)) (arg12.view.readCov (run.sl.H12_1_1 c i arg6 harg6 arg11 harg11 arg12 harg12 arg13 harg13 x6 p hc5) (Rect.unit (s := S2048x256) ![0, 0] S2048x128.size inb_S2048x256_S2048x128_0_0).toLoadRect) (arg12.view.readCov (run.sl.H12_1_1 c i arg6 harg6 arg11 harg11 arg12 harg12 arg13 harg13 x6 p hc5) (Rect.unit (s := S2048x256) ![0, 128] S2048x128.size inb_S2048x256_S2048x128_0_128).toLoadRect))) rfl ?_
      rw [el, eh]
      simp only [View.readAt_eq_ld, Memref.IsWhole.read_unread, ld_tile]
    isplitl [H10]
    · iexists _; iexists _; isplitr
      swap; · iexact H10
      ipureintro; rfl
    isplitl [H11]
    · iexists _; iexists _; isplitr
      swap; · iexact H11
      ipureintro; rfl
    isplitl [H12]
    · iexists _; iexists _; isplitr
      swap; · iexact H12
      ipureintro; rfl
    isplitl [H13]
    · iexists _; iexists _; isplitr
      swap; · iexact H13
      ipureintro; rfl
    iexists _; iexists _; isplitr
    swap; · iexact H14
    ipureintro; rfl
  · skip
    sl_exec (disch := first | sl_exact hc5 | sl_exact hc6)
    have e12 : View.canon (run.sl.H12_1_2 c i arg6 harg6 arg11 harg11 arg12 harg12 arg14 harg14 x6 p hc6) = (k0_pay50 p.s1 (rows512 x6 (k0_off10 i) (k0_off10_inb i hc6)) p.m p.a) := by
      refine (View.canon_cons_unit_zero zz _ _ _).trans ?_
      refine Eq.trans (b := (k0_pay50 (View.readAt (Elt F) arg14.view (Rect.unit (s := S2048x512) ![0, 0] S2048x512.size inb_S2048x512_S2048x512_0_0).toLoadRect (harg14.unread p.s1)) (View.readAt (Elt F) arg6.view (Rect.unit (s := S4096x256) (k0_off10 i) S512x256.size (k0_off10_inb i hc6)).toLoadRect (harg6.unread x6)) (View.readAt (Elt F) arg11.view (Rect.unit (s := S2048x128) ![0, 0] S2048x128.size inb_S2048x128_S2048x128_0_0).toLoadRect (harg11.unread p.m)) (View.readAt (Elt F) arg12.view (Rect.unit (s := S2048x256) ![0, 0] S2048x256.size inb_S2048x256_S2048x256_0_0).toLoadRect (harg12.unread p.a)))) rfl ?_
      simp only [View.readAt_eq_ld, Memref.IsWhole.read_unread, ld_256, ld_128, ld_512]
    have el : (arg12.view.readCov (run.sl.H12_1_2 c i arg6 harg6 arg11 harg11 arg12 harg12 arg14 harg14 x6 p hc6) (Rect.unit (s := S2048x256) ![0, 0] S2048x128.size inb_S2048x256_S2048x128_0_0).toLoadRect) = lo (k0_pay50 p.s1 (rows512 x6 (k0_off10 i) (k0_off10_inb i hc6)) p.m p.a) :=
      (View.readCov_eq_canon_ld _ _ _ (fun y => View.cover_of_tiled_head _ _ _ (by rfl) y)).trans (congrArg (fun a : Vec F S2048x256 .f32 => View.ld a _) e12)
    have eh : (arg12.view.readCov (run.sl.H12_1_2 c i arg6 harg6 arg11 harg11 arg12 harg12 arg14 harg14 x6 p hc6) (Rect.unit (s := S2048x256) ![0, 128] S2048x128.size inb_S2048x256_S2048x128_0_128).toLoadRect) = hi (k0_pay50 p.s1 (rows512 x6 (k0_off10 i) (k0_off10_inb i hc6)) p.m p.a) :=
      (View.readCov_eq_canon_ld _ _ _ (fun y => View.cover_of_tiled_head _ _ _ (by rfl) y)).trans (congrArg (fun a : Vec F S2048x256 .f32 => View.ld a _) e12)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr
      swap; · iexact H9
      ipureintro
      refine (View.read_writes_eq_canon _ _ _ (fun y => View.cover_of_tiled_head _ _ _ (by rfl) y)).trans ?_
      unfold out tile
      rw [hp]
      unfold fin
      rw [dif_neg hc5, dif_pos hc6]
      refine Eq.trans (b := View.canon (outPieces (View.readAt (Elt F) arg7.view (Rect.unit (s := S256x1024) ![0, 0] S256x128.size inb_S256x1024_S256x128_0_0).toLoadRect (harg7.unread x7)) (View.readAt (Elt F) arg7.view (Rect.unit (s := S256x1024) ![0, 128] S256x128.size inb_S256x1024_S256x128_0_128).toLoadRect (harg7.unread x7)) (View.readAt (Elt F) arg7.view (Rect.unit (s := S256x1024) ![0, 256] S256x128.size inb_S256x1024_S256x128_0_256).toLoadRect (harg7.unread x7)) (View.readAt (Elt F) arg7.view (Rect.unit (s := S256x1024) ![0, 384] S256x128.size inb_S256x1024_S256x128_0_384).toLoadRect (harg7.unread x7)) (View.readAt (Elt F) arg7.view (Rect.unit (s := S256x1024) ![0, 512] S256x128.size inb_S256x1024_S256x128_0_512).toLoadRect (harg7.unread x7)) (View.readAt (Elt F) arg7.view (Rect.unit (s := S256x1024) ![0, 640] S256x128.size inb_S256x1024_S256x128_0_640).toLoadRect (harg7.unread x7)) (View.readAt (Elt F) arg7.view (Rect.unit (s := S256x1024) ![0, 768] S256x128.size inb_S256x1024_S256x128_0_768).toLoadRect (harg7.unread x7)) (View.readAt (Elt F) arg7.view (Rect.unit (s := S256x1024) ![0, 896] S256x128.size inb_S256x1024_S256x128_0_896).toLoadRect (harg7.unread x7)) (View.readAt (Elt F) arg8.view (Rect.unit (s := S256x128) ![0, 0] S256x128.size inb_S256x128_S256x128_0_0).toLoadRect (harg8.unread x8)) (arg12.view.readCov (run.sl.H12_1_2 c i arg6 harg6 arg11 harg11 arg12 harg12 arg14 harg14 x6 p hc6) (Rect.unit (s := S2048x256) ![0, 0] S2048x128.size inb_S2048x256_S2048x128_0_0).toLoadRect) (arg12.view.readCov (run.sl.H12_1_2 c i arg6 harg6 arg11 harg11 arg12 harg12 arg14 harg14 x6 p hc6) (Rect.unit (s := S2048x256) ![0, 128] S2048x128.size inb_S2048x256_S2048x128_0_128).toLoadRect))) rfl ?_
      rw [el, eh]
      simp only [View.readAt_eq_ld, Memref.IsWhole.read_unread, ld_tile]
    isplitl [H10]
    · iexists _; iexists _; isplitr
      swap; · iexact H10
      ipureintro; rfl
    isplitl [H11]
    · iexists _; iexists _; isplitr
      swap; · iexact H11
      ipureintro; rfl
    isplitl [H12]
    · iexists _; iexists _; isplitr
      swap; · iexact H12
      ipureintro; rfl
    isplitl [H13]
    · iexists _; iexists _; isplitr
      swap; · iexact H13
      ipureintro; rfl
    iexists _; iexists _; isplitr
    swap; · iexact H14
    ipureintro; rfl

end Cert.SelIdeal.Hand
-- ==== Proof.SelIdealFrame.lean ====
module

public import proofs.«01_k».proof.Proof.SelIdealRun
public import Idealize.ShloMosaic.Lib.Claim

@[expose] public section

/-! # The selected attention (SelIdeal): its output tile at every point, its run and its frame

Nothing is carried from point to point: the scratch buffers are written before they are read, and may hold anything between points. -/

set_option maxRecDepth 16384

noncomputable section

namespace Cert.SelIdeal.Hand

open Cert.SelIdeal Cert.SelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The branches and trip counts at the points -/

/-- The second loop is never entered, -/
theorem no_rest : ∀ t : Fin cfg0.N, (k0_t2_loop (grid0.coords t)).trips = 0 :=
  (by decide +kernel : ∀ t : Fin grid0.N, (k0_t2_loop (grid0.coords t)).trips = 0)
/-- the first goes through the blocks of 512 keys before the queries' own, -/
theorem trips_eq : ∀ t : Fin cfg0.N, (k0_t1_loop (grid0.coords t)).trips = t.val % 16 / 2 :=
  (by decide +kernel : ∀ t : Fin grid0.N, (k0_t1_loop (grid0.coords t)).trips = t.val % 16 / 2)
/-- the blocks of even number taking one branch, -/
theorem even_iff : ∀ (t : Fin cfg0.N) (k : Fin (k0_t1_loop (grid0.coords t)).trips),
    k0_cond1 (grid0.coords t) k = 1#1 ↔ k.val % 2 = 0 :=
  (by decide +kernel : ∀ (t : Fin grid0.N) (k : Fin (k0_t1_loop (grid0.coords t)).trips),
    k0_cond1 (grid0.coords t) k = 1#1 ↔ k.val % 2 = 0)
/-- those of odd number the other, -/
theorem odd_iff : ∀ (t : Fin cfg0.N) (k : Fin (k0_t1_loop (grid0.coords t)).trips),
    k0_cond2 (grid0.coords t) k = 1#1 ↔ k.val % 2 = 1 :=
  (by decide +kernel : ∀ (t : Fin grid0.N) (k : Fin (k0_t1_loop (grid0.coords t)).trips),
    k0_cond2 (grid0.coords t) k = 1#1 ↔ k.val % 2 = 1)
/-- and so for the last block. -/
theorem last_even_iff : ∀ t : Fin cfg0.N, k0_cond5 (grid0.coords t) = 1#1 ↔ t.val % 16 / 2 % 2 = 0 :=
  (by decide +kernel : ∀ t : Fin grid0.N, k0_cond5 (grid0.coords t) = 1#1 ↔ t.val % 16 / 2 % 2 = 0)
theorem last_odd_iff : ∀ t : Fin cfg0.N, k0_cond6 (grid0.coords t) = 1#1 ↔ t.val % 16 / 2 % 2 = 1 :=
  (by decide +kernel : ∀ t : Fin grid0.N, k0_cond6 (grid0.coords t) = 1#1 ↔ t.val % 16 / 2 % 2 = 1)

theorem branches (t : Fin cfg0.N) (k : Fin (k0_t1_loop (grid0.coords t)).trips) :
    (k0_cond1 (grid0.coords t) k = 1#1 ∧ ¬k0_cond2 (grid0.coords t) k = 1#1)
      ∨ (¬k0_cond1 (grid0.coords t) k = 1#1 ∧ k0_cond2 (grid0.coords t) k = 1#1) := by
  rw [even_iff, odd_iff]; omega

theorem last_branches (t : Fin cfg0.N) :
    (k0_cond5 (grid0.coords t) = 1#1 ∧ ¬k0_cond6 (grid0.coords t) = 1#1)
      ∨ (¬k0_cond5 (grid0.coords t) = 1#1 ∧ k0_cond6 (grid0.coords t) = 1#1) := by
  rw [last_even_iff, last_odd_iff]; omega

/-! ## What the second score buffer held before does not matter -/

/-- After the first trip the scratch buffers do not depend on what the second score buffer held, -/
theorem st_indep (t : Fin cfg0.N) (x3 : Vec F S256x1024 .bf16) (x4 : Vec F S256x128 .bf16) (x5 x6 : Vec F S4096x256 .bf16)
    (d d' : Vec F S2048x512 .f32) (h : 0 < (k0_t1_loop (grid0.coords t)).trips) (n : ℕ) :
    st (grid0.coords t) x5 x6 (qs x3 x4) (st0 (grid0.coords t) x3 x4 x5 d) (n + 1)
      = st (grid0.coords t) x5 x6 (qs x3 x4) (st0 (grid0.coords t) x3 x4 x5 d') (n + 1) := by
  induction n with
  | zero =>
    have h1 : k0_cond1 (grid0.coords t) ⟨0, h⟩ = 1#1 := (even_iff t ⟨0, h⟩).mpr rfl
    refine (st_succ _ _ _ _ _ ⟨0, h⟩).trans (Eq.trans ?_ (st_succ _ _ _ _ _ ⟨0, h⟩).symm)
    rw [trip, trip, dif_pos h1, dif_pos h1]
    rfl
  | succ n ih =>
    show dite _ _ _ = dite _ _ _
    rw [ih]

/-- nor does the output tile. -/
theorem out_indep (t : Fin cfg0.N) (x3 : Vec F S256x1024 .bf16) (x4 : Vec F S256x128 .bf16) (x5 x6 : Vec F S4096x256 .bf16)
    (x7 : Vec F S256x1024 .bf16) (x8 : Vec F S256x128 .f32) (d d' : Vec F S2048x512 .f32) :
    out (grid0.coords t) x3 x4 x5 x6 x7 x8 d = out (grid0.coords t) x3 x4 x5 x6 x7 x8 d' := by
  unfold out
  by_cases h : 0 < (k0_t1_loop (grid0.coords t)).trips
  · obtain ⟨n, hn⟩ : ∃ n, (k0_t1_loop (grid0.coords t)).trips = n + 1 := ⟨_, (Nat.succ_pred_eq_of_pos h).symm⟩
    rw [hn, st_indep t x3 x4 x5 x6 d d' h n]
  · have hz : (k0_t1_loop (grid0.coords t)).trips = 0 := by omega
    have h5 : k0_cond5 (grid0.coords t) = 1#1 := (last_even_iff t).mpr (by rw [← trips_eq t, hz])
    rw [hz, fin, fin, dif_pos h5, dif_pos h5]
    rfl

/-! ## The blocks and the output tile -/

/-- The queries of point `t`. -/
def qt (c : Dev nD) (t : Fin cfg0.N) : Vec F S256x1024 .bf16 := iblk m c 0 t
/-- The block biases of point `t`. -/
def bt (c : Dev nD) (t : Fin cfg0.N) : Vec F S256x128 .bf16 := iblk m c 1 t
/-- The keys, each beside its block's one-hot row, of point `t`. -/
def kt (c : Dev nD) (t : Fin cfg0.N) : Vec F S4096x256 .bf16 := iblk m c 2 t
/-- The values, each beside ones, of point `t`. -/
def vt (c : Dev nD) (t : Fin cfg0.N) : Vec F S4096x256 .bf16 := iblk m c 3 t
/-- The compressed attention's result of point `t`. -/
def ot (c : Dev nD) (t : Fin cfg0.N) : Vec F S256x1024 .bf16 := iblk m c 4 t
/-- The gates of point `t`. -/
def gt (c : Dev nD) (t : Fin cfg0.N) : Vec F S256x128 .f32 := iblk m c 5 t

/-- The output tile of point `t`. -/
def res (c : Dev nD) (t : Fin cfg0.N) : Vec F S256x1024 .bf16 :=
  out (grid0.coords t) (qt m c t) (bt m c t) (kt m c t) (vt m c t) (ot m c t) (gt m c t) (fun _ => Scalar.ofBits .f32 0#32)

/-- The proof data of the call: its arrays as launched; after each point the input buffers at their blocks and the output at its
tile; the scratch buffers at anything. -/
def dats (_ : Fin 1) (c : Dev nD) : Dat τ (Elt F) Unit ℕ (UR sig nD τ) ℕ cfg0 c where
  A w := m ((c : Thread nD τ).loc (Pipeline.arrRef spec0 w))
  after w t := match w with
    | ⟨0, _⟩ => qt m c t
    | ⟨1, _⟩ => bt m c t
    | ⟨2, _⟩ => kt m c t
    | ⟨3, _⟩ => vt m c t
    | ⟨4, _⟩ => ot m c t
    | ⟨5, _⟩ => gt m c t
    | ⟨6, _⟩ => res m c t
  Φ _ := Pipeline.ΦA spec0 c
  q _ := fullShare
  owed _ := 0

theorem A_eq (c : Dev nD) (w : Fin cfg0.W) : (dats m 0 c).A w = m ((c : Thread nD τ).loc (Pipeline.arrRef spec0 w)) := by
  dsimp only [dats]

theorem after_0 (c : Dev nD) (t : Fin cfg0.N) : (dats m 0 c).after 0 t = qt m c t := by dsimp only [dats]
theorem after_1 (c : Dev nD) (t : Fin cfg0.N) : (dats m 0 c).after 1 t = bt m c t := by dsimp only [dats]
theorem after_2 (c : Dev nD) (t : Fin cfg0.N) : (dats m 0 c).after 2 t = kt m c t := by dsimp only [dats]
theorem after_3 (c : Dev nD) (t : Fin cfg0.N) : (dats m 0 c).after 3 t = vt m c t := by dsimp only [dats]
theorem after_4 (c : Dev nD) (t : Fin cfg0.N) : (dats m 0 c).after 4 t = ot m c t := by dsimp only [dats]
theorem after_5 (c : Dev nD) (t : Fin cfg0.N) : (dats m 0 c).after 5 t = gt m c t := by dsimp only [dats]
theorem after_6 (c : Dev nD) (t : Fin cfg0.N) : (dats m 0 c).after 6 t = res m c t := by dsimp only [dats]
theorem before_0 (c : Dev nD) (t : Fin cfg0.N) (d) : (dats m 0 c).before 0 t d = qt m c t :=
  before0_0_of m (dats m 0 c) (A_eq m c 0) (fun t => after_0 m c t) t d
theorem before_1 (c : Dev nD) (t : Fin cfg0.N) (d) : (dats m 0 c).before 1 t d = bt m c t :=
  before0_1_of m (dats m 0 c) (A_eq m c 1) (fun t => after_1 m c t) t d
theorem before_2 (c : Dev nD) (t : Fin cfg0.N) (d) : (dats m 0 c).before 2 t d = kt m c t :=
  before0_2_of m (dats m 0 c) (A_eq m c 2) (fun t => after_2 m c t) t d
theorem before_3 (c : Dev nD) (t : Fin cfg0.N) (d) : (dats m 0 c).before 3 t d = vt m c t :=
  before0_3_of m (dats m 0 c) (A_eq m c 3) (fun t => after_3 m c t) t d
theorem before_4 (c : Dev nD) (t : Fin cfg0.N) (d) : (dats m 0 c).before 4 t d = ot m c t :=
  before0_4_of m (dats m 0 c) (A_eq m c 4) (fun t => after_4 m c t) t d
theorem before_5 (c : Dev nD) (t : Fin cfg0.N) (d) : (dats m 0 c).before 5 t d = gt m c t :=
  before0_5_of m (dats m 0 c) (A_eq m c 5) (fun t => after_5 m c t) t d
theorem leaves_0 (c : Dev nD) (t : Fin cfg0.N) :
    (dats m 0 c).leaves 0 t = owns (c : Thread nD τ) (st0_0 t) fullShare (qt m c t) := by
  rw [← after_0]; try rfl
theorem leaves_1 (c : Dev nD) (t : Fin cfg0.N) :
    (dats m 0 c).leaves 1 t = owns (c : Thread nD τ) (st0_1 t) fullShare (bt m c t) := by
  rw [← after_1]; try rfl
theorem leaves_2 (c : Dev nD) (t : Fin cfg0.N) :
    (dats m 0 c).leaves 2 t = owns (c : Thread nD τ) (st0_2 t) fullShare (kt m c t) := by
  rw [← after_2]; try rfl
theorem leaves_3 (c : Dev nD) (t : Fin cfg0.N) :
    (dats m 0 c).leaves 3 t = owns (c : Thread nD τ) (st0_3 t) fullShare (vt m c t) := by
  rw [← after_3]; try rfl
theorem leaves_4 (c : Dev nD) (t : Fin cfg0.N) :
    (dats m 0 c).leaves 4 t = owns (c : Thread nD τ) (st0_4 t) fullShare (ot m c t) := by
  rw [← after_4]; try rfl
theorem leaves_5 (c : Dev nD) (t : Fin cfg0.N) :
    (dats m 0 c).leaves 5 t = owns (c : Thread nD τ) (st0_5 t) fullShare (gt m c t) := by
  rw [← after_5]; try rfl
theorem leaves_6 (c : Dev nD) (t : Fin cfg0.N) :
    (dats m 0 c).leaves 6 t = owns (c : Thread nD τ) (st0_6 t) fullShare (res m c t) := by
  rw [← after_6]; try rfl

theorem rest_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5, leaves_6]
  rw [show (dats m 0 c).owesAt () t.succ = (dats m 0 c).owesAt () t.castSucc from rfl,
    show (dats m 0 c).Φ t.succ = (Pipeline.ΦA spec0 c : sProp 𝕄) from rfl,
    show (dats m 0 c).Φ t.castSucc = (Pipeline.ΦA spec0 c : sProp 𝕄) from rfl, rest_eq]
  iintro ⟨⟨⟨⟨%e0, S0⟩, ⟨%e1, S1⟩, ⟨%e2, S2⟩, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩⟩
  iapply (run c (grid0.coords t) _ _ _ _ _ _ _ _ _ _ _ _ _ _ _ _ _ _ _ _ _ _ _ _ (no_rest t) (branches t) (last_branches t)
    (qt m c t) (bt m c t) (kt m c t) (vt m c t) (ot m c t) (gt m c t) ((dats m 0 c).before 6 t d6) e0 e1 e2 e3 e4 _)
  rw [out_indep t (qt m c t) (bt m c t) (kt m c t) (vt m c t) (ot m c t) (gt m c t) e4 (fun _ => Scalar.ofBits .f32 0#32)]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  iintro ⟨H0, H1, H2, H3, H4, H5, H6, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

theorem hmain (𝒱₀ : Variants) : Pipeline.HMain (Ix := Unit) (Name := ℕ) (U := UR sig nD τ) (Lvl := ℕ) cfgs 0 defs₀ 𝒱₀ m (main (F := F))
    (fun c b => m ((c : Thread nD τ).loc b)) :=
  Pipeline.hmain_region cfgs 0 defs₀ 𝒱₀ m main fun c => (main_chain c).trans rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

set_option backward.isDefEq.respectTransparency.types false in
/-- Every execution of the call terminates with its arrays at what the proof data computes, and every counter at zero. -/
theorem run_main : θ_run defs (onTc (τ := τ) (main (F := F))) (s₀ m ρ)
    (fun r => (Pipeline.FramePost cfgs (dats m) 0 (fun c b => m ((c : Thread nD τ).loc b))) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := fun c b => m ((c : Thread nD τ).loc b)) (hmain := hmain m Variants.none) (hA := A_eq m) (hin := hin m) (hout := hout m)

/-- The run, with what the result's array holds at its end. -/
theorem run_array : θ_run defs (onTc (τ := τ) (main (F := F))) ⟨m, fun _ => 0, ρ⟩ (fun r => ∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h.1 c).1 6,
       ((h.1 c).1 0).trans (((dats m 0 c).arrAt_in 0 rfl _).trans (A_eq m c 0)),
       ((h.1 c).1 1).trans (((dats m 0 c).arrAt_in 1 rfl _).trans (A_eq m c 1)),
       ((h.1 c).1 2).trans (((dats m 0 c).arrAt_in 2 rfl _).trans (A_eq m c 2)),
       ((h.1 c).1 3).trans (((dats m 0 c).arrAt_in 3 rfl _).trans (A_eq m c 3)),
       ((h.1 c).1 4).trans (((dats m 0 c).arrAt_in 4 rfl _).trans (A_eq m c 4)),
       ((h.1 c).1 5).trans (((dats m 0 c).arrAt_in 5 rfl _).trans (A_eq m c 5))⟩) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨((h.1 c).1 0).trans (((dats m 0 c).arrAt_in 0 rfl _).trans (A_eq m c 0)),
       ((h.1 c).1 1).trans (((dats m 0 c).arrAt_in 1 rfl _).trans (A_eq m c 1)),
       ((h.1 c).1 2).trans (((dats m 0 c).arrAt_in 2 rfl _).trans (A_eq m c 2)),
       ((h.1 c).1 3).trans (((dats m 0 c).arrAt_in 3 rfl _).trans (A_eq m c 3)),
       ((h.1 c).1 4).trans (((dats m 0 c).arrAt_in 4 rfl _).trans (A_eq m c 4)),
       ((h.1 c).1 5).trans (((dats m 0 c).arrAt_in 5 rfl _).trans (A_eq m c 5))⟩, h.2⟩) (run_main m ρ)

end Cert.SelIdeal.Hand
-- ==== Proof.Online.lean ====
/-
  Softmax read block by block: the running maximum, the running sums rescaled when the maximum grows, and that their
  quotient is the row of attention. Nothing here speaks of a program, and nothing needs finite scores or values.
-/
module

public import proofs.«01_k».proof.Proof.Softmax

@[expose] public section
noncomputable section
open Idealize.ShloMosaic

namespace Cert.Online
open Cert.Softmax

variable (s v : ℕ → EReal)

/-- The largest of the first `N` scores, -/
def maxTo (N : ℕ) : EReal := (Finset.range N).sup s

/-- and the sum of the first `N` values, each under two to the power of its score below that maximum. -/
def sumTo (N : ℕ) : EReal := ∑ k ∈ Finset.range N, Ideal.exp2 (s k - maxTo s N) * v k

/-- No score is above the maximum, -/
theorem le_maxTo {N k : ℕ} (h : k < N) : s k ≤ maxTo s N := Finset.le_sup (Finset.mem_range.mpr h)

/-- which only grows. -/
theorem maxTo_mono {N N' : ℕ} (h : N ≤ N') : maxTo s N ≤ maxTo s N' :=
  Finset.sup_mono (Finset.range_mono h)

/-- A power of two below one is a real number. -/
theorem exp2_sub_real {a b : EReal} (h : a ≤ b) : ∃ r : ℝ, 0 ≤ r ∧ Ideal.exp2 (a - b) = r := by
  induction b with
  | bot => exact ⟨0, le_rfl, by rw [le_bot_iff.mp h, EReal.bot_sub]; rfl⟩
  | top => exact ⟨0, le_rfl, by rw [EReal.sub_top]; rfl⟩
  | coe b =>
    induction a with
    | bot => exact ⟨0, le_rfl, by rw [EReal.bot_sub]; rfl⟩
    | top => exact absurd h (by simp)
    | coe a => exact ⟨Real.rpow 2 (a - b), Real.rpow_nonneg (by norm_num) _, by rw [← EReal.coe_sub]; rfl⟩

/-- A weight under one maximum, rescaled to a larger one. -/
theorem exp2_chain {a b c : EReal} (hab : a ≤ b) (hbc : b ≤ c) :
    Ideal.exp2 (b - c) * Ideal.exp2 (a - b) = Ideal.exp2 (a - c) := by
  have zero : Ideal.exp2 (⊥ : EReal) = 0 := rfl
  induction c with
  | bot =>
    rw [le_bot_iff.mp hbc] at hab ⊢
    rw [le_bot_iff.mp hab, EReal.bot_sub, zero, zero_mul]
  | top => rw [EReal.sub_top, EReal.sub_top, zero, zero_mul]
  | coe c =>
    induction b with
    | bot => rw [le_bot_iff.mp hab, EReal.bot_sub, EReal.bot_sub, zero, zero_mul]
    | top => exact absurd hbc (by simp)
    | coe b =>
      induction a with
      | bot => rw [EReal.bot_sub, EReal.bot_sub, zero, mul_zero]
      | top => exact absurd hab (by simp)
      | coe a =>
        rw [← EReal.coe_sub, ← EReal.coe_sub, ← EReal.coe_sub]
        show ((Real.rpow 2 (b - c) : ℝ) : EReal) * ((Real.rpow 2 (a - b) : ℝ) : EReal) = ((Real.rpow 2 (a - c) : ℝ) : EReal)
        rw [← EReal.coe_mul]
        congr 1
        have := Real.rpow_add (x := 2) (by norm_num) (b - c) (a - b)
        rw [show b - c + (a - b) = a - c by ring] at this
        exact this.symm

/-- A real number times a sum, term by term. -/
theorem real_mul_sum (t : Finset ℕ) (f : ℕ → EReal) {r : ℝ} (hr : 0 ≤ r) :
    (r : EReal) * ∑ k ∈ t, f k = ∑ k ∈ t, (r : EReal) * f k := by
  classical
  induction t using Finset.induction_on with
  | empty => simp
  | insert a t ha ih =>
    rw [Finset.sum_insert ha, Finset.sum_insert ha, ← ih]
    exact EReal.left_distrib_of_nonneg_of_ne_top (by exact_mod_cast hr) (EReal.coe_ne_top r) _ _

/-- The maximum after one more block of `n` scores. -/
theorem maxTo_step (N n : ℕ) (b : Fin n → EReal) (hb : ∀ k, b k = s (N + k.val)) :
    max (maxTo s N) (Finset.univ.fold max ⊥ b) = maxTo s (N + n) := by
  refine le_antisymm (max_le (maxTo_mono s (by omega)) ?_) ?_
  · show Finset.univ.sup b ≤ _
    refine Finset.sup_le fun k _ => ?_
    rw [hb]; exact le_maxTo s (by omega)
  · refine Finset.sup_le fun k hk => ?_
    have hk' := Finset.mem_range.mp hk
    by_cases h : k < N
    · exact (le_maxTo s h).trans (le_max_left _ _)
    · refine le_trans ?_ (le_max_right _ _)
      show s k ≤ Finset.univ.sup b
      have := Finset.le_sup (f := b) (Finset.mem_univ (⟨k - N, by omega⟩ : Fin n))
      rw [hb] at this
      simpa [Nat.add_sub_cancel' (Nat.le_of_not_lt h)] using this

/-- The sums after one more block: the old ones rescaled, and the block's own. -/
theorem sumTo_step (N n : ℕ) (b w : Fin n → EReal) (hb : ∀ k, b k = s (N + k.val)) (hw : ∀ k, w k = v (N + k.val)) :
    Ideal.exp2 (maxTo s N - maxTo s (N + n)) * sumTo s v N + ∑ k, Ideal.exp2 (b k - maxTo s (N + n)) * w k = sumTo s v (N + n) := by
  obtain ⟨r, hr, e⟩ := exp2_sub_real (maxTo_mono s (Nat.le_add_right N n))
  unfold sumTo
  rw [Finset.sum_range_add, e, real_mul_sum _ _ hr, ← e]
  congr 1
  · refine Finset.sum_congr rfl fun k hk => ?_
    rw [← mul_assoc, exp2_chain (le_maxTo s (Finset.mem_range.mp hk)) (maxTo_mono s (Nat.le_add_right N n))]
  · rw [Finset.sum_range]
    exact Finset.sum_congr rfl fun k _ => by rw [hb, hw]

/-- Before the first block. -/
theorem maxTo_zero : maxTo s 0 = ⊥ := rfl
theorem sumTo_zero : sumTo s v 0 = 0 := rfl

/-- When the scores from `N` on are minus infinity, the quotient of the sums is the whole row of attention. -/
theorem attend_of_sums (N M : ℕ) (hN : N ≤ M) (h0 : ∀ k, N ≤ k → s k = ⊥) (one : ℕ → EReal) (h1 : ∀ k, k < N → one k = 1) :
    sumTo s v N * Ideal.div 1 (sumTo s one N) = attend (fun k : Fin M => s k.val) (fun k => v k.val) := by
  have ht : top (fun k : Fin M => s k.val) = maxTo s N := by
    rw [top_eq_sup]
    refine le_antisymm (Finset.sup_le fun k _ => ?_) (Finset.sup_le fun k hk => ?_)
    · by_cases h : k.val < N
      · exact le_maxTo s h
      · rw [h0 _ (Nat.le_of_not_lt h)]; exact bot_le
    · have hk' := Finset.mem_range.mp hk
      exact Finset.le_sup (f := fun k : Fin M => s k.val) (Finset.mem_univ ⟨k, by omega⟩)
  have hs : ∀ u : ℕ → EReal, ∑ k : Fin M, weight (fun k : Fin M => s k.val) k * u k.val = sumTo s u N := fun u => by
    unfold sumTo weight
    rw [ht, ← Finset.sum_range (fun k => Ideal.exp2 (s k - maxTo s N) * u k)]
    refine (Finset.sum_subset (Finset.range_mono hN) fun k _ hk => ?_).symm
    rw [h0 k (Nat.le_of_not_lt fun h => hk (Finset.mem_range.mpr h)), EReal.bot_sub]
    exact zero_mul _
  rw [← attend_eq_mul, hs v]
  congr 2
  rw [← Finset.sum_congr rfl fun (k : Fin M) _ => mul_one (weight (fun k : Fin M => s k.val) k), hs fun _ => 1]
  exact Finset.sum_congr rfl fun k hk => by rw [h1 k (Finset.mem_range.mp hk)]

end Cert.Online
-- ==== Proof.SelTile.lean ====
/-
  One tile of the selected attention over the extended reals: 256 queries of eight heads, stacked head by head into
  2048 rows, each row followed by its query's biases. The keys and values come in blocks of 512; the scores of the next
  block are computed while the last one's are summed, in two buffers by turns.
-/
module

public import proofs.«01_k».proof.Proof.SelIdealRun
public import proofs.«01_k».proof.Proof.Online
public import proofs.«01_k».proof.Proof.AttnSpec
public import proofs.«01_k».proof.Proof.Masks
public import Idealize.ShloMosaic.Lib.Pipeline.ValueKit
public import Idealize.ShloMosaic.Lib.Pipeline.ReadBack
public import Idealize.ShloMosaic.Lib.Pointwise
public import Idealize.ShloMosaic.Lib.Tactic

@[expose] public section
set_option maxRecDepth 16384
noncomputable section
open Idealize.ShloMosaic Idealize.ShloMosaic.TcCoe Idealize.SL.Sem
open Cert.Softmax Cert.Online
namespace Cert.SelIdeal.Hand
open Cert.SelIdeal Cert.SelIdeal.Gen

/-- The named constant of the masks is minus infinity. -/
theorem mask_value : Named.named (F := Ideal) (φ := .f32) κ "mask" 0xF149F2CA#32 = (⊥ : EReal) :=
  IdealRules.named_const.ideal_named_scalar (φ := .f32) κ "mask" 0xF149F2CA#32 ⊥ (by simp [κ])
theorem negInf : Ideal.ofBits FTy.f32 0xFF800000#32 = (⊥ : EReal) := by
  simp [Ideal.ofBits, Ideal.ieee]

/-! ## The vector operations at one element -/

section
variable (s : Vec Ideal S2048x512 .f32) (mm : Vec Ideal S2048x128 .f32) (a : Vec Ideal S2048x256 .f32)
  (v ks : Vec Ideal S512x256 .bf16) (q : Vec Ideal S2048x256 .bf16)

/-- The running maximum starts at minus infinity, the running sums at zero. -/
theorem start_max (r : Fin 2048) (l : Fin 128) : k0_pay35 (F := Ideal) (ix2 r l) = (⊥ : EReal) := by
  pointwise [k0_pay35]
  try exact mask_value
theorem start_sum (r : Fin 2048) (l : Fin 256) : k0_pay36 (F := Ideal) (ix2 r l) = (0 : EReal) := by
  pointwise [k0_pay36]
  try exact Ideal.ofBits_zero_f32

/-- The causal mask of a tile and a block of keys. -/
theorem tile_mask (i r n k : ℕ) (hi : i < 16) (hr : r < 256) (hn : n < 8) (hk : k < 512) :
    IntOp.cmpi CmpIPredicate.sle (IntOp.addi (BitVec.ofNat 32 k) (BitVec.ofNat 32 (512 * n)))
      (IntOp.addi (Scalar.muli (BitVec.ofNat 32 i) 256#32) (BitVec.ofNat 32 r)) = 1#1 ↔ 512 * n + k ≤ 256 * i + r := by
  rw [Masks.scalar_muli_ofNat, Masks.addi_ofNat, Masks.addi_ofNat]
  word_omega

/-- The first key of the block after block `n`. -/
theorem next_block (n : Fin 7) : Scalar.muli (Scalar.addi (Scf.iv 0#32 1#32 n.val) 1#32) 512#32 = BitVec.ofNat 32 (512 * (n.val + 1)) :=
  (by decide : ∀ n : Fin 7, Scalar.muli (Scalar.addi (Scf.iv 0#32 1#32 n.val) 1#32) 512#32 = BitVec.ofNat 32 (512 * (n.val + 1))) n

/-- The scores of the first block, -/
theorem scores_first (i : Fin 16) (r : Fin 2048) (k : Fin 512) :
    k0_pay37 (F := Ideal) (Scalar.muli (BitVec.ofNat 32 i.val) 256#32) 0#32 ks q (ix2 r k)
      = if 512 * 0 + k.val ≤ 256 * i.val + r.val % 256 then ∑ x : Fin 256, q (ix2 r x) * ks (ix2 k x) else ⊥ := by
  pointwise [k0_pay37]
  simp only [mask_value]
  refine Masks.select_of_iff ?_ _ _
  have h := tile_mask i (r.val % 256) 0 k i.isLt (Nat.mod_lt _ (by omega)) (by omega) k.isLt
  simpa only [Nat.mul_zero, Nat.zero_add] using h

/-- and of the block after block `n`. -/
theorem scores_next (i : Fin 16) (n : Fin 7) (r : Fin 2048) (k : Fin 512) :
    k0_pay3 (F := Ideal) (Scalar.muli (BitVec.ofNat 32 i.val) 256#32) (Scf.iv 0#32 1#32 n.val) ks q (ix2 r k)
      = if 512 * (n.val + 1) + k.val ≤ 256 * i.val + r.val % 256 then ∑ x : Fin 256, q (ix2 r x) * ks (ix2 k x) else ⊥ := by
  pointwise [k0_pay3]
  simp only [mask_value, next_block]
  exact Masks.select_of_iff (tile_mask i (r.val % 256) (n.val + 1) k i.isLt (Nat.mod_lt _ (by omega)) (by omega) k.isLt) _ _

/-- The running maximum, -/
theorem new_max (r : Fin 2048) (l : Fin 128) : k0_pay4 (F := Ideal) s mm (ix2 r l)
    = max (mm (ix2 r l)) (Finset.univ.fold max ⊥ fun x : Fin 512 => s (ix2 r x)) := by
  pointwise [k0_pay4]
  rw [negInf]

/-- and the running sums, of a row whose maximum so far is `M`. -/
theorem new_sum (r : Fin 2048) (l : Fin 256) (M : EReal) (hM : ∀ l, mm (ix2 r l) = M) :
    k0_pay38 (F := Ideal) v (k0_pay5 s mm) (k0_pay6 s mm a) (ix2 r l)
      = Ideal.exp2 (M - max M (Finset.univ.fold max ⊥ fun x : Fin 512 => s (ix2 r x))) * a (ix2 r l)
        + ∑ k : Fin 512, Ideal.exp2 (s (ix2 r k) - max M (Finset.univ.fold max ⊥ fun x : Fin 512 => s (ix2 r x))) * v (ix2 k l) := by
  have e5 : ∀ k : Fin 512, k0_pay5 (F := Ideal) s mm (ix2 r k)
      = Ideal.exp2 (s (ix2 r k) - max M (Finset.univ.fold max ⊥ fun x : Fin 512 => s (ix2 r x))) := fun k => by
    pointwise [k0_pay5]
    simp only [new_max, hM, dite_eq_ite, ite_self]
    rfl
  have e6 : k0_pay6 (F := Ideal) s mm a (ix2 r l)
      = Ideal.exp2 (M - max M (Finset.univ.fold max ⊥ fun x : Fin 512 => s (ix2 r x))) * a (ix2 r l) := by
    pointwise [k0_pay6]
    simp only [new_max, hM, dite_eq_ite, ite_self]
    rfl
  pointwise [k0_pay38]
  simp only [e5, e6]
end

/-! ## The rows of the stacked queries -/

/-- Row `r` of the stacked queries: a head's query, then the biases of the same token. -/
def stackVal (x3 : Vec Ideal S256x1024 .bf16) (x4 : Vec Ideal S256x128 .bf16) (r : Fin 2048) (x : Fin 256) : EReal :=
  if h : x.val < 128 then x3 (ix2 ⟨r.val % 256, by omega⟩ ⟨r.val / 256 * 128 + x.val, by omega⟩)
  else x4 (ix2 ⟨r.val % 256, by omega⟩ ⟨x.val - 128, by omega⟩)

theorem stack_query (x3 : Vec Ideal S256x1024 .bf16) (x4 : Vec Ideal S256x128 .bf16) (r : Fin 2048) (x : Fin 256) (h : ℕ)
    (p : Fin 256) (l : Fin 128) (hh : h < 8) (h0 : r.val = 256 * h + p.val) (h1 : x.val = l.val) :
    x3 (ix2 p ⟨128 * h + l.val, by omega⟩) = stackVal x3 x4 r x := by
  rw [stackVal, dif_pos (by omega)]
  congr 2 <;> apply Fin.ext <;> simp only <;> omega

theorem stack_bias (x3 : Vec Ideal S256x1024 .bf16) (x4 : Vec Ideal S256x128 .bf16) (r : Fin 2048) (x : Fin 256) (h : ℕ)
    (p : Fin 256) (l : Fin 128) (hh : h < 8) (h0 : r.val = 256 * h + p.val) (h1 : x.val = 128 + l.val) :
    x4 (ix2 p l) = stackVal x3 x4 r x := by
  rw [stackVal, dif_neg (by omega)]
  congr 2 <;> apply Fin.ext <;> simp only <;> omega

set_option maxHeartbeats 4000000 in
theorem qs_apply (x3 : Vec Ideal S256x1024 .bf16) (x4 : Vec Ideal S256x128 .bf16) (y : S2048x256.Idx) :
    qs x3 x4 y = stackVal x3 x4 (y 0) (y 1) := by
  unfold qs qsPieces
  canon_tiles y
  · rw [eq_ix2 y]
    pointwise [k0_pay34]
    first
    | exact stack_bias x3 x4 _ _ 7 (y 0) (y 1) (by omega) (by omega) (by omega)
    | (rw [eq_ix2 y]; exact stack_bias x3 x4 _ _ 7 (y 0) (y 1) (by omega) (by omega) (by omega))
  · rw [eq_ix2 y]
    pointwise [k0_pay33]
    exact stack_query x3 x4 _ _ 7 (y 0) (y 1) (by omega) (by omega) (by omega)
  · rw [eq_ix2 y]
    pointwise [k0_pay32]
    first
    | exact stack_bias x3 x4 _ _ 6 (y 0) (y 1) (by omega) (by omega) (by omega)
    | (rw [eq_ix2 y]; exact stack_bias x3 x4 _ _ 6 (y 0) (y 1) (by omega) (by omega) (by omega))
  · rw [eq_ix2 y]
    pointwise [k0_pay31]
    exact stack_query x3 x4 _ _ 6 (y 0) (y 1) (by omega) (by omega) (by omega)
  · rw [eq_ix2 y]
    pointwise [k0_pay30]
    first
    | exact stack_bias x3 x4 _ _ 5 (y 0) (y 1) (by omega) (by omega) (by omega)
    | (rw [eq_ix2 y]; exact stack_bias x3 x4 _ _ 5 (y 0) (y 1) (by omega) (by omega) (by omega))
  · rw [eq_ix2 y]
    pointwise [k0_pay29]
    exact stack_query x3 x4 _ _ 5 (y 0) (y 1) (by omega) (by omega) (by omega)
  · rw [eq_ix2 y]
    pointwise [k0_pay28]
    first
    | exact stack_bias x3 x4 _ _ 4 (y 0) (y 1) (by omega) (by omega) (by omega)
    | (rw [eq_ix2 y]; exact stack_bias x3 x4 _ _ 4 (y 0) (y 1) (by omega) (by omega) (by omega))
  · rw [eq_ix2 y]
    pointwise [k0_pay27]
    exact stack_query x3 x4 _ _ 4 (y 0) (y 1) (by omega) (by omega) (by omega)
  · rw [eq_ix2 y]
    pointwise [k0_pay26]
    first
    | exact stack_bias x3 x4 _ _ 3 (y 0) (y 1) (by omega) (by omega) (by omega)
    | (rw [eq_ix2 y]; exact stack_bias x3 x4 _ _ 3 (y 0) (y 1) (by omega) (by omega) (by omega))
  · rw [eq_ix2 y]
    pointwise [k0_pay25]
    exact stack_query x3 x4 _ _ 3 (y 0) (y 1) (by omega) (by omega) (by omega)
  · rw [eq_ix2 y]
    pointwise [k0_pay24]
    first
    | exact stack_bias x3 x4 _ _ 2 (y 0) (y 1) (by omega) (by omega) (by omega)
    | (rw [eq_ix2 y]; exact stack_bias x3 x4 _ _ 2 (y 0) (y 1) (by omega) (by omega) (by omega))
  · rw [eq_ix2 y]
    pointwise [k0_pay23]
    exact stack_query x3 x4 _ _ 2 (y 0) (y 1) (by omega) (by omega) (by omega)
  · rw [eq_ix2 y]
    pointwise [k0_pay22]
    first
    | exact stack_bias x3 x4 _ _ 1 (y 0) (y 1) (by omega) (by omega) (by omega)
    | (rw [eq_ix2 y]; exact stack_bias x3 x4 _ _ 1 (y 0) (y 1) (by omega) (by omega) (by omega))
  · rw [eq_ix2 y]
    pointwise [k0_pay21]
    exact stack_query x3 x4 _ _ 1 (y 0) (y 1) (by omega) (by omega) (by omega)
  · rw [eq_ix2 y]
    pointwise [k0_pay20]
    first
    | exact stack_bias x3 x4 _ _ 0 (y 0) (y 1) (by omega) (by omega) (by omega)
    | (rw [eq_ix2 y]; exact stack_bias x3 x4 _ _ 0 (y 0) (y 1) (by omega) (by omega) (by omega))
  · rw [eq_ix2 y]
    pointwise [k0_pay19]
    refine Eq.trans (congrArg (fun z => x3 (ix2 (y 0) z)) (Fin.ext (by simp only; omega))) (stack_query x3 x4 _ _ 0 (y 0) (y 1) (by omega) (by omega) (by omega))

/-! ## The heads' stripes of the output -/

/-- What the tile leaves for head `h`, row `p`, lane `l`, from the final sums. -/
def headVal (x7 : Vec Ideal S256x1024 .bf16) (x8 : Vec Ideal S256x128 .f32) (a : Vec Ideal S2048x256 .f32) (h : ℕ) (hh : h < 8)
    (p : Fin 256) (l : Fin 128) : EReal :=
  x7 (ix2 p ⟨128 * h + l.val, by omega⟩)
    + Ideal.logistic (x8 (ix2 p ⟨8 + h, by omega⟩))
      * (a (ix2 ⟨256 * h + p.val, by omega⟩ ⟨l.val, by omega⟩) * Ideal.div 1 (a (ix2 ⟨256 * h + p.val, by omega⟩ ⟨128 + l.val, by omega⟩)))

/-- The quotient of the two halves of the sums. -/
theorem quotient (a : Vec Ideal S2048x256 .f32) (r : Fin 2048) (l : Fin 128) : k0_pay52 (F := Ideal) (lo a) (hi a) (ix2 r l)
    = a (ix2 r ⟨l.val, by omega⟩) * Ideal.div 1 (a (ix2 r ⟨128 + l.val, by omega⟩)) := by
  have e0 : lo a (ix2 r l) = a (ix2 r ⟨l.val, by omega⟩) := by pointwise [lo]
  have e1 : hi a (ix2 r l) = a (ix2 r ⟨128 + l.val, by omega⟩) := by pointwise [hi]
  pointwise [k0_pay52]
  rw [e0, e1]

/-- Head 0's store. -/
theorem store_head0 (x7 : Vec Ideal S256x1024 .bf16) (x8 : Vec Ideal S256x128 .f32) (a : Vec Ideal S2048x256 .f32) (p : Fin 256) (l : Fin 128) :
    k0_pay54 (F := Ideal) (lo a) (hi a) x8 (View.ld x7 (Rect.unit (s := S256x1024) ![0, 0] S256x128.size inb_S256x1024_S256x128_0_0)) (ix2 p l)
      = headVal x7 x8 a 0 (by omega) p l := by
  have e : ∀ h, (⟨0 + p.val, h⟩ : Fin 2048) = ⟨256 * 0 + p.val, by omega⟩ := fun _ => Fin.ext (by simp)
  have e' : ∀ h, (⟨p.val, h⟩ : Fin 2048) = ⟨256 * 0 + p.val, by omega⟩ := fun _ => Fin.ext (by simp)
  pointwise [k0_pay54, k0_pay53]
  simp only [quotient, headVal, e, e', Nat.mul_zero, Nat.zero_add, Nat.reduceMul, Nat.reduceAdd]
  try rfl

/-- Head 1's store. -/
theorem store_head1 (x7 : Vec Ideal S256x1024 .bf16) (x8 : Vec Ideal S256x128 .f32) (a : Vec Ideal S2048x256 .f32) (p : Fin 256) (l : Fin 128) :
    k0_pay55 (F := Ideal) (lo a) (hi a) x8 (View.ld x7 (Rect.unit (s := S256x1024) ![0, 128] S256x128.size inb_S256x1024_S256x128_0_128)) (ix2 p l)
      = headVal x7 x8 a 1 (by omega) p l := by
  have e : ∀ h, (⟨256 + p.val, h⟩ : Fin 2048) = ⟨256 * 1 + p.val, by omega⟩ := fun _ => Fin.ext (by simp)
  have e' : ∀ h, (⟨p.val, h⟩ : Fin 2048) = ⟨256 * 0 + p.val, by omega⟩ := fun _ => Fin.ext (by simp)
  pointwise [k0_pay55, k0_pay53]
  simp only [quotient, headVal, e, e', Nat.mul_zero, Nat.zero_add, Nat.reduceMul, Nat.reduceAdd]
  try rfl

/-- Head 2's store. -/
theorem store_head2 (x7 : Vec Ideal S256x1024 .bf16) (x8 : Vec Ideal S256x128 .f32) (a : Vec Ideal S2048x256 .f32) (p : Fin 256) (l : Fin 128) :
    k0_pay56 (k0_pay52 (F := Ideal) (lo a) (hi a)) (k0_pay53 x8) (View.ld x7 (Rect.unit (s := S256x1024) ![0, 256] S256x128.size inb_S256x1024_S256x128_0_256)) (ix2 p l)
      = headVal x7 x8 a 2 (by omega) p l := by
  have e : ∀ h, (⟨512 + p.val, h⟩ : Fin 2048) = ⟨256 * 2 + p.val, by omega⟩ := fun _ => Fin.ext (by simp)
  have e' : ∀ h, (⟨p.val, h⟩ : Fin 2048) = ⟨256 * 0 + p.val, by omega⟩ := fun _ => Fin.ext (by simp)
  pointwise [k0_pay56, k0_pay53]
  simp only [quotient, headVal, e, e', Nat.mul_zero, Nat.zero_add, Nat.reduceMul, Nat.reduceAdd]
  try rfl

/-- Head 3's store. -/
theorem store_head3 (x7 : Vec Ideal S256x1024 .bf16) (x8 : Vec Ideal S256x128 .f32) (a : Vec Ideal S2048x256 .f32) (p : Fin 256) (l : Fin 128) :
    k0_pay57 (k0_pay52 (F := Ideal) (lo a) (hi a)) (k0_pay53 x8) (View.ld x7 (Rect.unit (s := S256x1024) ![0, 384] S256x128.size inb_S256x1024_S256x128_0_384)) (ix2 p l)
      = headVal x7 x8 a 3 (by omega) p l := by
  have e : ∀ h, (⟨768 + p.val, h⟩ : Fin 2048) = ⟨256 * 3 + p.val, by omega⟩ := fun _ => Fin.ext (by simp)
  have e' : ∀ h, (⟨p.val, h⟩ : Fin 2048) = ⟨256 * 0 + p.val, by omega⟩ := fun _ => Fin.ext (by simp)
  pointwise [k0_pay57, k0_pay53]
  simp only [quotient, headVal, e, e', Nat.mul_zero, Nat.zero_add, Nat.reduceMul, Nat.reduceAdd]
  try rfl

/-- Head 4's store. -/
theorem store_head4 (x7 : Vec Ideal S256x1024 .bf16) (x8 : Vec Ideal S256x128 .f32) (a : Vec Ideal S2048x256 .f32) (p : Fin 256) (l : Fin 128) :
    k0_pay58 (k0_pay52 (F := Ideal) (lo a) (hi a)) (k0_pay53 x8) (View.ld x7 (Rect.unit (s := S256x1024) ![0, 512] S256x128.size inb_S256x1024_S256x128_0_512)) (ix2 p l)
      = headVal x7 x8 a 4 (by omega) p l := by
  have e : ∀ h, (⟨1024 + p.val, h⟩ : Fin 2048) = ⟨256 * 4 + p.val, by omega⟩ := fun _ => Fin.ext (by simp)
  have e' : ∀ h, (⟨p.val, h⟩ : Fin 2048) = ⟨256 * 0 + p.val, by omega⟩ := fun _ => Fin.ext (by simp)
  pointwise [k0_pay58, k0_pay53]
  simp only [quotient, headVal, e, e', Nat.mul_zero, Nat.zero_add, Nat.reduceMul, Nat.reduceAdd]
  try rfl

/-- Head 5's store. -/
theorem store_head5 (x7 : Vec Ideal S256x1024 .bf16) (x8 : Vec Ideal S256x128 .f32) (a : Vec Ideal S2048x256 .f32) (p : Fin 256) (l : Fin 128) :
    k0_pay59 (k0_pay52 (F := Ideal) (lo a) (hi a)) (k0_pay53 x8) (View.ld x7 (Rect.unit (s := S256x1024) ![0, 640] S256x128.size inb_S256x1024_S256x128_0_640)) (ix2 p l)
      = headVal x7 x8 a 5 (by omega) p l := by
  have e : ∀ h, (⟨1280 + p.val, h⟩ : Fin 2048) = ⟨256 * 5 + p.val, by omega⟩ := fun _ => Fin.ext (by simp)
  have e' : ∀ h, (⟨p.val, h⟩ : Fin 2048) = ⟨256 * 0 + p.val, by omega⟩ := fun _ => Fin.ext (by simp)
  pointwise [k0_pay59, k0_pay53]
  simp only [quotient, headVal, e, e', Nat.mul_zero, Nat.zero_add, Nat.reduceMul, Nat.reduceAdd]
  try rfl

/-- Head 6's store. -/
theorem store_head6 (x7 : Vec Ideal S256x1024 .bf16) (x8 : Vec Ideal S256x128 .f32) (a : Vec Ideal S2048x256 .f32) (p : Fin 256) (l : Fin 128) :
    k0_pay1 (k0_pay52 (F := Ideal) (lo a) (hi a)) (k0_pay53 x8) (k0_pay60 (View.ld x7 (Rect.unit (s := S256x1024) ![0, 768] S256x128.size inb_S256x1024_S256x128_0_768))) (ix2 p l)
      = headVal x7 x8 a 6 (by omega) p l := by
  have e : ∀ h, (⟨1536 + p.val, h⟩ : Fin 2048) = ⟨256 * 6 + p.val, by omega⟩ := fun _ => Fin.ext (by simp)
  have e' : ∀ h, (⟨p.val, h⟩ : Fin 2048) = ⟨256 * 0 + p.val, by omega⟩ := fun _ => Fin.ext (by simp)
  pointwise [k0_pay1, k0_pay60, k0_pay53]
  simp only [quotient, headVal, e, e', Nat.mul_zero, Nat.zero_add, Nat.reduceMul, Nat.reduceAdd]
  try rfl

/-- Head 7's store. -/
theorem store_head7 (x7 : Vec Ideal S256x1024 .bf16) (x8 : Vec Ideal S256x128 .f32) (a : Vec Ideal S2048x256 .f32) (p : Fin 256) (l : Fin 128) :
    k0_pay2 (k0_pay52 (F := Ideal) (lo a) (hi a)) (k0_pay53 x8) (View.ld x7 (Rect.unit (s := S256x1024) ![0, 896] S256x128.size inb_S256x1024_S256x128_0_896)) (ix2 p l)
      = headVal x7 x8 a 7 (by omega) p l := by
  have e : ∀ h, (⟨1792 + p.val, h⟩ : Fin 2048) = ⟨256 * 7 + p.val, by omega⟩ := fun _ => Fin.ext (by simp)
  have e' : ∀ h, (⟨p.val, h⟩ : Fin 2048) = ⟨256 * 0 + p.val, by omega⟩ := fun _ => Fin.ext (by simp)
  pointwise [k0_pay2, k0_pay53]
  simp only [quotient, headVal, e, e', Nat.mul_zero, Nat.zero_add, Nat.reduceMul, Nat.reduceAdd]
  try rfl

/-- The tile at row `p`, column `128 h + l`. -/
theorem tile_apply (x7 : Vec Ideal S256x1024 .bf16) (x8 : Vec Ideal S256x128 .f32) (a : Vec Ideal S2048x256 .f32) (y : S256x1024.Idx) :
    tile x7 x8 a y = headVal x7 x8 a ((y 1).val / 128) (by have : (y 1).val < 1024 := (y 1).isLt; omega) (y 0) ⟨(y 1).val % 128, by omega⟩ := by
  have key : ∀ (h h' : ℕ) (hh : h < 8) (hh' : h' < 8) (p p' : Fin 256) (l l' : Fin 128), h = h' → p.val = p'.val → l.val = l'.val →
      headVal x7 x8 a h hh p l = headVal x7 x8 a h' hh' p' l' := fun h h' hh hh' p p' l l' e0 e1 e2 => by
    subst e0; rw [Fin.ext e1, Fin.ext e2]
  unfold tile outPieces
  canon_tiles y
  · rw [eq_ix2 y]
    exact (store_head7 x7 x8 a (y 0) (y 1)).trans (key _ _ _ _ _ _ _ _ (by omega) (by omega) (by simp only; omega))
  · rw [eq_ix2 y]
    exact (store_head6 x7 x8 a (y 0) (y 1)).trans (key _ _ _ _ _ _ _ _ (by omega) (by omega) (by simp only; omega))
  · rw [eq_ix2 y]
    exact (store_head5 x7 x8 a (y 0) (y 1)).trans (key _ _ _ _ _ _ _ _ (by omega) (by omega) (by simp only; omega))
  · rw [eq_ix2 y]
    exact (store_head4 x7 x8 a (y 0) (y 1)).trans (key _ _ _ _ _ _ _ _ (by omega) (by omega) (by simp only; omega))
  · rw [eq_ix2 y]
    exact (store_head3 x7 x8 a (y 0) (y 1)).trans (key _ _ _ _ _ _ _ _ (by omega) (by omega) (by simp only; omega))
  · rw [eq_ix2 y]
    exact (store_head2 x7 x8 a (y 0) (y 1)).trans (key _ _ _ _ _ _ _ _ (by omega) (by omega) (by simp only; omega))
  · rw [eq_ix2 y]
    exact (store_head1 x7 x8 a (y 0) (y 1)).trans (key _ _ _ _ _ _ _ _ (by omega) (by omega) (by simp only; omega))
  · rw [eq_ix2 y]
    exact (store_head0 x7 x8 a (y 0) (y 1)).trans (key _ _ _ _ _ _ _ _ (by omega) (by omega) (by simp only; omega))

end Cert.SelIdeal.Hand
-- ==== Proof.SelSums.lean ====
/-
  The selected attention's loop over the extended reals: before trip `n` the running maximum and sums are those of the
  first `512 n` keys, and the scores of the next 512 lie in the buffer that is summed next. At the end the quotient of the
  sums is the row of attention.
-/
module

public import proofs.«01_k».proof.Proof.SelTile

@[expose] public section
set_option maxRecDepth 16384
noncomputable section
open Idealize.ShloMosaic Idealize.ShloMosaic.TcCoe Idealize.SL.Sem
open Cert.Softmax Cert.Online
namespace Cert.SelIdeal.Hand
open Cert.SelIdeal Cert.SelIdeal.Gen

/-! ## The points' trip counts, branches and blocks -/

/-- The first loop goes through the blocks of 512 keys before the queries' own, -/
theorem trips_val : ∀ t : Fin grid0.N, (k0_t1_loop (grid0.coords t)).trips = (grid0.coords t 2).val / 2 := by decide +kernel
/-- the blocks of even number taking one branch, and those of odd number the other; -/
theorem even_trip : ∀ (t : Fin grid0.N) (k : Fin (k0_t1_loop (grid0.coords t)).trips),
    k0_cond1 (grid0.coords t) k = 1#1 ↔ k.val % 2 = 0 := by decide +kernel
theorem odd_trip : ∀ (t : Fin grid0.N) (k : Fin (k0_t1_loop (grid0.coords t)).trips),
    k0_cond2 (grid0.coords t) k = 1#1 ↔ k.val % 2 = 1 := by decide +kernel
/-- so also for the last block. -/
theorem even_last : ∀ t : Fin grid0.N, k0_cond5 (grid0.coords t) = 1#1 ↔ (grid0.coords t 2).val / 2 % 2 = 0 := by decide +kernel
theorem odd_last : ∀ t : Fin grid0.N, k0_cond6 (grid0.coords t) = 1#1 ↔ (grid0.coords t 2).val / 2 % 2 = 1 := by decide +kernel

/-- Where the keys and values of a trip, and the last values, are read. -/
theorem off_trip : ∀ (t : Fin grid0.N) (k : Fin (k0_t1_loop (grid0.coords t)).trips),
    k0_off1 (grid0.coords t) k = ![512 * (k.val + 1), 0] ∧ k0_off2 (grid0.coords t) k = ![512 * k.val, 0]
    ∧ k0_off3 (grid0.coords t) k = ![512 * (k.val + 1), 0] ∧ k0_off4 (grid0.coords t) k = ![512 * k.val, 0] := by decide +kernel
theorem off_last : ∀ t : Fin grid0.N, k0_off9 (grid0.coords t) = ![512 * ((grid0.coords t 2).val / 2), 0]
    ∧ k0_off10 (grid0.coords t) = ![512 * ((grid0.coords t 2).val / 2), 0] := by decide +kernel

/-- Row `k` of the block of 512 that starts at row `n`. -/
theorem rows512_apply (x : Vec Ideal S4096x256 .bf16) (off : Fin 2 → ℕ) (inb) (n : ℕ) (hoff : off = ![n, 0]) (k : Fin 512) (l : Fin 256)
    (hk : n + k.val < 4096) : rows512 x off inb (ix2 k l) = x (ix2 ⟨n + k.val, hk⟩ l) := by
  subst hoff
  pointwise [rows512]

section
variable (t : Fin grid0.N) (x3 : Vec Ideal S256x1024 .bf16) (x4 : Vec Ideal S256x128 .bf16) (x5 x6 : Vec Ideal S4096x256 .bf16)
  (x14 : Vec Ideal S2048x512 .f32)

/-- The masked scores of stacked row `r`, by the key's position, -/
def rowScore (r : Fin 2048) (k : ℕ) : EReal :=
  if h : k < 4096 then
    if k ≤ 256 * (grid0.coords t 2).val + r.val % 256 then ∑ x : Fin 256, qs x3 x4 (ix2 r x) * x5 (ix2 ⟨k, h⟩ x) else ⊥
  else ⊥

/-- and column `l` of the values. -/
def rowVal (l : Fin 256) (k : ℕ) : EReal := if h : k < 4096 then x6 (ix2 ⟨k, h⟩ l) else 0

/-- Before trip `n`. -/
structure Before (n : ℕ) (p : St Ideal) : Prop where
  max : ∀ r l, p.m (ix2 r l) = maxTo (rowScore t x3 x4 x5 r) (512 * n)
  sum : ∀ r l, p.a (ix2 r l) = sumTo (rowScore t x3 x4 x5 r) (rowVal x6 l) (512 * n)
  even : n % 2 = 0 → ∀ r k, p.s0 (ix2 r k) = rowScore t x3 x4 x5 r (512 * n + k.val)
  odd : n % 2 = 1 → ∀ r k, p.s1 (ix2 r k) = rowScore t x3 x4 x5 r (512 * n + k.val)

/-- The last block's number. -/
theorem last_lt : (grid0.coords t 2).val / 2 < 8 := by
  have : (grid0.coords t 2).val < 16 := (grid0.coords t 2).isLt
  omega

/-- The scores of the next block as its rows of keys give them. -/
theorem next_scores (n : ℕ) (hn : n < 7) (ks : Vec Ideal S512x256 .bf16)
    (hks : ∀ (k : Fin 512) (x : Fin 256), ks (ix2 k x) = x5 (ix2 ⟨512 * (n + 1) + k.val, by omega⟩ x)) (r : Fin 2048) (k : Fin 512) :
    k0_pay3 (F := Ideal) (pos0 (grid0.coords t)) (Scf.iv 0#32 1#32 n) ks (qs x3 x4) (ix2 r k) = rowScore t x3 x4 x5 r (512 * (n + 1) + k.val) := by
  refine (scores_next ks (qs x3 x4) (grid0.coords t 2) ⟨n, hn⟩ r k).trans ?_
  rw [rowScore, dif_pos (by omega)]
  simp only [hks]

/-- The maximum and sums after a block, as its scores and values give them. -/
theorem max_after (n : ℕ) (p : St Ideal) (s : Vec Ideal S2048x512 .f32)
    (hm : ∀ r l, p.m (ix2 r l) = maxTo (rowScore t x3 x4 x5 r) (512 * n))
    (hs : ∀ r k, s (ix2 r k) = rowScore t x3 x4 x5 r (512 * n + k.val)) (r : Fin 2048) (l : Fin 128) :
    k0_pay4 (F := Ideal) s p.m (ix2 r l) = maxTo (rowScore t x3 x4 x5 r) (512 * (n + 1)) := by
  rw [new_max, hm, maxTo_step _ (512 * n) 512 _ fun k => hs r k]
  rfl

theorem sum_after (n : ℕ) (hn : n < 8) (p : St Ideal) (s : Vec Ideal S2048x512 .f32) (v : Vec Ideal S512x256 .bf16)
    (hm : ∀ r l, p.m (ix2 r l) = maxTo (rowScore t x3 x4 x5 r) (512 * n))
    (ha : ∀ r l, p.a (ix2 r l) = sumTo (rowScore t x3 x4 x5 r) (rowVal x6 l) (512 * n))
    (hs : ∀ r k, s (ix2 r k) = rowScore t x3 x4 x5 r (512 * n + k.val))
    (hv : ∀ (k : Fin 512) (l : Fin 256), v (ix2 k l) = x6 (ix2 ⟨512 * n + k.val, by omega⟩ l)) (r : Fin 2048) (l : Fin 256) :
    k0_pay38 (F := Ideal) v (k0_pay5 s p.m) (k0_pay6 s p.m p.a) (ix2 r l)
      = sumTo (rowScore t x3 x4 x5 r) (rowVal x6 l) (512 * (n + 1)) := by
  rw [new_sum s p.m p.a v r l _ (hm r), maxTo_step _ (512 * n) 512 _ fun k => hs r k, ha]
  exact sumTo_step _ (rowVal x6 l) (512 * n) 512 _ _ (fun k => hs r k)
    (fun k => (hv k l).trans (by rw [rowVal, dif_pos (show 512 * n + k.val < 4096 by omega)]))

/-- One trip. -/
theorem before_step (k : Fin (k0_t1_loop (grid0.coords t)).trips) (p : St Ideal) (h : Before t x3 x4 x5 x6 k.val p) :
    Before t x3 x4 x5 x6 (k.val + 1) (trip (grid0.coords t) x5 x6 (qs x3 x4) k p) := by
  have hk : k.val < 7 := by
    have := k.isLt; have := trips_val t; have := last_lt t; omega
  have e39 : ∀ x : FVec Ideal S2048x128 .f32, k0_pay39 (F := Ideal) x = x := fun x => by
    funext y; rw [eq_ix2 y]; pointwise [k0_pay39]
  obtain ⟨o1, o2, o3, o4⟩ := off_trip t k
  unfold trip
  by_cases h1 : k0_cond1 (grid0.coords t) k = 1#1
  · have he := (even_trip t k).mp h1
    rw [dif_pos h1]
    refine ⟨fun r l => ?_, fun r l => ?_, fun h' => by omega, fun _ r j => ?_⟩
    · show k0_pay39 (F := Ideal) (k0_pay4 p.s0 p.m) (ix2 r l) = _
      rw [e39]
      exact max_after t x3 x4 x5 k.val p p.s0 h.max (h.even he) r l
    · exact sum_after t x3 x4 x5 x6 k.val (by omega) p p.s0 _ h.max h.sum (h.even he)
        (fun j l => rows512_apply x6 _ _ _ o2 j l (by omega)) r l
    · exact next_scores t x3 x4 x5 k.val hk _ (fun j x => rows512_apply x5 _ _ _ o1 j x (by omega)) r j
  · have ho : k.val % 2 = 1 := by have := mt (even_trip t k).mpr h1; omega
    have h2 := (odd_trip t k).mpr ho
    rw [dif_neg h1, dif_pos h2]
    refine ⟨fun r l => ?_, fun r l => ?_, fun _ r j => ?_, fun h' => by omega⟩
    · show k0_pay39 (F := Ideal) (k0_pay4 p.s1 p.m) (ix2 r l) = _
      rw [e39]
      exact max_after t x3 x4 x5 k.val p p.s1 h.max (h.odd ho) r l
    · exact sum_after t x3 x4 x5 x6 k.val (by omega) p p.s1 _ h.max h.sum (h.odd ho)
        (fun j l => rows512_apply x6 _ _ _ o4 j l (by omega)) r l
    · exact next_scores t x3 x4 x5 k.val hk _ (fun j x => rows512_apply x5 _ _ _ o3 j x (by omega)) r j

/-- As the loop is entered. -/
theorem before_zero : Before t x3 x4 x5 x6 0 (st0 (grid0.coords t) x3 x4 x5 x14) where
  max r l := start_max r l
  sum r l := start_sum r l
  even _ r k := by
    refine (scores_first _ (qs x3 x4) (grid0.coords t 2) r k).trans ?_
    rw [rowScore, dif_pos (by omega)]
    simp only [rows512_apply x5 ![0, 0] inb_S4096x256_S512x256_0_0 (512 * 0) rfl k _ (by omega)]
  odd h := by omega

/-- Before every trip, and as the loop is left. -/
theorem before_trip (n : ℕ) (hn : n ≤ (k0_t1_loop (grid0.coords t)).trips) :
    Before t x3 x4 x5 x6 n (st (grid0.coords t) x5 x6 (qs x3 x4) (st0 (grid0.coords t) x3 x4 x5 x14) n) := by
  induction n with
  | zero => exact before_zero t x3 x4 x5 x6 x14
  | succ n ih =>
    rw [st_succ _ _ _ _ _ ⟨n, hn⟩]
    exact before_step t x3 x4 x5 x6 ⟨n, hn⟩ _ (ih (by omega))

/-- The sums after the last block. -/
theorem final_sum (r : Fin 2048) (l : Fin 256) :
    fin (grid0.coords t) x6 (st (grid0.coords t) x5 x6 (qs x3 x4) (st0 (grid0.coords t) x3 x4 x5 x14) (k0_t1_loop (grid0.coords t)).trips) (ix2 r l)
      = sumTo (rowScore t x3 x4 x5 r) (rowVal x6 l) (512 * ((grid0.coords t 2).val / 2 + 1)) := by
  have h := before_trip t x3 x4 x5 x6 x14 _ le_rfl
  generalize st (grid0.coords t) x5 x6 (qs x3 x4) (st0 (grid0.coords t) x3 x4 x5 x14) (k0_t1_loop (grid0.coords t)).trips = p at h ⊢
  rw [trips_val t] at h
  have hn := last_lt t
  obtain ⟨o9, o10⟩ := off_last t
  unfold fin
  by_cases h5 : k0_cond5 (grid0.coords t) = 1#1
  · rw [dif_pos h5]
    exact sum_after t x3 x4 x5 x6 _ hn p p.s0 _ h.max h.sum (h.even ((even_last t).mp h5))
      (fun j l => rows512_apply x6 _ _ _ o9 j l (by omega)) r l
  · have ho : (grid0.coords t 2).val / 2 % 2 = 1 := by have := mt (even_last t).mpr h5; omega
    have h6 := (odd_last t).mpr ho
    rw [dif_neg h5, dif_pos h6]
    exact sum_after t x3 x4 x5 x6 _ hn p p.s1 _ h.max h.sum (h.odd ho)
      (fun j l => rows512_apply x6 _ _ _ o10 j l (by omega)) r l

/-- Where the last 128 columns of the values are ones, the quotient of the final sums is the row of attention. -/
theorem final_attend (hv : ∀ (k : Fin 4096) (l : Fin 128), x6 (ix2 k ⟨128 + l.val, by omega⟩) = (1 : EReal)) (r : Fin 2048) (l : Fin 128) :
    sumTo (rowScore t x3 x4 x5 r) (rowVal x6 ⟨l.val, by omega⟩) (512 * ((grid0.coords t 2).val / 2 + 1))
        * Ideal.div 1 (sumTo (rowScore t x3 x4 x5 r) (rowVal x6 ⟨128 + l.val, by omega⟩) (512 * ((grid0.coords t 2).val / 2 + 1)))
      = attend (fun k : Fin 4096 => rowScore t x3 x4 x5 r k.val) (fun k => x6 (ix2 k ⟨l.val, by omega⟩)) := by
  have hn := last_lt t
  rw [attend_of_sums _ _ (512 * ((grid0.coords t 2).val / 2 + 1)) 4096 (by omega) (fun k hk => ?_) _ fun k hk => ?_]
  · congr 1
    funext k
    rw [rowVal, dif_pos k.isLt]
  · rw [rowScore]
    split
    · exact if_neg (by omega)
    · rfl
  · rw [rowVal, dif_pos (by omega)]
    exact hv _ l
end

end Cert.SelIdeal.Hand
-- ==== Proof.SelSpec.lean ====
/-
  The selected attention of one layer, as a function of its arrays: token `t` of batch entry `b`, query head `h` of
  key/value group `g`, lane `d`. Every block of 64 keys has a bias, which the query's token gives it.
-/
module

public import proofs.«01_k».proof.Proof.AttnSpec

@[expose] public section
noncomputable section
open Idealize.ShloMosaic

namespace Cert.SelSpec
open Cert.Softmax Cert.AttnSpec

/-- Biased scores against the keys up to the query's own position. -/
def score (q : Mat 16384 2048) (bias : Mat 16384 256) (ks : Mat 16384 512) (b : Fin 4) (t : Fin 4096) (g : Fin 2) (h : Fin 8)
    (k : Fin 4096) : EReal :=
  if k.val ≤ t.val then
    (∑ x : Fin 128, q (ix2 (row b t) (qcol g h x)) * ks (ix2 (row b k) ⟨g.val * 256 + x.val, by omega⟩))
      + bias (ix2 (row b t) ⟨g.val * 128 + k.val / 64, by omega⟩)
  else ⊥

/-- The selected attention under its head's gate, added to what the compressed attention gave. -/
def selected (q : Mat 16384 2048) (bias : Mat 16384 256) (ks vs : Mat 16384 512) (oc : Mat 16384 2048) (gate : Mat 16384 3840)
    (b : Fin 4) (t : Fin 4096) (g : Fin 2) (h : Fin 8) (d : Fin 128) : EReal :=
  oc (ix2 (row b t) (qcol g h d))
    + Ideal.logistic (gate (ix2 (row b t) ⟨3584 + (g.val * 128 + (8 + h.val)), by omega⟩))
      * attend (score q bias ks b t g h) (fun k => vs (ix2 (row b k) ⟨g.val * 256 + d.val, by omega⟩))

end Cert.SelSpec
-- ==== Proof.SelArray.lean ====
/-
  The array of the selected attention over the extended reals: `SelSpec.selected` of the arguments, where ones lie beside
  the values and, beside every key, a one at its block's lane.
-/
module

public import proofs.«01_k».proof.Proof.SelIdealFrame
public import proofs.«01_k».proof.Proof.SelSums
public import proofs.«01_k».proof.Proof.SelSpec

@[expose] public section
set_option maxRecDepth 16384
noncomputable section
open Idealize.ShloMosaic Idealize.ShloMosaic.TcCoe Idealize.SL.Sem
open Idealize.ShloMosaic.Pipeline (Dat)
open Cert.Softmax Cert.AttnSpec Cert.SelSpec
namespace Cert.SelIdeal.Hand
open Cert.SelIdeal Cert.SelIdeal.Gen
variable (m : (ℓ : Loc nD τ sig) → Buf (Elt Ideal) ℓ) (c : Dev nD)

/-- The arrays of device `c`. -/
abbrev aQ : Mat 16384 2048 := m ((c : Thread nD τ).loc main_arg0)
abbrev aB : Mat 16384 256 := m ((c : Thread nD τ).loc main_arg1)
abbrev aK : Mat 16384 512 := m ((c : Thread nD τ).loc main_arg2)
abbrev aV : Mat 16384 512 := m ((c : Thread nD τ).loc main_arg3)
abbrev aO : Mat 16384 2048 := m ((c : Thread nD τ).loc main_arg4)
abbrev aG : Mat 16384 3840 := m ((c : Thread nD τ).loc main_arg5)

/-- The result's array. -/
def layer : S16384x2048.Idx → EReal := fun j =>
  selected (aQ m c) (aB m c) (aK m c) (aV m c) (aO m c) (aG m c) ⟨(j 0).val / 4096, by have : (j 0).val < 16384 := (j 0).isLt; omega⟩
    ⟨(j 0).val % 4096, by omega⟩ ⟨(j 1).val / 1024, by have : (j 1).val < 2048 := (j 1).isLt; omega⟩ ⟨(j 1).val / 128 % 8, by omega⟩ ⟨(j 1).val % 128, by omega⟩

/-- It at row `b * 4096 + t`, column `g * 1024 + h * 128 + d`. -/
theorem layer_apply (j : S16384x2048.Idx) (b : Fin 4) (t : Fin 4096) (g : Fin 2) (h : Fin 8) (d : Fin 128)
    (h0 : (j 0).val = b.val * 4096 + t.val) (h1 : (j 1).val = g.val * 1024 + h.val * 128 + d.val) :
    layer m c j = selected (aQ m c) (aB m c) (aK m c) (aV m c) (aO m c) (aG m c) b t g h d := by
  unfold layer
  congr 1 <;> apply Fin.ext <;> simp only [h0, h1] <;> omega

/-- Where each point's blocks lie: point `t` is tile `i` of batch entry `b` and group `g`. -/
theorem idx : ∀ t : Fin grid0.N,
    win0_0.index t = ![(grid0.coords t 0).val * 16 + (grid0.coords t 2).val, (grid0.coords t 1).val]
    ∧ win0_1.index t = ![(grid0.coords t 0).val * 16 + (grid0.coords t 2).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val * 16 + (grid0.coords t 2).val, (grid0.coords t 1).val]
    ∧ win0_5.index t = ![(grid0.coords t 0).val * 16 + (grid0.coords t 2).val, 28 + (grid0.coords t 1).val]
    ∧ win0_6.index t = ![(grid0.coords t 0).val * 16 + (grid0.coords t 2).val, (grid0.coords t 1).val] := by
  decide +kernel

/-- The token of row `r` of tile `i`. -/
abbrev tok (i : Fin 16) (r : Fin 256) : Fin 4096 := ⟨256 * i.val + r.val, by omega⟩

/-- A sum of 256 terms, in halves. -/
theorem sum_halves (f : Fin 256 → EReal) :
    ∑ x, f x = (∑ x : Fin 128, f ⟨x.val, by omega⟩) + ∑ x : Fin 128, f ⟨128 + x.val, by omega⟩ :=
  Fin.sum_univ_add (a := 128) (b := 128) f

section
variable (t : Fin grid0.N) (b : Fin 4) (g : Fin 2) (i : Fin 16) (hb : (grid0.coords t 0).val = b.val)
  (hg : (grid0.coords t 1).val = g.val) (hi : (grid0.coords t 2).val = i.val)
include hb hg hi

theorem block_q (r : Fin 256) (x : Fin 1024) : qt m c t (ix2 r x) = aQ m c (ix2 (row b (tok i r)) ⟨g.val * 1024 + x.val, by omega⟩) := by
  unfold qt
  blk_ext [iblk, V, idx t, hb, hg, hi]

theorem block_bias (r : Fin 256) (x : Fin 128) : bt m c t (ix2 r x) = aB m c (ix2 (row b (tok i r)) ⟨g.val * 128 + x.val, by omega⟩) := by
  unfold bt
  blk_ext [iblk, V, idx t, hb, hg, hi]

theorem block_k (k : Fin 4096) (x : Fin 256) : kt m c t (ix2 k x) = aK m c (ix2 (row b k) ⟨g.val * 256 + x.val, by omega⟩) := by
  unfold kt
  blk_ext [iblk, V, idx t, hb, hg, hi]

theorem block_v (k : Fin 4096) (x : Fin 256) : vt m c t (ix2 k x) = aV m c (ix2 (row b k) ⟨g.val * 256 + x.val, by omega⟩) := by
  unfold vt
  blk_ext [iblk, V, idx t, hb, hg, hi]

theorem block_o (r : Fin 256) (x : Fin 1024) : ot m c t (ix2 r x) = aO m c (ix2 (row b (tok i r)) ⟨g.val * 1024 + x.val, by omega⟩) := by
  unfold ot
  blk_ext [iblk, V, idx t, hb, hg, hi]

theorem block_gate (r : Fin 256) (x : Fin 128) : gt m c t (ix2 r x)
    = aG m c (ix2 (row b (tok i r)) ⟨3584 + (g.val * 128 + x.val), by omega⟩) := by
  unfold gt
  blk_ext [iblk, V, idx t, hb, hg, hi]

/-- The kernel's score of a stacked row against a key is the reference's: the one-hot row beside the key picks its block's bias. -/
theorem score_row (hk : ∀ (r : Fin 16384) (g : Fin 2) (l : Fin 128), aK m c (ix2 r ⟨g.val * 256 + (128 + l.val), by omega⟩)
      = if r.val % 4096 / 64 = l.val then (1 : EReal) else 0) (h : Fin 8) (r : Fin 256) (k : Fin 4096) :
    rowScore t (qt m c t) (bt m c t) (kt m c t) ⟨256 * h.val + r.val, by omega⟩ k.val
      = score (aQ m c) (aB m c) (aK m c) b (tok i r) g h k := by
  have hm : (256 * h.val + r.val) % 256 = r.val := by omega
  rw [rowScore, dif_pos k.isLt, score]
  refine if_congr (by simp only [hi, hm]) ?_ rfl
  rw [sum_halves]
  refine congrArg₂ (· + ·) ?_ ?_
  · refine Finset.sum_congr rfl fun x _ => ?_
    rw [qs_apply, block_k m c t b g i hb hg hi]
    congr 1
    · show stackVal _ _ ⟨256 * h.val + r.val, by omega⟩ ⟨x.val, by omega⟩ = _
      rw [stackVal, dif_pos (by simp), block_q m c t b g i hb hg hi]
      congr 2
      · apply Fin.ext; simp only [row, tok]; omega
      · apply Fin.ext; simp only [qcol]; omega
  · rw [Finset.sum_eq_single (⟨k.val / 64, by omega⟩ : Fin 128)]
    · rw [qs_apply, block_k m c t b g i hb hg hi]
      have e := hk (row b k) g ⟨k.val / 64, by omega⟩
      rw [if_pos (by simp only [row]; omega)] at e
      refine (congrArg₂ (· * ·) ?_ e).trans (mul_one _)
      show stackVal _ _ ⟨256 * h.val + r.val, by omega⟩ ⟨128 + k.val / 64, by omega⟩ = _
      rw [stackVal, dif_neg (by simp), block_bias m c t b g i hb hg hi]
      congr 2
      · apply Fin.ext; simp only [row, tok]; omega
      · apply Fin.ext; simp only; omega
    · intro x _ hx
      rw [block_k m c t b g i hb hg hi]
      have e := hk (row b k) g x
      rw [if_neg (by intro e'; apply hx; apply Fin.ext; simp only [row] at e' ⊢; omega)] at e
      exact (congrArg (_ * ·) e).trans (mul_zero _)
    · intro hx; exact absurd (Finset.mem_univ _) hx

/-- A head's rows of the tile are the reference's. -/
theorem head_eq (hv : ∀ (r : Fin 16384) (g : Fin 2) (l : Fin 128), aV m c (ix2 r ⟨g.val * 256 + (128 + l.val), by omega⟩) = (1 : EReal))
    (hk : ∀ (r : Fin 16384) (g : Fin 2) (l : Fin 128), aK m c (ix2 r ⟨g.val * 256 + (128 + l.val), by omega⟩)
      = if r.val % 4096 / 64 = l.val then (1 : EReal) else 0)
    (a : Vec Ideal S2048x256 .f32) (ha : ∀ r l, a (ix2 r l) = Online.sumTo (rowScore t (qt m c t) (bt m c t) (kt m c t) r) (rowVal (vt m c t) l)
      (512 * ((grid0.coords t 2).val / 2 + 1)))
    (h : Fin 8) (p : Fin 256) (l : Fin 128) :
    headVal (ot m c t) (gt m c t) a h.val h.isLt p l
      = selected (aQ m c) (aB m c) (aK m c) (aV m c) (aO m c) (aG m c) b (tok i p) g h l := by
  have e := final_attend t (qt m c t) (bt m c t) (kt m c t) (vt m c t) (fun k l => (block_v m c t b g i hb hg hi k _).trans (hv _ _ _))
    ⟨256 * h.val + p.val, by omega⟩ l
  rw [headVal, selected, ha, ha, e]
  refine congrArg₂ (· + ·) ?_ (congrArg₂ (· * ·) ?_ ?_)
  · rw [block_o m c t b g i hb hg hi]
    refine congrArg (aO m c) (congrArg (ix2 _) ?_)
    apply Fin.ext; simp only [qcol]; omega
  · rw [block_gate m c t b g i hb hg hi]
  · refine congrArg₂ attend ?_ ?_
    · funext k
      exact score_row m c t b g i hb hg hi hk h p k
    · funext k
      exact block_v m c t b g i hb hg hi k _

/-- The tile a point leaves. -/
theorem res_apply (hv : ∀ (r : Fin 16384) (g : Fin 2) (l : Fin 128), aV m c (ix2 r ⟨g.val * 256 + (128 + l.val), by omega⟩) = (1 : EReal))
    (hk : ∀ (r : Fin 16384) (g : Fin 2) (l : Fin 128), aK m c (ix2 r ⟨g.val * 256 + (128 + l.val), by omega⟩)
      = if r.val % 4096 / 64 = l.val then (1 : EReal) else 0) (y : S256x1024.Idx)
    (y0 : (y 0).val < 256) (h1 : (y 1).val / 128 < 8) (l1 : (y 1).val % 128 < 128) :
    res m c t y = selected (aQ m c) (aB m c) (aK m c) (aV m c) (aO m c) (aG m c) b (tok i ⟨(y 0).val, y0⟩) g
      ⟨(y 1).val / 128, h1⟩ ⟨(y 1).val % 128, l1⟩ := by
  unfold res out
  exact (tile_apply _ _ _ y).trans (head_eq m c t b g i hb hg hi hv hk _ (fun r l => final_sum t _ _ _ _ _ r l)
    ⟨(y 1).val / 128, h1⟩ ⟨(y 0).val, y0⟩ ⟨(y 1).val % 128, l1⟩)
end

/-- The call's array. -/
theorem array_eq (hv : ∀ (r : Fin 16384) (g : Fin 2) (l : Fin 128), aV m c (ix2 r ⟨g.val * 256 + (128 + l.val), by omega⟩) = (1 : EReal))
    (hk : ∀ (r : Fin 16384) (g : Fin 2) (l : Fin 128), aK m c (ix2 r ⟨g.val * 256 + (128 + l.val), by omega⟩)
      = if r.val % 4096 / 64 = l.val then (1 : EReal) else 0) :
    (dats m 0 c).arrAt 6 cfg0.N = layer m c := by
  refine (dats m 0 c).arrAt_eq_of_covers 6 _ (by decide +kernel) fun t hf y => ?_
  blk_simp
  rw [after_6]
  obtain ⟨b, hb⟩ : ∃ b : Fin 4, (grid0.coords t 0).val = b.val := ⟨grid0.coords t 0, rfl⟩
  obtain ⟨g, hg⟩ : ∃ g : Fin 2, (grid0.coords t 1).val = g.val := ⟨grid0.coords t 1, rfl⟩
  obtain ⟨i, hi⟩ : ∃ i : Fin 16, (grid0.coords t 2).val = i.val := ⟨grid0.coords t 2, rfl⟩
  have y0 : (y 0).val < 256 := (y 0).isLt
  have y1 : (y 1).val < 1024 := (y 1).isLt
  have he0 : ((((View.whole main_v0).slice (win0_6.rect t)).emb y) 0).val = b.val * 4096 + (256 * i.val + (y 0).val) := by
    blk_simp [idx t, hb, hg, hi]
    omega
  have he1 : ((((View.whole main_v0).slice (win0_6.rect t)).emb y) 1).val = g.val * 1024 + (y 1).val := by
    blk_simp [idx t, hb, hg, hi]
  refine (res_apply m c t b g i hb hg hi hv hk y y0 (by omega) (by omega)).trans (layer_apply m c _ b _ g _ _ he0 ?_).symm
  rw [he1]; simp only; omega

end Cert.SelIdeal.Hand
-- ==== Proof.SelRefValue.lean ====
/-
  What the reference of the selected attention computes at one element: `SelSpec.selected` of its arguments.
-/
module

public import proofs.«01_k».proof.Proof.Gen.SelRefIdeal.Read
public import proofs.«01_k».proof.Proof.SelSpec
public import proofs.«01_k».proof.Proof.Masks
public import Idealize.ShloMosaic.Lib.Pointwise

@[expose] public section
set_option maxRecDepth 16384
noncomputable section
open Idealize.ShloMosaic Idealize.ShloMosaic.TcCoe Idealize.SL.Sem
open Cert.Softmax Cert.AttnSpec Cert.SelSpec
namespace Cert.SelRefIdeal.Read
open Cert.SelRefIdeal Cert.SelRefIdeal.Gen

/-- The pattern of minus infinity, and that of two. -/
theorem negInf : Ideal.ofBits FTy.f32 0xFF800000#32 = (⊥ : EReal) := by
  simp [Ideal.ofBits, Ideal.ieee]
theorem two : Ideal.ofBits FTy.f32 0x40000000#32 = ((2 : ℝ) : EReal) := by
  simp [Ideal.ofBits, Ideal.ieee, -EReal.coe_mul]; norm_num

variable (x0 : (⟨S16384x2048, .bf16⟩ : BufTy).Contents (Elt Ideal)) (x1 : (⟨S16384x256, .bf16⟩ : BufTy).Contents (Elt Ideal))
  (x2 x3 : (⟨S16384x512, .bf16⟩ : BufTy).Contents (Elt Ideal)) (x4 : (⟨S16384x2048, .bf16⟩ : BufTy).Contents (Elt Ideal))
  (x5 : (⟨S16384x3840, .f32⟩ : BufTy).Contents (Elt Ideal)) (b : Fin 4) (g : Fin 2) (h : Fin 8) (t : Fin 4096) (d : Fin 128)

/-- The causal mask. -/
theorem causal_mask (k : Fin 4096) : val_main_v26 (F := Ideal) (ix2 t k) = 1#1 ↔ k.val ≤ t.val := by
  pointwise [val_main_v26, val_main_v25, val_main_v24, val_main_v23, val_main_v22, val_main_v0]
  word_omega

/-- The bias of a key is that of its block. -/
theorem bias_eq (k : Fin 4096) : val_main_v20 (F := Ideal) x1 (ix5 b g h t k) = x1 (ix2 (row b t) ⟨g.val * 128 + k.val / 64, by omega⟩) := by
  pointwise [val_main_v20, val_main_v18, val_main_v17, val_main_v16, val_main_v15, val_main_v14, val_main_v13, val_main_v12]

/-- The masked scores. -/
theorem score_eq (k : Fin 4096) : val_main_v27 (F := Ideal) x0 x1 x2 (ix5 b g h t k) = score x0 x1 x2 b t g h k := by
  pointwise [val_main_v27, val_main_call0_v2, val_main_call0_v1, val_main_call0_v0, val_main_cst, val_main_v21, val_main_v19,
    val_main_v7, val_main_v6, val_main_v5, val_main_v4, val_main_v3, val_main_v2, val_main_v1]
  rw [Masks.select_of_iff (causal_mask t k), bias_eq]
  show (if _ then _ else Ideal.ofBits FTy.f32 0xFF800000#32) = _
  rw [negInf]
  rfl

/-- The weights before they are normalised. -/
theorem weight_eq (k : Fin 4096) : val_main_v33 (F := Ideal) x0 x1 x2 (ix5 b g h t k) = weight (score x0 x1 x2 b t g h) k := by
  pointwise [val_main_v33, val_main_v32, val_main_cst_1, val_main_v31, val_main_v30, val_main_v29, val_main_v28, val_main_cst_0]
  simp only [score_eq, negInf, two]
  exact pow_two _

/-- A masked weight: dropping it changes nothing, since it is zero already. -/
theorem select_weight {n : ℕ} {m : BitVec 1} {p : Prop} [Decidable p] (hm : m = 1#1 ↔ p) (s : Fin n → EReal) (k : Fin n)
    (hs : ¬p → s k = ⊥) (r : EReal) : Scalar.select m (weight s k * r) 0 = weight s k * r := by
  rw [Masks.select_of_iff hm]
  split
  · rfl
  · rw [weight_of_bot (hs ‹_›), zero_mul]

/-- The row of attention. -/
theorem attend_eq : val_main_v41 (F := Ideal) x0 x1 x2 x3 (ix5 b g h t d)
    = attend (score x0 x1 x2 b t g h) (fun k => x3 (ix2 (row b k) ⟨g.val * 256 + d.val, by omega⟩)) := by
  pointwise [val_main_v41, val_main_v40, val_main_call1_v2, val_main_call1_v1, val_main_call1_v0, val_main_v39, val_main_v38,
    val_main_v37, val_main_v36, val_main_v35, val_main_v34, val_main_cst_2, val_main_cst_3, val_main_cst_4, val_main_v11,
    val_main_v10, val_main_v9, val_main_v8]
  simp only [weight_eq]
  refine Finset.sum_congr rfl fun k _ => ?_
  congr 1
  refine Eq.trans ?_ (select_weight (causal_mask t k) (score x0 x1 x2 b t g h) k (fun hp => if_neg hp) _)
  congr 1
  exact Ideal.ofBits_zero_f32

/-- The gate. -/
theorem gate_eq : val_main_v53 (F := Ideal) x5 (ix5 b g h t d)
    = Ideal.logistic (x5 (ix2 (row b t) ⟨3584 + (g.val * 128 + (8 + h.val)), by omega⟩)) := by
  pointwise [val_main_v53, val_main_v52, val_main_v51, val_main_v50, val_main_v49, val_main_v48, val_main_v47, val_main_v46,
    val_main_v45, val_main_v44, val_main_v43, val_main_v42, val_main_cst_5, val_main_cst_6]
  rfl

/-- The reference at row `r`, column `k` of its result. -/
theorem result_eq (r : Fin 16384) (k : Fin 2048) : val_main_v59 (F := Ideal) x0 x1 x2 x3 x4 x5 (ix2 r k)
    = selected x0 x1 x2 x3 x4 x5 ⟨r.val / 4096, by omega⟩ ⟨r.val % 4096, by omega⟩ ⟨k.val / 1024, by omega⟩ ⟨k.val / 128 % 8, by omega⟩
        ⟨k.val % 128, by omega⟩ := by
  have e0 : row ⟨r.val / 4096, by omega⟩ ⟨r.val % 4096, by omega⟩ = r := Fin.ext (by simp only [row]; omega)
  have e1 : qcol ⟨k.val / 1024, by omega⟩ ⟨k.val / 128 % 8, by omega⟩ ⟨k.val % 128, by omega⟩ = k := Fin.ext (by simp only [qcol]; omega)
  pointwise [val_main_v59, val_main_v58, val_main_v57, val_main_v56, val_main_v55, val_main_v54]
  rw [gate_eq, attend_eq, selected, e0, e1]

end Cert.SelRefIdeal.Read
-- ==== Proof.SelLayout.lean ====
/-
  What the precondition of the selected attention says: beside the values lie ones, and beside every key a one at the
  lane of its block of 64 keys and zeros elsewhere.
-/
module

public import proofs.«01_k».proof.Pre_sel_layout
public import proofs.«01_k».proof.Proof.Gen.Pre_sel_layout
public import proofs.«01_k».proof.Proof.AttnSpec

@[expose] public section
set_option maxRecDepth 16384
noncomputable section
open Idealize.ShloMosaic Idealize.ShloMosaic.TcCoe
namespace Cert.SelLayout

instance : Cert.Pre_sel_layout.Facts := Cert.Pre_sel_layout.Gen.facts

/-- The remainder by 4096 of a word, as the precondition computes it. -/
def remWord (w : BitVec 32) : BitVec 32 :=
  Scalar.select
    (IntOp.andi
      (IntOp.cmpi .ne (IntOp.cmpi .slt (IntOp.remsi .host w 4096#32) 0#32) (IntOp.cmpi .slt 4096#32 0#32))
      (IntOp.cmpi .ne (IntOp.remsi .host w 4096#32) 0#32))
    (IntOp.addi (IntOp.remsi .host w 4096#32) 4096#32) (IntOp.remsi .host w 4096#32)

/-- The precondition's remainders, entry by entry. -/
theorem rem_apply (x : IVec Cert.Pre_sel_layout.S16384 32) (r : Fin 16384) :
    Cert.Pre_sel_layout.fn_remainder (F := Ideal) x (constantI Cert.Pre_sel_layout.S_ 32 4096#32) (ix1 r) = remWord (x (ix1 r)) := by
  pointwise [Cert.Pre_sel_layout.fn_remainder, Cert.Pre_sel_layout.fn_where]
  rfl

/-- It is the remainder. -/
theorem remWord_eq : ∀ r : Fin 16384, remWord (BitVec.ofNat 32 r.val) = BitVec.ofNat 32 (r.val % 4096) := by decide +kernel

/-- The quotient by 64 of a word, as the precondition computes it. -/
def divWord (w : BitVec 32) : BitVec 32 :=
  Cert.Pre_sel_layout.fn_floor_divide (F := Ideal) (fun _ => w) (constantI Cert.Pre_sel_layout.S_ 32 64#32) (ix1 0)

/-- The precondition's quotients, entry by entry. -/
theorem div_apply (x : IVec Cert.Pre_sel_layout.S16384 32) (r : Fin 16384) :
    Cert.Pre_sel_layout.fn_floor_divide (F := Ideal) x (constantI Cert.Pre_sel_layout.S_ 32 64#32) (ix1 r) = divWord (x (ix1 r)) := by
  rw [divWord]
  pointwise [Cert.Pre_sel_layout.fn_floor_divide, Cert.Pre_sel_layout.fn_where_0]

/-- It is the quotient. -/
theorem divWord_eq : ∀ r : Fin 4096, divWord (BitVec.ofNat 32 r.val) = BitVec.ofNat 32 (r.val / 64) := by
  unfold divWord
  decide +kernel

/-- The block of row `r`'s key, as a word. -/
theorem block_word (r : Fin 16384) :
    Cert.Pre_sel_layout.fn_floor_divide (F := Ideal)
      (Cert.Pre_sel_layout.fn_remainder (F := Ideal) (iotaInDim Cert.Pre_sel_layout.S16384 32 0) (constantI Cert.Pre_sel_layout.S_ 32 4096#32))
      (constantI Cert.Pre_sel_layout.S_ 32 64#32) (ix1 r) = BitVec.ofNat 32 (r.val % 4096 / 64) := by
  rw [div_apply, rem_apply]
  refine (congrArg divWord (remWord_eq r)).trans ?_
  exact divWord_eq ⟨r.val % 4096, by omega⟩

/-- Comparing two small words compares the numbers. -/
theorem flag_eq (a b : ℕ) (ha : a < 128) (hb : b < 128) :
    FloatOps.uitofp (F := Ideal) .f32 (IntOp.cmpi .eq (BitVec.ofNat 32 a) (BitVec.ofNat 32 b)) = if a = b then (1 : EReal) else 0 := by
  have e : IntOp.cmpi .eq (BitVec.ofNat 32 a) (BitVec.ofNat 32 b) = if a = b then 1#1 else 0#1 := by
    have h : (BitVec.ofNat 32 a = BitVec.ofNat 32 b) ↔ a = b := by
      refine ⟨fun h => ?_, fun h => by rw [h]⟩
      have := congrArg BitVec.toNat h
      simpa only [BitVec.toNat_ofNat, Nat.mod_eq_of_lt (show a < 2 ^ 32 by omega), Nat.mod_eq_of_lt (show b < 2 ^ 32 by omega)] using this
    by_cases hab : a = b
    · subst hab; rw [if_pos rfl]; simp [IntOp.cmpi]
    · have hf : (BitVec.ofNat 32 a == BitVec.ofNat 32 b) = false := beq_eq_false_iff_ne.mpr fun e => hab (h.mp e)
      rw [if_neg hab]; simp [IntOp.cmpi, hf]
  rw [e]
  by_cases hab : a = b
  · rw [if_pos hab, if_pos hab]; simp [FloatOps.uitofp]
  · rw [if_neg hab, if_neg hab]; simp [FloatOps.uitofp]

/-- A conjunction of two tests is one only where both hold. -/
theorem both (p q : Prop) [Decidable p] [Decidable q]
    (h : IntOp.andi (BitVec.ofBool (decide p)) (BitVec.ofBool (decide q)) = 1#1) : p ∧ q := by
  by_cases hp : p <;> by_cases hq : q <;> simp only [hp, hq, decide_true, decide_false] at h
  · exact ⟨hp, hq⟩
  · exact absurd h (by decide)
  · exact absurd h (by decide)
  · exact absurd h (by decide)

/-- Where the precondition holds: ones beside the values, and beside every key its block's one. -/
theorem layout (q bi k v o gt) (h : Cert.Pre_sel_layout.fn (F := Ideal) q bi k v o gt = fun _ => 1#1) (r : Fin 16384) (p : Fin 2) (l : Fin 128) :
    v (ix2 r ⟨p.val * 256 + (128 + l.val), by omega⟩) = (1 : EReal)
    ∧ k (ix2 r ⟨p.val * 256 + (128 + l.val), by omega⟩) = if r.val % 4096 / 64 = l.val then (1 : EReal) else 0 := by
  have e := congrFun h (ix3 r p l)
  pointwise [Cert.Pre_sel_layout.fn, Cert.Pre_sel_layout.fn_part1] at e
  rw [block_word] at e
  simp only [Nat.add_assoc] at e
  have := both _ _ e
  exact ⟨this.1, this.2.trans (flag_eq _ _ (by omega) l.isLt)⟩

end Cert.SelLayout
-- ==== Proof.SelClaims.lean ====
/-
  The claims about the selected attention: every run ends, and over the extended reals the kernel's array is the
  reference's.
-/
module

public import proofs.«01_k».proof.Defs
public import proofs.«01_k».proof.Proof.SelFrame
public import proofs.«01_k».proof.Proof.SelArray
public import proofs.«01_k».proof.Proof.SelRefValue
public import proofs.«01_k».proof.Proof.SelLayout
public import proofs.«01_k».proof.Proof.Gen.SelRefIdeal.Run
public import Idealize.ShloMosaic.Lib.Quiescent

@[expose] public section
set_option maxRecDepth 16384
noncomputable section
open Idealize.ShloMosaic Idealize.ShloMosaic.TcCoe Idealize.SL.Sem
open Cert.SelLayout
namespace Cert.Proof.Sel

/-- The kernel runs to its end at the machine's words, from any memory, and leaves its arguments. -/
theorem frame : Cert.quiescent_Sel := fun m ρ _ => Cert.Sel.Hand.frame m ρ
/-- So does its idealization, -/
theorem frame_ideal : Cert.quiescent_SelIdeal := fun m ρ _ => Cert.SelIdeal.Hand.frame m ρ
/-- also where the precondition holds. -/
theorem frame_ideal_pre : Cert.quiescent_SelIdeal_pre_sel_layout := fun m ρ _ => Cert.SelIdeal.Hand.frame m ρ
/-- The reference runs to its end and leaves its arguments, -/
theorem frame_reference : Cert.quiescent_SelRefIdeal := fun m ρ _ =>
  (θ_run Cert.SelRefIdeal.defs _ _).mono (fun r h => ⟨fun c => (h c).2, sem_eq_zero_of_no_sems (by decide) r.2⟩)
    (Cert.SelRefIdeal.Value.run (F := Ideal) m ρ)
/-- also where the precondition holds. -/
theorem frame_reference_pre : Cert.quiescent_SelRefIdeal_pre_sel_layout := fun m ρ _ => frame_reference m ρ trivial

/-- The mask's constant is minus infinity: the one rewrite. -/
theorem preserves : Cert.preserves_Sel_SelIdeal :=
  IdealRules.named_const.statement Cert.SelIdeal.κ "mask" .f32 0xF149F2CA#32 ⊥ rfl

/-- The kernel's array and the reference's are the same function of the arguments. -/
theorem algebraic : Cert.algebraic_SelIdeal_SelRefIdeal_pre_sel_layout := by
  intro m ρ m' ρ' hpre hagree
  refine ⟨fun c => Cert.SelIdeal.Hand.layer m c, ?_, ?_⟩
  · exact (θ_run Cert.SelIdeal.defs _ _).mono
      (fun _ h c => ⟨(h c).1.trans (Cert.SelIdeal.Hand.array_eq m c (fun r p l => (layout _ _ _ _ _ _ (hpre c) r p l).1)
        (fun r p l => (layout _ _ _ _ _ _ (hpre c) r p l).2)), (h c).2⟩)
      (Cert.SelIdeal.Hand.run_array (F := Ideal) m ρ)
  · refine (θ_run Cert.SelRefIdeal.defs _ _).mono (fun _ h c => ⟨(h c).1.trans ?_, (h c).2⟩)
      (Cert.SelRefIdeal.Value.run (F := Ideal) m' ρ')
    obtain ⟨h0, h1, h2, h3, h4, h5⟩ := hagree c
    rw [Cert.SelRefIdeal.Read.val_main_v59_eq, h0, h1, h2, h3, h4, h5]
    funext j
    rw [eq_ix2 j]
    exact Cert.SelRefIdeal.Read.result_eq _ _ _ _ _ _ (j 0) (j 1)

end Cert.Proof.Sel
-- ==== Proof.GmlpSpec.lean ====
/-
  The gated spatial unit: the mathematics of the call, as functions of its arguments.
-/
module

public import proofs.«01_k».proof.Proof.AttnSpec

@[expose] public section
noncomputable section
open Idealize.ShloMosaic Idealize.ShloMosaic.TcCoe
open Cert.AttnSpec
namespace Cert.GmlpSpec

/-- The tanh form of gelu, with its constants as they are rounded. -/
def gelu (z : EReal) : EReal :=
  z * (Ideal.ofBits .f32 1056964608#32 * (1 + Ideal.tanh (Ideal.ofBits .f32 1061962282#32 * (z + Ideal.ofBits .f32 1027024659#32 * (z * (z * z))))))

/-- A row of 2048 numbers, normalised by its mean square and scaled. -/
def rms (v : Fin 2048 → EReal) (g : Fin 2048 → EReal) (k : Fin 2048) : EReal :=
  v k * Ideal.rsqrt (Ideal.div (∑ x, v x * v x) (Ideal.ofBits .f32 1157627904#32) + Ideal.ofBits .f32 897988541#32) * g k

/-- Row `r` of the normalised values. -/
def normed (a : Mat 16384 8192) (g : Mat 1 2048) (r : Fin 16384) (k : Fin 2048) : EReal :=
  rms (fun x => gelu (a (ix2 r ⟨2048 + x.val, by omega⟩))) (fun x => g (ix2 0 x)) k

/-- The result at row `r`, column `k`: within a chunk of 128 rows each row mixes the values of the rows up to it. -/
def gmlp (a : Mat 16384 8192) (g : Mat 1 2048) (w : (⟨3, ![8, 128, 128]⟩ : Shape).Idx → EReal) (b : Mat 128 8) (r : Fin 16384) (k : Fin 2048) : EReal :=
  gelu (a (ix2 r ⟨k.val, by omega⟩))
    * ((∑ s : Fin 128, if s.val ≤ r.val % 128 then
          w (ix3 ⟨k.val / 256, by omega⟩ ⟨r.val % 128, by omega⟩ s) * normed a g ⟨r.val / 128 * 128 + s.val, by omega⟩ k
        else 0)
      + b (ix2 ⟨r.val % 128, by omega⟩ ⟨k.val / 256, by omega⟩))

end Cert.GmlpSpec
-- ==== Proof.GmlpTile.lean ====
/-
  What the gated spatial unit's body leaves in its block, tile by tile: each of the 32 stores is the same function of the
  blocks, at its own rows and columns.
-/
module

public import proofs.«01_k».proof.Proof.Gen.GmlpIdeal.Value
public import proofs.«01_k».proof.Proof.GmlpSpec
public import proofs.«01_k».proof.Proof.Masks

@[expose] public section
set_option maxRecDepth 16384
noncomputable section
open Idealize.ShloMosaic Idealize.ShloMosaic.TcCoe
open Cert.GmlpSpec
namespace Cert.GmlpIdeal.Hand
open Cert.GmlpIdeal Cert.GmlpIdeal.Gen

/-- The normalised values of the block. -/
theorem norm_apply (x1 : Vec Ideal S512x2048 .bf16) (x2 : Vec Ideal S1x2048 .f32) (p : Fin 512) (q : Fin 2048) :
    k0_pay2 (F := Ideal) (View.ld x1 r0_0) (View.ld x2 r0_1) (ix2 p q) = rms (fun x => gelu (x1 (ix2 p x))) (fun x => x2 (ix2 0 x)) q := by
  pointwise [k0_pay2]
  rfl

/-- An entry of group `g`'s tile: `r` gives the chunk's rows in the block, `p` the entry's row in the chunk, `k` its column. -/
def tileVal (x0 : Vec Ideal S512x2048 .bf16) (vn : FVec Ideal S512x2048 .bf16) (x3 : Vec Ideal S8x128x128 .f32) (x4 : Vec Ideal S128x8 .f32)
    (g : Fin 8) (r : Fin 128 → Fin 512) (p : Fin 128) (k : Fin 2048) : EReal :=
  gelu (x0 (ix2 (r p) k))
    * ((∑ s : Fin 128, Scalar.select (IntOp.cmpi .sle (BitVec.ofNat 32 s.val) (BitVec.ofNat 32 p.val)) (x3 (ix3 g p s) * vn (ix2 (r s) k)) 0)
      + x4 (ix2 p g))

section
variable (x0 : Vec Ideal S512x2048 .bf16) (x1 : Vec Ideal S512x2048 .bf16) (x2 : Vec Ideal S1x2048 .f32) (x3 : Vec Ideal S8x128x128 .f32)
  (x4 : Vec Ideal S128x8 .f32) (vn : FVec Ideal S512x2048 .bf16) (p : Fin 128) (q : Fin 256)

/-- Group 7, chunk 3. -/
theorem store_7_3 : k0_pay1 (F := Ideal) (k0_pay84 x0 x1 x2 x3 x4) (View.ld x4 r0_45) (k0_pay73 vn) (View.ld x0 r0_49) (ix2 p q)
    = tileVal x0 vn x3 x4 7 (fun s => ⟨384 + s.val, by omega⟩) p ⟨1792 + q.val, by omega⟩ := by
  pointwise [k0_pay1, k0_pay84, k0_pay73, k0_pay68, k0_pay74, k0_pay75]
  rfl

/-- Group 7, chunk 2. -/
theorem store_7_2 : k0_pay72 (F := Ideal) vn (k0_pay84 x0 x1 x2 x3 x4) (View.ld x4 r0_45) (View.ld x0 r0_48) (ix2 p q)
    = tileVal x0 vn x3 x4 7 (fun s => ⟨256 + s.val, by omega⟩) p ⟨1792 + q.val, by omega⟩ := by
  pointwise [k0_pay72, k0_pay84, k0_pay68, k0_pay74, k0_pay75]
  rfl

/-- Group 7, chunk 1. -/
theorem store_7_1 : k0_pay71 (F := Ideal) (k0_pay70 vn (k0_pay74 x0 x1 x2 x3 x4) (k0_pay75 x0 x1 x2 x3 x4) (View.ld x3 r0_44) (View.ld x4 r0_45)) (View.ld x0 r0_47) (ix2 p q)
    = tileVal x0 vn x3 x4 7 (fun s => ⟨128 + s.val, by omega⟩) p ⟨1792 + q.val, by omega⟩ := by
  pointwise [k0_pay71, k0_pay70, k0_pay74, k0_pay75, k0_pay68]
  rfl

/-- Group 7, chunk 0. -/
theorem store_7_0 : k0_pay69 (F := Ideal) vn (k0_pay74 x0 x1 x2 x3 x4) (k0_pay75 x0 x1 x2 x3 x4) (View.ld x3 r0_44) (View.ld x4 r0_45) (View.ld x0 r0_46) (ix2 p q)
    = tileVal x0 vn x3 x4 7 (fun s => ⟨s.val, by omega⟩) p ⟨1792 + q.val, by omega⟩ := by
  pointwise [k0_pay69, k0_pay74, k0_pay75, k0_pay68]
  rfl

/-- Group 6, chunk 3. -/
theorem store_6_3 : k0_pay67 (F := Ideal) (k0_pay64 vn (k0_pay83 x0 x1 x2 x3 x4) (View.ld x4 r0_39)) (k0_pay65 (View.ld x0 r0_43)) (k0_pay66 (View.ld x0 r0_43)) (ix2 p q)
    = tileVal x0 vn x3 x4 6 (fun s => ⟨384 + s.val, by omega⟩) p ⟨1536 + q.val, by omega⟩ := by
  pointwise [k0_pay67, k0_pay64, k0_pay83, k0_pay65, k0_pay66, k0_pay58, k0_pay74, k0_pay75]
  rfl

/-- Group 6, chunk 2. -/
theorem store_6_2 : k0_pay63 (F := Ideal) vn (k0_pay83 x0 x1 x2 x3 x4) (View.ld x4 r0_39) (View.ld x0 r0_42) (ix2 p q)
    = tileVal x0 vn x3 x4 6 (fun s => ⟨256 + s.val, by omega⟩) p ⟨1536 + q.val, by omega⟩ := by
  pointwise [k0_pay63, k0_pay83, k0_pay58, k0_pay74, k0_pay75]
  rfl

/-- Group 6, chunk 1. -/
theorem store_6_1 : k0_pay62 (F := Ideal) (k0_pay60 vn (k0_pay83 x0 x1 x2 x3 x4) (View.ld x4 r0_39)) (k0_pay61 (View.ld x0 r0_41)) (ix2 p q)
    = tileVal x0 vn x3 x4 6 (fun s => ⟨128 + s.val, by omega⟩) p ⟨1536 + q.val, by omega⟩ := by
  pointwise [k0_pay62, k0_pay60, k0_pay83, k0_pay61, k0_pay58, k0_pay74, k0_pay75]
  rfl

/-- Group 6, chunk 0. -/
theorem store_6_0 : k0_pay59 (F := Ideal) vn (k0_pay83 x0 x1 x2 x3 x4) (View.ld x4 r0_39) (View.ld x0 r0_40) (ix2 p q)
    = tileVal x0 vn x3 x4 6 (fun s => ⟨s.val, by omega⟩) p ⟨1536 + q.val, by omega⟩ := by
  pointwise [k0_pay59, k0_pay83, k0_pay58, k0_pay74, k0_pay75]
  rfl

/-- Group 5, chunk 3. -/
theorem store_5_3 : k0_pay57 (F := Ideal) vn (k0_pay82 x0 x1 x2 x3 x4) (View.ld x4 r0_33) (View.ld x0 r0_37) (ix2 p q)
    = tileVal x0 vn x3 x4 5 (fun s => ⟨384 + s.val, by omega⟩) p ⟨1280 + q.val, by omega⟩ := by
  pointwise [k0_pay57, k0_pay82, k0_pay47, k0_pay74, k0_pay75]
  rfl

/-- Group 5, chunk 2. -/
theorem store_5_2 : k0_pay56 (F := Ideal) (k0_pay53 vn (k0_pay82 x0 x1 x2 x3 x4) (View.ld x4 r0_33)) (k0_pay54 (View.ld x0 r0_36)) (k0_pay55 (View.ld x0 r0_36)) (ix2 p q)
    = tileVal x0 vn x3 x4 5 (fun s => ⟨256 + s.val, by omega⟩) p ⟨1280 + q.val, by omega⟩ := by
  pointwise [k0_pay56, k0_pay53, k0_pay82, k0_pay54, k0_pay55, k0_pay47, k0_pay74, k0_pay75]
  rfl

/-- Group 5, chunk 1. -/
theorem store_5_1 : k0_pay52 (F := Ideal) vn (k0_pay82 x0 x1 x2 x3 x4) (View.ld x4 r0_33) (View.ld x0 r0_35) (ix2 p q)
    = tileVal x0 vn x3 x4 5 (fun s => ⟨128 + s.val, by omega⟩) p ⟨1280 + q.val, by omega⟩ := by
  pointwise [k0_pay52, k0_pay82, k0_pay47, k0_pay74, k0_pay75]
  rfl

/-- Group 5, chunk 0. -/
theorem store_5_0 : k0_pay51 (F := Ideal) (k0_pay48 vn (k0_pay74 x0 x1 x2 x3 x4) (k0_pay75 x0 x1 x2 x3 x4) (View.ld x3 r0_32) (View.ld x4 r0_33)) (k0_pay49 (View.ld x0 r0_34)) (k0_pay50 (View.ld x0 r0_34)) (ix2 p q)
    = tileVal x0 vn x3 x4 5 (fun s => ⟨s.val, by omega⟩) p ⟨1280 + q.val, by omega⟩ := by
  pointwise [k0_pay51, k0_pay48, k0_pay74, k0_pay75, k0_pay49, k0_pay50, k0_pay47]
  rfl

/-- Group 4, chunk 3. -/
theorem store_4_3 : k0_pay46 (F := Ideal) (k0_pay44 vn (k0_pay81 x0 x1 x2 x3 x4)) (k0_pay45 (View.ld x4 r0_27)) (View.ld x0 r0_31) (ix2 p q)
    = tileVal x0 vn x3 x4 4 (fun s => ⟨384 + s.val, by omega⟩) p ⟨1024 + q.val, by omega⟩ := by
  pointwise [k0_pay46, k0_pay44, k0_pay81, k0_pay45, k0_pay39, k0_pay74, k0_pay75]
  rfl

/-- Group 4, chunk 2. -/
theorem store_4_2 : k0_pay43 (F := Ideal) vn (k0_pay81 x0 x1 x2 x3 x4) (View.ld x4 r0_27) (View.ld x0 r0_30) (ix2 p q)
    = tileVal x0 vn x3 x4 4 (fun s => ⟨256 + s.val, by omega⟩) p ⟨1024 + q.val, by omega⟩ := by
  pointwise [k0_pay43, k0_pay81, k0_pay39, k0_pay74, k0_pay75]
  rfl

/-- Group 4, chunk 1. -/
theorem store_4_1 : k0_pay42 (F := Ideal) (k0_pay41 vn (k0_pay74 x0 x1 x2 x3 x4) (k0_pay75 x0 x1 x2 x3 x4) (View.ld x3 r0_26) (View.ld x4 r0_27)) (View.ld x0 r0_29) (ix2 p q)
    = tileVal x0 vn x3 x4 4 (fun s => ⟨128 + s.val, by omega⟩) p ⟨1024 + q.val, by omega⟩ := by
  pointwise [k0_pay42, k0_pay41, k0_pay74, k0_pay75, k0_pay39]
  rfl

/-- Group 4, chunk 0. -/
theorem store_4_0 : k0_pay40 (F := Ideal) vn (k0_pay74 x0 x1 x2 x3 x4) (k0_pay75 x0 x1 x2 x3 x4) (View.ld x3 r0_26) (View.ld x4 r0_27) (View.ld x0 r0_28) (ix2 p q)
    = tileVal x0 vn x3 x4 4 (fun s => ⟨s.val, by omega⟩) p ⟨1024 + q.val, by omega⟩ := by
  pointwise [k0_pay40, k0_pay74, k0_pay75, k0_pay39]
  rfl

/-- Group 3, chunk 3. -/
theorem store_3_3 : k0_pay38 (F := Ideal) (k0_pay35 vn (k0_pay80 x0 x1 x2 x3 x4) (View.ld x4 r0_21)) (k0_pay36 (View.ld x0 r0_25)) (k0_pay37 (View.ld x0 r0_25)) (ix2 p q)
    = tileVal x0 vn x3 x4 3 (fun s => ⟨384 + s.val, by omega⟩) p ⟨768 + q.val, by omega⟩ := by
  pointwise [k0_pay38, k0_pay35, k0_pay80, k0_pay36, k0_pay37, k0_pay30, k0_pay74, k0_pay75]
  rfl

/-- Group 3, chunk 2. -/
theorem store_3_2 : k0_pay34 (F := Ideal) vn (k0_pay80 x0 x1 x2 x3 x4) (View.ld x4 r0_21) (View.ld x0 r0_24) (ix2 p q)
    = tileVal x0 vn x3 x4 3 (fun s => ⟨256 + s.val, by omega⟩) p ⟨768 + q.val, by omega⟩ := by
  pointwise [k0_pay34, k0_pay80, k0_pay30, k0_pay74, k0_pay75]
  rfl

/-- Group 3, chunk 1. -/
theorem store_3_1 : k0_pay33 (F := Ideal) vn (k0_pay80 x0 x1 x2 x3 x4) (View.ld x4 r0_21) (View.ld x0 r0_23) (ix2 p q)
    = tileVal x0 vn x3 x4 3 (fun s => ⟨128 + s.val, by omega⟩) p ⟨768 + q.val, by omega⟩ := by
  pointwise [k0_pay33, k0_pay80, k0_pay30, k0_pay74, k0_pay75]
  rfl

/-- Group 3, chunk 0. -/
theorem store_3_0 : k0_pay32 (F := Ideal) (k0_pay80 x0 x1 x2 x3 x4) (View.ld x4 r0_21) (k0_pay31 vn) (View.ld x0 r0_22) (ix2 p q)
    = tileVal x0 vn x3 x4 3 (fun s => ⟨s.val, by omega⟩) p ⟨768 + q.val, by omega⟩ := by
  pointwise [k0_pay32, k0_pay80, k0_pay31, k0_pay30, k0_pay74, k0_pay75]
  rfl

/-- Group 2, chunk 3. -/
theorem store_2_3 : k0_pay29 (F := Ideal) vn (k0_pay79 x0 x1 x2 x3 x4) (View.ld x4 r0_15) (View.ld x0 r0_19) (ix2 p q)
    = tileVal x0 vn x3 x4 2 (fun s => ⟨384 + s.val, by omega⟩) p ⟨512 + q.val, by omega⟩ := by
  pointwise [k0_pay29, k0_pay79, k0_pay19, k0_pay74, k0_pay75]
  rfl

/-- Group 2, chunk 2. -/
theorem store_2_2 : k0_pay28 (F := Ideal) (k0_pay25 vn (k0_pay79 x0 x1 x2 x3 x4) (View.ld x4 r0_15)) (k0_pay26 (View.ld x0 r0_18)) (k0_pay27 (View.ld x0 r0_18)) (ix2 p q)
    = tileVal x0 vn x3 x4 2 (fun s => ⟨256 + s.val, by omega⟩) p ⟨512 + q.val, by omega⟩ := by
  pointwise [k0_pay28, k0_pay25, k0_pay79, k0_pay26, k0_pay27, k0_pay19, k0_pay74, k0_pay75]
  rfl

/-- Group 2, chunk 1. -/
theorem store_2_1 : k0_pay24 (F := Ideal) vn (k0_pay79 x0 x1 x2 x3 x4) (View.ld x4 r0_15) (View.ld x0 r0_17) (ix2 p q)
    = tileVal x0 vn x3 x4 2 (fun s => ⟨128 + s.val, by omega⟩) p ⟨512 + q.val, by omega⟩ := by
  pointwise [k0_pay24, k0_pay79, k0_pay19, k0_pay74, k0_pay75]
  rfl

/-- Group 2, chunk 0. -/
theorem store_2_0 : k0_pay23 (F := Ideal) (k0_pay20 vn (k0_pay74 x0 x1 x2 x3 x4) (k0_pay75 x0 x1 x2 x3 x4) (View.ld x3 r0_14) (View.ld x4 r0_15)) (k0_pay21 (View.ld x0 r0_16)) (k0_pay22 (View.ld x0 r0_16)) (ix2 p q)
    = tileVal x0 vn x3 x4 2 (fun s => ⟨s.val, by omega⟩) p ⟨512 + q.val, by omega⟩ := by
  pointwise [k0_pay23, k0_pay20, k0_pay74, k0_pay75, k0_pay21, k0_pay22, k0_pay19]
  rfl

/-- Group 1, chunk 3. -/
theorem store_1_3 : k0_pay18 (F := Ideal) (k0_pay17 vn (k0_pay78 x0 x1 x2 x3 x4) (View.ld x4 r0_9)) (View.ld x0 r0_13) (ix2 p q)
    = tileVal x0 vn x3 x4 1 (fun s => ⟨384 + s.val, by omega⟩) p ⟨256 + q.val, by omega⟩ := by
  pointwise [k0_pay18, k0_pay17, k0_pay78, k0_pay10, k0_pay74, k0_pay75]
  rfl

/-- Group 1, chunk 2. -/
theorem store_1_2 : k0_pay16 (F := Ideal) vn (k0_pay78 x0 x1 x2 x3 x4) (View.ld x4 r0_9) (View.ld x0 r0_12) (ix2 p q)
    = tileVal x0 vn x3 x4 1 (fun s => ⟨256 + s.val, by omega⟩) p ⟨256 + q.val, by omega⟩ := by
  pointwise [k0_pay16, k0_pay78, k0_pay10, k0_pay74, k0_pay75]
  rfl

/-- Group 1, chunk 1. -/
theorem store_1_1 : k0_pay15 (F := Ideal) (k0_pay12 vn (k0_pay74 x0 x1 x2 x3 x4) (k0_pay75 x0 x1 x2 x3 x4) (View.ld x3 r0_8) (View.ld x4 r0_9)) (k0_pay13 (View.ld x0 r0_11)) (k0_pay14 (View.ld x0 r0_11)) (ix2 p q)
    = tileVal x0 vn x3 x4 1 (fun s => ⟨128 + s.val, by omega⟩) p ⟨256 + q.val, by omega⟩ := by
  pointwise [k0_pay15, k0_pay12, k0_pay74, k0_pay75, k0_pay13, k0_pay14, k0_pay10]
  rfl

/-- Group 1, chunk 0. -/
theorem store_1_0 : k0_pay11 (F := Ideal) vn (k0_pay74 x0 x1 x2 x3 x4) (k0_pay75 x0 x1 x2 x3 x4) (View.ld x3 r0_8) (View.ld x4 r0_9) (View.ld x0 r0_10) (ix2 p q)
    = tileVal x0 vn x3 x4 1 (fun s => ⟨s.val, by omega⟩) p ⟨256 + q.val, by omega⟩ := by
  pointwise [k0_pay11, k0_pay74, k0_pay75, k0_pay10]
  rfl

/-- Group 0, chunk 3. -/
theorem store_0_3 : k0_pay9 (F := Ideal) vn (k0_pay77 x0 x1 x2 x3 x4) (View.ld x4 r0_3) (View.ld x0 r0_7) (ix2 p q)
    = tileVal x0 vn x3 x4 0 (fun s => ⟨384 + s.val, by omega⟩) p ⟨q.val, by omega⟩ := by
  pointwise [k0_pay9, k0_pay77, k0_pay3]
  rfl

/-- Group 0, chunk 2. -/
theorem store_0_2 : k0_pay8 (F := Ideal) vn (k0_pay77 x0 x1 x2 x3 x4) (View.ld x4 r0_3) (View.ld x0 r0_6) (ix2 p q)
    = tileVal x0 vn x3 x4 0 (fun s => ⟨256 + s.val, by omega⟩) p ⟨q.val, by omega⟩ := by
  pointwise [k0_pay8, k0_pay77, k0_pay3]
  rfl

/-- Group 0, chunk 1. -/
theorem store_0_1 : k0_pay7 (F := Ideal) vn (k0_pay77 x0 x1 x2 x3 x4) (View.ld x4 r0_3) (View.ld x0 r0_5) (ix2 p q)
    = tileVal x0 vn x3 x4 0 (fun s => ⟨128 + s.val, by omega⟩) p ⟨q.val, by omega⟩ := by
  pointwise [k0_pay7, k0_pay77, k0_pay3]
  rfl

/-- Group 0, chunk 0. -/
theorem store_0_0 : k0_pay6 (F := Ideal) (k0_pay4 (View.ld x1 r0_0) (View.ld x2 r0_1) (View.ld x3 r0_2)) (k0_pay5 (View.ld x4 r0_3)) (View.ld x0 r0_4) (ix2 p q)
    = tileVal x0 (k0_pay2 (View.ld x1 r0_0) (View.ld x2 r0_1)) x3 x4 0 (fun s => ⟨s.val, by omega⟩) p ⟨q.val, by omega⟩ := by
  pointwise [k0_pay6, k0_pay4, k0_pay5, k0_pay3]
  rfl
end

/-- The mask's word compares the two positions in the chunk. -/
theorem tile_mask (s p : Fin 128) : IntOp.cmpi .sle (BitVec.ofNat 32 s.val) (BitVec.ofNat 32 p.val) = 1#1 ↔ s.val ≤ p.val := by
  have hs := s.isLt; have hp := p.isLt
  word_omega

end Cert.GmlpIdeal.Hand
-- ==== Proof.GmlpArray.lean ====
/-
  The array the gated spatial unit leaves: at every row and column it is `GmlpSpec.gmlp` of the arguments.
-/
module

public import proofs.«01_k».proof.Proof.GmlpTile
public import proofs.«01_k».proof.Proof.Masks
public import Idealize.ShloMosaic.Lib.Pipeline.ValueKit
public import Idealize.ShloMosaic.Lib.Pipeline.ReadBack
public import Idealize.ShloMosaic.Lib.Pointwise
public import Idealize.ShloMosaic.Lib.Tactic

@[expose] public section
set_option maxRecDepth 16384
noncomputable section
open Idealize.ShloMosaic Idealize.ShloMosaic.TcCoe Idealize.SL.Sem
open Idealize.ShloMosaic.Pipeline (Dat)
open Cert.AttnSpec Cert.GmlpSpec
namespace Cert.GmlpIdeal.Value
open Cert.GmlpIdeal Cert.GmlpIdeal.Gen Cert.GmlpIdeal.Hand
variable (m : (ℓ : Loc nD τ sig) → Buf (Elt Ideal) ℓ) (c : Dev nD)

/-- The projections, the norm's scale, the mixing weights and their biases on device `c`. -/
abbrev aP : Mat 16384 8192 := m ((c : Thread nD τ).loc main_arg0)
abbrev aN : Mat 1 2048 := m ((c : Thread nD τ).loc main_arg1)
abbrev aW : S8x128x128.Idx → EReal := m ((c : Thread nD τ).loc main_arg2)
abbrev aB : Mat 128 8 := m ((c : Thread nD τ).loc main_arg3)

/-- Where each point's blocks lie: point `t` has 512 rows, the gate's columns and then the values'. -/
theorem idx : ∀ t : Fin grid0.N,
    win0_0.index t = ![(grid0.coords t 0).val, 0]
    ∧ win0_1.index t = ![(grid0.coords t 0).val, 1]
    ∧ win0_2.index t = ![0, 0]
    ∧ win0_3.index t = ![0, 0, 0]
    ∧ win0_4.index t = ![0, 0]
    ∧ win0_5.index t = ![(grid0.coords t 0).val, 0] := by
  decide +kernel

section
variable (t : Fin grid0.N) (i : Fin 32) (hi : (grid0.coords t 0).val = i.val)
include hi

/-- The blocks of point `t`, read at an element. -/
theorem block_u (p : Fin 512) (q : Fin 2048) (r : Fin 16384) (hr : r.val = i.val * 512 + p.val) :
    iblk m c 0 t (ix2 p q) = aP m c (ix2 r ⟨q.val, by omega⟩) := by
  blk_ext [iblk, V, idx t, hi, hr]

theorem block_v (p : Fin 512) (q : Fin 2048) (r : Fin 16384) (hr : r.val = i.val * 512 + p.val) :
    iblk m c 1 t (ix2 p q) = aP m c (ix2 r ⟨2048 + q.val, by omega⟩) := by
  blk_ext [iblk, V, idx t, hi, hr]

theorem block_n (q : Fin 2048) : iblk m c 2 t (ix2 0 q) = aN m c (ix2 0 q) := by
  blk_ext [iblk, V, idx t, hi]

theorem block_w (g : Fin 8) (p s : Fin 128) : iblk m c 3 t (ix3 g p s) = aW m c (ix3 g p s) := by
  blk_ext [iblk, V, idx t, hi]

theorem block_b (p : Fin 128) (g : Fin 8) : iblk m c 4 t (ix2 p g) = aB m c (ix2 p g) := by
  blk_ext [iblk, V, idx t, hi]

/-- The normalised values of point `t`. -/
theorem block_norm (p : Fin 512) (q : Fin 2048) (r : Fin 16384) (hr : r.val = i.val * 512 + p.val) :
    k0_pay2 (F := Ideal) (View.ld (iblk m c 1 t) r0_0) (View.ld (iblk m c 2 t) r0_1) (ix2 p q) = normed (aP m c) (aN m c) r q := by
  rw [norm_apply]
  unfold normed
  refine congrArg₂ (fun a b => rms a b q) (funext fun x => ?_) (funext fun x => ?_)
  · rw [block_v m c t i hi p x r hr]
  · rw [block_n m c t i hi x]

/-- A tile's entry is the specification's at the array's row and column. -/
theorem tile_eq (ch : Fin 4) (g : Fin 8) (r : Fin 128 → Fin 512) (hr : ∀ s, (r s).val = 128 * ch.val + s.val) (p : Fin 128)
    (q : Fin 256) (k : Fin 2048) (hk : k.val = 256 * g.val + q.val) (R : Fin 16384) (hR : R.val = i.val * 512 + (128 * ch.val + p.val))
    (K : Fin 2048) (hK : K.val = 256 * g.val + q.val) :
    tileVal (iblk m c 0 t) (k0_pay2 (F := Ideal) (View.ld (iblk m c 1 t) r0_0) (View.ld (iblk m c 2 t) r0_1)) (iblk m c 3 t) (iblk m c 4 t) g r p k
      = gmlp (aP m c) (aN m c) (aW m c) (aB m c) R K := by
  obtain rfl : k = K := Fin.ext (hk.trans hK.symm)
  have hp : (⟨R.val % 128, by omega⟩ : Fin 128) = p := Fin.ext (by show R.val % 128 = p.val; omega)
  have hg : (⟨k.val / 256, by omega⟩ : Fin 8) = g := Fin.ext (by show k.val / 256 = g.val; omega)
  unfold tileVal gmlp
  rw [hp, hg, block_u m c t i hi (r p) k R (by rw [hr, hR]), block_b m c t i hi]
  refine congrArg₂ (· * ·) rfl (congrArg₂ (· + ·) (Finset.sum_congr rfl fun s _ => ?_) rfl)
  rw [Cert.Masks.select_of_iff (p := s.val ≤ R.val % 128) (by rw [show R.val % 128 = p.val by omega]; exact tile_mask s p), block_w m c t i hi]
  rw [block_norm m c t i hi (r s) k ⟨R.val / 128 * 128 + s.val, by omega⟩ (by rw [hr]; show R.val / 128 * 128 + s.val = _; omega)]
end

/-- The kernel's array. -/
theorem array_eq : (dats m 0 c).arrAt 5 cfg0.N = fun j => gmlp (aP m c) (aN m c) (aW m c) (aB m c) (j 0) (j 1) := by
  refine (dats m 0 c).arrAt_eq_of_covers 5 _ (by decide +kernel) fun t hf y => ?_
  blk_simp
  rw [after0_5]
  unfold out0_5
  obtain ⟨i, hi⟩ : ∃ i : Fin 32, (grid0.coords t 0).val = i.val := ⟨grid0.coords t 0, rfl⟩
  have he0 : ((((View.whole main_v0).slice (win0_5.rect t)).emb y) 0).val = i.val * 512 + (y 0).val := by
    blk_simp [idx t, hi]
  have he1 : ((((View.whole main_v0).slice (win0_5.rect t)).emb y) 1).val = (y 1).val := by
    blk_simp [idx t, hi]
  generalize ((View.whole main_v0).slice (win0_5.rect t)).emb y = j at he0 he1 ⊢
  have hh := fun ch g r hr p q k hk hR hK => tile_eq m c t i hi ch g r hr p q k hk (j 0) hR (j 1) hK
  canon_tiles y
  · rw [eq_ix2 y]
    exact (store_7_3 (p := y 0) (q := y 1) ..).trans (hh 3 7 _ (fun s => by show _ = _; simp) (y 0) (y 1) _ (by simp) (he0.trans (by rw [h0]; simp)) (he1.trans (by rw [h1]; simp)))
  · rw [eq_ix2 y]
    exact (store_7_2 (p := y 0) (q := y 1) ..).trans (hh 2 7 _ (fun s => by show _ = _; simp) (y 0) (y 1) _ (by simp) (he0.trans (by rw [h0]; simp)) (he1.trans (by rw [h1]; simp)))
  · rw [eq_ix2 y]
    exact (store_7_1 (p := y 0) (q := y 1) ..).trans (hh 1 7 _ (fun s => by show _ = _; simp) (y 0) (y 1) _ (by simp) (he0.trans (by rw [h0]; simp)) (he1.trans (by rw [h1]; simp)))
  · rw [eq_ix2 y]
    exact (store_7_0 (p := y 0) (q := y 1) ..).trans (hh 0 7 _ (fun s => by show _ = _; simp) (y 0) (y 1) _ (by simp) (he0.trans (by rw [h0]; simp)) (he1.trans (by rw [h1]; simp)))
  · rw [eq_ix2 y]
    exact (store_6_3 (p := y 0) (q := y 1) ..).trans (hh 3 6 _ (fun s => by show _ = _; simp) (y 0) (y 1) _ (by simp) (he0.trans (by rw [h0]; simp)) (he1.trans (by rw [h1]; simp)))
  · rw [eq_ix2 y]
    exact (store_6_2 (p := y 0) (q := y 1) ..).trans (hh 2 6 _ (fun s => by show _ = _; simp) (y 0) (y 1) _ (by simp) (he0.trans (by rw [h0]; simp)) (he1.trans (by rw [h1]; simp)))
  · rw [eq_ix2 y]
    exact (store_6_1 (p := y 0) (q := y 1) ..).trans (hh 1 6 _ (fun s => by show _ = _; simp) (y 0) (y 1) _ (by simp) (he0.trans (by rw [h0]; simp)) (he1.trans (by rw [h1]; simp)))
  · rw [eq_ix2 y]
    exact (store_6_0 (p := y 0) (q := y 1) ..).trans (hh 0 6 _ (fun s => by show _ = _; simp) (y 0) (y 1) _ (by simp) (he0.trans (by rw [h0]; simp)) (he1.trans (by rw [h1]; simp)))
  · rw [eq_ix2 y]
    exact (store_5_3 (p := y 0) (q := y 1) ..).trans (hh 3 5 _ (fun s => by show _ = _; simp) (y 0) (y 1) _ (by simp) (he0.trans (by rw [h0]; simp)) (he1.trans (by rw [h1]; simp)))
  · rw [eq_ix2 y]
    exact (store_5_2 (p := y 0) (q := y 1) ..).trans (hh 2 5 _ (fun s => by show _ = _; simp) (y 0) (y 1) _ (by simp) (he0.trans (by rw [h0]; simp)) (he1.trans (by rw [h1]; simp)))
  · rw [eq_ix2 y]
    exact (store_5_1 (p := y 0) (q := y 1) ..).trans (hh 1 5 _ (fun s => by show _ = _; simp) (y 0) (y 1) _ (by simp) (he0.trans (by rw [h0]; simp)) (he1.trans (by rw [h1]; simp)))
  · rw [eq_ix2 y]
    exact (store_5_0 (p := y 0) (q := y 1) ..).trans (hh 0 5 _ (fun s => by show _ = _; simp) (y 0) (y 1) _ (by simp) (he0.trans (by rw [h0]; simp)) (he1.trans (by rw [h1]; simp)))
  · rw [eq_ix2 y]
    exact (store_4_3 (p := y 0) (q := y 1) ..).trans (hh 3 4 _ (fun s => by show _ = _; simp) (y 0) (y 1) _ (by simp) (he0.trans (by rw [h0]; simp)) (he1.trans (by rw [h1]; simp)))
  · rw [eq_ix2 y]
    exact (store_4_2 (p := y 0) (q := y 1) ..).trans (hh 2 4 _ (fun s => by show _ = _; simp) (y 0) (y 1) _ (by simp) (he0.trans (by rw [h0]; simp)) (he1.trans (by rw [h1]; simp)))
  · rw [eq_ix2 y]
    exact (store_4_1 (p := y 0) (q := y 1) ..).trans (hh 1 4 _ (fun s => by show _ = _; simp) (y 0) (y 1) _ (by simp) (he0.trans (by rw [h0]; simp)) (he1.trans (by rw [h1]; simp)))
  · rw [eq_ix2 y]
    exact (store_4_0 (p := y 0) (q := y 1) ..).trans (hh 0 4 _ (fun s => by show _ = _; simp) (y 0) (y 1) _ (by simp) (he0.trans (by rw [h0]; simp)) (he1.trans (by rw [h1]; simp)))
  · rw [eq_ix2 y]
    exact (store_3_3 (p := y 0) (q := y 1) ..).trans (hh 3 3 _ (fun s => by show _ = _; simp) (y 0) (y 1) _ (by simp) (he0.trans (by rw [h0]; simp)) (he1.trans (by rw [h1]; simp)))
  · rw [eq_ix2 y]
    exact (store_3_2 (p := y 0) (q := y 1) ..).trans (hh 2 3 _ (fun s => by show _ = _; simp) (y 0) (y 1) _ (by simp) (he0.trans (by rw [h0]; simp)) (he1.trans (by rw [h1]; simp)))
  · rw [eq_ix2 y]
    exact (store_3_1 (p := y 0) (q := y 1) ..).trans (hh 1 3 _ (fun s => by show _ = _; simp) (y 0) (y 1) _ (by simp) (he0.trans (by rw [h0]; simp)) (he1.trans (by rw [h1]; simp)))
  · rw [eq_ix2 y]
    exact (store_3_0 (p := y 0) (q := y 1) ..).trans (hh 0 3 _ (fun s => by show _ = _; simp) (y 0) (y 1) _ (by simp) (he0.trans (by rw [h0]; simp)) (he1.trans (by rw [h1]; simp)))
  · rw [eq_ix2 y]
    exact (store_2_3 (p := y 0) (q := y 1) ..).trans (hh 3 2 _ (fun s => by show _ = _; simp) (y 0) (y 1) _ (by simp) (he0.trans (by rw [h0]; simp)) (he1.trans (by rw [h1]; simp)))
  · rw [eq_ix2 y]
    exact (store_2_2 (p := y 0) (q := y 1) ..).trans (hh 2 2 _ (fun s => by show _ = _; simp) (y 0) (y 1) _ (by simp) (he0.trans (by rw [h0]; simp)) (he1.trans (by rw [h1]; simp)))
  · rw [eq_ix2 y]
    exact (store_2_1 (p := y 0) (q := y 1) ..).trans (hh 1 2 _ (fun s => by show _ = _; simp) (y 0) (y 1) _ (by simp) (he0.trans (by rw [h0]; simp)) (he1.trans (by rw [h1]; simp)))
  · rw [eq_ix2 y]
    exact (store_2_0 (p := y 0) (q := y 1) ..).trans (hh 0 2 _ (fun s => by show _ = _; simp) (y 0) (y 1) _ (by simp) (he0.trans (by rw [h0]; simp)) (he1.trans (by rw [h1]; simp)))
  · rw [eq_ix2 y]
    exact (store_1_3 (p := y 0) (q := y 1) ..).trans (hh 3 1 _ (fun s => by show _ = _; simp) (y 0) (y 1) _ (by simp) (he0.trans (by rw [h0]; simp)) (he1.trans (by rw [h1]; simp)))
  · rw [eq_ix2 y]
    exact (store_1_2 (p := y 0) (q := y 1) ..).trans (hh 2 1 _ (fun s => by show _ = _; simp) (y 0) (y 1) _ (by simp) (he0.trans (by rw [h0]; simp)) (he1.trans (by rw [h1]; simp)))
  · rw [eq_ix2 y]
    exact (store_1_1 (p := y 0) (q := y 1) ..).trans (hh 1 1 _ (fun s => by show _ = _; simp) (y 0) (y 1) _ (by simp) (he0.trans (by rw [h0]; simp)) (he1.trans (by rw [h1]; simp)))
  · rw [eq_ix2 y]
    exact (store_1_0 (p := y 0) (q := y 1) ..).trans (hh 0 1 _ (fun s => by show _ = _; simp) (y 0) (y 1) _ (by simp) (he0.trans (by rw [h0]; simp)) (he1.trans (by rw [h1]; simp)))
  · rw [eq_ix2 y]
    exact (store_0_3 (p := y 0) (q := y 1) ..).trans (hh 3 0 _ (fun s => by show _ = _; simp) (y 0) (y 1) _ (by simp) (he0.trans (by rw [h0]; simp)) (he1.trans (by rw [h1]; simp)))
  · rw [eq_ix2 y]
    exact (store_0_2 (p := y 0) (q := y 1) ..).trans (hh 2 0 _ (fun s => by show _ = _; simp) (y 0) (y 1) _ (by simp) (he0.trans (by rw [h0]; simp)) (he1.trans (by rw [h1]; simp)))
  · rw [eq_ix2 y]
    exact (store_0_1 (p := y 0) (q := y 1) ..).trans (hh 1 0 _ (fun s => by show _ = _; simp) (y 0) (y 1) _ (by simp) (he0.trans (by rw [h0]; simp)) (he1.trans (by rw [h1]; simp)))
  · rw [eq_ix2 y]
    exact (store_0_0 (p := y 0) (q := y 1) ..).trans (hh 0 0 _ (fun s => by show _ = _; simp) (y 0) (y 1) _ (by simp) (he0.trans (by rw [h0]; simp)) (he1.trans (by rw [h1]; simp)))

end Cert.GmlpIdeal.Value
-- ==== Proof.GmlpRefValue.lean ====
/-
  The reference of the gated spatial unit over the extended reals: its result is `GmlpSpec.gmlp` of its arguments.
-/
module

public import proofs.«01_k».proof.Proof.Gen.GmlpRefIdeal.Read
public import proofs.«01_k».proof.Proof.GmlpSpec
public import proofs.«01_k».proof.Proof.Masks

@[expose] public section
set_option maxRecDepth 16384
noncomputable section
open Idealize.ShloMosaic Idealize.ShloMosaic.TcCoe
open Cert.GmlpSpec Cert.AttnSpec
namespace Cert.GmlpRefIdeal.Read
open Cert.GmlpRefIdeal

variable (x0 : (⟨S16384x8192, .bf16⟩ : BufTy).Contents (Elt Ideal)) (x1 : (⟨S1x2048, .f32⟩ : BufTy).Contents (Elt Ideal))
  (x2 : (⟨S8x128x128, .f32⟩ : BufTy).Contents (Elt Ideal)) (x3 : (⟨S128x8, .f32⟩ : BufTy).Contents (Elt Ideal))
  (b : Fin 4) (t : Fin 4096) (k : Fin 2048)

omit x0 x1 x2 x3 b t k in
/-- The reference multiplies the cube from the left. -/
theorem cube_gelu (z : EReal) :
    z * (Ideal.ofBits .f32 1056964608#32 * (1 + Ideal.tanh (Ideal.ofBits .f32 1061962282#32 * (z + Ideal.ofBits .f32 1027024659#32 * (z * z * z)))))
      = gelu z := by
  rw [mul_comm (z * z) z]; rfl

/-- The gate's gelu. -/
theorem gelu_u : val_main_v17 (F := Ideal) x0 (ix3 b t k) = gelu (x0 (ix2 (row b t) ⟨k.val, by omega⟩)) := by
  pointwise [val_main_v17, val_main_v16, val_main_v15, val_main_v14, val_main_v13, val_main_v12, val_main_v11, val_main_v10, val_main_v9,
    val_main_v8, val_main_v7, val_main_v6, val_main_v5, val_main_v3, val_main_v2, val_main_v1, val_main_v0, val_main_cst, val_main_cst_0,
    val_main_cst_1, val_main_cst_2]
  exact cube_gelu _

/-- The values' gelu. -/
theorem gelu_v : val_main_v30 (F := Ideal) x0 (ix3 b t k) = gelu (x0 (ix2 (row b t) ⟨2048 + k.val, by omega⟩)) := by
  pointwise [val_main_v30, val_main_v29, val_main_v28, val_main_v27, val_main_v26, val_main_v25, val_main_v24, val_main_v23, val_main_v22,
    val_main_v21, val_main_v20, val_main_v19, val_main_v18, val_main_v4, val_main_v2, val_main_v1, val_main_v0, val_main_cst_3, val_main_cst_4,
    val_main_cst_5, val_main_cst_6]
  exact cube_gelu _

/-- The normalised values. -/
theorem norm_v : val_main_v43 (F := Ideal) x0 x1 (ix3 b t k) = normed x0 x1 (row b t) k := by
  pointwise [val_main_v43, val_main_v42, val_main_v41, val_main_v40, val_main_v39, val_main_v38, val_main_v37, val_main_v36, val_main_v35,
    val_main_v34, val_main_v33, val_main_v32, val_main_v31, val_main_cst_7, val_main_cst_8, val_main_cst_9]
  simp only [gelu_v]
  rfl

omit x0 x1 x2 x3 b t k in
/-- The mask's word compares the two positions in the chunk. -/
theorem mask (p : ℕ) (s : Fin 128) (hp : p < 128) :
    IntOp.cmpi .sge (IntOp.addi (BitVec.ofNat 32 p) 0#32) (BitVec.ofNat 32 s.val) = 1#1 ↔ s.val ≤ p := by
  have hs := s.isLt
  rw [Cert.Masks.addi_ofNat]
  word_omega

/-- The reference's result. -/
theorem result_eq (r : Fin 16384) (k : Fin 2048) : val_main_v55 (F := Ideal) x0 x1 x2 x3 (ix2 r k) = gmlp x0 x1 x2 x3 r k := by
  pointwise [val_main_v55, val_main_v54, val_main_v53, val_main_v52, val_main_v51, val_main_v50, val_main_v49, val_main_v48, val_main_v47,
    val_main_v46, val_main_v45, val_main_v44, val_main_call0_v0, val_main_call0_c, val_main_call0_v1, val_main_call0_v2, val_main_call0_v3,
    val_main_call0_v4, val_main_call0_v5, val_main_call0_v6, val_main_call0_cst]
  unfold gmlp
  refine congrArg₂ (· * ·) ?_ (congrArg₂ (· + ·) (Finset.sum_congr rfl fun s _ => ?_) ?_)
  · rw [gelu_u]
    congr 3; apply Fin.ext; show r.val / 4096 * 4096 + r.val % 4096 = r.val; omega
  · rw [Cert.Masks.select_of_iff (p := s.val ≤ r.val % 128) (by rw [show r.val % 128 = r.val % 4096 % 128 by omega]; exact mask _ s (by omega)), norm_v, mul_comm,
      show (⟨r.val % 4096 % 128, by omega⟩ : Fin 128) = ⟨r.val % 128, by omega⟩ from Fin.ext (by show r.val % 4096 % 128 = r.val % 128; omega),
      show row ⟨r.val / 4096, by omega⟩ ⟨r.val % 4096 / 128 * 128 + s.val, by omega⟩ = ⟨r.val / 128 * 128 + s.val, by omega⟩ from
        Fin.ext (by show r.val / 4096 * 4096 + (r.val % 4096 / 128 * 128 + s.val) = r.val / 128 * 128 + s.val; omega)]
  · rw [show (⟨r.val % 4096 % 128, by omega⟩ : Fin 128) = ⟨r.val % 128, by omega⟩ from Fin.ext (by show r.val % 4096 % 128 = r.val % 128; omega)]

end Cert.GmlpRefIdeal.Read
-- ==== Proof.GmlpClaims.lean ====
/-
  The claims about the gated spatial unit: every run ends, and over the extended reals the kernel's array is the reference's.
-/
module

public import proofs.«01_k».proof.Defs
public import proofs.«01_k».proof.Proof.Gen.Gmlp.Frame
public import proofs.«01_k».proof.Proof.GmlpArray
public import proofs.«01_k».proof.Proof.GmlpRefValue
public import proofs.«01_k».proof.Proof.Gen.GmlpRefIdeal.Run
public import Idealize.ShloMosaic.Lib.Quiescent
public import Idealize.ShloMosaic.Lib.Tactic

@[expose] public section
set_option maxRecDepth 16384
noncomputable section
open Idealize.ShloMosaic Idealize.ShloMosaic.TcCoe Idealize.SL.Sem
open Idealize.ShloMosaic.Pipeline (Dat)

namespace Cert.Proof.Gmlp

/-- The kernel runs to its end at the machine's words, from any memory, and leaves its arguments. -/
theorem frame : Cert.quiescent_Gmlp := fun m ρ _ => Cert.Gmlp.Gen.frame m ρ
/-- So does its idealization. -/
theorem frame_ideal : Cert.quiescent_GmlpIdeal := fun m ρ _ => Cert.GmlpIdeal.Gen.frame m ρ
/-- The reference runs to its end and leaves its arguments. -/
theorem frame_reference : Cert.quiescent_GmlpRefIdeal := fun m ρ _ =>
  (θ_run Cert.GmlpRefIdeal.defs _ _).mono (fun r h => ⟨fun c => (h c).2, sem_eq_zero_of_no_sems (by decide) r.2⟩)
    (Cert.GmlpRefIdeal.Value.run (F := Ideal) m ρ)
/-- Nothing was rewritten. -/
theorem preserves : Cert.preserves_Gmlp_GmlpIdeal := trivial

/-- The kernel's array and the reference's are the same function of the arguments. -/
theorem algebraic : Cert.algebraic_GmlpIdeal_GmlpRefIdeal := by
  intro m ρ m' ρ' _ hagree
  refine ⟨fun c => fun j => Cert.GmlpSpec.gmlp (Cert.GmlpIdeal.Value.aP m c) (Cert.GmlpIdeal.Value.aN m c) (Cert.GmlpIdeal.Value.aW m c) (Cert.GmlpIdeal.Value.aB m c) (j 0) (j 1), ?_, ?_⟩
  · exact (θ_run Cert.GmlpIdeal.defs _ _).mono (fun _ h c => ⟨(h c).1.trans (Cert.GmlpIdeal.Value.array_eq m c), (h c).2⟩)
      (Cert.GmlpIdeal.Value.run_blocks (F := Ideal) m ρ)
  · refine (θ_run Cert.GmlpRefIdeal.defs _ _).mono (fun _ h c => ⟨(h c).1.trans ?_, (h c).2⟩)
      (Cert.GmlpRefIdeal.Value.run (F := Ideal) m' ρ')
    obtain ⟨h0, h1, h2, h3⟩ := hagree c
    rw [Cert.GmlpRefIdeal.Read.val_main_v55_eq, h0, h1, h2, h3]
    funext j
    rw [eq_ix2 j]
    exact Cert.GmlpRefIdeal.Read.result_eq _ _ _ _ (j 0) (j 1)

end Cert.Proof.Gmlp
-- ==== Proof.lean ====
/-
  The certificate's claim, from the claims of its parts (`Proof/AttnClaims.lean` and the other modules of claims).
-/
module

public import proofs.«01_k».proof.Defs
public import proofs.«01_k».proof.Proof.Gen.Attn
public import proofs.«01_k».proof.Proof.Gen.AttnIdeal
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_v_ones
public import proofs.«01_k».proof.Proof.Gen.ProjA
public import proofs.«01_k».proof.Proof.Gen.ProjA.Frame
public import proofs.«01_k».proof.Proof.Gen.ProjAIdeal
public import proofs.«01_k».proof.Proof.Gen.ProjAIdeal.Value
public import proofs.«01_k».proof.Proof.Gen.ProjARefIdeal
public import proofs.«01_k».proof.Proof.Gen.ProjARefIdeal.Run
public import proofs.«01_k».proof.Proof.Gen.ProjARefIdeal.Read
public import proofs.«01_k».proof.Proof.Gen.ProjB
public import proofs.«01_k».proof.Proof.Gen.ProjB.Frame
public import proofs.«01_k».proof.Proof.Gen.ProjBIdeal
public import proofs.«01_k».proof.Proof.Gen.ProjBIdeal.Value
public import proofs.«01_k».proof.Proof.Gen.ProjBRefIdeal
public import proofs.«01_k».proof.Proof.Gen.ProjBRefIdeal.Run
public import proofs.«01_k».proof.Proof.Gen.ProjBRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Out
public import proofs.«01_k».proof.Proof.Gen.Out.Frame
public import proofs.«01_k».proof.Proof.Gen.OutIdeal
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Sel
public import proofs.«01_k».proof.Proof.Gen.Sel.Frame
public import proofs.«01_k».proof.Proof.Gen.Sel.Skeleton
public import proofs.«01_k».proof.Proof.Gen.Sel.Loops
public import proofs.«01_k».proof.Proof.Gen.SelIdeal
public import proofs.«01_k».proof.Proof.Gen.SelIdeal.Frame
public import proofs.«01_k».proof.Proof.Gen.SelIdeal.Skeleton
public import proofs.«01_k».proof.Proof.Gen.SelIdeal.Loops
public import proofs.«01_k».proof.Proof.Gen.SelRefIdeal
public import proofs.«01_k».proof.Proof.Gen.SelRefIdeal.Run
public import proofs.«01_k».proof.Proof.Gen.SelRefIdeal.Read
public import proofs.«01_k».proof.Proof.Gen.Pre_sel_layout
public import proofs.«01_k».proof.Proof.Gen.Gmlp
public import proofs.«01_k».proof.Proof.Gen.Gmlp.Frame
public import proofs.«01_k».proof.Proof.Gen.GmlpIdeal
public import proofs.«01_k».proof.Proof.Gen.GmlpIdeal.Value
public import proofs.«01_k».proof.Proof.Gen.GmlpRefIdeal
public import proofs.«01_k».proof.Proof.Gen.GmlpRefIdeal.Run
public import proofs.«01_k».proof.Proof.Gen.GmlpRefIdeal.Read
public import proofs.«01_k».proof.Proof.AttnClaims
public import proofs.«01_k».proof.Proof.ProjAClaims
public import proofs.«01_k».proof.Proof.ProjBClaims
public import proofs.«01_k».proof.Proof.MergeClaims
public import proofs.«01_k».proof.Proof.OutClaims
public import proofs.«01_k».proof.Proof.FfnClaims
public import proofs.«01_k».proof.Proof.FfnNormClaims
public import proofs.«01_k».proof.Proof.SelClaims
public import proofs.«01_k».proof.Proof.GmlpClaims

@[expose] public section

noncomputable section

namespace Cert.Proof

/-- Everything the statement states. -/
theorem claim : Cert.Claim :=
  ⟨Cert.Attn.Gen.facts, Cert.AttnIdeal.Gen.facts, Cert.AttnRefIdeal.Gen.facts,
    Cert.ProjA.Gen.facts, Cert.ProjAIdeal.Gen.facts, Cert.ProjARefIdeal.Gen.facts,
    Cert.ProjB.Gen.facts, Cert.ProjBIdeal.Gen.facts, Cert.ProjBRefIdeal.Gen.facts,
    Cert.Merge.Gen.facts, Cert.MergeIdeal.Gen.facts, Cert.MergeRefIdeal.Gen.facts,
    Cert.Out.Gen.facts, Cert.OutIdeal.Gen.facts, Cert.OutRefIdeal.Gen.facts,
    Cert.Ffn.Gen.facts, Cert.FfnIdeal.Gen.facts, Cert.FfnRefIdeal.Gen.facts,
    Cert.FfnNorm.Gen.facts, Cert.FfnNormIdeal.Gen.facts, Cert.FfnNormRefIdeal.Gen.facts,
    Cert.Sel.Gen.facts, Cert.SelIdeal.Gen.facts, Cert.SelRefIdeal.Gen.facts,
    Cert.Gmlp.Gen.facts, Cert.GmlpIdeal.Gen.facts, Cert.GmlpRefIdeal.Gen.facts,
    Cert.Pre_v_ones.Gen.facts, Cert.Pre_sel_layout.Gen.facts,
    Attn.frame, Attn.frame_ideal, Attn.frame_ideal_pre, Attn.frame_reference, Attn.frame_reference_pre,
    ProjA.frame, ProjA.frame_ideal, ProjA.frame_reference,
    ProjB.frame, ProjB.frame_ideal, ProjB.frame_reference,
    Merge.frame, Merge.frame_ideal, Merge.frame_reference,
    Out.frame, Out.frame_ideal, Out.frame_reference,
    Ffn.frame, Ffn.frame_ideal, Ffn.frame_reference,
    FfnNorm.frame, FfnNorm.frame_ideal, FfnNorm.frame_reference,
    Sel.frame, Sel.frame_ideal, Sel.frame_ideal_pre, Sel.frame_reference, Sel.frame_reference_pre,
    Gmlp.frame, Gmlp.frame_ideal, Gmlp.frame_reference,
    Attn.preserves, Attn.algebraic,
    ProjA.preserves, ProjA.algebraic,
    ProjB.preserves, ProjB.algebraic,
    Merge.preserves, Merge.algebraic,
    Out.preserves, Out.algebraic,
    Ffn.preserves, Ffn.algebraic,
    FfnNorm.preserves, FfnNorm.algebraic,
    Sel.preserves, Sel.algebraic,
    Gmlp.preserves, Gmlp.algebraic⟩

end Cert.Proof

end
